-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2 = (fun _ => 1#1)

def Pre_ActGrad (m : (ℓ : Loc Cert.ActGrad.nD Cert.ActGrad.τ Cert.ActGrad.sig) → Buf (Elt Bits) ℓ) : Prop :=
  True

def Pre_ActGradIdeal (m : (ℓ : Loc Cert.ActGradIdeal.nD Cert.ActGradIdeal.τ Cert.ActGradIdeal.sig) → Buf (Elt Ideal) ℓ) : Prop :=
  True

def Pre_ActGradRefIdeal (m : (ℓ : Loc Cert.ActGradRefIdeal.nD Cert.ActGradRefIdeal.τ Cert.ActGradRefIdeal.sig) → Buf (Elt Ideal) ℓ) : Prop :=
  True

def Pre_Ff2Dw (m : (ℓ : Loc Cert.Ff2Dw.nD Cert.Ff2Dw.τ Cert.Ff2Dw.sig) → Buf (Elt Bits) ℓ) : Prop :=
  True

def Pre_Ff2DwIdeal (m : (ℓ : Loc Cert.Ff2DwIdeal.nD Cert.Ff2DwIdeal.τ Cert.Ff2DwIdeal.sig) → Buf (Elt Ideal) ℓ) : Prop :=
  True

def Pre_Ff2DwRefIdeal (m : (ℓ : Loc Cert.Ff2DwRefIdeal.nD Cert.Ff2DwRefIdeal.τ Cert.Ff2DwRefIdeal.sig) → Buf (Elt Ideal) ℓ) : Prop :=
  True

def Pre_Ff1Dx (m : (ℓ : Loc Cert.Ff1Dx.nD Cert.Ff1Dx.τ Cert.Ff1Dx.sig) → Buf (Elt Bits) ℓ) : Prop :=
  True

def Pre_Ff1DxIdeal (m : (ℓ : Loc Cert.Ff1DxIdeal.nD Cert.Ff1DxIdeal.τ Cert.Ff1DxIdeal.sig) → Buf (Elt Ideal) ℓ) : Prop :=
  True

def Pre_Ff1DxRefIdeal (m : (ℓ : Loc Cert.Ff1DxRefIdeal.nD Cert.Ff1DxRefIdeal.τ Cert.Ff1DxRefIdeal.sig) → Buf (Elt Ideal) ℓ) : Prop :=
  True

def Pre_Ff1Dw (m : (ℓ : Loc Cert.Ff1Dw.nD Cert.Ff1Dw.τ Cert.Ff1Dw.sig) → Buf (Elt Bits) ℓ) : Prop :=
  True

def Pre_Ff1DwIdeal (m : (ℓ : Loc Cert.Ff1DwIdeal.nD Cert.Ff1DwIdeal.τ Cert.Ff1DwIdeal.sig) → Buf (Elt Ideal) ℓ) : Prop :=
  True

def Pre_Ff1DwRefIdeal (m : (ℓ : Loc Cert.Ff1DwRefIdeal.nD Cert.Ff1DwRefIdeal.τ Cert.Ff1DwRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2RefIdeal (m : (ℓ : Loc Cert.Ff2RefIdeal.nD Cert.Ff2RefIdeal.τ Cert.Ff2RefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Ab (m : (ℓ : Loc Cert.Ab.nD Cert.Ab.τ Cert.Ab.sig) → Buf (Elt Bits) ℓ) : Prop :=
  True

def Pre_AbIdeal (m : (ℓ : Loc Cert.AbIdeal.nD Cert.AbIdeal.τ Cert.AbIdeal.sig) → Buf (Elt Ideal) ℓ) : Prop :=
  True

def Pre_AbRefIdeal (m : (ℓ : Loc Cert.AbRefIdeal.nD Cert.AbRefIdeal.τ Cert.AbRefIdeal.sig) → Buf (Elt Ideal) ℓ) : Prop :=
  True

def Pre_AbDx (m : (ℓ : Loc Cert.AbDx.nD Cert.AbDx.τ Cert.AbDx.sig) → Buf (Elt Bits) ℓ) : Prop :=
  True

def Pre_AbDxIdeal (m : (ℓ : Loc Cert.AbDxIdeal.nD Cert.AbDxIdeal.τ Cert.AbDxIdeal.sig) → Buf (Elt Ideal) ℓ) : Prop :=
  True

def Pre_AbDxRefIdeal (m : (ℓ : Loc Cert.AbDxRefIdeal.nD Cert.AbDxRefIdeal.τ Cert.AbDxRefIdeal.sig) → Buf (Elt Ideal) ℓ) : Prop :=
  True

def Pre_AbDw (m : (ℓ : Loc Cert.AbDw.nD Cert.AbDw.τ Cert.AbDw.sig) → Buf (Elt Bits) ℓ) : Prop :=
  True

def Pre_AbDwIdeal (m : (ℓ : Loc Cert.AbDwIdeal.nD Cert.AbDwIdeal.τ Cert.AbDwIdeal.sig) → Buf (Elt Ideal) ℓ) : Prop :=
  True

def Pre_AbDwRefIdeal (m : (ℓ : Loc Cert.AbDwRefIdeal.nD Cert.AbDwRefIdeal.τ Cert.AbDwRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradRefIdeal (m : (ℓ : Loc Cert.NormGradRefIdeal.nD Cert.NormGradRefIdeal.τ Cert.NormGradRefIdeal.sig) → Buf (Elt Ideal) ℓ) : Prop :=
  True

def Pre_GdnGatesGrad (m : (ℓ : Loc Cert.GdnGatesGrad.nD Cert.GdnGatesGrad.τ Cert.GdnGatesGrad.sig) → Buf (Elt Bits) ℓ) : Prop :=
  True

def Pre_GdnGatesGradIdeal (m : (ℓ : Loc Cert.GdnGatesGradIdeal.nD Cert.GdnGatesGradIdeal.τ Cert.GdnGatesGradIdeal.sig) → Buf (Elt Ideal) ℓ) : Prop :=
  True

def Pre_GdnGatesGradIdeal_gates_finite [hPre_gates_finite : Cert.Pre_gates_finite.Facts] (m : (ℓ : Loc Cert.GdnGatesGradIdeal.nD Cert.GdnGatesGradIdeal.τ Cert.GdnGatesGradIdeal.sig) → Buf (Elt Ideal) ℓ) : Prop :=
  ∀ c : Dev Cert.GdnGatesGradIdeal.nD,
    (Cert.Pre_gates_finite.fn (F := Ideal) (m ((c.tc : Thread Cert.GdnGatesGradIdeal.nD Cert.GdnGatesGradIdeal.τ).loc Cert.GdnGatesGradIdeal.main_arg0)) (m ((c.tc : Thread Cert.GdnGatesGradIdeal.nD Cert.GdnGatesGradIdeal.τ).loc Cert.GdnGatesGradIdeal.main_arg1)) (m ((c.tc : Thread Cert.GdnGatesGradIdeal.nD Cert.GdnGatesGradIdeal.τ).loc Cert.GdnGatesGradIdeal.main_arg2)) (m ((c.tc : Thread Cert.GdnGatesGradIdeal.nD Cert.GdnGatesGradIdeal.τ).loc Cert.GdnGatesGradIdeal.main_arg3)) (m ((c.tc : Thread Cert.GdnGatesGradIdeal.nD Cert.GdnGatesGradIdeal.τ).loc Cert.GdnGatesGradIdeal.main_arg4))).1 = (fun _ => 1#1)
    ∧ (Cert.Pre_gates_finite.fn (F := Ideal) (m ((c.tc : Thread Cert.GdnGatesGradIdeal.nD Cert.GdnGatesGradIdeal.τ).loc Cert.GdnGatesGradIdeal.main_arg0)) (m ((c.tc : Thread Cert.GdnGatesGradIdeal.nD Cert.GdnGatesGradIdeal.τ).loc Cert.GdnGatesGradIdeal.main_arg1)) (m ((c.tc : Thread Cert.GdnGatesGradIdeal.nD Cert.GdnGatesGradIdeal.τ).loc Cert.GdnGatesGradIdeal.main_arg2)) (m ((c.tc : Thread Cert.GdnGatesGradIdeal.nD Cert.GdnGatesGradIdeal.τ).loc Cert.GdnGatesGradIdeal.main_arg3)) (m ((c.tc : Thread Cert.GdnGatesGradIdeal.nD Cert.GdnGatesGradIdeal.τ).loc Cert.GdnGatesGradIdeal.main_arg4))).2.1 = (fun _ => 1#1)
    ∧ (Cert.Pre_gates_finite.fn (F := Ideal) (m ((c.tc : Thread Cert.GdnGatesGradIdeal.nD Cert.GdnGatesGradIdeal.τ).loc Cert.GdnGatesGradIdeal.main_arg0)) (m ((c.tc : Thread Cert.GdnGatesGradIdeal.nD Cert.GdnGatesGradIdeal.τ).loc Cert.GdnGatesGradIdeal.main_arg1)) (m ((c.tc : Thread Cert.GdnGatesGradIdeal.nD Cert.GdnGatesGradIdeal.τ).loc Cert.GdnGatesGradIdeal.main_arg2)) (m ((c.tc : Thread Cert.GdnGatesGradIdeal.nD Cert.GdnGatesGradIdeal.τ).loc Cert.GdnGatesGradIdeal.main_arg3)) (m ((c.tc : Thread Cert.GdnGatesGradIdeal.nD Cert.GdnGatesGradIdeal.τ).loc Cert.GdnGatesGradIdeal.main_arg4))).2.2.1 = (fun _ => 1#1)
    ∧ (Cert.Pre_gates_finite.fn (F := Ideal) (m ((c.tc : Thread Cert.GdnGatesGradIdeal.nD Cert.GdnGatesGradIdeal.τ).loc Cert.GdnGatesGradIdeal.main_arg0)) (m ((c.tc : Thread Cert.GdnGatesGradIdeal.nD Cert.GdnGatesGradIdeal.τ).loc Cert.GdnGatesGradIdeal.main_arg1)) (m ((c.tc : Thread Cert.GdnGatesGradIdeal.nD Cert.GdnGatesGradIdeal.τ).loc Cert.GdnGatesGradIdeal.main_arg2)) (m ((c.tc : Thread Cert.GdnGatesGradIdeal.nD Cert.GdnGatesGradIdeal.τ).loc Cert.GdnGatesGradIdeal.main_arg3)) (m ((c.tc : Thread Cert.GdnGatesGradIdeal.nD Cert.GdnGatesGradIdeal.τ).loc Cert.GdnGatesGradIdeal.main_arg4))).2.2.2 = (fun _ => 1#1)

def Pre_GdnGatesGradRefIdeal (m : (ℓ : Loc Cert.GdnGatesGradRefIdeal.nD Cert.GdnGatesGradRefIdeal.τ Cert.GdnGatesGradRefIdeal.sig) → Buf (Elt Ideal) ℓ) : Prop :=
  True

def Pre_GdnGatesGradRefIdeal_gates_finite [hPre_gates_finite : Cert.Pre_gates_finite.Facts] (m : (ℓ : Loc Cert.GdnGatesGradRefIdeal.nD Cert.GdnGatesGradRefIdeal.τ Cert.GdnGatesGradRefIdeal.sig) → Buf (Elt Ideal) ℓ) : Prop :=
  ∀ c : Dev Cert.GdnGatesGradRefIdeal.nD,
    (Cert.Pre_gates_finite.fn (F := Ideal) (m ((c.tc : Thread Cert.GdnGatesGradRefIdeal.nD Cert.GdnGatesGradRefIdeal.τ).loc Cert.GdnGatesGradRefIdeal.main_arg0)) (m ((c.tc : Thread Cert.GdnGatesGradRefIdeal.nD Cert.GdnGatesGradRefIdeal.τ).loc Cert.GdnGatesGradRefIdeal.main_arg1)) (m ((c.tc : Thread Cert.GdnGatesGradRefIdeal.nD Cert.GdnGatesGradRefIdeal.τ).loc Cert.GdnGatesGradRefIdeal.main_arg2)) (m ((c.tc : Thread Cert.GdnGatesGradRefIdeal.nD Cert.GdnGatesGradRefIdeal.τ).loc Cert.GdnGatesGradRefIdeal.main_arg3)) (m ((c.tc : Thread Cert.GdnGatesGradRefIdeal.nD Cert.GdnGatesGradRefIdeal.τ).loc Cert.GdnGatesGradRefIdeal.main_arg4))).1 = (fun _ => 1#1)
    ∧ (Cert.Pre_gates_finite.fn (F := Ideal) (m ((c.tc : Thread Cert.GdnGatesGradRefIdeal.nD Cert.GdnGatesGradRefIdeal.τ).loc Cert.GdnGatesGradRefIdeal.main_arg0)) (m ((c.tc : Thread Cert.GdnGatesGradRefIdeal.nD Cert.GdnGatesGradRefIdeal.τ).loc Cert.GdnGatesGradRefIdeal.main_arg1)) (m ((c.tc : Thread Cert.GdnGatesGradRefIdeal.nD Cert.GdnGatesGradRefIdeal.τ).loc Cert.GdnGatesGradRefIdeal.main_arg2)) (m ((c.tc : Thread Cert.GdnGatesGradRefIdeal.nD Cert.GdnGatesGradRefIdeal.τ).loc Cert.GdnGatesGradRefIdeal.main_arg3)) (m ((c.tc : Thread Cert.GdnGatesGradRefIdeal.nD Cert.GdnGatesGradRefIdeal.τ).loc Cert.GdnGatesGradRefIdeal.main_arg4))).2.1 = (fun _ => 1#1)
    ∧ (Cert.Pre_gates_finite.fn (F := Ideal) (m ((c.tc : Thread Cert.GdnGatesGradRefIdeal.nD Cert.GdnGatesGradRefIdeal.τ).loc Cert.GdnGatesGradRefIdeal.main_arg0)) (m ((c.tc : Thread Cert.GdnGatesGradRefIdeal.nD Cert.GdnGatesGradRefIdeal.τ).loc Cert.GdnGatesGradRefIdeal.main_arg1)) (m ((c.tc : Thread Cert.GdnGatesGradRefIdeal.nD Cert.GdnGatesGradRefIdeal.τ).loc Cert.GdnGatesGradRefIdeal.main_arg2)) (m ((c.tc : Thread Cert.GdnGatesGradRefIdeal.nD Cert.GdnGatesGradRefIdeal.τ).loc Cert.GdnGatesGradRefIdeal.main_arg3)) (m ((c.tc : Thread Cert.GdnGatesGradRefIdeal.nD Cert.GdnGatesGradRefIdeal.τ).loc Cert.GdnGatesGradRefIdeal.main_arg4))).2.2.1 = (fun _ => 1#1)
    ∧ (Cert.Pre_gates_finite.fn (F := Ideal) (m ((c.tc : Thread Cert.GdnGatesGradRefIdeal.nD Cert.GdnGatesGradRefIdeal.τ).loc Cert.GdnGatesGradRefIdeal.main_arg0)) (m ((c.tc : Thread Cert.GdnGatesGradRefIdeal.nD Cert.GdnGatesGradRefIdeal.τ).loc Cert.GdnGatesGradRefIdeal.main_arg1)) (m ((c.tc : Thread Cert.GdnGatesGradRefIdeal.nD Cert.GdnGatesGradRefIdeal.τ).loc Cert.GdnGatesGradRefIdeal.main_arg2)) (m ((c.tc : Thread Cert.GdnGatesGradRefIdeal.nD Cert.GdnGatesGradRefIdeal.τ).loc Cert.GdnGatesGradRefIdeal.main_arg3)) (m ((c.tc : Thread Cert.GdnGatesGradRefIdeal.nD Cert.GdnGatesGradRefIdeal.τ).loc Cert.GdnGatesGradRefIdeal.main_arg4))).2.2.2 = (fun _ => 1#1)

def Pre_HgrnPrepGrad (m : (ℓ : Loc Cert.HgrnPrepGrad.nD Cert.HgrnPrepGrad.τ Cert.HgrnPrepGrad.sig) → Buf (Elt Bits) ℓ) : Prop :=
  True

def Pre_HgrnPrepGradIdeal (m : (ℓ : Loc Cert.HgrnPrepGradIdeal.nD Cert.HgrnPrepGradIdeal.τ Cert.HgrnPrepGradIdeal.sig) → Buf (Elt Ideal) ℓ) : Prop :=
  True

def Pre_HgrnPrepGradIdeal_prep_finite [hPre_prep_finite : Cert.Pre_prep_finite.Facts] (m : (ℓ : Loc Cert.HgrnPrepGradIdeal.nD Cert.HgrnPrepGradIdeal.τ Cert.HgrnPrepGradIdeal.sig) → Buf (Elt Ideal) ℓ) : Prop :=
  ∀ c : Dev Cert.HgrnPrepGradIdeal.nD,
    (Cert.Pre_prep_finite.fn (F := Ideal) (m ((c.tc : Thread Cert.HgrnPrepGradIdeal.nD Cert.HgrnPrepGradIdeal.τ).loc Cert.HgrnPrepGradIdeal.main_arg0)) (m ((c.tc : Thread Cert.HgrnPrepGradIdeal.nD Cert.HgrnPrepGradIdeal.τ).loc Cert.HgrnPrepGradIdeal.main_arg1)) (m ((c.tc : Thread Cert.HgrnPrepGradIdeal.nD Cert.HgrnPrepGradIdeal.τ).loc Cert.HgrnPrepGradIdeal.main_arg2)) (m ((c.tc : Thread Cert.HgrnPrepGradIdeal.nD Cert.HgrnPrepGradIdeal.τ).loc Cert.HgrnPrepGradIdeal.main_arg3)) (m ((c.tc : Thread Cert.HgrnPrepGradIdeal.nD Cert.HgrnPrepGradIdeal.τ).loc Cert.HgrnPrepGradIdeal.main_arg4))).1 = (fun _ => 1#1)
    ∧ (Cert.Pre_prep_finite.fn (F := Ideal) (m ((c.tc : Thread Cert.HgrnPrepGradIdeal.nD Cert.HgrnPrepGradIdeal.τ).loc Cert.HgrnPrepGradIdeal.main_arg0)) (m ((c.tc : Thread Cert.HgrnPrepGradIdeal.nD Cert.HgrnPrepGradIdeal.τ).loc Cert.HgrnPrepGradIdeal.main_arg1)) (m ((c.tc : Thread Cert.HgrnPrepGradIdeal.nD Cert.HgrnPrepGradIdeal.τ).loc Cert.HgrnPrepGradIdeal.main_arg2)) (m ((c.tc : Thread Cert.HgrnPrepGradIdeal.nD Cert.HgrnPrepGradIdeal.τ).loc Cert.HgrnPrepGradIdeal.main_arg3)) (m ((c.tc : Thread Cert.HgrnPrepGradIdeal.nD Cert.HgrnPrepGradIdeal.τ).loc Cert.HgrnPrepGradIdeal.main_arg4))).2.1 = (fun _ => 1#1)
    ∧ (Cert.Pre_prep_finite.fn (F := Ideal) (m ((c.tc : Thread Cert.HgrnPrepGradIdeal.nD Cert.HgrnPrepGradIdeal.τ).loc Cert.HgrnPrepGradIdeal.main_arg0)) (m ((c.tc : Thread Cert.HgrnPrepGradIdeal.nD Cert.HgrnPrepGradIdeal.τ).loc Cert.HgrnPrepGradIdeal.main_arg1)) (m ((c.tc : Thread Cert.HgrnPrepGradIdeal.nD Cert.HgrnPrepGradIdeal.τ).loc Cert.HgrnPrepGradIdeal.main_arg2)) (m ((c.tc : Thread Cert.HgrnPrepGradIdeal.nD Cert.HgrnPrepGradIdeal.τ).loc Cert.HgrnPrepGradIdeal.main_arg3)) (m ((c.tc : Thread Cert.HgrnPrepGradIdeal.nD Cert.HgrnPrepGradIdeal.τ).loc Cert.HgrnPrepGradIdeal.main_arg4))).2.2.1 = (fun _ => 1#1)
    ∧ (Cert.Pre_prep_finite.fn (F := Ideal) (m ((c.tc : Thread Cert.HgrnPrepGradIdeal.nD Cert.HgrnPrepGradIdeal.τ).loc Cert.HgrnPrepGradIdeal.main_arg0)) (m ((c.tc : Thread Cert.HgrnPrepGradIdeal.nD Cert.HgrnPrepGradIdeal.τ).loc Cert.HgrnPrepGradIdeal.main_arg1)) (m ((c.tc : Thread Cert.HgrnPrepGradIdeal.nD Cert.HgrnPrepGradIdeal.τ).loc Cert.HgrnPrepGradIdeal.main_arg2)) (m ((c.tc : Thread Cert.HgrnPrepGradIdeal.nD Cert.HgrnPrepGradIdeal.τ).loc Cert.HgrnPrepGradIdeal.main_arg3)) (m ((c.tc : Thread Cert.HgrnPrepGradIdeal.nD Cert.HgrnPrepGradIdeal.τ).loc Cert.HgrnPrepGradIdeal.main_arg4))).2.2.2 = (fun _ => 1#1)

def Pre_HgrnPrepGradRefIdeal (m : (ℓ : Loc Cert.HgrnPrepGradRefIdeal.nD Cert.HgrnPrepGradRefIdeal.τ Cert.HgrnPrepGradRefIdeal.sig) → Buf (Elt Ideal) ℓ) : Prop :=
  True

def Pre_HgrnPrepGradRefIdeal_prep_finite [hPre_prep_finite : Cert.Pre_prep_finite.Facts] (m : (ℓ : Loc Cert.HgrnPrepGradRefIdeal.nD Cert.HgrnPrepGradRefIdeal.τ Cert.HgrnPrepGradRefIdeal.sig) → Buf (Elt Ideal) ℓ) : Prop :=
  ∀ c : Dev Cert.HgrnPrepGradRefIdeal.nD,
    (Cert.Pre_prep_finite.fn (F := Ideal) (m ((c.tc : Thread Cert.HgrnPrepGradRefIdeal.nD Cert.HgrnPrepGradRefIdeal.τ).loc Cert.HgrnPrepGradRefIdeal.main_arg0)) (m ((c.tc : Thread Cert.HgrnPrepGradRefIdeal.nD Cert.HgrnPrepGradRefIdeal.τ).loc Cert.HgrnPrepGradRefIdeal.main_arg1)) (m ((c.tc : Thread Cert.HgrnPrepGradRefIdeal.nD Cert.HgrnPrepGradRefIdeal.τ).loc Cert.HgrnPrepGradRefIdeal.main_arg2)) (m ((c.tc : Thread Cert.HgrnPrepGradRefIdeal.nD Cert.HgrnPrepGradRefIdeal.τ).loc Cert.HgrnPrepGradRefIdeal.main_arg3)) (m ((c.tc : Thread Cert.HgrnPrepGradRefIdeal.nD Cert.HgrnPrepGradRefIdeal.τ).loc Cert.HgrnPrepGradRefIdeal.main_arg4))).1 = (fun _ => 1#1)
    ∧ (Cert.Pre_prep_finite.fn (F := Ideal) (m ((c.tc : Thread Cert.HgrnPrepGradRefIdeal.nD Cert.HgrnPrepGradRefIdeal.τ).loc Cert.HgrnPrepGradRefIdeal.main_arg0)) (m ((c.tc : Thread Cert.HgrnPrepGradRefIdeal.nD Cert.HgrnPrepGradRefIdeal.τ).loc Cert.HgrnPrepGradRefIdeal.main_arg1)) (m ((c.tc : Thread Cert.HgrnPrepGradRefIdeal.nD Cert.HgrnPrepGradRefIdeal.τ).loc Cert.HgrnPrepGradRefIdeal.main_arg2)) (m ((c.tc : Thread Cert.HgrnPrepGradRefIdeal.nD Cert.HgrnPrepGradRefIdeal.τ).loc Cert.HgrnPrepGradRefIdeal.main_arg3)) (m ((c.tc : Thread Cert.HgrnPrepGradRefIdeal.nD Cert.HgrnPrepGradRefIdeal.τ).loc Cert.HgrnPrepGradRefIdeal.main_arg4))).2.1 = (fun _ => 1#1)
    ∧ (Cert.Pre_prep_finite.fn (F := Ideal) (m ((c.tc : Thread Cert.HgrnPrepGradRefIdeal.nD Cert.HgrnPrepGradRefIdeal.τ).loc Cert.HgrnPrepGradRefIdeal.main_arg0)) (m ((c.tc : Thread Cert.HgrnPrepGradRefIdeal.nD Cert.HgrnPrepGradRefIdeal.τ).loc Cert.HgrnPrepGradRefIdeal.main_arg1)) (m ((c.tc : Thread Cert.HgrnPrepGradRefIdeal.nD Cert.HgrnPrepGradRefIdeal.τ).loc Cert.HgrnPrepGradRefIdeal.main_arg2)) (m ((c.tc : Thread Cert.HgrnPrepGradRefIdeal.nD Cert.HgrnPrepGradRefIdeal.τ).loc Cert.HgrnPrepGradRefIdeal.main_arg3)) (m ((c.tc : Thread Cert.HgrnPrepGradRefIdeal.nD Cert.HgrnPrepGradRefIdeal.τ).loc Cert.HgrnPrepGradRefIdeal.main_arg4))).2.2.1 = (fun _ => 1#1)
    ∧ (Cert.Pre_prep_finite.fn (F := Ideal) (m ((c.tc : Thread Cert.HgrnPrepGradRefIdeal.nD Cert.HgrnPrepGradRefIdeal.τ).loc Cert.HgrnPrepGradRefIdeal.main_arg0)) (m ((c.tc : Thread Cert.HgrnPrepGradRefIdeal.nD Cert.HgrnPrepGradRefIdeal.τ).loc Cert.HgrnPrepGradRefIdeal.main_arg1)) (m ((c.tc : Thread Cert.HgrnPrepGradRefIdeal.nD Cert.HgrnPrepGradRefIdeal.τ).loc Cert.HgrnPrepGradRefIdeal.main_arg2)) (m ((c.tc : Thread Cert.HgrnPrepGradRefIdeal.nD Cert.HgrnPrepGradRefIdeal.τ).loc Cert.HgrnPrepGradRefIdeal.main_arg3)) (m ((c.tc : Thread Cert.HgrnPrepGradRefIdeal.nD Cert.HgrnPrepGradRefIdeal.τ).loc Cert.HgrnPrepGradRefIdeal.main_arg4))).2.2.2 = (fun _ => 1#1)

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ActGrad [hActGrad : Cert.ActGrad.Facts] : Prop :=
  ∀ (m : (ℓ : Loc Cert.ActGrad.nD Cert.ActGrad.τ Cert.ActGrad.sig) → Buf (Elt Bits) ℓ) (g : Dev Cert.ActGrad.nD → PrngReg), Pre_ActGrad m →
    θ_run (Cert.ActGrad.defs (F := Bits)) (onTc (τ := Cert.ActGrad.τ) (Cert.ActGrad.main (F := Bits))) ⟨m, fun _ => 0, g⟩ (fun r => (∀ c : Dev Cert.ActGrad.nD,
      r.2.mem ((c.tc : Thread Cert.ActGrad.nD Cert.ActGrad.τ).loc Cert.ActGrad.main_arg0) = m ((c.tc : Thread Cert.ActGrad.nD Cert.ActGrad.τ).loc Cert.ActGrad.main_arg0)
      ∧ r.2.mem ((c.tc : Thread Cert.ActGrad.nD Cert.ActGrad.τ).loc Cert.ActGrad.main_arg1) = m ((c.tc : Thread Cert.ActGrad.nD Cert.ActGrad.τ).loc Cert.ActGrad.main_arg1)
      ∧ r.2.mem ((c.tc : Thread Cert.ActGrad.nD Cert.ActGrad.τ).loc Cert.ActGrad.main_arg2) = m ((c.tc : Thread Cert.ActGrad.nD Cert.ActGrad.τ).loc Cert.ActGrad.main_arg2))
      ∧ r.2.sem = fun _ => 0)

def quiescent_ActGradIdeal [hActGradIdeal : Cert.ActGradIdeal.Facts] : Prop :=
  ∀ (m : (ℓ : Loc Cert.ActGradIdeal.nD Cert.ActGradIdeal.τ Cert.ActGradIdeal.sig) → Buf (Elt Ideal) ℓ) (g : Dev Cert.ActGradIdeal.nD → PrngReg), Pre_ActGradIdeal m →
    θ_run (Cert.ActGradIdeal.defs (F := Ideal)) (onTc (τ := Cert.ActGradIdeal.τ) (Cert.ActGradIdeal.main (F := Ideal))) ⟨m, fun _ => 0, g⟩ (fun r => (∀ c : Dev Cert.ActGradIdeal.nD,
      r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
      ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1)
      ∧ r.2.mem ((c.tc : Thread Cert.ActGradIdeal.nD Cert.ActGradIdeal.τ).loc Cert.ActGradIdeal.main_arg2) = m ((c.tc : Thread Cert.ActGradIdeal.nD Cert.ActGradIdeal.τ).loc Cert.ActGradIdeal.main_arg2))
      ∧ r.2.sem = fun _ => 0)

def quiescent_ActGradRefIdeal [hActGradRefIdeal : Cert.ActGradRefIdeal.Facts] : Prop :=
  ∀ (m : (ℓ : Loc Cert.ActGradRefIdeal.nD Cert.ActGradRefIdeal.τ Cert.ActGradRefIdeal.sig) → Buf (Elt Ideal) ℓ) (g : Dev Cert.ActGradRefIdeal.nD → PrngReg), Pre_ActGradRefIdeal m →
    θ_run (Cert.ActGradRefIdeal.defs (F := Ideal)) (onTc (τ := Cert.ActGradRefIdeal.τ) (Cert.ActGradRefIdeal.main (F := Ideal))) ⟨m, fun _ => 0, g⟩ (fun r => (∀ c : Dev Cert.ActGradRefIdeal.nD,
      r.2.mem ((c.tc : Thread Cert.ActGradRefIdeal.nD Cert.ActGradRefIdeal.τ).loc Cert.ActGradRefIdeal.main_arg0) = m ((c.tc : Thread Cert.ActGradRefIdeal.nD Cert.ActGradRefIdeal.τ).loc Cert.ActGradRefIdeal.main_arg0)
      ∧ r.2.mem ((c.tc : Thread Cert.ActGradRefIdeal.nD Cert.ActGradRefIdeal.τ).loc Cert.ActGradRefIdeal.main_arg1) = m ((c.tc : Thread Cert.ActGradRefIdeal.nD Cert.ActGradRefIdeal.τ).loc Cert.ActGradRefIdeal.main_arg1)
      ∧ r.2.mem ((c.tc : Thread Cert.ActGradRefIdeal.nD Cert.ActGradRefIdeal.τ).loc Cert.ActGradRefIdeal.main_arg2) = m ((c.tc : Thread Cert.ActGradRefIdeal.nD Cert.ActGradRefIdeal.τ).loc Cert.ActGradRefIdeal.main_arg2))
      ∧ r.2.sem = fun _ => 0)

def quiescent_Ff2Dw [hFf2Dw : Cert.Ff2Dw.Facts] : Prop :=
  ∀ (m : (ℓ : Loc Cert.Ff2Dw.nD Cert.Ff2Dw.τ Cert.Ff2Dw.sig) → Buf (Elt Bits) ℓ) (g : Dev Cert.Ff2Dw.nD → PrngReg), Pre_Ff2Dw m →
    θ_run (Cert.Ff2Dw.defs (F := Bits)) (onTc (τ := Cert.Ff2Dw.τ) (Cert.Ff2Dw.main (F := Bits))) ⟨m, fun _ => 0, g⟩ (fun r => (∀ c : Dev Cert.Ff2Dw.nD,
      r.2.mem ((c.tc : Thread Cert.Ff2Dw.nD Cert.Ff2Dw.τ).loc Cert.Ff2Dw.main_arg0) = m ((c.tc : Thread Cert.Ff2Dw.nD Cert.Ff2Dw.τ).loc Cert.Ff2Dw.main_arg0)
      ∧ r.2.mem ((c.tc : Thread Cert.Ff2Dw.nD Cert.Ff2Dw.τ).loc Cert.Ff2Dw.main_arg1) = m ((c.tc : Thread Cert.Ff2Dw.nD Cert.Ff2Dw.τ).loc Cert.Ff2Dw.main_arg1))
      ∧ r.2.sem = fun _ => 0)

def quiescent_Ff2DwIdeal [hFf2DwIdeal : Cert.Ff2DwIdeal.Facts] : Prop :=
  ∀ (m : (ℓ : Loc Cert.Ff2DwIdeal.nD Cert.Ff2DwIdeal.τ Cert.Ff2DwIdeal.sig) → Buf (Elt Ideal) ℓ) (g : Dev Cert.Ff2DwIdeal.nD → PrngReg), Pre_Ff2DwIdeal m →
    θ_run (Cert.Ff2DwIdeal.defs (F := Ideal)) (onTc (τ := Cert.Ff2DwIdeal.τ) (Cert.Ff2DwIdeal.main (F := Ideal))) ⟨m, fun _ => 0, g⟩ (fun r => (∀ c : Dev Cert.Ff2DwIdeal.nD,
      r.2.mem ((c.tc : Thread Cert.Ff2DwIdeal.nD Cert.Ff2DwIdeal.τ).loc Cert.Ff2DwIdeal.main_arg0) = m ((c.tc : Thread Cert.Ff2DwIdeal.nD Cert.Ff2DwIdeal.τ).loc Cert.Ff2DwIdeal.main_arg0)
      ∧ r.2.mem ((c.tc : Thread Cert.Ff2DwIdeal.nD Cert.Ff2DwIdeal.τ).loc Cert.Ff2DwIdeal.main_arg1) = m ((c.tc : Thread Cert.Ff2DwIdeal.nD Cert.Ff2DwIdeal.τ).loc Cert.Ff2DwIdeal.main_arg1))
      ∧ r.2.sem = fun _ => 0)

def quiescent_Ff2DwRefIdeal [hFf2DwRefIdeal : Cert.Ff2DwRefIdeal.Facts] : Prop :=
  ∀ (m : (ℓ : Loc Cert.Ff2DwRefIdeal.nD Cert.Ff2DwRefIdeal.τ Cert.Ff2DwRefIdeal.sig) → Buf (Elt Ideal) ℓ) (g : Dev Cert.Ff2DwRefIdeal.nD → PrngReg), Pre_Ff2DwRefIdeal m →
    θ_run (Cert.Ff2DwRefIdeal.defs (F := Ideal)) (onTc (τ := Cert.Ff2DwRefIdeal.τ) (Cert.Ff2DwRefIdeal.main (F := Ideal))) ⟨m, fun _ => 0, g⟩ (fun r => (∀ c : Dev Cert.Ff2DwRefIdeal.nD,
      r.2.mem ((c.tc : Thread Cert.Ff2DwRefIdeal.nD Cert.Ff2DwRefIdeal.τ).loc Cert.Ff2DwRefIdeal.main_arg0) = m ((c.tc : Thread Cert.Ff2DwRefIdeal.nD Cert.Ff2DwRefIdeal.τ).loc Cert.Ff2DwRefIdeal.main_arg0)
      ∧ r.2.mem ((c.tc : Thread Cert.Ff2DwRefIdeal.nD Cert.Ff2DwRefIdeal.τ).loc Cert.Ff2DwRefIdeal.main_arg1) = m ((c.tc : Thread Cert.Ff2DwRefIdeal.nD Cert.Ff2DwRefIdeal.τ).loc Cert.Ff2DwRefIdeal.main_arg1))
      ∧ r.2.sem = fun _ => 0)

def quiescent_Ff1Dx [hFf1Dx : Cert.Ff1Dx.Facts] : Prop :=
  ∀ (m : (ℓ : Loc Cert.Ff1Dx.nD Cert.Ff1Dx.τ Cert.Ff1Dx.sig) → Buf (Elt Bits) ℓ) (g : Dev Cert.Ff1Dx.nD → PrngReg), Pre_Ff1Dx m →
    θ_run (Cert.Ff1Dx.defs (F := Bits)) (onTc (τ := Cert.Ff1Dx.τ) (Cert.Ff1Dx.main (F := Bits))) ⟨m, fun _ => 0, g⟩ (fun r => (∀ c : Dev Cert.Ff1Dx.nD,
      r.2.mem ((c.tc : Thread Cert.Ff1Dx.nD Cert.Ff1Dx.τ).loc Cert.Ff1Dx.main_arg0) = m ((c.tc : Thread Cert.Ff1Dx.nD Cert.Ff1Dx.τ).loc Cert.Ff1Dx.main_arg0)
      ∧ r.2.mem ((c.tc : Thread Cert.Ff1Dx.nD Cert.Ff1Dx.τ).loc Cert.Ff1Dx.main_arg1) = m ((c.tc : Thread Cert.Ff1Dx.nD Cert.Ff1Dx.τ).loc Cert.Ff1Dx.main_arg1))
      ∧ r.2.sem = fun _ => 0)

def quiescent_Ff1DxIdeal [hFf1DxIdeal : Cert.Ff1DxIdeal.Facts] : Prop :=
  ∀ (m : (ℓ : Loc Cert.Ff1DxIdeal.nD Cert.Ff1DxIdeal.τ Cert.Ff1DxIdeal.sig) → Buf (Elt Ideal) ℓ) (g : Dev Cert.Ff1DxIdeal.nD → PrngReg), Pre_Ff1DxIdeal m →
    θ_run (Cert.Ff1DxIdeal.defs (F := Ideal)) (onTc (τ := Cert.Ff1DxIdeal.τ) (Cert.Ff1DxIdeal.main (F := Ideal))) ⟨m, fun _ => 0, g⟩ (fun r => (∀ c : Dev Cert.Ff1DxIdeal.nD,
      r.2.mem ((c.tc : Thread Cert.Ff1DxIdeal.nD Cert.Ff1DxIdeal.τ).loc Cert.Ff1DxIdeal.main_arg0) = m ((c.tc : Thread Cert.Ff1DxIdeal.nD Cert.Ff1DxIdeal.τ).loc Cert.Ff1DxIdeal.main_arg0)
      ∧ r.2.mem ((c.tc : Thread Cert.Ff1DxIdeal.nD Cert.Ff1DxIdeal.τ).loc Cert.Ff1DxIdeal.main_arg1) = m ((c.tc : Thread Cert.Ff1DxIdeal.nD Cert.Ff1DxIdeal.τ).loc Cert.Ff1DxIdeal.main_arg1))
      ∧ r.2.sem = fun _ => 0)

def quiescent_Ff1DxRefIdeal [hFf1DxRefIdeal : Cert.Ff1DxRefIdeal.Facts] : Prop :=
  ∀ (m : (ℓ : Loc Cert.Ff1DxRefIdeal.nD Cert.Ff1DxRefIdeal.τ Cert.Ff1DxRefIdeal.sig) → Buf (Elt Ideal) ℓ) (g : Dev Cert.Ff1DxRefIdeal.nD → PrngReg), Pre_Ff1DxRefIdeal m →
    θ_run (Cert.Ff1DxRefIdeal.defs (F := Ideal)) (onTc (τ := Cert.Ff1DxRefIdeal.τ) (Cert.Ff1DxRefIdeal.main (F := Ideal))) ⟨m, fun _ => 0, g⟩ (fun r => (∀ c : Dev Cert.Ff1DxRefIdeal.nD,
      r.2.mem ((c.tc : Thread Cert.Ff1DxRefIdeal.nD Cert.Ff1DxRefIdeal.τ).loc Cert.Ff1DxRefIdeal.main_arg0) = m ((c.tc : Thread Cert.Ff1DxRefIdeal.nD Cert.Ff1DxRefIdeal.τ).loc Cert.Ff1DxRefIdeal.main_arg0)
      ∧ r.2.mem ((c.tc : Thread Cert.Ff1DxRefIdeal.nD Cert.Ff1DxRefIdeal.τ).loc Cert.Ff1DxRefIdeal.main_arg1) = m ((c.tc : Thread Cert.Ff1DxRefIdeal.nD Cert.Ff1DxRefIdeal.τ).loc Cert.Ff1DxRefIdeal.main_arg1))
      ∧ r.2.sem = fun _ => 0)

def quiescent_Ff1Dw [hFf1Dw : Cert.Ff1Dw.Facts] : Prop :=
  ∀ (m : (ℓ : Loc Cert.Ff1Dw.nD Cert.Ff1Dw.τ Cert.Ff1Dw.sig) → Buf (Elt Bits) ℓ) (g : Dev Cert.Ff1Dw.nD → PrngReg), Pre_Ff1Dw m →
    θ_run (Cert.Ff1Dw.defs (F := Bits)) (onTc (τ := Cert.Ff1Dw.τ) (Cert.Ff1Dw.main (F := Bits))) ⟨m, fun _ => 0, g⟩ (fun r => (∀ c : Dev Cert.Ff1Dw.nD,
      r.2.mem ((c.tc : Thread Cert.Ff1Dw.nD Cert.Ff1Dw.τ).loc Cert.Ff1Dw.main_arg0) = m ((c.tc : Thread Cert.Ff1Dw.nD Cert.Ff1Dw.τ).loc Cert.Ff1Dw.main_arg0)
      ∧ r.2.mem ((c.tc : Thread Cert.Ff1Dw.nD Cert.Ff1Dw.τ).loc Cert.Ff1Dw.main_arg1) = m ((c.tc : Thread Cert.Ff1Dw.nD Cert.Ff1Dw.τ).loc Cert.Ff1Dw.main_arg1))
      ∧ r.2.sem = fun _ => 0)

def quiescent_Ff1DwIdeal [hFf1DwIdeal : Cert.Ff1DwIdeal.Facts] : Prop :=
  ∀ (m : (ℓ : Loc Cert.Ff1DwIdeal.nD Cert.Ff1DwIdeal.τ Cert.Ff1DwIdeal.sig) → Buf (Elt Ideal) ℓ) (g : Dev Cert.Ff1DwIdeal.nD → PrngReg), Pre_Ff1DwIdeal m →
    θ_run (Cert.Ff1DwIdeal.defs (F := Ideal)) (onTc (τ := Cert.Ff1DwIdeal.τ) (Cert.Ff1DwIdeal.main (F := Ideal))) ⟨m, fun _ => 0, g⟩ (fun r => (∀ c : Dev Cert.Ff1DwIdeal.nD,
      r.2.mem ((c.tc : Thread Cert.Ff1DwIdeal.nD Cert.Ff1DwIdeal.τ).loc Cert.Ff1DwIdeal.main_arg0) = m ((c.tc : Thread Cert.Ff1DwIdeal.nD Cert.Ff1DwIdeal.τ).loc Cert.Ff1DwIdeal.main_arg0)
      ∧ r.2.mem ((c.tc : Thread Cert.Ff1DwIdeal.nD Cert.Ff1DwIdeal.τ).loc Cert.Ff1DwIdeal.main_arg1) = m ((c.tc : Thread Cert.Ff1DwIdeal.nD Cert.Ff1DwIdeal.τ).loc Cert.Ff1DwIdeal.main_arg1))
      ∧ r.2.sem = fun _ => 0)

def quiescent_Ff1DwRefIdeal [hFf1DwRefIdeal : Cert.Ff1DwRefIdeal.Facts] : Prop :=
  ∀ (m : (ℓ : Loc Cert.Ff1DwRefIdeal.nD Cert.Ff1DwRefIdeal.τ Cert.Ff1DwRefIdeal.sig) → Buf (Elt Ideal) ℓ) (g : Dev Cert.Ff1DwRefIdeal.nD → PrngReg), Pre_Ff1DwRefIdeal m →
    θ_run (Cert.Ff1DwRefIdeal.defs (F := Ideal)) (onTc (τ := Cert.Ff1DwRefIdeal.τ) (Cert.Ff1DwRefIdeal.main (F := Ideal))) ⟨m, fun _ => 0, g⟩ (fun r => (∀ c : Dev Cert.Ff1DwRefIdeal.nD,
      r.2.mem ((c.tc : Thread Cert.Ff1DwRefIdeal.nD Cert.Ff1DwRefIdeal.τ).loc Cert.Ff1DwRefIdeal.main_arg0) = m ((c.tc : Thread Cert.Ff1DwRefIdeal.nD Cert.Ff1DwRefIdeal.τ).loc Cert.Ff1DwRefIdeal.main_arg0)
      ∧ r.2.mem ((c.tc : Thread Cert.Ff1DwRefIdeal.nD Cert.Ff1DwRefIdeal.τ).loc Cert.Ff1DwRefIdeal.main_arg1) = m ((c.tc : Thread Cert.Ff1DwRefIdeal.nD Cert.Ff1DwRefIdeal.τ).loc Cert.Ff1DwRefIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1)
      ∧ r.2.mem ((c.tc : Thread Cert.ProjDx.nD Cert.ProjDx.τ).loc Cert.ProjDx.main_arg2) = m ((c.tc : Thread Cert.ProjDx.nD Cert.ProjDx.τ).loc Cert.ProjDx.main_arg2))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
      ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1)
      ∧ r.2.mem ((c.tc : Thread Cert.ProjDxRefIdeal.nD Cert.ProjDxRefIdeal.τ).loc Cert.ProjDxRefIdeal.main_arg2) = m ((c.tc : Thread Cert.ProjDxRefIdeal.nD Cert.ProjDxRefIdeal.τ).loc Cert.ProjDxRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1)
      ∧ r.2.mem ((c.tc : Thread Cert.Ff2.nD Cert.Ff2.τ).loc Cert.Ff2.main_arg2) = m ((c.tc : Thread Cert.Ff2.nD Cert.Ff2.τ).loc Cert.Ff2.main_arg2))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1)
      ∧ r.2.mem ((c.tc : Thread Cert.Ff2RefIdeal.nD Cert.Ff2RefIdeal.τ).loc Cert.Ff2RefIdeal.main_arg2) = m ((c.tc : Thread Cert.Ff2RefIdeal.nD Cert.Ff2RefIdeal.τ).loc Cert.Ff2RefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Ab [hAb : Cert.Ab.Facts] : Prop :=
  ∀ (m : (ℓ : Loc Cert.Ab.nD Cert.Ab.τ Cert.Ab.sig) → Buf (Elt Bits) ℓ) (g : Dev Cert.Ab.nD → PrngReg), Pre_Ab m →
    θ_run (Cert.Ab.defs (F := Bits)) (onTc (τ := Cert.Ab.τ) (Cert.Ab.main (F := Bits))) ⟨m, fun _ => 0, g⟩ (fun r => (∀ c : Dev Cert.Ab.nD,
      r.2.mem ((c.tc : Thread Cert.Ab.nD Cert.Ab.τ).loc Cert.Ab.main_arg0) = m ((c.tc : Thread Cert.Ab.nD Cert.Ab.τ).loc Cert.Ab.main_arg0)
      ∧ r.2.mem ((c.tc : Thread Cert.Ab.nD Cert.Ab.τ).loc Cert.Ab.main_arg1) = m ((c.tc : Thread Cert.Ab.nD Cert.Ab.τ).loc Cert.Ab.main_arg1))
      ∧ r.2.sem = fun _ => 0)

def quiescent_AbIdeal [hAbIdeal : Cert.AbIdeal.Facts] : Prop :=
  ∀ (m : (ℓ : Loc Cert.AbIdeal.nD Cert.AbIdeal.τ Cert.AbIdeal.sig) → Buf (Elt Ideal) ℓ) (g : Dev Cert.AbIdeal.nD → PrngReg), Pre_AbIdeal m →
    θ_run (Cert.AbIdeal.defs (F := Ideal)) (onTc (τ := Cert.AbIdeal.τ) (Cert.AbIdeal.main (F := Ideal))) ⟨m, fun _ => 0, g⟩ (fun r => (∀ c : Dev Cert.AbIdeal.nD,
      r.2.mem ((c.tc : Thread Cert.AbIdeal.nD Cert.AbIdeal.τ).loc Cert.AbIdeal.main_arg0) = m ((c.tc : Thread Cert.AbIdeal.nD Cert.AbIdeal.τ).loc Cert.AbIdeal.main_arg0)
      ∧ r.2.mem ((c.tc : Thread Cert.AbIdeal.nD Cert.AbIdeal.τ).loc Cert.AbIdeal.main_arg1) = m ((c.tc : Thread Cert.AbIdeal.nD Cert.AbIdeal.τ).loc Cert.AbIdeal.main_arg1))
      ∧ r.2.sem = fun _ => 0)

def quiescent_AbRefIdeal [hAbRefIdeal : Cert.AbRefIdeal.Facts] : Prop :=
  ∀ (m : (ℓ : Loc Cert.AbRefIdeal.nD Cert.AbRefIdeal.τ Cert.AbRefIdeal.sig) → Buf (Elt Ideal) ℓ) (g : Dev Cert.AbRefIdeal.nD → PrngReg), Pre_AbRefIdeal m →
    θ_run (Cert.AbRefIdeal.defs (F := Ideal)) (onTc (τ := Cert.AbRefIdeal.τ) (Cert.AbRefIdeal.main (F := Ideal))) ⟨m, fun _ => 0, g⟩ (fun r => (∀ c : Dev Cert.AbRefIdeal.nD,
      r.2.mem ((c.tc : Thread Cert.AbRefIdeal.nD Cert.AbRefIdeal.τ).loc Cert.AbRefIdeal.main_arg0) = m ((c.tc : Thread Cert.AbRefIdeal.nD Cert.AbRefIdeal.τ).loc Cert.AbRefIdeal.main_arg0)
      ∧ r.2.mem ((c.tc : Thread Cert.AbRefIdeal.nD Cert.AbRefIdeal.τ).loc Cert.AbRefIdeal.main_arg1) = m ((c.tc : Thread Cert.AbRefIdeal.nD Cert.AbRefIdeal.τ).loc Cert.AbRefIdeal.main_arg1))
      ∧ r.2.sem = fun _ => 0)

def quiescent_AbDx [hAbDx : Cert.AbDx.Facts] : Prop :=
  ∀ (m : (ℓ : Loc Cert.AbDx.nD Cert.AbDx.τ Cert.AbDx.sig) → Buf (Elt Bits) ℓ) (g : Dev Cert.AbDx.nD → PrngReg), Pre_AbDx m →
    θ_run (Cert.AbDx.defs (F := Bits)) (onTc (τ := Cert.AbDx.τ) (Cert.AbDx.main (F := Bits))) ⟨m, fun _ => 0, g⟩ (fun r => (∀ c : Dev Cert.AbDx.nD,
      r.2.mem ((c.tc : Thread Cert.AbDx.nD Cert.AbDx.τ).loc Cert.AbDx.main_arg0) = m ((c.tc : Thread Cert.AbDx.nD Cert.AbDx.τ).loc Cert.AbDx.main_arg0)
      ∧ r.2.mem ((c.tc : Thread Cert.AbDx.nD Cert.AbDx.τ).loc Cert.AbDx.main_arg1) = m ((c.tc : Thread Cert.AbDx.nD Cert.AbDx.τ).loc Cert.AbDx.main_arg1))
      ∧ r.2.sem = fun _ => 0)

def quiescent_AbDxIdeal [hAbDxIdeal : Cert.AbDxIdeal.Facts] : Prop :=
  ∀ (m : (ℓ : Loc Cert.AbDxIdeal.nD Cert.AbDxIdeal.τ Cert.AbDxIdeal.sig) → Buf (Elt Ideal) ℓ) (g : Dev Cert.AbDxIdeal.nD → PrngReg), Pre_AbDxIdeal m →
    θ_run (Cert.AbDxIdeal.defs (F := Ideal)) (onTc (τ := Cert.AbDxIdeal.τ) (Cert.AbDxIdeal.main (F := Ideal))) ⟨m, fun _ => 0, g⟩ (fun r => (∀ c : Dev Cert.AbDxIdeal.nD,
      r.2.mem ((c.tc : Thread Cert.AbDxIdeal.nD Cert.AbDxIdeal.τ).loc Cert.AbDxIdeal.main_arg0) = m ((c.tc : Thread Cert.AbDxIdeal.nD Cert.AbDxIdeal.τ).loc Cert.AbDxIdeal.main_arg0)
      ∧ r.2.mem ((c.tc : Thread Cert.AbDxIdeal.nD Cert.AbDxIdeal.τ).loc Cert.AbDxIdeal.main_arg1) = m ((c.tc : Thread Cert.AbDxIdeal.nD Cert.AbDxIdeal.τ).loc Cert.AbDxIdeal.main_arg1))
      ∧ r.2.sem = fun _ => 0)

def quiescent_AbDxRefIdeal [hAbDxRefIdeal : Cert.AbDxRefIdeal.Facts] : Prop :=
  ∀ (m : (ℓ : Loc Cert.AbDxRefIdeal.nD Cert.AbDxRefIdeal.τ Cert.AbDxRefIdeal.sig) → Buf (Elt Ideal) ℓ) (g : Dev Cert.AbDxRefIdeal.nD → PrngReg), Pre_AbDxRefIdeal m →
    θ_run (Cert.AbDxRefIdeal.defs (F := Ideal)) (onTc (τ := Cert.AbDxRefIdeal.τ) (Cert.AbDxRefIdeal.main (F := Ideal))) ⟨m, fun _ => 0, g⟩ (fun r => (∀ c : Dev Cert.AbDxRefIdeal.nD,
      r.2.mem ((c.tc : Thread Cert.AbDxRefIdeal.nD Cert.AbDxRefIdeal.τ).loc Cert.AbDxRefIdeal.main_arg0) = m ((c.tc : Thread Cert.AbDxRefIdeal.nD Cert.AbDxRefIdeal.τ).loc Cert.AbDxRefIdeal.main_arg0)
      ∧ r.2.mem ((c.tc : Thread Cert.AbDxRefIdeal.nD Cert.AbDxRefIdeal.τ).loc Cert.AbDxRefIdeal.main_arg1) = m ((c.tc : Thread Cert.AbDxRefIdeal.nD Cert.AbDxRefIdeal.τ).loc Cert.AbDxRefIdeal.main_arg1))
      ∧ r.2.sem = fun _ => 0)

def quiescent_AbDw [hAbDw : Cert.AbDw.Facts] : Prop :=
  ∀ (m : (ℓ : Loc Cert.AbDw.nD Cert.AbDw.τ Cert.AbDw.sig) → Buf (Elt Bits) ℓ) (g : Dev Cert.AbDw.nD → PrngReg), Pre_AbDw m →
    θ_run (Cert.AbDw.defs (F := Bits)) (onTc (τ := Cert.AbDw.τ) (Cert.AbDw.main (F := Bits))) ⟨m, fun _ => 0, g⟩ (fun r => (∀ c : Dev Cert.AbDw.nD,
      r.2.mem ((c.tc : Thread Cert.AbDw.nD Cert.AbDw.τ).loc Cert.AbDw.main_arg0) = m ((c.tc : Thread Cert.AbDw.nD Cert.AbDw.τ).loc Cert.AbDw.main_arg0)
      ∧ r.2.mem ((c.tc : Thread Cert.AbDw.nD Cert.AbDw.τ).loc Cert.AbDw.main_arg1) = m ((c.tc : Thread Cert.AbDw.nD Cert.AbDw.τ).loc Cert.AbDw.main_arg1))
      ∧ r.2.sem = fun _ => 0)

def quiescent_AbDwIdeal [hAbDwIdeal : Cert.AbDwIdeal.Facts] : Prop :=
  ∀ (m : (ℓ : Loc Cert.AbDwIdeal.nD Cert.AbDwIdeal.τ Cert.AbDwIdeal.sig) → Buf (Elt Ideal) ℓ) (g : Dev Cert.AbDwIdeal.nD → PrngReg), Pre_AbDwIdeal m →
    θ_run (Cert.AbDwIdeal.defs (F := Ideal)) (onTc (τ := Cert.AbDwIdeal.τ) (Cert.AbDwIdeal.main (F := Ideal))) ⟨m, fun _ => 0, g⟩ (fun r => (∀ c : Dev Cert.AbDwIdeal.nD,
      r.2.mem ((c.tc : Thread Cert.AbDwIdeal.nD Cert.AbDwIdeal.τ).loc Cert.AbDwIdeal.main_arg0) = m ((c.tc : Thread Cert.AbDwIdeal.nD Cert.AbDwIdeal.τ).loc Cert.AbDwIdeal.main_arg0)
      ∧ r.2.mem ((c.tc : Thread Cert.AbDwIdeal.nD Cert.AbDwIdeal.τ).loc Cert.AbDwIdeal.main_arg1) = m ((c.tc : Thread Cert.AbDwIdeal.nD Cert.AbDwIdeal.τ).loc Cert.AbDwIdeal.main_arg1))
      ∧ r.2.sem = fun _ => 0)

def quiescent_AbDwRefIdeal [hAbDwRefIdeal : Cert.AbDwRefIdeal.Facts] : Prop :=
  ∀ (m : (ℓ : Loc Cert.AbDwRefIdeal.nD Cert.AbDwRefIdeal.τ Cert.AbDwRefIdeal.sig) → Buf (Elt Ideal) ℓ) (g : Dev Cert.AbDwRefIdeal.nD → PrngReg), Pre_AbDwRefIdeal m →
    θ_run (Cert.AbDwRefIdeal.defs (F := Ideal)) (onTc (τ := Cert.AbDwRefIdeal.τ) (Cert.AbDwRefIdeal.main (F := Ideal))) ⟨m, fun _ => 0, g⟩ (fun r => (∀ c : Dev Cert.AbDwRefIdeal.nD,
      r.2.mem ((c.tc : Thread Cert.AbDwRefIdeal.nD Cert.AbDwRefIdeal.τ).loc Cert.AbDwRefIdeal.main_arg0) = m ((c.tc : Thread Cert.AbDwRefIdeal.nD Cert.AbDwRefIdeal.τ).loc Cert.AbDwRefIdeal.main_arg0)
      ∧ r.2.mem ((c.tc : Thread Cert.AbDwRefIdeal.nD Cert.AbDwRefIdeal.τ).loc Cert.AbDwRefIdeal.main_arg1) = m ((c.tc : Thread Cert.AbDwRefIdeal.nD Cert.AbDwRefIdeal.τ).loc Cert.AbDwRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ r.2.sem = fun _ => 0)

def quiescent_NormGradRefIdeal [hNormGradRefIdeal : Cert.NormGradRefIdeal.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3))
      ∧ r.2.sem = fun _ => 0)

def quiescent_GdnGatesGrad [hGdnGatesGrad : Cert.GdnGatesGrad.Facts] : Prop :=
  ∀ (m : (ℓ : Loc Cert.GdnGatesGrad.nD Cert.GdnGatesGrad.τ Cert.GdnGatesGrad.sig) → Buf (Elt Bits) ℓ) (g : Dev Cert.GdnGatesGrad.nD → PrngReg), Pre_GdnGatesGrad m →
    θ_run (Cert.GdnGatesGrad.defs (F := Bits)) (onTc (τ := Cert.GdnGatesGrad.τ) (Cert.GdnGatesGrad.main (F := Bits))) ⟨m, fun _ => 0, g⟩ (fun r => (∀ c : Dev Cert.GdnGatesGrad.nD,
      r.2.mem ((c.tc : Thread Cert.GdnGatesGrad.nD Cert.GdnGatesGrad.τ).loc Cert.GdnGatesGrad.main_arg0) = m ((c.tc : Thread Cert.GdnGatesGrad.nD Cert.GdnGatesGrad.τ).loc Cert.GdnGatesGrad.main_arg0)
      ∧ r.2.mem ((c.tc : Thread Cert.GdnGatesGrad.nD Cert.GdnGatesGrad.τ).loc Cert.GdnGatesGrad.main_arg1) = m ((c.tc : Thread Cert.GdnGatesGrad.nD Cert.GdnGatesGrad.τ).loc Cert.GdnGatesGrad.main_arg1)
      ∧ r.2.mem ((c.tc : Thread Cert.GdnGatesGrad.nD Cert.GdnGatesGrad.τ).loc Cert.GdnGatesGrad.main_arg2) = m ((c.tc : Thread Cert.GdnGatesGrad.nD Cert.GdnGatesGrad.τ).loc Cert.GdnGatesGrad.main_arg2)
      ∧ r.2.mem ((c.tc : Thread Cert.GdnGatesGrad.nD Cert.GdnGatesGrad.τ).loc Cert.GdnGatesGrad.main_arg3) = m ((c.tc : Thread Cert.GdnGatesGrad.nD Cert.GdnGatesGrad.τ).loc Cert.GdnGatesGrad.main_arg3)
      ∧ r.2.mem ((c.tc : Thread Cert.GdnGatesGrad.nD Cert.GdnGatesGrad.τ).loc Cert.GdnGatesGrad.main_arg4) = m ((c.tc : Thread Cert.GdnGatesGrad.nD Cert.GdnGatesGrad.τ).loc Cert.GdnGatesGrad.main_arg4))
      ∧ r.2.sem = fun _ => 0)

def quiescent_GdnGatesGradIdeal [hGdnGatesGradIdeal : Cert.GdnGatesGradIdeal.Facts] : Prop :=
  ∀ (m : (ℓ : Loc Cert.GdnGatesGradIdeal.nD Cert.GdnGatesGradIdeal.τ Cert.GdnGatesGradIdeal.sig) → Buf (Elt Ideal) ℓ) (g : Dev Cert.GdnGatesGradIdeal.nD → PrngReg), Pre_GdnGatesGradIdeal m →
    θ_run (Cert.GdnGatesGradIdeal.defs (F := Ideal)) (onTc (τ := Cert.GdnGatesGradIdeal.τ) (Cert.GdnGatesGradIdeal.main (F := Ideal))) ⟨m, fun _ => 0, g⟩ (fun r => (∀ c : Dev Cert.GdnGatesGradIdeal.nD,
      r.2.mem ((c.tc : Thread Cert.GdnGatesGradIdeal.nD Cert.GdnGatesGradIdeal.τ).loc Cert.GdnGatesGradIdeal.main_arg0) = m ((c.tc : Thread Cert.GdnGatesGradIdeal.nD Cert.GdnGatesGradIdeal.τ).loc Cert.GdnGatesGradIdeal.main_arg0)
      ∧ r.2.mem ((c.tc : Thread Cert.GdnGatesGradIdeal.nD Cert.GdnGatesGradIdeal.τ).loc Cert.GdnGatesGradIdeal.main_arg1) = m ((c.tc : Thread Cert.GdnGatesGradIdeal.nD Cert.GdnGatesGradIdeal.τ).loc Cert.GdnGatesGradIdeal.main_arg1)
      ∧ r.2.mem ((c.tc : Thread Cert.GdnGatesGradIdeal.nD Cert.GdnGatesGradIdeal.τ).loc Cert.GdnGatesGradIdeal.main_arg2) = m ((c.tc : Thread Cert.GdnGatesGradIdeal.nD Cert.GdnGatesGradIdeal.τ).loc Cert.GdnGatesGradIdeal.main_arg2)
      ∧ r.2.mem ((c.tc : Thread Cert.GdnGatesGradIdeal.nD Cert.GdnGatesGradIdeal.τ).loc Cert.GdnGatesGradIdeal.main_arg3) = m ((c.tc : Thread Cert.GdnGatesGradIdeal.nD Cert.GdnGatesGradIdeal.τ).loc Cert.GdnGatesGradIdeal.main_arg3)
      ∧ r.2.mem ((c.tc : Thread Cert.GdnGatesGradIdeal.nD Cert.GdnGatesGradIdeal.τ).loc Cert.GdnGatesGradIdeal.main_arg4) = m ((c.tc : Thread Cert.GdnGatesGradIdeal.nD Cert.GdnGatesGradIdeal.τ).loc Cert.GdnGatesGradIdeal.main_arg4))
      ∧ r.2.sem = fun _ => 0)

def quiescent_GdnGatesGradIdeal_pre_gates_finite [hGdnGatesGradIdeal : Cert.GdnGatesGradIdeal.Facts] [hPre_gates_finite : Cert.Pre_gates_finite.Facts] : Prop :=
  ∀ (m : (ℓ : Loc Cert.GdnGatesGradIdeal.nD Cert.GdnGatesGradIdeal.τ Cert.GdnGatesGradIdeal.sig) → Buf (Elt Ideal) ℓ) (g : Dev Cert.GdnGatesGradIdeal.nD → PrngReg), Pre_GdnGatesGradIdeal_gates_finite m →
    θ_run (Cert.GdnGatesGradIdeal.defs (F := Ideal)) (onTc (τ := Cert.GdnGatesGradIdeal.τ) (Cert.GdnGatesGradIdeal.main (F := Ideal))) ⟨m, fun _ => 0, g⟩ (fun r => (∀ c : Dev Cert.GdnGatesGradIdeal.nD,
      r.2.mem ((c.tc : Thread Cert.GdnGatesGradIdeal.nD Cert.GdnGatesGradIdeal.τ).loc Cert.GdnGatesGradIdeal.main_arg0) = m ((c.tc : Thread Cert.GdnGatesGradIdeal.nD Cert.GdnGatesGradIdeal.τ).loc Cert.GdnGatesGradIdeal.main_arg0)
      ∧ r.2.mem ((c.tc : Thread Cert.GdnGatesGradIdeal.nD Cert.GdnGatesGradIdeal.τ).loc Cert.GdnGatesGradIdeal.main_arg1) = m ((c.tc : Thread Cert.GdnGatesGradIdeal.nD Cert.GdnGatesGradIdeal.τ).loc Cert.GdnGatesGradIdeal.main_arg1)
      ∧ r.2.mem ((c.tc : Thread Cert.GdnGatesGradIdeal.nD Cert.GdnGatesGradIdeal.τ).loc Cert.GdnGatesGradIdeal.main_arg2) = m ((c.tc : Thread Cert.GdnGatesGradIdeal.nD Cert.GdnGatesGradIdeal.τ).loc Cert.GdnGatesGradIdeal.main_arg2)
      ∧ r.2.mem ((c.tc : Thread Cert.GdnGatesGradIdeal.nD Cert.GdnGatesGradIdeal.τ).loc Cert.GdnGatesGradIdeal.main_arg3) = m ((c.tc : Thread Cert.GdnGatesGradIdeal.nD Cert.GdnGatesGradIdeal.τ).loc Cert.GdnGatesGradIdeal.main_arg3)
      ∧ r.2.mem ((c.tc : Thread Cert.GdnGatesGradIdeal.nD Cert.GdnGatesGradIdeal.τ).loc Cert.GdnGatesGradIdeal.main_arg4) = m ((c.tc : Thread Cert.GdnGatesGradIdeal.nD Cert.GdnGatesGradIdeal.τ).loc Cert.GdnGatesGradIdeal.main_arg4))
      ∧ r.2.sem = fun _ => 0)

def quiescent_GdnGatesGradRefIdeal [hGdnGatesGradRefIdeal : Cert.GdnGatesGradRefIdeal.Facts] : Prop :=
  ∀ (m : (ℓ : Loc Cert.GdnGatesGradRefIdeal.nD Cert.GdnGatesGradRefIdeal.τ Cert.GdnGatesGradRefIdeal.sig) → Buf (Elt Ideal) ℓ) (g : Dev Cert.GdnGatesGradRefIdeal.nD → PrngReg), Pre_GdnGatesGradRefIdeal m →
    θ_run (Cert.GdnGatesGradRefIdeal.defs (F := Ideal)) (onTc (τ := Cert.GdnGatesGradRefIdeal.τ) (Cert.GdnGatesGradRefIdeal.main (F := Ideal))) ⟨m, fun _ => 0, g⟩ (fun r => (∀ c : Dev Cert.GdnGatesGradRefIdeal.nD,
      r.2.mem ((c.tc : Thread Cert.GdnGatesGradRefIdeal.nD Cert.GdnGatesGradRefIdeal.τ).loc Cert.GdnGatesGradRefIdeal.main_arg0) = m ((c.tc : Thread Cert.GdnGatesGradRefIdeal.nD Cert.GdnGatesGradRefIdeal.τ).loc Cert.GdnGatesGradRefIdeal.main_arg0)
      ∧ r.2.mem ((c.tc : Thread Cert.GdnGatesGradRefIdeal.nD Cert.GdnGatesGradRefIdeal.τ).loc Cert.GdnGatesGradRefIdeal.main_arg1) = m ((c.tc : Thread Cert.GdnGatesGradRefIdeal.nD Cert.GdnGatesGradRefIdeal.τ).loc Cert.GdnGatesGradRefIdeal.main_arg1)
      ∧ r.2.mem ((c.tc : Thread Cert.GdnGatesGradRefIdeal.nD Cert.GdnGatesGradRefIdeal.τ).loc Cert.GdnGatesGradRefIdeal.main_arg2) = m ((c.tc : Thread Cert.GdnGatesGradRefIdeal.nD Cert.GdnGatesGradRefIdeal.τ).loc Cert.GdnGatesGradRefIdeal.main_arg2)
      ∧ r.2.mem ((c.tc : Thread Cert.GdnGatesGradRefIdeal.nD Cert.GdnGatesGradRefIdeal.τ).loc Cert.GdnGatesGradRefIdeal.main_arg3) = m ((c.tc : Thread Cert.GdnGatesGradRefIdeal.nD Cert.GdnGatesGradRefIdeal.τ).loc Cert.GdnGatesGradRefIdeal.main_arg3)
      ∧ r.2.mem ((c.tc : Thread Cert.GdnGatesGradRefIdeal.nD Cert.GdnGatesGradRefIdeal.τ).loc Cert.GdnGatesGradRefIdeal.main_arg4) = m ((c.tc : Thread Cert.GdnGatesGradRefIdeal.nD Cert.GdnGatesGradRefIdeal.τ).loc Cert.GdnGatesGradRefIdeal.main_arg4))
      ∧ r.2.sem = fun _ => 0)

def quiescent_GdnGatesGradRefIdeal_pre_gates_finite [hGdnGatesGradRefIdeal : Cert.GdnGatesGradRefIdeal.Facts] [hPre_gates_finite : Cert.Pre_gates_finite.Facts] : Prop :=
  ∀ (m : (ℓ : Loc Cert.GdnGatesGradRefIdeal.nD Cert.GdnGatesGradRefIdeal.τ Cert.GdnGatesGradRefIdeal.sig) → Buf (Elt Ideal) ℓ) (g : Dev Cert.GdnGatesGradRefIdeal.nD → PrngReg), Pre_GdnGatesGradRefIdeal_gates_finite m →
    θ_run (Cert.GdnGatesGradRefIdeal.defs (F := Ideal)) (onTc (τ := Cert.GdnGatesGradRefIdeal.τ) (Cert.GdnGatesGradRefIdeal.main (F := Ideal))) ⟨m, fun _ => 0, g⟩ (fun r => (∀ c : Dev Cert.GdnGatesGradRefIdeal.nD,
      r.2.mem ((c.tc : Thread Cert.GdnGatesGradRefIdeal.nD Cert.GdnGatesGradRefIdeal.τ).loc Cert.GdnGatesGradRefIdeal.main_arg0) = m ((c.tc : Thread Cert.GdnGatesGradRefIdeal.nD Cert.GdnGatesGradRefIdeal.τ).loc Cert.GdnGatesGradRefIdeal.main_arg0)
      ∧ r.2.mem ((c.tc : Thread Cert.GdnGatesGradRefIdeal.nD Cert.GdnGatesGradRefIdeal.τ).loc Cert.GdnGatesGradRefIdeal.main_arg1) = m ((c.tc : Thread Cert.GdnGatesGradRefIdeal.nD Cert.GdnGatesGradRefIdeal.τ).loc Cert.GdnGatesGradRefIdeal.main_arg1)
      ∧ r.2.mem ((c.tc : Thread Cert.GdnGatesGradRefIdeal.nD Cert.GdnGatesGradRefIdeal.τ).loc Cert.GdnGatesGradRefIdeal.main_arg2) = m ((c.tc : Thread Cert.GdnGatesGradRefIdeal.nD Cert.GdnGatesGradRefIdeal.τ).loc Cert.GdnGatesGradRefIdeal.main_arg2)
      ∧ r.2.mem ((c.tc : Thread Cert.GdnGatesGradRefIdeal.nD Cert.GdnGatesGradRefIdeal.τ).loc Cert.GdnGatesGradRefIdeal.main_arg3) = m ((c.tc : Thread Cert.GdnGatesGradRefIdeal.nD Cert.GdnGatesGradRefIdeal.τ).loc Cert.GdnGatesGradRefIdeal.main_arg3)
      ∧ r.2.mem ((c.tc : Thread Cert.GdnGatesGradRefIdeal.nD Cert.GdnGatesGradRefIdeal.τ).loc Cert.GdnGatesGradRefIdeal.main_arg4) = m ((c.tc : Thread Cert.GdnGatesGradRefIdeal.nD Cert.GdnGatesGradRefIdeal.τ).loc Cert.GdnGatesGradRefIdeal.main_arg4))
      ∧ r.2.sem = fun _ => 0)

def quiescent_HgrnPrepGrad [hHgrnPrepGrad : Cert.HgrnPrepGrad.Facts] : Prop :=
  ∀ (m : (ℓ : Loc Cert.HgrnPrepGrad.nD Cert.HgrnPrepGrad.τ Cert.HgrnPrepGrad.sig) → Buf (Elt Bits) ℓ) (g : Dev Cert.HgrnPrepGrad.nD → PrngReg), Pre_HgrnPrepGrad m →
    θ_run (Cert.HgrnPrepGrad.defs (F := Bits)) (onTc (τ := Cert.HgrnPrepGrad.τ) (Cert.HgrnPrepGrad.main (F := Bits))) ⟨m, fun _ => 0, g⟩ (fun r => (∀ c : Dev Cert.HgrnPrepGrad.nD,
      r.2.mem ((c.tc : Thread Cert.HgrnPrepGrad.nD Cert.HgrnPrepGrad.τ).loc Cert.HgrnPrepGrad.main_arg0) = m ((c.tc : Thread Cert.HgrnPrepGrad.nD Cert.HgrnPrepGrad.τ).loc Cert.HgrnPrepGrad.main_arg0)
      ∧ r.2.mem ((c.tc : Thread Cert.HgrnPrepGrad.nD Cert.HgrnPrepGrad.τ).loc Cert.HgrnPrepGrad.main_arg1) = m ((c.tc : Thread Cert.HgrnPrepGrad.nD Cert.HgrnPrepGrad.τ).loc Cert.HgrnPrepGrad.main_arg1)
      ∧ r.2.mem ((c.tc : Thread Cert.HgrnPrepGrad.nD Cert.HgrnPrepGrad.τ).loc Cert.HgrnPrepGrad.main_arg2) = m ((c.tc : Thread Cert.HgrnPrepGrad.nD Cert.HgrnPrepGrad.τ).loc Cert.HgrnPrepGrad.main_arg2)
      ∧ r.2.mem ((c.tc : Thread Cert.HgrnPrepGrad.nD Cert.HgrnPrepGrad.τ).loc Cert.HgrnPrepGrad.main_arg3) = m ((c.tc : Thread Cert.HgrnPrepGrad.nD Cert.HgrnPrepGrad.τ).loc Cert.HgrnPrepGrad.main_arg3)
      ∧ r.2.mem ((c.tc : Thread Cert.HgrnPrepGrad.nD Cert.HgrnPrepGrad.τ).loc Cert.HgrnPrepGrad.main_arg4) = m ((c.tc : Thread Cert.HgrnPrepGrad.nD Cert.HgrnPrepGrad.τ).loc Cert.HgrnPrepGrad.main_arg4))
      ∧ r.2.sem = fun _ => 0)

def quiescent_HgrnPrepGradIdeal [hHgrnPrepGradIdeal : Cert.HgrnPrepGradIdeal.Facts] : Prop :=
  ∀ (m : (ℓ : Loc Cert.HgrnPrepGradIdeal.nD Cert.HgrnPrepGradIdeal.τ Cert.HgrnPrepGradIdeal.sig) → Buf (Elt Ideal) ℓ) (g : Dev Cert.HgrnPrepGradIdeal.nD → PrngReg), Pre_HgrnPrepGradIdeal m →
    θ_run (Cert.HgrnPrepGradIdeal.defs (F := Ideal)) (onTc (τ := Cert.HgrnPrepGradIdeal.τ) (Cert.HgrnPrepGradIdeal.main (F := Ideal))) ⟨m, fun _ => 0, g⟩ (fun r => (∀ c : Dev Cert.HgrnPrepGradIdeal.nD,
      r.2.mem ((c.tc : Thread Cert.HgrnPrepGradIdeal.nD Cert.HgrnPrepGradIdeal.τ).loc Cert.HgrnPrepGradIdeal.main_arg0) = m ((c.tc : Thread Cert.HgrnPrepGradIdeal.nD Cert.HgrnPrepGradIdeal.τ).loc Cert.HgrnPrepGradIdeal.main_arg0)
      ∧ r.2.mem ((c.tc : Thread Cert.HgrnPrepGradIdeal.nD Cert.HgrnPrepGradIdeal.τ).loc Cert.HgrnPrepGradIdeal.main_arg1) = m ((c.tc : Thread Cert.HgrnPrepGradIdeal.nD Cert.HgrnPrepGradIdeal.τ).loc Cert.HgrnPrepGradIdeal.main_arg1)
      ∧ r.2.mem ((c.tc : Thread Cert.HgrnPrepGradIdeal.nD Cert.HgrnPrepGradIdeal.τ).loc Cert.HgrnPrepGradIdeal.main_arg2) = m ((c.tc : Thread Cert.HgrnPrepGradIdeal.nD Cert.HgrnPrepGradIdeal.τ).loc Cert.HgrnPrepGradIdeal.main_arg2)
      ∧ r.2.mem ((c.tc : Thread Cert.HgrnPrepGradIdeal.nD Cert.HgrnPrepGradIdeal.τ).loc Cert.HgrnPrepGradIdeal.main_arg3) = m ((c.tc : Thread Cert.HgrnPrepGradIdeal.nD Cert.HgrnPrepGradIdeal.τ).loc Cert.HgrnPrepGradIdeal.main_arg3)
      ∧ r.2.mem ((c.tc : Thread Cert.HgrnPrepGradIdeal.nD Cert.HgrnPrepGradIdeal.τ).loc Cert.HgrnPrepGradIdeal.main_arg4) = m ((c.tc : Thread Cert.HgrnPrepGradIdeal.nD Cert.HgrnPrepGradIdeal.τ).loc Cert.HgrnPrepGradIdeal.main_arg4))
      ∧ r.2.sem = fun _ => 0)

def quiescent_HgrnPrepGradIdeal_pre_prep_finite [hHgrnPrepGradIdeal : Cert.HgrnPrepGradIdeal.Facts] [hPre_prep_finite : Cert.Pre_prep_finite.Facts] : Prop :=
  ∀ (m : (ℓ : Loc Cert.HgrnPrepGradIdeal.nD Cert.HgrnPrepGradIdeal.τ Cert.HgrnPrepGradIdeal.sig) → Buf (Elt Ideal) ℓ) (g : Dev Cert.HgrnPrepGradIdeal.nD → PrngReg), Pre_HgrnPrepGradIdeal_prep_finite m →
    θ_run (Cert.HgrnPrepGradIdeal.defs (F := Ideal)) (onTc (τ := Cert.HgrnPrepGradIdeal.τ) (Cert.HgrnPrepGradIdeal.main (F := Ideal))) ⟨m, fun _ => 0, g⟩ (fun r => (∀ c : Dev Cert.HgrnPrepGradIdeal.nD,
      r.2.mem ((c.tc : Thread Cert.HgrnPrepGradIdeal.nD Cert.HgrnPrepGradIdeal.τ).loc Cert.HgrnPrepGradIdeal.main_arg0) = m ((c.tc : Thread Cert.HgrnPrepGradIdeal.nD Cert.HgrnPrepGradIdeal.τ).loc Cert.HgrnPrepGradIdeal.main_arg0)
      ∧ r.2.mem ((c.tc : Thread Cert.HgrnPrepGradIdeal.nD Cert.HgrnPrepGradIdeal.τ).loc Cert.HgrnPrepGradIdeal.main_arg1) = m ((c.tc : Thread Cert.HgrnPrepGradIdeal.nD Cert.HgrnPrepGradIdeal.τ).loc Cert.HgrnPrepGradIdeal.main_arg1)
      ∧ r.2.mem ((c.tc : Thread Cert.HgrnPrepGradIdeal.nD Cert.HgrnPrepGradIdeal.τ).loc Cert.HgrnPrepGradIdeal.main_arg2) = m ((c.tc : Thread Cert.HgrnPrepGradIdeal.nD Cert.HgrnPrepGradIdeal.τ).loc Cert.HgrnPrepGradIdeal.main_arg2)
      ∧ r.2.mem ((c.tc : Thread Cert.HgrnPrepGradIdeal.nD Cert.HgrnPrepGradIdeal.τ).loc Cert.HgrnPrepGradIdeal.main_arg3) = m ((c.tc : Thread Cert.HgrnPrepGradIdeal.nD Cert.HgrnPrepGradIdeal.τ).loc Cert.HgrnPrepGradIdeal.main_arg3)
      ∧ r.2.mem ((c.tc : Thread Cert.HgrnPrepGradIdeal.nD Cert.HgrnPrepGradIdeal.τ).loc Cert.HgrnPrepGradIdeal.main_arg4) = m ((c.tc : Thread Cert.HgrnPrepGradIdeal.nD Cert.HgrnPrepGradIdeal.τ).loc Cert.HgrnPrepGradIdeal.main_arg4))
      ∧ r.2.sem = fun _ => 0)

def quiescent_HgrnPrepGradRefIdeal [hHgrnPrepGradRefIdeal : Cert.HgrnPrepGradRefIdeal.Facts] : Prop :=
  ∀ (m : (ℓ : Loc Cert.HgrnPrepGradRefIdeal.nD Cert.HgrnPrepGradRefIdeal.τ Cert.HgrnPrepGradRefIdeal.sig) → Buf (Elt Ideal) ℓ) (g : Dev Cert.HgrnPrepGradRefIdeal.nD → PrngReg), Pre_HgrnPrepGradRefIdeal m →
    θ_run (Cert.HgrnPrepGradRefIdeal.defs (F := Ideal)) (onTc (τ := Cert.HgrnPrepGradRefIdeal.τ) (Cert.HgrnPrepGradRefIdeal.main (F := Ideal))) ⟨m, fun _ => 0, g⟩ (fun r => (∀ c : Dev Cert.HgrnPrepGradRefIdeal.nD,
      r.2.mem ((c.tc : Thread Cert.HgrnPrepGradRefIdeal.nD Cert.HgrnPrepGradRefIdeal.τ).loc Cert.HgrnPrepGradRefIdeal.main_arg0) = m ((c.tc : Thread Cert.HgrnPrepGradRefIdeal.nD Cert.HgrnPrepGradRefIdeal.τ).loc Cert.HgrnPrepGradRefIdeal.main_arg0)
      ∧ r.2.mem ((c.tc : Thread Cert.HgrnPrepGradRefIdeal.nD Cert.HgrnPrepGradRefIdeal.τ).loc Cert.HgrnPrepGradRefIdeal.main_arg1) = m ((c.tc : Thread Cert.HgrnPrepGradRefIdeal.nD Cert.HgrnPrepGradRefIdeal.τ).loc Cert.HgrnPrepGradRefIdeal.main_arg1)
      ∧ r.2.mem ((c.tc : Thread Cert.HgrnPrepGradRefIdeal.nD Cert.HgrnPrepGradRefIdeal.τ).loc Cert.HgrnPrepGradRefIdeal.main_arg2) = m ((c.tc : Thread Cert.HgrnPrepGradRefIdeal.nD Cert.HgrnPrepGradRefIdeal.τ).loc Cert.HgrnPrepGradRefIdeal.main_arg2)
      ∧ r.2.mem ((c.tc : Thread Cert.HgrnPrepGradRefIdeal.nD Cert.HgrnPrepGradRefIdeal.τ).loc Cert.HgrnPrepGradRefIdeal.main_arg3) = m ((c.tc : Thread Cert.HgrnPrepGradRefIdeal.nD Cert.HgrnPrepGradRefIdeal.τ).loc Cert.HgrnPrepGradRefIdeal.main_arg3)
      ∧ r.2.mem ((c.tc : Thread Cert.HgrnPrepGradRefIdeal.nD Cert.HgrnPrepGradRefIdeal.τ).loc Cert.HgrnPrepGradRefIdeal.main_arg4) = m ((c.tc : Thread Cert.HgrnPrepGradRefIdeal.nD Cert.HgrnPrepGradRefIdeal.τ).loc Cert.HgrnPrepGradRefIdeal.main_arg4))
      ∧ r.2.sem = fun _ => 0)

def quiescent_HgrnPrepGradRefIdeal_pre_prep_finite [hHgrnPrepGradRefIdeal : Cert.HgrnPrepGradRefIdeal.Facts] [hPre_prep_finite : Cert.Pre_prep_finite.Facts] : Prop :=
  ∀ (m : (ℓ : Loc Cert.HgrnPrepGradRefIdeal.nD Cert.HgrnPrepGradRefIdeal.τ Cert.HgrnPrepGradRefIdeal.sig) → Buf (Elt Ideal) ℓ) (g : Dev Cert.HgrnPrepGradRefIdeal.nD → PrngReg), Pre_HgrnPrepGradRefIdeal_prep_finite m →
    θ_run (Cert.HgrnPrepGradRefIdeal.defs (F := Ideal)) (onTc (τ := Cert.HgrnPrepGradRefIdeal.τ) (Cert.HgrnPrepGradRefIdeal.main (F := Ideal))) ⟨m, fun _ => 0, g⟩ (fun r => (∀ c : Dev Cert.HgrnPrepGradRefIdeal.nD,
      r.2.mem ((c.tc : Thread Cert.HgrnPrepGradRefIdeal.nD Cert.HgrnPrepGradRefIdeal.τ).loc Cert.HgrnPrepGradRefIdeal.main_arg0) = m ((c.tc : Thread Cert.HgrnPrepGradRefIdeal.nD Cert.HgrnPrepGradRefIdeal.τ).loc Cert.HgrnPrepGradRefIdeal.main_arg0)
      ∧ r.2.mem ((c.tc : Thread Cert.HgrnPrepGradRefIdeal.nD Cert.HgrnPrepGradRefIdeal.τ).loc Cert.HgrnPrepGradRefIdeal.main_arg1) = m ((c.tc : Thread Cert.HgrnPrepGradRefIdeal.nD Cert.HgrnPrepGradRefIdeal.τ).loc Cert.HgrnPrepGradRefIdeal.main_arg1)
      ∧ r.2.mem ((c.tc : Thread Cert.HgrnPrepGradRefIdeal.nD Cert.HgrnPrepGradRefIdeal.τ).loc Cert.HgrnPrepGradRefIdeal.main_arg2) = m ((c.tc : Thread Cert.HgrnPrepGradRefIdeal.nD Cert.HgrnPrepGradRefIdeal.τ).loc Cert.HgrnPrepGradRefIdeal.main_arg2)
      ∧ r.2.mem ((c.tc : Thread Cert.HgrnPrepGradRefIdeal.nD Cert.HgrnPrepGradRefIdeal.τ).loc Cert.HgrnPrepGradRefIdeal.main_arg3) = m ((c.tc : Thread Cert.HgrnPrepGradRefIdeal.nD Cert.HgrnPrepGradRefIdeal.τ).loc Cert.HgrnPrepGradRefIdeal.main_arg3)
      ∧ r.2.mem ((c.tc : Thread Cert.HgrnPrepGradRefIdeal.nD Cert.HgrnPrepGradRefIdeal.τ).loc Cert.HgrnPrepGradRefIdeal.main_arg4) = m ((c.tc : Thread Cert.HgrnPrepGradRefIdeal.nD Cert.HgrnPrepGradRefIdeal.τ).loc Cert.HgrnPrepGradRefIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)) (v3 : (c : Dev Cert.KernelIdeal.nD) → Buf (Elt Ideal) ((c.tc : Thread Cert.KernelIdeal.nD Cert.KernelIdeal.τ).loc Cert.KernelIdeal.main_v33_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_v33_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_ActGrad_ActGradIdeal : Prop :=
  True

def algebraic_ActGradIdeal_ActGradRefIdeal [hActGradIdeal : Cert.ActGradIdeal.Facts] [hActGradRefIdeal : Cert.ActGradRefIdeal.Facts] : Prop :=
  ∀ (m : (ℓ : Loc Cert.ActGradIdeal.nD Cert.ActGradIdeal.τ Cert.ActGradIdeal.sig) → Buf (Elt Ideal) ℓ) (g : Dev Cert.ActGradIdeal.nD → PrngReg)
    (m' : (ℓ : Loc Cert.ActGradRefIdeal.nD Cert.ActGradRefIdeal.τ Cert.ActGradRefIdeal.sig) → Buf (Elt Ideal) ℓ) (g' : Dev Cert.ActGradRefIdeal.nD → PrngReg), Pre_ActGradIdeal m →
    (∀ c : Dev Cert.ActGradIdeal.nD,
      m' ((c.tc : Thread Cert.ActGradRefIdeal.nD Cert.ActGradRefIdeal.τ).loc Cert.ActGradRefIdeal.main_arg0) = m ((c.tc : Thread Cert.ActGradIdeal.nD Cert.ActGradIdeal.τ).loc Cert.ActGradIdeal.main_arg0)
      ∧ m' ((c.tc : Thread Cert.ActGradRefIdeal.nD Cert.ActGradRefIdeal.τ).loc Cert.ActGradRefIdeal.main_arg1) = m ((c.tc : Thread Cert.ActGradIdeal.nD Cert.ActGradIdeal.τ).loc Cert.ActGradIdeal.main_arg1)
      ∧ m' ((c.tc : Thread Cert.ActGradRefIdeal.nD Cert.ActGradRefIdeal.τ).loc Cert.ActGradRefIdeal.main_arg2) = m ((c.tc : Thread Cert.ActGradIdeal.nD Cert.ActGradIdeal.τ).loc Cert.ActGradIdeal.main_arg2)) →
    ∃ (v0 : (c : Dev Cert.ActGradIdeal.nD) → Buf (Elt Ideal) ((c.tc : Thread Cert.ActGradIdeal.nD Cert.ActGradIdeal.τ).loc Cert.ActGradIdeal.main_v0)),
      θ_run (Cert.ActGradIdeal.defs (F := Ideal)) (onTc (τ := Cert.ActGradIdeal.τ) (Cert.ActGradIdeal.main (F := Ideal))) ⟨m, fun _ => 0, g⟩ (fun r => ∀ c : Dev Cert.ActGradIdeal.nD,
          r.2.mem ((c.tc : Thread Cert.ActGradIdeal.nD Cert.ActGradIdeal.τ).loc Cert.ActGradIdeal.main_v0) = v0 c
          ∧ r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
          ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1)
          ∧ r.2.mem ((c.tc : Thread Cert.ActGradIdeal.nD Cert.ActGradIdeal.τ).loc Cert.ActGradIdeal.main_arg2) = m ((c.tc : Thread Cert.ActGradIdeal.nD Cert.ActGradIdeal.τ).loc Cert.ActGradIdeal.main_arg2))
      ∧ θ_run (Cert.ActGradRefIdeal.defs (F := Ideal)) (onTc (τ := Cert.ActGradRefIdeal.τ) (Cert.ActGradRefIdeal.main (F := Ideal))) ⟨m', fun _ => 0, g'⟩ (fun r => ∀ c : Dev Cert.ActGradRefIdeal.nD,
          r.2.mem ((c.tc : Thread Cert.ActGradRefIdeal.nD Cert.ActGradRefIdeal.τ).loc Cert.ActGradRefIdeal.main_v14) = v0 c
          ∧ r.2.mem ((c.tc : Thread Cert.ActGradRefIdeal.nD Cert.ActGradRefIdeal.τ).loc Cert.ActGradRefIdeal.main_arg0) = m' ((c.tc : Thread Cert.ActGradRefIdeal.nD Cert.ActGradRefIdeal.τ).loc Cert.ActGradRefIdeal.main_arg0)
          ∧ r.2.mem ((c.tc : Thread Cert.ActGradRefIdeal.nD Cert.ActGradRefIdeal.τ).loc Cert.ActGradRefIdeal.main_arg1) = m' ((c.tc : Thread Cert.ActGradRefIdeal.nD Cert.ActGradRefIdeal.τ).loc Cert.ActGradRefIdeal.main_arg1)
          ∧ r.2.mem ((c.tc : Thread Cert.ActGradRefIdeal.nD Cert.ActGradRefIdeal.τ).loc Cert.ActGradRefIdeal.main_arg2) = m' ((c.tc : Thread Cert.ActGradRefIdeal.nD Cert.ActGradRefIdeal.τ).loc Cert.ActGradRefIdeal.main_arg2))

def preserves_Ff2Dw_Ff2DwIdeal : Prop :=
  True

def algebraic_Ff2DwIdeal_Ff2DwRefIdeal [hFf2DwIdeal : Cert.Ff2DwIdeal.Facts] [hFf2DwRefIdeal : Cert.Ff2DwRefIdeal.Facts] : Prop :=
  ∀ (m : (ℓ : Loc Cert.Ff2DwIdeal.nD Cert.Ff2DwIdeal.τ Cert.Ff2DwIdeal.sig) → Buf (Elt Ideal) ℓ) (g : Dev Cert.Ff2DwIdeal.nD → PrngReg)
    (m' : (ℓ : Loc Cert.Ff2DwRefIdeal.nD Cert.Ff2DwRefIdeal.τ Cert.Ff2DwRefIdeal.sig) → Buf (Elt Ideal) ℓ) (g' : Dev Cert.Ff2DwRefIdeal.nD → PrngReg), Pre_Ff2DwIdeal m →
    (∀ c : Dev Cert.Ff2DwIdeal.nD,
      m' ((c.tc : Thread Cert.Ff2DwRefIdeal.nD Cert.Ff2DwRefIdeal.τ).loc Cert.Ff2DwRefIdeal.main_arg0) = m ((c.tc : Thread Cert.Ff2DwIdeal.nD Cert.Ff2DwIdeal.τ).loc Cert.Ff2DwIdeal.main_arg0)
      ∧ m' ((c.tc : Thread Cert.Ff2DwRefIdeal.nD Cert.Ff2DwRefIdeal.τ).loc Cert.Ff2DwRefIdeal.main_arg1) = m ((c.tc : Thread Cert.Ff2DwIdeal.nD Cert.Ff2DwIdeal.τ).loc Cert.Ff2DwIdeal.main_arg1)) →
    ∃ (v0 : (c : Dev Cert.Ff2DwIdeal.nD) → Buf (Elt Ideal) ((c.tc : Thread Cert.Ff2DwIdeal.nD Cert.Ff2DwIdeal.τ).loc Cert.Ff2DwIdeal.main_v0)),
      θ_run (Cert.Ff2DwIdeal.defs (F := Ideal)) (onTc (τ := Cert.Ff2DwIdeal.τ) (Cert.Ff2DwIdeal.main (F := Ideal))) ⟨m, fun _ => 0, g⟩ (fun r => ∀ c : Dev Cert.Ff2DwIdeal.nD,
          r.2.mem ((c.tc : Thread Cert.Ff2DwIdeal.nD Cert.Ff2DwIdeal.τ).loc Cert.Ff2DwIdeal.main_v0) = v0 c
          ∧ r.2.mem ((c.tc : Thread Cert.Ff2DwIdeal.nD Cert.Ff2DwIdeal.τ).loc Cert.Ff2DwIdeal.main_arg0) = m ((c.tc : Thread Cert.Ff2DwIdeal.nD Cert.Ff2DwIdeal.τ).loc Cert.Ff2DwIdeal.main_arg0)
          ∧ r.2.mem ((c.tc : Thread Cert.Ff2DwIdeal.nD Cert.Ff2DwIdeal.τ).loc Cert.Ff2DwIdeal.main_arg1) = m ((c.tc : Thread Cert.Ff2DwIdeal.nD Cert.Ff2DwIdeal.τ).loc Cert.Ff2DwIdeal.main_arg1))
      ∧ θ_run (Cert.Ff2DwRefIdeal.defs (F := Ideal)) (onTc (τ := Cert.Ff2DwRefIdeal.τ) (Cert.Ff2DwRefIdeal.main (F := Ideal))) ⟨m', fun _ => 0, g'⟩ (fun r => ∀ c : Dev Cert.Ff2DwRefIdeal.nD,
          r.2.mem ((c.tc : Thread Cert.Ff2DwRefIdeal.nD Cert.Ff2DwRefIdeal.τ).loc Cert.Ff2DwRefIdeal.main_v5) = v0 c
          ∧ r.2.mem ((c.tc : Thread Cert.Ff2DwRefIdeal.nD Cert.Ff2DwRefIdeal.τ).loc Cert.Ff2DwRefIdeal.main_arg0) = m' ((c.tc : Thread Cert.Ff2DwRefIdeal.nD Cert.Ff2DwRefIdeal.τ).loc Cert.Ff2DwRefIdeal.main_arg0)
          ∧ r.2.mem ((c.tc : Thread Cert.Ff2DwRefIdeal.nD Cert.Ff2DwRefIdeal.τ).loc Cert.Ff2DwRefIdeal.main_arg1) = m' ((c.tc : Thread Cert.Ff2DwRefIdeal.nD Cert.Ff2DwRefIdeal.τ).loc Cert.Ff2DwRefIdeal.main_arg1))

def preserves_Ff1Dx_Ff1DxIdeal : Prop :=
  True

def algebraic_Ff1DxIdeal_Ff1DxRefIdeal [hFf1DxIdeal : Cert.Ff1DxIdeal.Facts] [hFf1DxRefIdeal : Cert.Ff1DxRefIdeal.Facts] : Prop :=
  ∀ (m : (ℓ : Loc Cert.Ff1DxIdeal.nD Cert.Ff1DxIdeal.τ Cert.Ff1DxIdeal.sig) → Buf (Elt Ideal) ℓ) (g : Dev Cert.Ff1DxIdeal.nD → PrngReg)
    (m' : (ℓ : Loc Cert.Ff1DxRefIdeal.nD Cert.Ff1DxRefIdeal.τ Cert.Ff1DxRefIdeal.sig) → Buf (Elt Ideal) ℓ) (g' : Dev Cert.Ff1DxRefIdeal.nD → PrngReg), Pre_Ff1DxIdeal m →
    (∀ c : Dev Cert.Ff1DxIdeal.nD,
      m' ((c.tc : Thread Cert.Ff1DxRefIdeal.nD Cert.Ff1DxRefIdeal.τ).loc Cert.Ff1DxRefIdeal.main_arg0) = m ((c.tc : Thread Cert.Ff1DxIdeal.nD Cert.Ff1DxIdeal.τ).loc Cert.Ff1DxIdeal.main_arg0)
      ∧ m' ((c.tc : Thread Cert.Ff1DxRefIdeal.nD Cert.Ff1DxRefIdeal.τ).loc Cert.Ff1DxRefIdeal.main_arg1) = m ((c.tc : Thread Cert.Ff1DxIdeal.nD Cert.Ff1DxIdeal.τ).loc Cert.Ff1DxIdeal.main_arg1)) →
    ∃ (v0 : (c : Dev Cert.Ff1DxIdeal.nD) → Buf (Elt Ideal) ((c.tc : Thread Cert.Ff1DxIdeal.nD Cert.Ff1DxIdeal.τ).loc Cert.Ff1DxIdeal.main_v0)),
      θ_run (Cert.Ff1DxIdeal.defs (F := Ideal)) (onTc (τ := Cert.Ff1DxIdeal.τ) (Cert.Ff1DxIdeal.main (F := Ideal))) ⟨m, fun _ => 0, g⟩ (fun r => ∀ c : Dev Cert.Ff1DxIdeal.nD,
          r.2.mem ((c.tc : Thread Cert.Ff1DxIdeal.nD Cert.Ff1DxIdeal.τ).loc Cert.Ff1DxIdeal.main_v0) = v0 c
          ∧ r.2.mem ((c.tc : Thread Cert.Ff1DxIdeal.nD Cert.Ff1DxIdeal.τ).loc Cert.Ff1DxIdeal.main_arg0) = m ((c.tc : Thread Cert.Ff1DxIdeal.nD Cert.Ff1DxIdeal.τ).loc Cert.Ff1DxIdeal.main_arg0)
          ∧ r.2.mem ((c.tc : Thread Cert.Ff1DxIdeal.nD Cert.Ff1DxIdeal.τ).loc Cert.Ff1DxIdeal.main_arg1) = m ((c.tc : Thread Cert.Ff1DxIdeal.nD Cert.Ff1DxIdeal.τ).loc Cert.Ff1DxIdeal.main_arg1))
      ∧ θ_run (Cert.Ff1DxRefIdeal.defs (F := Ideal)) (onTc (τ := Cert.Ff1DxRefIdeal.τ) (Cert.Ff1DxRefIdeal.main (F := Ideal))) ⟨m', fun _ => 0, g'⟩ (fun r => ∀ c : Dev Cert.Ff1DxRefIdeal.nD,
          r.2.mem ((c.tc : Thread Cert.Ff1DxRefIdeal.nD Cert.Ff1DxRefIdeal.τ).loc Cert.Ff1DxRefIdeal.main_v13) = v0 c
          ∧ r.2.mem ((c.tc : Thread Cert.Ff1DxRefIdeal.nD Cert.Ff1DxRefIdeal.τ).loc Cert.Ff1DxRefIdeal.main_arg0) = m' ((c.tc : Thread Cert.Ff1DxRefIdeal.nD Cert.Ff1DxRefIdeal.τ).loc Cert.Ff1DxRefIdeal.main_arg0)
          ∧ r.2.mem ((c.tc : Thread Cert.Ff1DxRefIdeal.nD Cert.Ff1DxRefIdeal.τ).loc Cert.Ff1DxRefIdeal.main_arg1) = m' ((c.tc : Thread Cert.Ff1DxRefIdeal.nD Cert.Ff1DxRefIdeal.τ).loc Cert.Ff1DxRefIdeal.main_arg1))

def preserves_Ff1Dw_Ff1DwIdeal : Prop :=
  True

def algebraic_Ff1DwIdeal_Ff1DwRefIdeal [hFf1DwIdeal : Cert.Ff1DwIdeal.Facts] [hFf1DwRefIdeal : Cert.Ff1DwRefIdeal.Facts] : Prop :=
  ∀ (m : (ℓ : Loc Cert.Ff1DwIdeal.nD Cert.Ff1DwIdeal.τ Cert.Ff1DwIdeal.sig) → Buf (Elt Ideal) ℓ) (g : Dev Cert.Ff1DwIdeal.nD → PrngReg)
    (m' : (ℓ : Loc Cert.Ff1DwRefIdeal.nD Cert.Ff1DwRefIdeal.τ Cert.Ff1DwRefIdeal.sig) → Buf (Elt Ideal) ℓ) (g' : Dev Cert.Ff1DwRefIdeal.nD → PrngReg), Pre_Ff1DwIdeal m →
    (∀ c : Dev Cert.Ff1DwIdeal.nD,
      m' ((c.tc : Thread Cert.Ff1DwRefIdeal.nD Cert.Ff1DwRefIdeal.τ).loc Cert.Ff1DwRefIdeal.main_arg0) = m ((c.tc : Thread Cert.Ff1DwIdeal.nD Cert.Ff1DwIdeal.τ).loc Cert.Ff1DwIdeal.main_arg0)
      ∧ m' ((c.tc : Thread Cert.Ff1DwRefIdeal.nD Cert.Ff1DwRefIdeal.τ).loc Cert.Ff1DwRefIdeal.main_arg1) = m ((c.tc : Thread Cert.Ff1DwIdeal.nD Cert.Ff1DwIdeal.τ).loc Cert.Ff1DwIdeal.main_arg1)) →
    ∃ (v0 : (c : Dev Cert.Ff1DwIdeal.nD) → Buf (Elt Ideal) ((c.tc : Thread Cert.Ff1DwIdeal.nD Cert.Ff1DwIdeal.τ).loc Cert.Ff1DwIdeal.main_v0)),
      θ_run (Cert.Ff1DwIdeal.defs (F := Ideal)) (onTc (τ := Cert.Ff1DwIdeal.τ) (Cert.Ff1DwIdeal.main (F := Ideal))) ⟨m, fun _ => 0, g⟩ (fun r => ∀ c : Dev Cert.Ff1DwIdeal.nD,
          r.2.mem ((c.tc : Thread Cert.Ff1DwIdeal.nD Cert.Ff1DwIdeal.τ).loc Cert.Ff1DwIdeal.main_v0) = v0 c
          ∧ r.2.mem ((c.tc : Thread Cert.Ff1DwIdeal.nD Cert.Ff1DwIdeal.τ).loc Cert.Ff1DwIdeal.main_arg0) = m ((c.tc : Thread Cert.Ff1DwIdeal.nD Cert.Ff1DwIdeal.τ).loc Cert.Ff1DwIdeal.main_arg0)
          ∧ r.2.mem ((c.tc : Thread Cert.Ff1DwIdeal.nD Cert.Ff1DwIdeal.τ).loc Cert.Ff1DwIdeal.main_arg1) = m ((c.tc : Thread Cert.Ff1DwIdeal.nD Cert.Ff1DwIdeal.τ).loc Cert.Ff1DwIdeal.main_arg1))
      ∧ θ_run (Cert.Ff1DwRefIdeal.defs (F := Ideal)) (onTc (τ := Cert.Ff1DwRefIdeal.τ) (Cert.Ff1DwRefIdeal.main (F := Ideal))) ⟨m', fun _ => 0, g'⟩ (fun r => ∀ c : Dev Cert.Ff1DwRefIdeal.nD,
          r.2.mem ((c.tc : Thread Cert.Ff1DwRefIdeal.nD Cert.Ff1DwRefIdeal.τ).loc Cert.Ff1DwRefIdeal.main_v29) = v0 c
          ∧ r.2.mem ((c.tc : Thread Cert.Ff1DwRefIdeal.nD Cert.Ff1DwRefIdeal.τ).loc Cert.Ff1DwRefIdeal.main_arg0) = m' ((c.tc : Thread Cert.Ff1DwRefIdeal.nD Cert.Ff1DwRefIdeal.τ).loc Cert.Ff1DwRefIdeal.main_arg0)
          ∧ r.2.mem ((c.tc : Thread Cert.Ff1DwRefIdeal.nD Cert.Ff1DwRefIdeal.τ).loc Cert.Ff1DwRefIdeal.main_arg1) = m' ((c.tc : Thread Cert.Ff1DwRefIdeal.nD Cert.Ff1DwRefIdeal.τ).loc Cert.Ff1DwRefIdeal.main_arg1))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)
      ∧ m' ((c.tc : Thread Cert.ProjDxRefIdeal.nD Cert.ProjDxRefIdeal.τ).loc Cert.ProjDxRefIdeal.main_arg2) = m ((c.tc : Thread Cert.ProjDxIdeal.nD Cert.ProjDxIdeal.τ).loc Cert.ProjDxIdeal.main_arg2)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
          ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v14) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1)
          ∧ r.2.mem ((c.tc : Thread Cert.ProjDxRefIdeal.nD Cert.ProjDxRefIdeal.τ).loc Cert.ProjDxRefIdeal.main_arg2) = m' ((c.tc : Thread Cert.ProjDxRefIdeal.nD Cert.ProjDxRefIdeal.τ).loc Cert.ProjDxRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v0_0)) (v1 : (c : Dev Cert.Ff1Ideal.nD) → Buf (Elt Ideal) ((c.tc : Thread Cert.Ff1Ideal.nD Cert.Ff1Ideal.τ).loc Cert.Ff1Ideal.main_v0_1)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v0_0) = v0 c
          ∧ r.2.mem ((c.tc : Thread Cert.Ff1Ideal.nD Cert.Ff1Ideal.τ).loc Cert.Ff1Ideal.main_v0_1) = v1 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v11) = v0 c
          ∧ r.2.mem ((c.tc : Thread Cert.Ff1RefIdeal.nD Cert.Ff1RefIdeal.τ).loc Cert.Ff1RefIdeal.main_v14) = v1 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1))

def preserves_Ff2_Ff2Ideal : Prop :=
  True

def algebraic_Ff2Ideal_Ff2RefIdeal [hFf2Ideal : Cert.Ff2Ideal.Facts] [hFf2RefIdeal : Cert.Ff2RefIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)
      ∧ m' ((c.tc : Thread Cert.Ff2RefIdeal.nD Cert.Ff2RefIdeal.τ).loc Cert.Ff2RefIdeal.main_arg2) = m ((c.tc : Thread Cert.Ff2Ideal.nD Cert.Ff2Ideal.τ).loc Cert.Ff2Ideal.main_arg2)) →
    ∃ (v0 : (c : Dev Cert.Ff2Ideal.nD) → Buf (Elt Ideal) ((c.tc : Thread Cert.Ff2Ideal.nD Cert.Ff2Ideal.τ).loc Cert.Ff2Ideal.main_v0)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v0) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
          ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v3) = v0 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1)
          ∧ r.2.mem ((c.tc : Thread Cert.Ff2RefIdeal.nD Cert.Ff2RefIdeal.τ).loc Cert.Ff2RefIdeal.main_arg2) = m' ((c.tc : Thread Cert.Ff2RefIdeal.nD Cert.Ff2RefIdeal.τ).loc Cert.Ff2RefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1_0)) (v1 : (c : Dev Cert.OutProjIdeal.nD) → Buf (Elt Ideal) ((c.tc : Thread Cert.OutProjIdeal.nD Cert.OutProjIdeal.τ).loc Cert.OutProjIdeal.main_v1_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1_0) = v0 c
          ∧ r.2.mem ((c.tc : Thread Cert.OutProjIdeal.nD Cert.OutProjIdeal.τ).loc Cert.OutProjIdeal.main_v1_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_v17) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Ab_AbIdeal : Prop :=
  True

def algebraic_AbIdeal_AbRefIdeal [hAbIdeal : Cert.AbIdeal.Facts] [hAbRefIdeal : Cert.AbRefIdeal.Facts] : Prop :=
  ∀ (m : (ℓ : Loc Cert.AbIdeal.nD Cert.AbIdeal.τ Cert.AbIdeal.sig) → Buf (Elt Ideal) ℓ) (g : Dev Cert.AbIdeal.nD → PrngReg)
    (m' : (ℓ : Loc Cert.AbRefIdeal.nD Cert.AbRefIdeal.τ Cert.AbRefIdeal.sig) → Buf (Elt Ideal) ℓ) (g' : Dev Cert.AbRefIdeal.nD → PrngReg), Pre_AbIdeal m →
    (∀ c : Dev Cert.AbIdeal.nD,
      m' ((c.tc : Thread Cert.AbRefIdeal.nD Cert.AbRefIdeal.τ).loc Cert.AbRefIdeal.main_arg0) = m ((c.tc : Thread Cert.AbIdeal.nD Cert.AbIdeal.τ).loc Cert.AbIdeal.main_arg0)
      ∧ m' ((c.tc : Thread Cert.AbRefIdeal.nD Cert.AbRefIdeal.τ).loc Cert.AbRefIdeal.main_arg1) = m ((c.tc : Thread Cert.AbIdeal.nD Cert.AbIdeal.τ).loc Cert.AbIdeal.main_arg1)) →
    ∃ (v0 : (c : Dev Cert.AbIdeal.nD) → Buf (Elt Ideal) ((c.tc : Thread Cert.AbIdeal.nD Cert.AbIdeal.τ).loc Cert.AbIdeal.main_v0)),
      θ_run (Cert.AbIdeal.defs (F := Ideal)) (onTc (τ := Cert.AbIdeal.τ) (Cert.AbIdeal.main (F := Ideal))) ⟨m, fun _ => 0, g⟩ (fun r => ∀ c : Dev Cert.AbIdeal.nD,
          r.2.mem ((c.tc : Thread Cert.AbIdeal.nD Cert.AbIdeal.τ).loc Cert.AbIdeal.main_v0) = v0 c
          ∧ r.2.mem ((c.tc : Thread Cert.AbIdeal.nD Cert.AbIdeal.τ).loc Cert.AbIdeal.main_arg0) = m ((c.tc : Thread Cert.AbIdeal.nD Cert.AbIdeal.τ).loc Cert.AbIdeal.main_arg0)
          ∧ r.2.mem ((c.tc : Thread Cert.AbIdeal.nD Cert.AbIdeal.τ).loc Cert.AbIdeal.main_arg1) = m ((c.tc : Thread Cert.AbIdeal.nD Cert.AbIdeal.τ).loc Cert.AbIdeal.main_arg1))
      ∧ θ_run (Cert.AbRefIdeal.defs (F := Ideal)) (onTc (τ := Cert.AbRefIdeal.τ) (Cert.AbRefIdeal.main (F := Ideal))) ⟨m', fun _ => 0, g'⟩ (fun r => ∀ c : Dev Cert.AbRefIdeal.nD,
          r.2.mem ((c.tc : Thread Cert.AbRefIdeal.nD Cert.AbRefIdeal.τ).loc Cert.AbRefIdeal.main_v2) = v0 c
          ∧ r.2.mem ((c.tc : Thread Cert.AbRefIdeal.nD Cert.AbRefIdeal.τ).loc Cert.AbRefIdeal.main_arg0) = m' ((c.tc : Thread Cert.AbRefIdeal.nD Cert.AbRefIdeal.τ).loc Cert.AbRefIdeal.main_arg0)
          ∧ r.2.mem ((c.tc : Thread Cert.AbRefIdeal.nD Cert.AbRefIdeal.τ).loc Cert.AbRefIdeal.main_arg1) = m' ((c.tc : Thread Cert.AbRefIdeal.nD Cert.AbRefIdeal.τ).loc Cert.AbRefIdeal.main_arg1))

def preserves_AbDx_AbDxIdeal : Prop :=
  True

def algebraic_AbDxIdeal_AbDxRefIdeal [hAbDxIdeal : Cert.AbDxIdeal.Facts] [hAbDxRefIdeal : Cert.AbDxRefIdeal.Facts] : Prop :=
  ∀ (m : (ℓ : Loc Cert.AbDxIdeal.nD Cert.AbDxIdeal.τ Cert.AbDxIdeal.sig) → Buf (Elt Ideal) ℓ) (g : Dev Cert.AbDxIdeal.nD → PrngReg)
    (m' : (ℓ : Loc Cert.AbDxRefIdeal.nD Cert.AbDxRefIdeal.τ Cert.AbDxRefIdeal.sig) → Buf (Elt Ideal) ℓ) (g' : Dev Cert.AbDxRefIdeal.nD → PrngReg), Pre_AbDxIdeal m →
    (∀ c : Dev Cert.AbDxIdeal.nD,
      m' ((c.tc : Thread Cert.AbDxRefIdeal.nD Cert.AbDxRefIdeal.τ).loc Cert.AbDxRefIdeal.main_arg0) = m ((c.tc : Thread Cert.AbDxIdeal.nD Cert.AbDxIdeal.τ).loc Cert.AbDxIdeal.main_arg0)
      ∧ m' ((c.tc : Thread Cert.AbDxRefIdeal.nD Cert.AbDxRefIdeal.τ).loc Cert.AbDxRefIdeal.main_arg1) = m ((c.tc : Thread Cert.AbDxIdeal.nD Cert.AbDxIdeal.τ).loc Cert.AbDxIdeal.main_arg1)) →
    ∃ (v0 : (c : Dev Cert.AbDxIdeal.nD) → Buf (Elt Ideal) ((c.tc : Thread Cert.AbDxIdeal.nD Cert.AbDxIdeal.τ).loc Cert.AbDxIdeal.main_v0)),
      θ_run (Cert.AbDxIdeal.defs (F := Ideal)) (onTc (τ := Cert.AbDxIdeal.τ) (Cert.AbDxIdeal.main (F := Ideal))) ⟨m, fun _ => 0, g⟩ (fun r => ∀ c : Dev Cert.AbDxIdeal.nD,
          r.2.mem ((c.tc : Thread Cert.AbDxIdeal.nD Cert.AbDxIdeal.τ).loc Cert.AbDxIdeal.main_v0) = v0 c
          ∧ r.2.mem ((c.tc : Thread Cert.AbDxIdeal.nD Cert.AbDxIdeal.τ).loc Cert.AbDxIdeal.main_arg0) = m ((c.tc : Thread Cert.AbDxIdeal.nD Cert.AbDxIdeal.τ).loc Cert.AbDxIdeal.main_arg0)
          ∧ r.2.mem ((c.tc : Thread Cert.AbDxIdeal.nD Cert.AbDxIdeal.τ).loc Cert.AbDxIdeal.main_arg1) = m ((c.tc : Thread Cert.AbDxIdeal.nD Cert.AbDxIdeal.τ).loc Cert.AbDxIdeal.main_arg1))
      ∧ θ_run (Cert.AbDxRefIdeal.defs (F := Ideal)) (onTc (τ := Cert.AbDxRefIdeal.τ) (Cert.AbDxRefIdeal.main (F := Ideal))) ⟨m', fun _ => 0, g'⟩ (fun r => ∀ c : Dev Cert.AbDxRefIdeal.nD,
          r.2.mem ((c.tc : Thread Cert.AbDxRefIdeal.nD Cert.AbDxRefIdeal.τ).loc Cert.AbDxRefIdeal.main_v4) = v0 c
          ∧ r.2.mem ((c.tc : Thread Cert.AbDxRefIdeal.nD Cert.AbDxRefIdeal.τ).loc Cert.AbDxRefIdeal.main_arg0) = m' ((c.tc : Thread Cert.AbDxRefIdeal.nD Cert.AbDxRefIdeal.τ).loc Cert.AbDxRefIdeal.main_arg0)
          ∧ r.2.mem ((c.tc : Thread Cert.AbDxRefIdeal.nD Cert.AbDxRefIdeal.τ).loc Cert.AbDxRefIdeal.main_arg1) = m' ((c.tc : Thread Cert.AbDxRefIdeal.nD Cert.AbDxRefIdeal.τ).loc Cert.AbDxRefIdeal.main_arg1))

def preserves_AbDw_AbDwIdeal : Prop :=
  True

def algebraic_AbDwIdeal_AbDwRefIdeal [hAbDwIdeal : Cert.AbDwIdeal.Facts] [hAbDwRefIdeal : Cert.AbDwRefIdeal.Facts] : Prop :=
  ∀ (m : (ℓ : Loc Cert.AbDwIdeal.nD Cert.AbDwIdeal.τ Cert.AbDwIdeal.sig) → Buf (Elt Ideal) ℓ) (g : Dev Cert.AbDwIdeal.nD → PrngReg)
    (m' : (ℓ : Loc Cert.AbDwRefIdeal.nD Cert.AbDwRefIdeal.τ Cert.AbDwRefIdeal.sig) → Buf (Elt Ideal) ℓ) (g' : Dev Cert.AbDwRefIdeal.nD → PrngReg), Pre_AbDwIdeal m →
    (∀ c : Dev Cert.AbDwIdeal.nD,
      m' ((c.tc : Thread Cert.AbDwRefIdeal.nD Cert.AbDwRefIdeal.τ).loc Cert.AbDwRefIdeal.main_arg0) = m ((c.tc : Thread Cert.AbDwIdeal.nD Cert.AbDwIdeal.τ).loc Cert.AbDwIdeal.main_arg0)
      ∧ m' ((c.tc : Thread Cert.AbDwRefIdeal.nD Cert.AbDwRefIdeal.τ).loc Cert.AbDwRefIdeal.main_arg1) = m ((c.tc : Thread Cert.AbDwIdeal.nD Cert.AbDwIdeal.τ).loc Cert.AbDwIdeal.main_arg1)) →
    ∃ (v0 : (c : Dev Cert.AbDwIdeal.nD) → Buf (Elt Ideal) ((c.tc : Thread Cert.AbDwIdeal.nD Cert.AbDwIdeal.τ).loc Cert.AbDwIdeal.main_v0)),
      θ_run (Cert.AbDwIdeal.defs (F := Ideal)) (onTc (τ := Cert.AbDwIdeal.τ) (Cert.AbDwIdeal.main (F := Ideal))) ⟨m, fun _ => 0, g⟩ (fun r => ∀ c : Dev Cert.AbDwIdeal.nD,
          r.2.mem ((c.tc : Thread Cert.AbDwIdeal.nD Cert.AbDwIdeal.τ).loc Cert.AbDwIdeal.main_v0) = v0 c
          ∧ r.2.mem ((c.tc : Thread Cert.AbDwIdeal.nD Cert.AbDwIdeal.τ).loc Cert.AbDwIdeal.main_arg0) = m ((c.tc : Thread Cert.AbDwIdeal.nD Cert.AbDwIdeal.τ).loc Cert.AbDwIdeal.main_arg0)
          ∧ r.2.mem ((c.tc : Thread Cert.AbDwIdeal.nD Cert.AbDwIdeal.τ).loc Cert.AbDwIdeal.main_arg1) = m ((c.tc : Thread Cert.AbDwIdeal.nD Cert.AbDwIdeal.τ).loc Cert.AbDwIdeal.main_arg1))
      ∧ θ_run (Cert.AbDwRefIdeal.defs (F := Ideal)) (onTc (τ := Cert.AbDwRefIdeal.τ) (Cert.AbDwRefIdeal.main (F := Ideal))) ⟨m', fun _ => 0, g'⟩ (fun r => ∀ c : Dev Cert.AbDwRefIdeal.nD,
          r.2.mem ((c.tc : Thread Cert.AbDwRefIdeal.nD Cert.AbDwRefIdeal.τ).loc Cert.AbDwRefIdeal.main_v5) = v0 c
          ∧ r.2.mem ((c.tc : Thread Cert.AbDwRefIdeal.nD Cert.AbDwRefIdeal.τ).loc Cert.AbDwRefIdeal.main_arg0) = m' ((c.tc : Thread Cert.AbDwRefIdeal.nD Cert.AbDwRefIdeal.τ).loc Cert.AbDwRefIdeal.main_arg0)
          ∧ r.2.mem ((c.tc : Thread Cert.AbDwRefIdeal.nD Cert.AbDwRefIdeal.τ).loc Cert.AbDwRefIdeal.main_arg1) = m' ((c.tc : Thread Cert.AbDwRefIdeal.nD Cert.AbDwRefIdeal.τ).loc Cert.AbDwRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v29) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)) (v3 : (c : Dev Cert.LossHeadIdeal.nD) → Buf (Elt Ideal) ((c.tc : Thread Cert.LossHeadIdeal.nD Cert.LossHeadIdeal.τ).loc Cert.LossHeadIdeal.main_v1_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_v1_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v51) = v0 c
          ∧ r.2.mem ((c.tc : Thread Cert.LossHeadRefIdeal.nD Cert.LossHeadRefIdeal.τ).loc Cert.LossHeadRefIdeal.main_v50) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_v53) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_NormGrad_NormGradIdeal : Prop :=
  True

def algebraic_NormGradIdeal_NormGradRefIdeal [hNormGradIdeal : Cert.NormGradIdeal.Facts] [hNormGradRefIdeal : Cert.NormGradRefIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradRefIdeal.nD Cert.NormGradRefIdeal.τ Cert.NormGradRefIdeal.sig) → Buf (Elt Ideal) ℓ) (g' : Dev Cert.NormGradRefIdeal.nD → PrngReg), Pre_NormGradIdeal m →
    (∀ c : Dev Cert.NormGradIdeal.nD,
      m' ((c.tc : Thread Cert.NormGradRefIdeal.nD Cert.NormGradRefIdeal.τ).loc Cert.NormGradRefIdeal.main_arg0) = m ((c.tc : Thread Cert.NormGradIdeal.nD Cert.NormGradIdeal.τ).loc Cert.NormGradIdeal.main_arg0)
      ∧ m' ((c.tc : Thread Cert.NormGradRefIdeal.nD Cert.NormGradRefIdeal.τ).loc Cert.NormGradRefIdeal.main_arg1) = m ((c.tc : Thread Cert.NormGradIdeal.nD Cert.NormGradIdeal.τ).loc Cert.NormGradIdeal.main_arg1)
      ∧ m' ((c.tc : Thread Cert.NormGradRefIdeal.nD Cert.NormGradRefIdeal.τ).loc Cert.NormGradRefIdeal.main_arg2) = m ((c.tc : Thread Cert.NormGradIdeal.nD Cert.NormGradIdeal.τ).loc Cert.NormGradIdeal.main_arg2)
      ∧ m' ((c.tc : Thread Cert.NormGradRefIdeal.nD Cert.NormGradRefIdeal.τ).loc Cert.NormGradRefIdeal.main_arg3) = m ((c.tc : Thread Cert.NormGradIdeal.nD Cert.NormGradIdeal.τ).loc Cert.NormGradIdeal.main_arg3)) →
    ∃ (v0 : (c : Dev Cert.NormGradIdeal.nD) → Buf (Elt Ideal) ((c.tc : Thread Cert.NormGradIdeal.nD Cert.NormGradIdeal.τ).loc Cert.NormGradIdeal.main_v1_0)) (v1 : (c : Dev Cert.NormGradIdeal.nD) → Buf (Elt Ideal) ((c.tc : Thread Cert.NormGradIdeal.nD Cert.NormGradIdeal.τ).loc Cert.NormGradIdeal.main_v1_1)) (v2 : (c : Dev Cert.NormGradIdeal.nD) → Buf (Elt Ideal) ((c.tc : Thread Cert.NormGradIdeal.nD Cert.NormGradIdeal.τ).loc Cert.NormGradIdeal.main_v1_2)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v1_0) = v0 c
          ∧ r.2.mem ((c.tc : Thread Cert.NormGradIdeal.nD Cert.NormGradIdeal.τ).loc Cert.NormGradIdeal.main_v1_1) = v1 c
          ∧ r.2.mem ((c.tc : Thread Cert.NormGradIdeal.nD Cert.NormGradIdeal.τ).loc Cert.NormGradIdeal.main_v1_2) = v2 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ θ_run (Cert.NormGradRefIdeal.defs (F := Ideal)) (onTc (τ := Cert.NormGradRefIdeal.τ) (Cert.NormGradRefIdeal.main (F := Ideal))) ⟨m', fun _ => 0, g'⟩ (fun r => ∀ c : Dev Cert.NormGradRefIdeal.nD,
          r.2.mem ((c.tc : Thread Cert.NormGradRefIdeal.nD Cert.NormGradRefIdeal.τ).loc Cert.NormGradRefIdeal.main_v36) = v0 c
          ∧ r.2.mem ((c.tc : Thread Cert.NormGradRefIdeal.nD Cert.NormGradRefIdeal.τ).loc Cert.NormGradRefIdeal.main_v37) = v1 c
          ∧ r.2.mem ((c.tc : Thread Cert.NormGradRefIdeal.nD Cert.NormGradRefIdeal.τ).loc Cert.NormGradRefIdeal.main_v38) = v2 c
          ∧ r.2.mem ((c.tc : Thread Cert.NormGradRefIdeal.nD Cert.NormGradRefIdeal.τ).loc Cert.NormGradRefIdeal.main_arg0) = m' ((c.tc : Thread Cert.NormGradRefIdeal.nD Cert.NormGradRefIdeal.τ).loc Cert.NormGradRefIdeal.main_arg0)
          ∧ r.2.mem ((c.tc : Thread Cert.NormGradRefIdeal.nD Cert.NormGradRefIdeal.τ).loc Cert.NormGradRefIdeal.main_arg1) = m' ((c.tc : Thread Cert.NormGradRefIdeal.nD Cert.NormGradRefIdeal.τ).loc Cert.NormGradRefIdeal.main_arg1)
          ∧ r.2.mem ((c.tc : Thread Cert.NormGradRefIdeal.nD Cert.NormGradRefIdeal.τ).loc Cert.NormGradRefIdeal.main_arg2) = m' ((c.tc : Thread Cert.NormGradRefIdeal.nD Cert.NormGradRefIdeal.τ).loc Cert.NormGradRefIdeal.main_arg2)
          ∧ r.2.mem ((c.tc : Thread Cert.NormGradRefIdeal.nD Cert.NormGradRefIdeal.τ).loc Cert.NormGradRefIdeal.main_arg3) = m' ((c.tc : Thread Cert.NormGradRefIdeal.nD Cert.NormGradRefIdeal.τ).loc Cert.NormGradRefIdeal.main_arg3))

def preserves_GdnGatesGrad_GdnGatesGradIdeal : Prop :=
  True

def algebraic_GdnGatesGradIdeal_GdnGatesGradRefIdeal_pre_gates_finite [hGdnGatesGradIdeal : Cert.GdnGatesGradIdeal.Facts] [hGdnGatesGradRefIdeal : Cert.GdnGatesGradRefIdeal.Facts] [hPre_gates_finite : Cert.Pre_gates_finite.Facts] : Prop :=
  ∀ (m : (ℓ : Loc Cert.GdnGatesGradIdeal.nD Cert.GdnGatesGradIdeal.τ Cert.GdnGatesGradIdeal.sig) → Buf (Elt Ideal) ℓ) (g : Dev Cert.GdnGatesGradIdeal.nD → PrngReg)
    (m' : (ℓ : Loc Cert.GdnGatesGradRefIdeal.nD Cert.GdnGatesGradRefIdeal.τ Cert.GdnGatesGradRefIdeal.sig) → Buf (Elt Ideal) ℓ) (g' : Dev Cert.GdnGatesGradRefIdeal.nD → PrngReg), Pre_GdnGatesGradIdeal_gates_finite m →
    (∀ c : Dev Cert.GdnGatesGradIdeal.nD,
      m' ((c.tc : Thread Cert.GdnGatesGradRefIdeal.nD Cert.GdnGatesGradRefIdeal.τ).loc Cert.GdnGatesGradRefIdeal.main_arg0) = m ((c.tc : Thread Cert.GdnGatesGradIdeal.nD Cert.GdnGatesGradIdeal.τ).loc Cert.GdnGatesGradIdeal.main_arg0)
      ∧ m' ((c.tc : Thread Cert.GdnGatesGradRefIdeal.nD Cert.GdnGatesGradRefIdeal.τ).loc Cert.GdnGatesGradRefIdeal.main_arg1) = m ((c.tc : Thread Cert.GdnGatesGradIdeal.nD Cert.GdnGatesGradIdeal.τ).loc Cert.GdnGatesGradIdeal.main_arg1)
      ∧ m' ((c.tc : Thread Cert.GdnGatesGradRefIdeal.nD Cert.GdnGatesGradRefIdeal.τ).loc Cert.GdnGatesGradRefIdeal.main_arg2) = m ((c.tc : Thread Cert.GdnGatesGradIdeal.nD Cert.GdnGatesGradIdeal.τ).loc Cert.GdnGatesGradIdeal.main_arg2)
      ∧ m' ((c.tc : Thread Cert.GdnGatesGradRefIdeal.nD Cert.GdnGatesGradRefIdeal.τ).loc Cert.GdnGatesGradRefIdeal.main_arg3) = m ((c.tc : Thread Cert.GdnGatesGradIdeal.nD Cert.GdnGatesGradIdeal.τ).loc Cert.GdnGatesGradIdeal.main_arg3)
      ∧ m' ((c.tc : Thread Cert.GdnGatesGradRefIdeal.nD Cert.GdnGatesGradRefIdeal.τ).loc Cert.GdnGatesGradRefIdeal.main_arg4) = m ((c.tc : Thread Cert.GdnGatesGradIdeal.nD Cert.GdnGatesGradIdeal.τ).loc Cert.GdnGatesGradIdeal.main_arg4)) →
    ∃ (v0 : (c : Dev Cert.GdnGatesGradIdeal.nD) → Buf (Elt Ideal) ((c.tc : Thread Cert.GdnGatesGradIdeal.nD Cert.GdnGatesGradIdeal.τ).loc Cert.GdnGatesGradIdeal.main_v0_0)) (v1 : (c : Dev Cert.GdnGatesGradIdeal.nD) → Buf (Elt Ideal) ((c.tc : Thread Cert.GdnGatesGradIdeal.nD Cert.GdnGatesGradIdeal.τ).loc Cert.GdnGatesGradIdeal.main_v0_1)) (v2 : (c : Dev Cert.GdnGatesGradIdeal.nD) → Buf (Elt Ideal) ((c.tc : Thread Cert.GdnGatesGradIdeal.nD Cert.GdnGatesGradIdeal.τ).loc Cert.GdnGatesGradIdeal.main_v0_2)),
      θ_run (Cert.GdnGatesGradIdeal.defs (F := Ideal)) (onTc (τ := Cert.GdnGatesGradIdeal.τ) (Cert.GdnGatesGradIdeal.main (F := Ideal))) ⟨m, fun _ => 0, g⟩ (fun r => ∀ c : Dev Cert.GdnGatesGradIdeal.nD,
          r.2.mem ((c.tc : Thread Cert.GdnGatesGradIdeal.nD Cert.GdnGatesGradIdeal.τ).loc Cert.GdnGatesGradIdeal.main_v0_0) = v0 c
          ∧ r.2.mem ((c.tc : Thread Cert.GdnGatesGradIdeal.nD Cert.GdnGatesGradIdeal.τ).loc Cert.GdnGatesGradIdeal.main_v0_1) = v1 c
          ∧ r.2.mem ((c.tc : Thread Cert.GdnGatesGradIdeal.nD Cert.GdnGatesGradIdeal.τ).loc Cert.GdnGatesGradIdeal.main_v0_2) = v2 c
          ∧ r.2.mem ((c.tc : Thread Cert.GdnGatesGradIdeal.nD Cert.GdnGatesGradIdeal.τ).loc Cert.GdnGatesGradIdeal.main_arg0) = m ((c.tc : Thread Cert.GdnGatesGradIdeal.nD Cert.GdnGatesGradIdeal.τ).loc Cert.GdnGatesGradIdeal.main_arg0)
          ∧ r.2.mem ((c.tc : Thread Cert.GdnGatesGradIdeal.nD Cert.GdnGatesGradIdeal.τ).loc Cert.GdnGatesGradIdeal.main_arg1) = m ((c.tc : Thread Cert.GdnGatesGradIdeal.nD Cert.GdnGatesGradIdeal.τ).loc Cert.GdnGatesGradIdeal.main_arg1)
          ∧ r.2.mem ((c.tc : Thread Cert.GdnGatesGradIdeal.nD Cert.GdnGatesGradIdeal.τ).loc Cert.GdnGatesGradIdeal.main_arg2) = m ((c.tc : Thread Cert.GdnGatesGradIdeal.nD Cert.GdnGatesGradIdeal.τ).loc Cert.GdnGatesGradIdeal.main_arg2)
          ∧ r.2.mem ((c.tc : Thread Cert.GdnGatesGradIdeal.nD Cert.GdnGatesGradIdeal.τ).loc Cert.GdnGatesGradIdeal.main_arg3) = m ((c.tc : Thread Cert.GdnGatesGradIdeal.nD Cert.GdnGatesGradIdeal.τ).loc Cert.GdnGatesGradIdeal.main_arg3)
          ∧ r.2.mem ((c.tc : Thread Cert.GdnGatesGradIdeal.nD Cert.GdnGatesGradIdeal.τ).loc Cert.GdnGatesGradIdeal.main_arg4) = m ((c.tc : Thread Cert.GdnGatesGradIdeal.nD Cert.GdnGatesGradIdeal.τ).loc Cert.GdnGatesGradIdeal.main_arg4))
      ∧ θ_run (Cert.GdnGatesGradRefIdeal.defs (F := Ideal)) (onTc (τ := Cert.GdnGatesGradRefIdeal.τ) (Cert.GdnGatesGradRefIdeal.main (F := Ideal))) ⟨m', fun _ => 0, g'⟩ (fun r => ∀ c : Dev Cert.GdnGatesGradRefIdeal.nD,
          r.2.mem ((c.tc : Thread Cert.GdnGatesGradRefIdeal.nD Cert.GdnGatesGradRefIdeal.τ).loc Cert.GdnGatesGradRefIdeal.main_v30) = v0 c
          ∧ r.2.mem ((c.tc : Thread Cert.GdnGatesGradRefIdeal.nD Cert.GdnGatesGradRefIdeal.τ).loc Cert.GdnGatesGradRefIdeal.main_v28) = v1 c
          ∧ r.2.mem ((c.tc : Thread Cert.GdnGatesGradRefIdeal.nD Cert.GdnGatesGradRefIdeal.τ).loc Cert.GdnGatesGradRefIdeal.main_v26) = v2 c
          ∧ r.2.mem ((c.tc : Thread Cert.GdnGatesGradRefIdeal.nD Cert.GdnGatesGradRefIdeal.τ).loc Cert.GdnGatesGradRefIdeal.main_arg0) = m' ((c.tc : Thread Cert.GdnGatesGradRefIdeal.nD Cert.GdnGatesGradRefIdeal.τ).loc Cert.GdnGatesGradRefIdeal.main_arg0)
          ∧ r.2.mem ((c.tc : Thread Cert.GdnGatesGradRefIdeal.nD Cert.GdnGatesGradRefIdeal.τ).loc Cert.GdnGatesGradRefIdeal.main_arg1) = m' ((c.tc : Thread Cert.GdnGatesGradRefIdeal.nD Cert.GdnGatesGradRefIdeal.τ).loc Cert.GdnGatesGradRefIdeal.main_arg1)
          ∧ r.2.mem ((c.tc : Thread Cert.GdnGatesGradRefIdeal.nD Cert.GdnGatesGradRefIdeal.τ).loc Cert.GdnGatesGradRefIdeal.main_arg2) = m' ((c.tc : Thread Cert.GdnGatesGradRefIdeal.nD Cert.GdnGatesGradRefIdeal.τ).loc Cert.GdnGatesGradRefIdeal.main_arg2)
          ∧ r.2.mem ((c.tc : Thread Cert.GdnGatesGradRefIdeal.nD Cert.GdnGatesGradRefIdeal.τ).loc Cert.GdnGatesGradRefIdeal.main_arg3) = m' ((c.tc : Thread Cert.GdnGatesGradRefIdeal.nD Cert.GdnGatesGradRefIdeal.τ).loc Cert.GdnGatesGradRefIdeal.main_arg3)
          ∧ r.2.mem ((c.tc : Thread Cert.GdnGatesGradRefIdeal.nD Cert.GdnGatesGradRefIdeal.τ).loc Cert.GdnGatesGradRefIdeal.main_arg4) = m' ((c.tc : Thread Cert.GdnGatesGradRefIdeal.nD Cert.GdnGatesGradRefIdeal.τ).loc Cert.GdnGatesGradRefIdeal.main_arg4))

def preserves_HgrnPrepGrad_HgrnPrepGradIdeal : Prop :=
  True

def algebraic_HgrnPrepGradIdeal_HgrnPrepGradRefIdeal_pre_prep_finite [hHgrnPrepGradIdeal : Cert.HgrnPrepGradIdeal.Facts] [hHgrnPrepGradRefIdeal : Cert.HgrnPrepGradRefIdeal.Facts] [hPre_prep_finite : Cert.Pre_prep_finite.Facts] : Prop :=
  ∀ (m : (ℓ : Loc Cert.HgrnPrepGradIdeal.nD Cert.HgrnPrepGradIdeal.τ Cert.HgrnPrepGradIdeal.sig) → Buf (Elt Ideal) ℓ) (g : Dev Cert.HgrnPrepGradIdeal.nD → PrngReg)
    (m' : (ℓ : Loc Cert.HgrnPrepGradRefIdeal.nD Cert.HgrnPrepGradRefIdeal.τ Cert.HgrnPrepGradRefIdeal.sig) → Buf (Elt Ideal) ℓ) (g' : Dev Cert.HgrnPrepGradRefIdeal.nD → PrngReg), Pre_HgrnPrepGradIdeal_prep_finite m →
    (∀ c : Dev Cert.HgrnPrepGradIdeal.nD,
      m' ((c.tc : Thread Cert.HgrnPrepGradRefIdeal.nD Cert.HgrnPrepGradRefIdeal.τ).loc Cert.HgrnPrepGradRefIdeal.main_arg0) = m ((c.tc : Thread Cert.HgrnPrepGradIdeal.nD Cert.HgrnPrepGradIdeal.τ).loc Cert.HgrnPrepGradIdeal.main_arg0)
      ∧ m' ((c.tc : Thread Cert.HgrnPrepGradRefIdeal.nD Cert.HgrnPrepGradRefIdeal.τ).loc Cert.HgrnPrepGradRefIdeal.main_arg1) = m ((c.tc : Thread Cert.HgrnPrepGradIdeal.nD Cert.HgrnPrepGradIdeal.τ).loc Cert.HgrnPrepGradIdeal.main_arg1)
      ∧ m' ((c.tc : Thread Cert.HgrnPrepGradRefIdeal.nD Cert.HgrnPrepGradRefIdeal.τ).loc Cert.HgrnPrepGradRefIdeal.main_arg2) = m ((c.tc : Thread Cert.HgrnPrepGradIdeal.nD Cert.HgrnPrepGradIdeal.τ).loc Cert.HgrnPrepGradIdeal.main_arg2)
      ∧ m' ((c.tc : Thread Cert.HgrnPrepGradRefIdeal.nD Cert.HgrnPrepGradRefIdeal.τ).loc Cert.HgrnPrepGradRefIdeal.main_arg3) = m ((c.tc : Thread Cert.HgrnPrepGradIdeal.nD Cert.HgrnPrepGradIdeal.τ).loc Cert.HgrnPrepGradIdeal.main_arg3)
      ∧ m' ((c.tc : Thread Cert.HgrnPrepGradRefIdeal.nD Cert.HgrnPrepGradRefIdeal.τ).loc Cert.HgrnPrepGradRefIdeal.main_arg4) = m ((c.tc : Thread Cert.HgrnPrepGradIdeal.nD Cert.HgrnPrepGradIdeal.τ).loc Cert.HgrnPrepGradIdeal.main_arg4)) →
    ∃ (v0 : (c : Dev Cert.HgrnPrepGradIdeal.nD) → Buf (Elt Ideal) ((c.tc : Thread Cert.HgrnPrepGradIdeal.nD Cert.HgrnPrepGradIdeal.τ).loc Cert.HgrnPrepGradIdeal.main_v0_0)) (v1 : (c : Dev Cert.HgrnPrepGradIdeal.nD) → Buf (Elt Ideal) ((c.tc : Thread Cert.HgrnPrepGradIdeal.nD Cert.HgrnPrepGradIdeal.τ).loc Cert.HgrnPrepGradIdeal.main_v0_1)) (v2 : (c : Dev Cert.HgrnPrepGradIdeal.nD) → Buf (Elt Ideal) ((c.tc : Thread Cert.HgrnPrepGradIdeal.nD Cert.HgrnPrepGradIdeal.τ).loc Cert.HgrnPrepGradIdeal.main_v0_2)),
      θ_run (Cert.HgrnPrepGradIdeal.defs (F := Ideal)) (onTc (τ := Cert.HgrnPrepGradIdeal.τ) (Cert.HgrnPrepGradIdeal.main (F := Ideal))) ⟨m, fun _ => 0, g⟩ (fun r => ∀ c : Dev Cert.HgrnPrepGradIdeal.nD,
          r.2.mem ((c.tc : Thread Cert.HgrnPrepGradIdeal.nD Cert.HgrnPrepGradIdeal.τ).loc Cert.HgrnPrepGradIdeal.main_v0_0) = v0 c
          ∧ r.2.mem ((c.tc : Thread Cert.HgrnPrepGradIdeal.nD Cert.HgrnPrepGradIdeal.τ).loc Cert.HgrnPrepGradIdeal.main_v0_1) = v1 c
          ∧ r.2.mem ((c.tc : Thread Cert.HgrnPrepGradIdeal.nD Cert.HgrnPrepGradIdeal.τ).loc Cert.HgrnPrepGradIdeal.main_v0_2) = v2 c
          ∧ r.2.mem ((c.tc : Thread Cert.HgrnPrepGradIdeal.nD Cert.HgrnPrepGradIdeal.τ).loc Cert.HgrnPrepGradIdeal.main_arg0) = m ((c.tc : Thread Cert.HgrnPrepGradIdeal.nD Cert.HgrnPrepGradIdeal.τ).loc Cert.HgrnPrepGradIdeal.main_arg0)
          ∧ r.2.mem ((c.tc : Thread Cert.HgrnPrepGradIdeal.nD Cert.HgrnPrepGradIdeal.τ).loc Cert.HgrnPrepGradIdeal.main_arg1) = m ((c.tc : Thread Cert.HgrnPrepGradIdeal.nD Cert.HgrnPrepGradIdeal.τ).loc Cert.HgrnPrepGradIdeal.main_arg1)
          ∧ r.2.mem ((c.tc : Thread Cert.HgrnPrepGradIdeal.nD Cert.HgrnPrepGradIdeal.τ).loc Cert.HgrnPrepGradIdeal.main_arg2) = m ((c.tc : Thread Cert.HgrnPrepGradIdeal.nD Cert.HgrnPrepGradIdeal.τ).loc Cert.HgrnPrepGradIdeal.main_arg2)
          ∧ r.2.mem ((c.tc : Thread Cert.HgrnPrepGradIdeal.nD Cert.HgrnPrepGradIdeal.τ).loc Cert.HgrnPrepGradIdeal.main_arg3) = m ((c.tc : Thread Cert.HgrnPrepGradIdeal.nD Cert.HgrnPrepGradIdeal.τ).loc Cert.HgrnPrepGradIdeal.main_arg3)
          ∧ r.2.mem ((c.tc : Thread Cert.HgrnPrepGradIdeal.nD Cert.HgrnPrepGradIdeal.τ).loc Cert.HgrnPrepGradIdeal.main_arg4) = m ((c.tc : Thread Cert.HgrnPrepGradIdeal.nD Cert.HgrnPrepGradIdeal.τ).loc Cert.HgrnPrepGradIdeal.main_arg4))
      ∧ θ_run (Cert.HgrnPrepGradRefIdeal.defs (F := Ideal)) (onTc (τ := Cert.HgrnPrepGradRefIdeal.τ) (Cert.HgrnPrepGradRefIdeal.main (F := Ideal))) ⟨m', fun _ => 0, g'⟩ (fun r => ∀ c : Dev Cert.HgrnPrepGradRefIdeal.nD,
          r.2.mem ((c.tc : Thread Cert.HgrnPrepGradRefIdeal.nD Cert.HgrnPrepGradRefIdeal.τ).loc Cert.HgrnPrepGradRefIdeal.main_v105) = v0 c
          ∧ r.2.mem ((c.tc : Thread Cert.HgrnPrepGradRefIdeal.nD Cert.HgrnPrepGradRefIdeal.τ).loc Cert.HgrnPrepGradRefIdeal.main_v106) = v1 c
          ∧ r.2.mem ((c.tc : Thread Cert.HgrnPrepGradRefIdeal.nD Cert.HgrnPrepGradRefIdeal.τ).loc Cert.HgrnPrepGradRefIdeal.main_v104) = v2 c
          ∧ r.2.mem ((c.tc : Thread Cert.HgrnPrepGradRefIdeal.nD Cert.HgrnPrepGradRefIdeal.τ).loc Cert.HgrnPrepGradRefIdeal.main_arg0) = m' ((c.tc : Thread Cert.HgrnPrepGradRefIdeal.nD Cert.HgrnPrepGradRefIdeal.τ).loc Cert.HgrnPrepGradRefIdeal.main_arg0)
          ∧ r.2.mem ((c.tc : Thread Cert.HgrnPrepGradRefIdeal.nD Cert.HgrnPrepGradRefIdeal.τ).loc Cert.HgrnPrepGradRefIdeal.main_arg1) = m' ((c.tc : Thread Cert.HgrnPrepGradRefIdeal.nD Cert.HgrnPrepGradRefIdeal.τ).loc Cert.HgrnPrepGradRefIdeal.main_arg1)
          ∧ r.2.mem ((c.tc : Thread Cert.HgrnPrepGradRefIdeal.nD Cert.HgrnPrepGradRefIdeal.τ).loc Cert.HgrnPrepGradRefIdeal.main_arg2) = m' ((c.tc : Thread Cert.HgrnPrepGradRefIdeal.nD Cert.HgrnPrepGradRefIdeal.τ).loc Cert.HgrnPrepGradRefIdeal.main_arg2)
          ∧ r.2.mem ((c.tc : Thread Cert.HgrnPrepGradRefIdeal.nD Cert.HgrnPrepGradRefIdeal.τ).loc Cert.HgrnPrepGradRefIdeal.main_arg3) = m' ((c.tc : Thread Cert.HgrnPrepGradRefIdeal.nD Cert.HgrnPrepGradRefIdeal.τ).loc Cert.HgrnPrepGradRefIdeal.main_arg3)
          ∧ r.2.mem ((c.tc : Thread Cert.HgrnPrepGradRefIdeal.nD Cert.HgrnPrepGradRefIdeal.τ).loc Cert.HgrnPrepGradRefIdeal.main_arg4) = m' ((c.tc : Thread Cert.HgrnPrepGradRefIdeal.nD Cert.HgrnPrepGradRefIdeal.τ).loc Cert.HgrnPrepGradRefIdeal.main_arg4))

def preserves_AdamSmall_AdamSmallIdeal : Prop :=
  IdealRules.named_const.Statement Cert.AdamSmallIdeal.κ "scale_m" .f32 0x3FC48605#32 ((8388608 / 5463681 : ℝ) : EReal)
  ∧ IdealRules.named_const.Statement Cert.AdamSmallIdeal.κ "scale_v" .f32 0x42C8E6D3#32 ((268435456 / 2672307 : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamIn_AdamInIdeal : Prop :=
  IdealRules.named_const.Statement Cert.AdamInIdeal.κ "scale_m" .f32 0x3FC48605#32 ((8388608 / 5463681 : ℝ) : EReal)
  ∧ IdealRules.named_const.Statement Cert.AdamInIdeal.κ "scale_v" .f32 0x42C8E6D3#32 ((268435456 / 2672307 : ℝ) : EReal)

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def Claim : Prop :=
  ∃ (hKernel : Cert.Kernel.Facts) (hKernelIdeal : Cert.KernelIdeal.Facts) (hReferenceIdeal : Cert.ReferenceIdeal.Facts) (hActGrad : Cert.ActGrad.Facts) (hActGradIdeal : Cert.ActGradIdeal.Facts) (hActGradRefIdeal : Cert.ActGradRefIdeal.Facts) (hFf2Dw : Cert.Ff2Dw.Facts) (hFf2DwIdeal : Cert.Ff2DwIdeal.Facts) (hFf2DwRefIdeal : Cert.Ff2DwRefIdeal.Facts) (hFf1Dx : Cert.Ff1Dx.Facts) (hFf1DxIdeal : Cert.Ff1DxIdeal.Facts) (hFf1DxRefIdeal : Cert.Ff1DxRefIdeal.Facts) (hFf1Dw : Cert.Ff1Dw.Facts) (hFf1DwIdeal : Cert.Ff1DwIdeal.Facts) (hFf1DwRefIdeal : Cert.Ff1DwRefIdeal.Facts) (hProjDx : Cert.ProjDx.Facts) (hProjDxIdeal : Cert.ProjDxIdeal.Facts) (hProjDxRefIdeal : Cert.ProjDxRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hFf1 : Cert.Ff1.Facts) (hFf1Ideal : Cert.Ff1Ideal.Facts) (hFf1RefIdeal : Cert.Ff1RefIdeal.Facts) (hFf2 : Cert.Ff2.Facts) (hFf2Ideal : Cert.Ff2Ideal.Facts) (hFf2RefIdeal : Cert.Ff2RefIdeal.Facts) (hOutProj : Cert.OutProj.Facts) (hOutProjIdeal : Cert.OutProjIdeal.Facts) (hOutProjRefIdeal : Cert.OutProjRefIdeal.Facts) (hNorm : Cert.Norm.Facts) (hNormIdeal : Cert.NormIdeal.Facts) (hNormRefIdeal : Cert.NormRefIdeal.Facts) (hAb : Cert.Ab.Facts) (hAbIdeal : Cert.AbIdeal.Facts) (hAbRefIdeal : Cert.AbRefIdeal.Facts) (hAbDx : Cert.AbDx.Facts) (hAbDxIdeal : Cert.AbDxIdeal.Facts) (hAbDxRefIdeal : Cert.AbDxRefIdeal.Facts) (hAbDw : Cert.AbDw.Facts) (hAbDwIdeal : Cert.AbDwIdeal.Facts) (hAbDwRefIdeal : Cert.AbDwRefIdeal.Facts) (hInDw : Cert.InDw.Facts) (hInDwIdeal : Cert.InDwIdeal.Facts) (hInDwRefIdeal : Cert.InDwRefIdeal.Facts) (hLossHead : Cert.LossHead.Facts) (hLossHeadIdeal : Cert.LossHeadIdeal.Facts) (hLossHeadRefIdeal : Cert.LossHeadRefIdeal.Facts) (hNormGrad : Cert.NormGrad.Facts) (hNormGradIdeal : Cert.NormGradIdeal.Facts) (hNormGradRefIdeal : Cert.NormGradRefIdeal.Facts) (hGdnGatesGrad : Cert.GdnGatesGrad.Facts) (hGdnGatesGradIdeal : Cert.GdnGatesGradIdeal.Facts) (hGdnGatesGradRefIdeal : Cert.GdnGatesGradRefIdeal.Facts) (hHgrnPrepGrad : Cert.HgrnPrepGrad.Facts) (hHgrnPrepGradIdeal : Cert.HgrnPrepGradIdeal.Facts) (hHgrnPrepGradRefIdeal : Cert.HgrnPrepGradRefIdeal.Facts) (hAdamSmall : Cert.AdamSmall.Facts) (hAdamSmallIdeal : Cert.AdamSmallIdeal.Facts) (hAdamSmallRefIdeal : Cert.AdamSmallRefIdeal.Facts) (hAdamIn : Cert.AdamIn.Facts) (hAdamInIdeal : Cert.AdamInIdeal.Facts) (hAdamInRefIdeal : Cert.AdamInRefIdeal.Facts) (hPre_bounded : Cert.Pre_bounded.Facts) (hPre_gates_finite : Cert.Pre_gates_finite.Facts) (hPre_prep_finite : Cert.Pre_prep_finite.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ quiescent_ActGrad (hActGrad := hActGrad)
    ∧ quiescent_ActGradIdeal (hActGradIdeal := hActGradIdeal)
    ∧ quiescent_ActGradRefIdeal (hActGradRefIdeal := hActGradRefIdeal)
    ∧ quiescent_Ff2Dw (hFf2Dw := hFf2Dw)
    ∧ quiescent_Ff2DwIdeal (hFf2DwIdeal := hFf2DwIdeal)
    ∧ quiescent_Ff2DwRefIdeal (hFf2DwRefIdeal := hFf2DwRefIdeal)
    ∧ quiescent_Ff1Dx (hFf1Dx := hFf1Dx)
    ∧ quiescent_Ff1DxIdeal (hFf1DxIdeal := hFf1DxIdeal)
    ∧ quiescent_Ff1DxRefIdeal (hFf1DxRefIdeal := hFf1DxRefIdeal)
    ∧ quiescent_Ff1Dw (hFf1Dw := hFf1Dw)
    ∧ quiescent_Ff1DwIdeal (hFf1DwIdeal := hFf1DwIdeal)
    ∧ quiescent_Ff1DwRefIdeal (hFf1DwRefIdeal := hFf1DwRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_Ff1 (hFf1 := hFf1)
    ∧ quiescent_Ff1Ideal (hFf1Ideal := hFf1Ideal)
    ∧ quiescent_Ff1RefIdeal (hFf1RefIdeal := hFf1RefIdeal)
    ∧ quiescent_Ff2 (hFf2 := hFf2)
    ∧ quiescent_Ff2Ideal (hFf2Ideal := hFf2Ideal)
    ∧ quiescent_Ff2RefIdeal (hFf2RefIdeal := hFf2RefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Norm (hNorm := hNorm)
    ∧ quiescent_NormIdeal (hNormIdeal := hNormIdeal)
    ∧ quiescent_NormRefIdeal (hNormRefIdeal := hNormRefIdeal)
    ∧ quiescent_Ab (hAb := hAb)
    ∧ quiescent_AbIdeal (hAbIdeal := hAbIdeal)
    ∧ quiescent_AbRefIdeal (hAbRefIdeal := hAbRefIdeal)
    ∧ quiescent_AbDx (hAbDx := hAbDx)
    ∧ quiescent_AbDxIdeal (hAbDxIdeal := hAbDxIdeal)
    ∧ quiescent_AbDxRefIdeal (hAbDxRefIdeal := hAbDxRefIdeal)
    ∧ quiescent_AbDw (hAbDw := hAbDw)
    ∧ quiescent_AbDwIdeal (hAbDwIdeal := hAbDwIdeal)
    ∧ quiescent_AbDwRefIdeal (hAbDwRefIdeal := hAbDwRefIdeal)
    ∧ quiescent_InDw (hInDw := hInDw)
    ∧ quiescent_InDwIdeal (hInDwIdeal := hInDwIdeal)
    ∧ quiescent_InDwRefIdeal (hInDwRefIdeal := hInDwRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_NormGrad (hNormGrad := hNormGrad)
    ∧ quiescent_NormGradIdeal (hNormGradIdeal := hNormGradIdeal)
    ∧ quiescent_NormGradRefIdeal (hNormGradRefIdeal := hNormGradRefIdeal)
    ∧ quiescent_GdnGatesGrad (hGdnGatesGrad := hGdnGatesGrad)
    ∧ quiescent_GdnGatesGradIdeal (hGdnGatesGradIdeal := hGdnGatesGradIdeal)
    ∧ quiescent_GdnGatesGradIdeal_pre_gates_finite (hGdnGatesGradIdeal := hGdnGatesGradIdeal) (hPre_gates_finite := hPre_gates_finite)
    ∧ quiescent_GdnGatesGradRefIdeal (hGdnGatesGradRefIdeal := hGdnGatesGradRefIdeal)
    ∧ quiescent_GdnGatesGradRefIdeal_pre_gates_finite (hGdnGatesGradRefIdeal := hGdnGatesGradRefIdeal) (hPre_gates_finite := hPre_gates_finite)
    ∧ quiescent_HgrnPrepGrad (hHgrnPrepGrad := hHgrnPrepGrad)
    ∧ quiescent_HgrnPrepGradIdeal (hHgrnPrepGradIdeal := hHgrnPrepGradIdeal)
    ∧ quiescent_HgrnPrepGradIdeal_pre_prep_finite (hHgrnPrepGradIdeal := hHgrnPrepGradIdeal) (hPre_prep_finite := hPre_prep_finite)
    ∧ quiescent_HgrnPrepGradRefIdeal (hHgrnPrepGradRefIdeal := hHgrnPrepGradRefIdeal)
    ∧ quiescent_HgrnPrepGradRefIdeal_pre_prep_finite (hHgrnPrepGradRefIdeal := hHgrnPrepGradRefIdeal) (hPre_prep_finite := hPre_prep_finite)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ preserves_Kernel_KernelIdeal
    ∧ algebraic_KernelIdeal_ReferenceIdeal_pre_bounded (hKernelIdeal := hKernelIdeal) (hReferenceIdeal := hReferenceIdeal) (hPre_bounded := hPre_bounded)
    ∧ preserves_ActGrad_ActGradIdeal
    ∧ algebraic_ActGradIdeal_ActGradRefIdeal (hActGradIdeal := hActGradIdeal) (hActGradRefIdeal := hActGradRefIdeal)
    ∧ preserves_Ff2Dw_Ff2DwIdeal
    ∧ algebraic_Ff2DwIdeal_Ff2DwRefIdeal (hFf2DwIdeal := hFf2DwIdeal) (hFf2DwRefIdeal := hFf2DwRefIdeal)
    ∧ preserves_Ff1Dx_Ff1DxIdeal
    ∧ algebraic_Ff1DxIdeal_Ff1DxRefIdeal (hFf1DxIdeal := hFf1DxIdeal) (hFf1DxRefIdeal := hFf1DxRefIdeal)
    ∧ preserves_Ff1Dw_Ff1DwIdeal
    ∧ algebraic_Ff1DwIdeal_Ff1DwRefIdeal (hFf1DwIdeal := hFf1DwIdeal) (hFf1DwRefIdeal := hFf1DwRefIdeal)
    ∧ preserves_ProjDx_ProjDxIdeal
    ∧ algebraic_ProjDxIdeal_ProjDxRefIdeal (hProjDxIdeal := hProjDxIdeal) (hProjDxRefIdeal := hProjDxRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_Ff1_Ff1Ideal
    ∧ algebraic_Ff1Ideal_Ff1RefIdeal (hFf1Ideal := hFf1Ideal) (hFf1RefIdeal := hFf1RefIdeal)
    ∧ preserves_Ff2_Ff2Ideal
    ∧ algebraic_Ff2Ideal_Ff2RefIdeal (hFf2Ideal := hFf2Ideal) (hFf2RefIdeal := hFf2RefIdeal)
    ∧ preserves_OutProj_OutProjIdeal
    ∧ algebraic_OutProjIdeal_OutProjRefIdeal (hOutProjIdeal := hOutProjIdeal) (hOutProjRefIdeal := hOutProjRefIdeal)
    ∧ preserves_Norm_NormIdeal
    ∧ algebraic_NormIdeal_NormRefIdeal (hNormIdeal := hNormIdeal) (hNormRefIdeal := hNormRefIdeal)
    ∧ preserves_Ab_AbIdeal
    ∧ algebraic_AbIdeal_AbRefIdeal (hAbIdeal := hAbIdeal) (hAbRefIdeal := hAbRefIdeal)
    ∧ preserves_AbDx_AbDxIdeal
    ∧ algebraic_AbDxIdeal_AbDxRefIdeal (hAbDxIdeal := hAbDxIdeal) (hAbDxRefIdeal := hAbDxRefIdeal)
    ∧ preserves_AbDw_AbDwIdeal
    ∧ algebraic_AbDwIdeal_AbDwRefIdeal (hAbDwIdeal := hAbDwIdeal) (hAbDwRefIdeal := hAbDwRefIdeal)
    ∧ preserves_InDw_InDwIdeal
    ∧ algebraic_InDwIdeal_InDwRefIdeal (hInDwIdeal := hInDwIdeal) (hInDwRefIdeal := hInDwRefIdeal)
    ∧ preserves_LossHead_LossHeadIdeal
    ∧ algebraic_LossHeadIdeal_LossHeadRefIdeal (hLossHeadIdeal := hLossHeadIdeal) (hLossHeadRefIdeal := hLossHeadRefIdeal)
    ∧ preserves_NormGrad_NormGradIdeal
    ∧ algebraic_NormGradIdeal_NormGradRefIdeal (hNormGradIdeal := hNormGradIdeal) (hNormGradRefIdeal := hNormGradRefIdeal)
    ∧ preserves_GdnGatesGrad_GdnGatesGradIdeal
    ∧ algebraic_GdnGatesGradIdeal_GdnGatesGradRefIdeal_pre_gates_finite (hGdnGatesGradIdeal := hGdnGatesGradIdeal) (hGdnGatesGradRefIdeal := hGdnGatesGradRefIdeal) (hPre_gates_finite := hPre_gates_finite)
    ∧ preserves_HgrnPrepGrad_HgrnPrepGradIdeal
    ∧ algebraic_HgrnPrepGradIdeal_HgrnPrepGradRefIdeal_pre_prep_finite (hHgrnPrepGradIdeal := hHgrnPrepGradIdeal) (hHgrnPrepGradRefIdeal := hHgrnPrepGradRefIdeal) (hPre_prep_finite := hPre_prep_finite)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamIn_AdamInIdeal
    ∧ algebraic_AdamInIdeal_AdamInRefIdeal (hAdamInIdeal := hAdamInIdeal) (hAdamInRefIdeal := hAdamInRefIdeal)
-- ==== Pre_bounded.lean ====
abbrev S4096x1024 : Shape := ⟨2, ![4096, 1024]⟩
abbrev S4096x8192 : Shape := ⟨2, ![4096, 8192]⟩
abbrev S4096x2048 : Shape := ⟨2, ![4096, 2048]⟩
abbrev S_ : Shape := ⟨0, ![]⟩

class Facts : Prop where
  slices_S4096x8192_S4096x1024_0_6144 : S4096x8192.Slices ![0, 6144] S4096x1024
  slices_S4096x2048_S4096x1024_0_1024 : S4096x2048.Slices ![0, 1024] S4096x1024
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S4096x1024 .f32) (main_arg2 : FVec F S4096x8192 .f32) (main_arg3 : FVec F S4096x1024 .f32) (main_arg4 : FVec F S4096x2048 .f32) : IVec S4096x1024 1 × IVec S4096x1024 1 × IVec S4096x1024 1 × IVec S4096x1024 1 × IVec S4096x1024 1 × IVec S4096x1024 1 :=
  let main_v0 : FVec F S4096x1024 .f32 := (extractStridedSlice S4096x1024 ![0, 6144] · slices_S4096x8192_S4096x1024_0_6144) main_arg2
  let main_v1 : FVec F S4096x1024 .f32 := (extractStridedSlice S4096x1024 ![0, 1024] · slices_S4096x2048_S4096x1024_0_1024) main_arg4
  let main_v2 : FVec F S4096x1024 .f32 := Host.absf main_arg0
  let main_cst : FVec F S_ .f32 := constant S_ .f32 0x7F800000#32
  let main_v3 : FVec F S4096x1024 .f32 := broadcastInDim S4096x1024 ![] bcast_S_S4096x1024 main_cst
  let main_v4 : IVec S4096x1024 1 := cmpf .olt main_v2 main_v3
  let main_v5 : FVec F S4096x1024 .f32 := Host.absf main_arg1
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_v8 : FVec F S4096x1024 .f32 := Host.absf main_v0
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S4096x1024 .f32 := Host.absf main_v1
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_cst_3 : FVec F S_ .f32 := constant S_ .f32 0x00000000#32
  let main_v14 : FVec F S4096x1024 .f32 := broadcastInDim S4096x1024 ![] bcast_S_S4096x1024 main_cst_3
  let main_v15 : IVec S4096x1024 1 := cmpf .ole main_arg3 main_v14
  let main_cst_4 : FVec F S_ .f32 := constant S_ .f32 0xC0A00000#32
  let main_v16 : FVec F S4096x1024 .f32 := broadcastInDim S4096x1024 ![] bcast_S_S4096x1024 main_cst_4
  let main_v17 : IVec S4096x1024 1 := cmpf .oge main_arg3 main_v16
  (main_v4, main_v7, main_v10, main_v13, main_v15, main_v17)
-- ==== Pre_gates_finite.lean ====
abbrev S4096x256 : Shape := ⟨2, ![4096, 256]⟩
abbrev S1x128 : Shape := ⟨2, ![1, 128]⟩
abbrev S4096x128 : Shape := ⟨2, ![4096, 128]⟩
abbrev S_ : Shape := ⟨0, ![]⟩

class Facts : Prop where
  slices_S4096x256_S4096x128_0_0 : S4096x256.Slices ![0, 0] S4096x128
  bcast_S_S4096x128 : S_.BroadcastsInDim S4096x128 (![] : Fin 0 → Fin S4096x128.rank)
  bcast_S_S1x128 : S_.BroadcastsInDim S1x128 (![] : Fin 0 → Fin S1x128.rank)

variable [Facts]

def fn {F : FTy → Type} [FloatOps F] (main_arg0 : FVec F S4096x256 .f32) (main_arg1 : FVec F S1x128 .f32) (main_arg2 : FVec F S1x128 .f32) (main_arg3 : FVec F S4096x128 .f32) (main_arg4 : FVec F S4096x128 .f32) : IVec S4096x128 1 × IVec S1x128 1 × IVec S1x128 1 × IVec S4096x128 1 :=
  let main_v0 : FVec F S4096x128 .f32 := (extractStridedSlice S4096x128 ![0, 0] · slices_S4096x256_S4096x128_0_0) main_arg0
  let main_v1 : FVec F S4096x128 .f32 := Host.absf main_v0
  let main_cst : FVec F S_ .f32 := constant S_ .f32 0x7F800000#32
  let main_v2 : FVec F S4096x128 .f32 := broadcastInDim S4096x128 ![] bcast_S_S4096x128 main_cst
  let main_v3 : IVec S4096x128 1 := cmpf .olt main_v1 main_v2
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_v7 : FVec F S1x128 .f32 := Host.absf main_arg2
  let main_cst_1 : FVec F S_ .f32 := constant S_ .f32 0x7F800000#32
  let main_v8 : FVec F S1x128 .f32 := broadcastInDim S1x128 ![] bcast_S_S1x128 main_cst_1
  let main_v9 : IVec S1x128 1 := cmpf .olt main_v7 main_v8
  let main_v10 : FVec F S4096x128 .f32 := Host.absf main_arg3
  let main_cst_2 : FVec F S_ .f32 := constant S_ .f32 0x7F800000#32
  let main_v11 : FVec F S4096x128 .f32 := broadcastInDim S4096x128 ![] bcast_S_S4096x128 main_cst_2
  let main_v12 : IVec S4096x128 1 := cmpf .olt main_v10 main_v11
  (main_v3, main_v6, main_v9, main_v12)
-- ==== Pre_prep_finite.lean ====
abbrev S4096x8192 : Shape := ⟨2, ![4096, 8192]⟩
abbrev S2x1024 : Shape := ⟨2, ![2, 1024]⟩
abbrev S4096x1024 : Shape := ⟨2, ![4096, 1024]⟩
abbrev S_ : Shape := ⟨0, ![]⟩

class Facts : Prop where
  bcast_S_S2x1024 : S_.BroadcastsInDim S2x1024 (![] : Fin 0 → Fin S2x1024.rank)
  bcast_S_S4096x1024 : S_.BroadcastsInDim S4096x1024 (![] : Fin 0 → Fin S4096x1024.rank)

variable [Facts]

def fn {F : FTy → Type} [FloatOps F] (main_arg0 : FVec F S4096x8192 .f32) (main_arg1 : FVec F S2x1024 .f32) (main_arg2 : FVec F S4096x1024 .f32) (main_arg3 : FVec F S4096x1024 .f32) (main_arg4 : FVec F S4096x1024 .f32) : IVec S2x1024 1 × IVec S4096x1024 1 × IVec S4096x1024 1 × IVec S4096x1024 1 :=
  let main_v0 : FVec F S2x1024 .f32 := Host.absf main_arg1
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_v3 : FVec F S4096x1024 .f32 := Host.absf main_arg2
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg3
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg4
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Kernel.lean ====
abbrev S4096x1024 : Shape := ⟨2, ![4096, 1024]⟩
abbrev S4096x8192 : Shape := ⟨2, ![4096, 8192]⟩
abbrev S4096x2048 : Shape := ⟨2, ![4096, 2048]⟩
abbrev S4096x8x128 : Shape := ⟨3, ![4096, 8, 128]⟩
abbrev S8x4096x128 : Shape := ⟨3, ![8, 4096, 128]⟩
abbrev S_ : Shape := ⟨0, ![]⟩
abbrev S32 : Shape := ⟨1, ![32]⟩
abbrev S8x1x128 : Shape := ⟨3, ![8, 1, 128]⟩
abbrev S8x31x128 : Shape := ⟨3, ![8, 31, 128]⟩
abbrev S8x32x128 : Shape := ⟨3, ![8, 32, 128]⟩
abbrev S32x1 : Shape := ⟨2, ![32, 1]⟩
abbrev S4096 : Shape := ⟨1, ![4096]⟩
abbrev S1x4096 : Shape := ⟨2, ![1, 4096]⟩
abbrev S32x4096 : Shape := ⟨2, ![32, 4096]⟩
abbrev S32x4096x1 : Shape := ⟨3, ![32, 4096, 1]⟩
abbrev S8x32x1x128 : Shape := ⟨4, ![8, 32, 1, 128]⟩
abbrev S8x1x4096x128 : Shape := ⟨4, ![8, 1, 4096, 128]⟩
abbrev S8x32x4096x128 : Shape := ⟨4, ![8, 32, 4096, 128]⟩
abbrev S8x128x32x128 : Shape := ⟨4, ![8, 128, 32, 128]⟩
abbrev S8x32x128x128 : Shape := ⟨4, ![8, 32, 128, 128]⟩
abbrev S128x1024 : Shape := ⟨2, ![128, 1024]⟩
abbrev S8x1x128x128 : Shape := ⟨4, ![8, 1, 128, 128]⟩
abbrev S8x128x128 : Shape := ⟨3, ![8, 128, 128]⟩
abbrev S128x128 : Shape := ⟨2, ![128, 128]⟩
abbrev S1x1x128x128 : Shape := ⟨4, ![1, 1, 128, 128]⟩
abbrev S1x128x128 : Shape := ⟨3, ![1, 128, 128]⟩
abbrev S128 : Shape := ⟨1, ![128]⟩
abbrev S1x128 : Shape := ⟨2, ![1, 128]⟩
abbrev S16x128 : Shape := ⟨2, ![16, 128]⟩

abbrev nBuf : Space → Nat
  | .hbm => 50
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x8192, .f32⟩
  | .hbm, ⟨3, _⟩ => ⟨S4096x1024, .f32⟩
  | .hbm, ⟨4, _⟩ => ⟨S4096x2048, .f32⟩
  | .hbm, ⟨5, _⟩ => ⟨S4096x1024, .f32⟩
  | .hbm, ⟨6, _⟩ => ⟨S4096x8x128, .f32⟩
  | .hbm, ⟨7, _⟩ => ⟨S8x4096x128, .f32⟩
  | .hbm, ⟨8, _⟩ => ⟨S4096x8x128, .f32⟩
  | .hbm, ⟨9, _⟩ => ⟨S8x4096x128, .f32⟩
  | .hbm, ⟨10, _⟩ => ⟨S4096x8x128, .f32⟩
  | .hbm, ⟨11, _⟩ => ⟨S8x4096x128, .f32⟩
  | .hbm, ⟨12, _⟩ => ⟨S_, .f32⟩
  | .hbm, ⟨13, _⟩ => ⟨S_, .f32⟩
  | .hbm, ⟨14, _⟩ => ⟨S8x4096x128, .f32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S_, .f32⟩
  | .hbm, ⟨20, _⟩ => ⟨S8x1x128, .f32⟩
  | .hbm, ⟨21, _⟩ => ⟨S8x31x128, .f32⟩
  | .hbm, ⟨22, _⟩ => ⟨S8x32x128, .f32⟩
  | .hbm, ⟨23, _⟩ => ⟨S32x1, .i32⟩
  | .hbm, ⟨24, _⟩ => ⟨S4096, .i32⟩
  | .hbm, ⟨25, _⟩ => ⟨S1x4096, .i32⟩
  | .hbm, ⟨26, _⟩ => ⟨S32x4096, .i32⟩
  | .hbm, ⟨27, _⟩ => ⟨S32x4096, .i32⟩
  | .hbm, ⟨28, _⟩ => ⟨S32x4096, .i1⟩
  | .hbm, ⟨29, _⟩ => ⟨S32x4096x1, .i1⟩
  | .hbm, ⟨30, _⟩ => ⟨S8x32x1x128, .f32⟩
  | .hbm, ⟨31, _⟩ => ⟨S8x1x4096x128, .f32⟩
  | .hbm, ⟨32, _⟩ => ⟨S8x32x4096x128, .f32⟩
  | .hbm, ⟨33, _⟩ => ⟨S8x32x4096x128, .f32⟩
  | .hbm, ⟨34, _⟩ => ⟨S8x32x4096x128, .f32⟩
  | .hbm, ⟨35, _⟩ => ⟨S_, .f32⟩
  | .hbm, ⟨36, _⟩ => ⟨S_, .f32⟩
  | .hbm, ⟨37, _⟩ => ⟨S8x32x4096x128, .i1⟩
  | .hbm, ⟨38, _⟩ => ⟨S8x32x4096x128, .f32⟩
  | .hbm, ⟨39, _⟩ => ⟨S8x32x4096x128, .f32⟩
  | .hbm, ⟨40, _⟩ => ⟨S8x32x4096x128, .f32⟩
  | .hbm, ⟨41, _⟩ => ⟨S8x1x4096x128, .f32⟩
  | .hbm, ⟨42, _⟩ => ⟨S8x32x4096x128, .f32⟩
  | .hbm, ⟨43, _⟩ => ⟨S8x32x4096x128, .f32⟩
  | .hbm, ⟨44, _⟩ => ⟨S8x128x32x128, .f32⟩
  | .hbm, ⟨45, _⟩ => ⟨S8x32x128x128, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S8x1x128x128, .f32⟩
  | .local _ .vmem, ⟨9, _⟩ => ⟨S8x1x128x128, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S8x128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_call0_cst : Ref sig .tc := ⟨.hbm, 12, rfl⟩
abbrev main_call0_call0_v0 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33_0 : Ref sig .tc := ⟨.hbm, 46, rfl⟩
abbrev main_v33_1 : Ref sig .tc := ⟨.hbm, 47, rfl⟩
abbrev main_v33_2 : Ref sig .tc := ⟨.hbm, 48, rfl⟩
abbrev main_v33_3 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c6_i32 : BitVec 32 := 6#32
  let v1 : BitVec 32 := Scalar.addi c6_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_4 (i : grid0.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c1_i32 : BitVec 32 := 1#32
  let v1 : BitVec 32 := Scalar.addi c1_i32 arg0
  let c0_i32 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4096x1024 : Shape := ⟨2, ![4096, 1024]⟩
abbrev S4096x8192 : Shape := ⟨2, ![4096, 8192]⟩
abbrev S4096x2048 : Shape := ⟨2, ![4096, 2048]⟩
abbrev S4096x8x128 : Shape := ⟨3, ![4096, 8, 128]⟩
abbrev S8x4096x128 : Shape := ⟨3, ![8, 4096, 128]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S4096x4096x1 : Shape := ⟨3, ![4096, 4096, 1]⟩
abbrev S8x4096x1x128 : Shape := ⟨4, ![8, 4096, 1, 128]⟩
abbrev S8x1x4096x128 : Shape := ⟨4, ![8, 1, 4096, 128]⟩
abbrev S8x4096x4096x128 : Shape := ⟨4, ![8, 4096, 4096, 128]⟩
abbrev S8x4096x4096 : Shape := ⟨3, ![8, 4096, 4096]⟩
abbrev S8x128x4096 : Shape := ⟨3, ![8, 128, 4096]⟩

abbrev nBuf : Space → Nat
  | .hbm => 98
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x8192, .f32⟩
  | .hbm, ⟨3, _⟩ => ⟨S4096x1024, .f32⟩
  | .hbm, ⟨4, _⟩ => ⟨S4096x2048, .f32⟩
  | .hbm, ⟨5, _⟩ => ⟨S4096x1024, .f32⟩
  | .hbm, ⟨6, _⟩ => ⟨S4096x8x128, .f32⟩
  | .hbm, ⟨7, _⟩ => ⟨S8x4096x128, .f32⟩
  | .hbm, ⟨8, _⟩ => ⟨S4096x8x128, .f32⟩
  | .hbm, ⟨9, _⟩ => ⟨S8x4096x128, .f32⟩
  | .hbm, ⟨10, _⟩ => ⟨S4096x8x128, .f32⟩
  | .hbm, ⟨11, _⟩ => ⟨S8x4096x128, .f32⟩
  | .hbm, ⟨12, _⟩ => ⟨S4096x8x128, .f32⟩
  | .hbm, ⟨13, _⟩ => ⟨S8x4096x128, .f32⟩
  | .hbm, ⟨14, _⟩ => ⟨S_, .f32⟩
  | .hbm, ⟨15, _⟩ => ⟨S_, .f32⟩
  | .hbm, ⟨16, _⟩ => ⟨S8x4096x128, .f32⟩
  | .hbm, ⟨17, _⟩ => ⟨S4096, .i32⟩
  | .hbm, ⟨18, _⟩ => ⟨S4096x1, .i32⟩
  | .hbm, ⟨19, _⟩ => ⟨S1x4096, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S4096x4096x1, .i1⟩
  | .hbm, ⟨24, _⟩ => ⟨S8x4096x1x128, .f32⟩
  | .hbm, ⟨25, _⟩ => ⟨S8x1x4096x128, .f32⟩
  | .hbm, ⟨26, _⟩ => ⟨S8x4096x4096x128, .f32⟩
  | .hbm, ⟨27, _⟩ => ⟨S8x4096x4096x128, .f32⟩
  | .hbm, ⟨28, _⟩ => ⟨S8x4096x4096x128, .f32⟩
  | .hbm, ⟨29, _⟩ => ⟨S_, .f32⟩
  | .hbm, ⟨30, _⟩ => ⟨S_, .f32⟩
  | .hbm, ⟨31, _⟩ => ⟨S8x4096x4096x128, .i1⟩
  | .hbm, ⟨32, _⟩ => ⟨S8x4096x4096x128, .f32⟩
  | .hbm, ⟨33, _⟩ => ⟨S8x4096x4096x128, .f32⟩
  | .hbm, ⟨34, _⟩ => ⟨S_, .f32⟩
  | .hbm, ⟨35, _⟩ => ⟨S8x4096x4096x128, .f32⟩
  | .hbm, ⟨36, _⟩ => ⟨S8x4096x4096x128, .f32⟩
  | .hbm, ⟨37, _⟩ => ⟨S8x4096x1x128, .f32⟩
  | .hbm, ⟨38, _⟩ => ⟨S8x4096x4096x128, .f32⟩
  | .hbm, ⟨39, _⟩ => ⟨S8x4096x4096x128, .f32⟩
  | .hbm, ⟨40, _⟩ => ⟨S8x1x4096x128, .f32⟩
  | .hbm, ⟨41, _⟩ => ⟨S8x4096x4096x128, .f32⟩
  | .hbm, ⟨42, _⟩ => ⟨S8x4096x4096x128, .f32⟩
  | .hbm, ⟨43, _⟩ => ⟨S_, .f32⟩
  | .hbm, ⟨44, _⟩ => ⟨S8x4096x4096, .f32⟩
  | .hbm, ⟨45, _⟩ => ⟨S8x4096x128, .f32⟩
  | .hbm, ⟨46, _⟩ => ⟨S4096x8x128, .f32⟩
  | .hbm, ⟨47, _⟩ => ⟨S4096x1024, .f32⟩
  | .hbm, ⟨48, _⟩ => ⟨S4096x1024, .f32⟩
  | .hbm, ⟨49, _⟩ => ⟨S4096x8x128, .f32⟩
  | .hbm, ⟨50, _⟩ => ⟨S8x4096x128, .f32⟩
  | .hbm, ⟨51, _⟩ => ⟨S8x128x4096, .f32⟩
  | .hbm, ⟨52, _⟩ => ⟨S8x4096x128, .f32⟩
  | .hbm, ⟨53, _⟩ => ⟨S8x4096x4096, .f32⟩
  | .hbm, ⟨54, _⟩ => ⟨S8x4096x4096x128, .f32⟩
  | .hbm, ⟨55, _⟩ => ⟨S8x4096x4096x128, .f32⟩
  | .hbm, ⟨56, _⟩ => ⟨S_, .f32⟩
  | .hbm, ⟨57, _⟩ => ⟨S8x4096x128, .f32⟩
  | .hbm, ⟨58, _⟩ => ⟨S8x1x4096x128, .f32⟩
  | .hbm, ⟨59, _⟩ => ⟨S8x4096x4096x128, .f32⟩
  | .hbm, ⟨60, _⟩ => ⟨S8x4096x4096x128, .f32⟩
  | .hbm, ⟨61, _⟩ => ⟨S_, .f32⟩
  | .hbm, ⟨62, _⟩ => ⟨S8x4096x128, .f32⟩
  | .hbm, ⟨63, _⟩ => ⟨S8x4096x4096x128, .f32⟩
  | .hbm, ⟨64, _⟩ => ⟨S8x4096x4096x128, .f32⟩
  | .hbm, ⟨65, _⟩ => ⟨S8x4096x4096x128, .f32⟩
  | .hbm, ⟨66, _⟩ => ⟨S_, .f32⟩
  | .hbm, ⟨67, _⟩ => ⟨S8x4096x128, .f32⟩
  | .hbm, ⟨68, _⟩ => ⟨S8x4096x1x128, .f32⟩
  | .hbm, ⟨69, _⟩ => ⟨S_, .f32⟩
  | .hbm, ⟨70, _⟩ => ⟨S8x4096x128, .f32⟩
  | .hbm, ⟨71, _⟩ => ⟨S8x4096x4096x128, .f32⟩
  | .hbm, ⟨72, _⟩ => ⟨S_, .f32⟩
  | .hbm, ⟨73, _⟩ => ⟨S8x4096x4096x128, .f32⟩
  | .hbm, ⟨74, _⟩ => ⟨S8x4096x4096x128, .f32⟩
  | .hbm, ⟨75, _⟩ => ⟨S_, .f32⟩
  | .hbm, ⟨76, _⟩ => ⟨S8x4096x128, .f32⟩
  | .hbm, ⟨77, _⟩ => ⟨S8x4096x1x128, .f32⟩
  | .hbm, ⟨78, _⟩ => ⟨S8x4096x4096x128, .f32⟩
  | .hbm, ⟨79, _⟩ => ⟨S_, .f32⟩
  | .hbm, ⟨80, _⟩ => ⟨S8x4096x128, .f32⟩
  | .hbm, ⟨81, _⟩ => ⟨S8x1x4096x128, .f32⟩
  | .hbm, ⟨82, _⟩ => ⟨S_, .f32⟩
  | .hbm, ⟨83, _⟩ => ⟨S8x4096x128, .f32⟩
  | .hbm, ⟨84, _⟩ => ⟨S_, .f32⟩
  | .hbm, ⟨85, _⟩ => ⟨S8x4096x128, .f32⟩
  | .hbm, ⟨86, _⟩ => ⟨S8x4096x128, .f32⟩
  | .hbm, ⟨87, _⟩ => ⟨S_, .f32⟩
  | .hbm, ⟨88, _⟩ => ⟨S_, .f32⟩
  | .hbm, ⟨89, _⟩ => ⟨S8x4096x128, .f32⟩
  | .hbm, ⟨90, _⟩ => ⟨S4096x8x128, .f32⟩
  | .hbm, ⟨91, _⟩ => ⟨S4096x1024, .f32⟩
  | .hbm, ⟨92, _⟩ => ⟨S4096x8x128, .f32⟩
  | .hbm, ⟨93, _⟩ => ⟨S4096x1024, .f32⟩
  | .hbm, ⟨94, _⟩ => ⟨S4096x8x128, .f32⟩
  | .hbm, ⟨95, _⟩ => ⟨S4096x1024, .f32⟩
  | .hbm, ⟨96, _⟩ => ⟨S4096x8x128, .f32⟩
  | .hbm, ⟨97, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_call0_cst : Ref sig .tc := ⟨.hbm, 14, rfl⟩
abbrev main_call0_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_call1_v0 : Ref sig .tc := ⟨.hbm, 30, rfl⟩
abbrev main_v22_1 : Ref sig .tc := ⟨.hbm, 31, rfl⟩
abbrev main_call1_v2 : Ref sig .tc := ⟨.hbm, 32, rfl⟩
abbrev main_v22_0 : Ref sig .tc := ⟨.hbm, 33, rfl⟩
abbrev main_call1_cst : Ref sig .tc := ⟨.hbm, 34, rfl⟩
abbrev main_v22_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_0 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_1 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_2 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_3 : Ref sig .tc := ⟨.hbm, 66, rfl⟩
abbrev main_v50 : Ref sig .tc := ⟨.hbm, 67, rfl⟩
abbrev main_v51 : Ref sig .tc := ⟨.hbm, 68, rfl⟩
abbrev main_cst_4 : Ref sig .tc := ⟨.hbm, 69, rfl⟩
abbrev main_v52 : Ref sig .tc := ⟨.hbm, 70, rfl⟩
abbrev main_v53 : Ref sig .tc := ⟨.hbm, 71, rfl⟩
abbrev main_call2_cst : Ref sig .tc := ⟨.hbm, 72, rfl⟩
abbrev main_call2_v0 : Ref sig .tc := ⟨.hbm, 73, rfl⟩
abbrev main_v54 : Ref sig .tc := ⟨.hbm, 74, rfl⟩
abbrev main_cst_5 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_6 : Ref sig .tc := ⟨.hbm, 79, rfl⟩
abbrev main_v58 : Ref sig .tc := ⟨.hbm, 80, rfl⟩
abbrev main_v59 : Ref sig .tc := ⟨.hbm, 81, rfl⟩
abbrev main_cst_7 : Ref sig .tc := ⟨.hbm, 82, rfl⟩
abbrev main_v60 : Ref sig .tc := ⟨.hbm, 83, rfl⟩
abbrev main_cst_8 : Ref sig .tc := ⟨.hbm, 84, rfl⟩
abbrev main_v61 : Ref sig .tc := ⟨.hbm, 85, rfl⟩
abbrev main_v62 : Ref sig .tc := ⟨.hbm, 86, rfl⟩
abbrev main_call3_call0_cst : Ref sig .tc := ⟨.hbm, 87, rfl⟩
abbrev main_call3_call0_v0 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== ActGrad.lean ====
abbrev S4096x2048 : Shape := ⟨2, ![4096, 2048]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ActGradRefIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S8192x2048, .f32⟩
  | .hbm, ⟨16, _⟩ => ⟨S4096x2048, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Ff2Dw.lean ====
abbrev S4096x8192 : Shape := ⟨2, ![4096, 8192]⟩
abbrev S4096x2048 : Shape := ⟨2, ![4096, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2DwRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Ff1Dx.lean ====
abbrev S4096x8192 : Shape := ⟨2, ![4096, 8192]⟩
abbrev S4x2048x2048 : Shape := ⟨3, ![4, 2048, 2048]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1DxRefIdeal.lean ====
abbrev S4096x8192 : Shape := ⟨2, ![4096, 8192]⟩
abbrev S4x2048x2048 : Shape := ⟨3, ![4, 2048, 2048]⟩
abbrev S_ : Shape := ⟨0, ![]⟩
abbrev S4096x2048 : Shape := ⟨2, ![4096, 2048]⟩
abbrev S1x2048x2048 : Shape := ⟨3, ![1, 2048, 2048]⟩
abbrev S2048x2048 : Shape := ⟨2, ![2048, 2048]⟩
abbrev S2048x8192 : Shape := ⟨2, ![2048, 8192]⟩

abbrev nBuf : Space → Nat
  | .hbm => 17
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S_, .f32⟩
  | .hbm, ⟨3, _⟩ => ⟨S4096x2048, .f32⟩
  | .hbm, ⟨4, _⟩ => ⟨S4x2048x2048, .f32⟩
  | .hbm, ⟨5, _⟩ => ⟨S1x2048x2048, .f32⟩
  | .hbm, ⟨6, _⟩ => ⟨S2048x2048, .f32⟩
  | .hbm, ⟨7, _⟩ => ⟨S1x2048x2048, .f32⟩
  | .hbm, ⟨8, _⟩ => ⟨S2048x2048, .f32⟩
  | .hbm, ⟨9, _⟩ => ⟨S1x2048x2048, .f32⟩
  | .hbm, ⟨10, _⟩ => ⟨S2048x2048, .f32⟩
  | .hbm, ⟨11, _⟩ => ⟨S1x2048x2048, .f32⟩
  | .hbm, ⟨12, _⟩ => ⟨S2048x2048, .f32⟩
  | .hbm, ⟨13, _⟩ => ⟨S2048x8192, .f32⟩
  | .hbm, ⟨14, _⟩ => ⟨S4096x8192, .f32⟩
  | .hbm, ⟨15, _⟩ => ⟨S4096x8192, .f32⟩
  | .hbm, ⟨16, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Ff1Dw.lean ====
abbrev S4096x2048 : Shape := ⟨2, ![4096, 2048]⟩
abbrev S4096x8192 : Shape := ⟨2, ![4096, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1DwRefIdeal.lean ====
abbrev S4096x2048 : Shape := ⟨2, ![4096, 2048]⟩
abbrev S4096x8192 : Shape := ⟨2, ![4096, 8192]⟩
abbrev S_ : Shape := ⟨0, ![]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S2048x8192 : Shape := ⟨2, ![2048, 8192]⟩
abbrev S8192x2048 : Shape := ⟨2, ![8192, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S4x2048x2048, .f32⟩
  | .hbm, ⟨4, _⟩ => ⟨S4096x2048, .f32⟩
  | .hbm, ⟨5, _⟩ => ⟨S1x2048x2048, .f32⟩
  | .hbm, ⟨6, _⟩ => ⟨S2048x2048, .f32⟩
  | .hbm, ⟨7, _⟩ => ⟨S1x2048x2048, .f32⟩
  | .hbm, ⟨8, _⟩ => ⟨S2048x2048, .f32⟩
  | .hbm, ⟨9, _⟩ => ⟨S1x2048x2048, .f32⟩
  | .hbm, ⟨10, _⟩ => ⟨S2048x2048, .f32⟩
  | .hbm, ⟨11, _⟩ => ⟨S1x2048x2048, .f32⟩
  | .hbm, ⟨12, _⟩ => ⟨S2048x2048, .f32⟩
  | .hbm, ⟨13, _⟩ => ⟨S2048x8192, .f32⟩
  | .hbm, ⟨14, _⟩ => ⟨S4096x8192, .f32⟩
  | .hbm, ⟨15, _⟩ => ⟨S4096x8192, .f32⟩
  | .hbm, ⟨16, _⟩ => ⟨S8192x2048, .f32⟩
  | .hbm, ⟨17, _⟩ => ⟨S2048x8192, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S1x2048x2048, .f32⟩
  | .hbm, ⟨23, _⟩ => ⟨S_, .f32⟩
  | .hbm, ⟨24, _⟩ => ⟨S4x2048x2048, .f32⟩
  | .hbm, ⟨25, _⟩ => ⟨S1x2048x2048, .f32⟩
  | .hbm, ⟨26, _⟩ => ⟨S_, .f32⟩
  | .hbm, ⟨27, _⟩ => ⟨S4x2048x2048, .f32⟩
  | .hbm, ⟨28, _⟩ => ⟨S4x2048x2048, .f32⟩
  | .hbm, ⟨29, _⟩ => ⟨S1x2048x2048, .f32⟩
  | .hbm, ⟨30, _⟩ => ⟨S_, .f32⟩
  | .hbm, ⟨31, _⟩ => ⟨S4x2048x2048, .f32⟩
  | .hbm, ⟨32, _⟩ => ⟨S4x2048x2048, .f32⟩
  | .hbm, ⟨33, _⟩ => ⟨S1x2048x2048, .f32⟩
  | .hbm, ⟨34, _⟩ => ⟨S_, .f32⟩
  | .hbm, ⟨35, _⟩ => ⟨S4x2048x2048, .f32⟩
  | .hbm, ⟨36, _⟩ => ⟨S4x2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== ProjDx.lean ====
abbrev S4096x8192 : Shape := ⟨2, ![4096, 8192]⟩
abbrev S4x2048x2048 : Shape := ⟨3, ![4, 2048, 2048]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjDxRefIdeal.lean ====
abbrev S4096x8192 : Shape := ⟨2, ![4096, 8192]⟩
abbrev S4x2048x2048 : Shape := ⟨3, ![4, 2048, 2048]⟩
abbrev S4096x2048 : Shape := ⟨2, ![4096, 2048]⟩
abbrev S_ : Shape := ⟨0, ![]⟩
abbrev S1x2048x2048 : Shape := ⟨3, ![1, 2048, 2048]⟩
abbrev S2048x2048 : Shape := ⟨2, ![2048, 2048]⟩
abbrev S2048x8192 : Shape := ⟨2, ![2048, 8192]⟩

abbrev nBuf : Space → Nat
  | .hbm => 19
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4x2048x2048, .f32⟩
  | .hbm, ⟨6, _⟩ => ⟨S1x2048x2048, .f32⟩
  | .hbm, ⟨7, _⟩ => ⟨S2048x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S1x2048x2048, .f32⟩
  | .hbm, ⟨13, _⟩ => ⟨S2048x2048, .f32⟩
  | .hbm, ⟨14, _⟩ => ⟨S2048x8192, .f32⟩
  | .hbm, ⟨15, _⟩ => ⟨S4096x8192, .f32⟩
  | .hbm, ⟨16, _⟩ => ⟨S4096x8192, .f32⟩
  | .hbm, ⟨17, _⟩ => ⟨S4096x2048, .f32⟩
  | .hbm, ⟨18, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== OutDx.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Ff1.lean ====
abbrev S4096x2048 : Shape := ⟨2, ![4096, 2048]⟩
abbrev S4x2048x2048 : Shape := ⟨3, ![4, 2048, 2048]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x8192, .f32⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff1RefIdeal.lean ====
abbrev S4096x2048 : Shape := ⟨2, ![4096, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S4096x2048, .f32⟩
  | .hbm, ⟨3, _⟩ => ⟨S4x2048x2048, .f32⟩
  | .hbm, ⟨4, _⟩ => ⟨S1x2048x2048, .f32⟩
  | .hbm, ⟨5, _⟩ => ⟨S2048x2048, .f32⟩
  | .hbm, ⟨6, _⟩ => ⟨S1x2048x2048, .f32⟩
  | .hbm, ⟨7, _⟩ => ⟨S2048x2048, .f32⟩
  | .hbm, ⟨8, _⟩ => ⟨S1x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S2048x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_call0_cst : Ref sig .tc := ⟨.hbm, 14, rfl⟩
abbrev main_call0_v0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Ff2.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff2RefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x8192, .f32⟩
  | .hbm, ⟨4, _⟩ => ⟨S8192x2048, .f32⟩
  | .hbm, ⟨5, _⟩ => ⟨S4096x2048, .f32⟩
  | .hbm, ⟨6, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutProj.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048, .f32⟩
  | .hbm, ⟨4, _⟩ => ⟨S1x2048, .f32⟩
  | .hbm, ⟨5, _⟩ => ⟨S4096x2048, .f32⟩
  | .hbm, ⟨6, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Norm.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Ab.lean ====
abbrev S4096x2048 : Shape := ⟨2, ![4096, 2048]⟩
abbrev S2048x256 : Shape := ⟨2, ![2048, 256]⟩
abbrev S4096x256 : Shape := ⟨2, ![4096, 256]⟩
abbrev S1024x2048 : Shape := ⟨2, ![1024, 2048]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x256, .bf16⟩
  | .hbm, ⟨2, _⟩ => ⟨S4096x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S1024x256, .f32⟩
  | .local _ .vmem, ⟨4, _⟩ => ⟨S1024x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbRefIdeal.lean ====
abbrev S4096x2048 : Shape := ⟨2, ![4096, 2048]⟩
abbrev S2048x256 : Shape := ⟨2, ![2048, 256]⟩
abbrev S4096x256 : Shape := ⟨2, ![4096, 256]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x256, .bf16⟩
  | .hbm, ⟨2, _⟩ => ⟨S4096x2048, .f32⟩
  | .hbm, ⟨3, _⟩ => ⟨S2048x256, .f32⟩
  | .hbm, ⟨4, _⟩ => ⟨S4096x256, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AbDx.lean ====
abbrev S4096x256 : Shape := ⟨2, ![4096, 256]⟩
abbrev S2048x256 : Shape := ⟨2, ![2048, 256]⟩
abbrev S4096x2048 : Shape := ⟨2, ![4096, 2048]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S2048x256, .bf16⟩
  | .hbm, ⟨2, _⟩ => ⟨S4096x2048, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1024, .f32⟩
  | .local _ .vmem, ⟨5, _⟩ => ⟨S1024x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbDxRefIdeal.lean ====
abbrev S4096x256 : Shape := ⟨2, ![4096, 256]⟩
abbrev S2048x256 : Shape := ⟨2, ![2048, 256]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S2048x256, .bf16⟩
  | .hbm, ⟨2, _⟩ => ⟨S_, .f32⟩
  | .hbm, ⟨3, _⟩ => ⟨S4096x2048, .f32⟩
  | .hbm, ⟨4, _⟩ => ⟨S2048x256, .f32⟩
  | .hbm, ⟨5, _⟩ => ⟨S4096x256, .f32⟩
  | .hbm, ⟨6, _⟩ => ⟨S4096x256, .f32⟩
  | .hbm, ⟨7, _⟩ => ⟨S4096x2048, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AbDw.lean ====
abbrev S4096x2048 : Shape := ⟨2, ![4096, 2048]⟩
abbrev S4096x256 : Shape := ⟨2, ![4096, 256]⟩
abbrev S2048x256 : Shape := ⟨2, ![2048, 256]⟩
abbrev S2048x1024 : Shape := ⟨2, ![2048, 1024]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x256, .bf16⟩
  | .hbm, ⟨2, _⟩ => ⟨S2048x256, .f32⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbDwRefIdeal.lean ====
abbrev S4096x2048 : Shape := ⟨2, ![4096, 2048]⟩
abbrev S4096x256 : Shape := ⟨2, ![4096, 256]⟩
abbrev S_ : Shape := ⟨0, ![]⟩
abbrev S2048x256 : Shape := ⟨2, ![2048, 256]⟩
abbrev S256x2048 : Shape := ⟨2, ![256, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x256, .bf16⟩
  | .hbm, ⟨2, _⟩ => ⟨S_, .f32⟩
  | .hbm, ⟨3, _⟩ => ⟨S2048x256, .f32⟩
  | .hbm, ⟨4, _⟩ => ⟨S4096x2048, .f32⟩
  | .hbm, ⟨5, _⟩ => ⟨S4096x256, .f32⟩
  | .hbm, ⟨6, _⟩ => ⟨S4096x256, .f32⟩
  | .hbm, ⟨7, _⟩ => ⟨S256x2048, .f32⟩
  | .hbm, ⟨8, _⟩ => ⟨S2048x256, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDw.lean ====
abbrev S4096x2048 : Shape := ⟨2, ![4096, 2048]⟩
abbrev S4096x8192 : Shape := ⟨2, ![4096, 8192]⟩
abbrev S4x2048x2048 : Shape := ⟨3, ![4, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4096x2048 : Shape := ⟨2, ![4096, 2048]⟩
abbrev S4096x8192 : Shape := ⟨2, ![4096, 8192]⟩
abbrev S_ : Shape := ⟨0, ![]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S2048x8192 : Shape := ⟨2, ![2048, 8192]⟩
abbrev S8192x2048 : Shape := ⟨2, ![8192, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S4x2048x2048, .f32⟩
  | .hbm, ⟨4, _⟩ => ⟨S4096x2048, .f32⟩
  | .hbm, ⟨5, _⟩ => ⟨S1x2048x2048, .f32⟩
  | .hbm, ⟨6, _⟩ => ⟨S2048x2048, .f32⟩
  | .hbm, ⟨7, _⟩ => ⟨S1x2048x2048, .f32⟩
  | .hbm, ⟨8, _⟩ => ⟨S2048x2048, .f32⟩
  | .hbm, ⟨9, _⟩ => ⟨S1x2048x2048, .f32⟩
  | .hbm, ⟨10, _⟩ => ⟨S2048x2048, .f32⟩
  | .hbm, ⟨11, _⟩ => ⟨S1x2048x2048, .f32⟩
  | .hbm, ⟨12, _⟩ => ⟨S2048x2048, .f32⟩
  | .hbm, ⟨13, _⟩ => ⟨S2048x8192, .f32⟩
  | .hbm, ⟨14, _⟩ => ⟨S4096x8192, .f32⟩
  | .hbm, ⟨15, _⟩ => ⟨S4096x8192, .f32⟩
  | .hbm, ⟨16, _⟩ => ⟨S8192x2048, .f32⟩
  | .hbm, ⟨17, _⟩ => ⟨S2048x8192, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S1x2048x2048, .f32⟩
  | .hbm, ⟨23, _⟩ => ⟨S_, .f32⟩
  | .hbm, ⟨24, _⟩ => ⟨S4x2048x2048, .f32⟩
  | .hbm, ⟨25, _⟩ => ⟨S1x2048x2048, .f32⟩
  | .hbm, ⟨26, _⟩ => ⟨S_, .f32⟩
  | .hbm, ⟨27, _⟩ => ⟨S4x2048x2048, .f32⟩
  | .hbm, ⟨28, _⟩ => ⟨S4x2048x2048, .f32⟩
  | .hbm, ⟨29, _⟩ => ⟨S1x2048x2048, .f32⟩
  | .hbm, ⟨30, _⟩ => ⟨S_, .f32⟩
  | .hbm, ⟨31, _⟩ => ⟨S4x2048x2048, .f32⟩
  | .hbm, ⟨32, _⟩ => ⟨S4x2048x2048, .f32⟩
  | .hbm, ⟨33, _⟩ => ⟨S1x2048x2048, .f32⟩
  | .hbm, ⟨34, _⟩ => ⟨S_, .f32⟩
  | .hbm, ⟨35, _⟩ => ⟨S4x2048x2048, .f32⟩
  | .hbm, ⟨36, _⟩ => ⟨S4x2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== LossHead.lean ====
abbrev S4096x2048 : Shape := ⟨2, ![4096, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1x256x2048 : Shape := ⟨3, ![1, 256, 2048]⟩
abbrev S1 : Shape := ⟨1, ![1]⟩
abbrev S1x1x1 : Shape := ⟨3, ![1, 1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S1x128, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x128, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S1x128, .f32⟩
  | .hbm, ⟨72, _⟩ => ⟨S4096x2048, .bf16⟩
  | .hbm, ⟨73, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== NormGrad.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormGradRefIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== GdnGatesGrad.lean ====
abbrev S4096x256 : Shape := ⟨2, ![4096, 256]⟩
abbrev S1x128 : Shape := ⟨2, ![1, 128]⟩
abbrev S4096x128 : Shape := ⟨2, ![4096, 128]⟩
abbrev S512x256 : Shape := ⟨2, ![512, 256]⟩
abbrev S512x128 : Shape := ⟨2, ![512, 128]⟩
abbrev S128 : Shape := ⟨1, ![128]⟩

abbrev nBuf : Space → Nat
  | .hbm => 8
  | .vmem => 12
  | .smem => 0
  | _ => 0

abbrev bufTy : (tb : Table) → Fin (tcTables nBuf tb) → BufTy
  | .hbm, ⟨0, _⟩ => ⟨S4096x256, .f32⟩
  | .hbm, ⟨1, _⟩ => ⟨S1x128, .f32⟩
  | .hbm, ⟨2, _⟩ => ⟨S1x128, .f32⟩
  | .hbm, ⟨3, _⟩ => ⟨S4096x128, .f32⟩
  | .hbm, ⟨4, _⟩ => ⟨S4096x128, .f32⟩
  | .hbm, ⟨5, _⟩ => ⟨S4096x256, .bf16⟩
  | .hbm, ⟨6, _⟩ => ⟨S1x128, .f32⟩
  | .hbm, ⟨7, _⟩ => ⟨S1x128, .f32⟩
  | .local _ .vmem, ⟨0, _⟩ => ⟨S512x256, .f32⟩
  | .local _ .vmem, ⟨1, _⟩ => ⟨S512x256, .f32⟩
  | .local _ .vmem, ⟨2, _⟩ => ⟨S1x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x256, .bf16⟩
  | .local _ .vmem, ⟨9, _⟩ => ⟨S512x256, .bf16⟩
  | .local _ .vmem, ⟨10, _⟩ => ⟨S1x128, .f32⟩
  | .local _ .vmem, ⟨11, _⟩ => ⟨S1x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GdnGatesGradRefIdeal.lean ====
abbrev S4096x256 : Shape := ⟨2, ![4096, 256]⟩
abbrev S1x128 : Shape := ⟨2, ![1, 128]⟩
abbrev S4096x128 : Shape := ⟨2, ![4096, 128]⟩
abbrev S_ : Shape := ⟨0, ![]⟩
abbrev S128 : Shape := ⟨1, ![128]⟩

abbrev nBuf : Space → Nat
  | .hbm => 86
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S1x128, .f32⟩
  | .hbm, ⟨2, _⟩ => ⟨S1x128, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S1x128, .f32⟩
  | .hbm, ⟨8, _⟩ => ⟨S1x128, .f32⟩
  | .hbm, ⟨9, _⟩ => ⟨S4096x128, .f32⟩
  | .hbm, ⟨10, _⟩ => ⟨S4096x128, .f32⟩
  | .hbm, ⟨11, _⟩ => ⟨S_, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .i1⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S_, .f32⟩
  | .hbm, ⟨26, _⟩ => ⟨S4096x128, .f32⟩
  | .hbm, ⟨27, _⟩ => ⟨S4096x128, .i1⟩
  | .hbm, ⟨28, _⟩ => ⟨S_, .f32⟩
  | .hbm, ⟨29, _⟩ => ⟨S4096x128, .f32⟩
  | .hbm, ⟨30, _⟩ => ⟨S4096x128, .f32⟩
  | .hbm, ⟨31, _⟩ => ⟨S_, .f32⟩
  | .hbm, ⟨32, _⟩ => ⟨S4096x128, .f32⟩
  | .hbm, ⟨33, _⟩ => ⟨S4096x128, .i1⟩
  | .hbm, ⟨34, _⟩ => ⟨S_, .f32⟩
  | .hbm, ⟨35, _⟩ => ⟨S4096x128, .f32⟩
  | .hbm, ⟨36, _⟩ => ⟨S4096x128, .f32⟩
  | .hbm, ⟨37, _⟩ => ⟨S4096x128, .f32⟩
  | .hbm, ⟨38, _⟩ => ⟨S4096x128, .f32⟩
  | .hbm, ⟨39, _⟩ => ⟨S_, .f32⟩
  | .hbm, ⟨40, _⟩ => ⟨S_, .f32⟩
  | .hbm, ⟨41, _⟩ => ⟨S_, .i1⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096x128, .f32⟩
  | .hbm, ⟨47, _⟩ => ⟨S4096x128, .i1⟩
  | .hbm, ⟨48, _⟩ => ⟨S_, .f32⟩
  | .hbm, ⟨49, _⟩ => ⟨S4096x128, .f32⟩
  | .hbm, ⟨50, _⟩ => ⟨S4096x128, .f32⟩
  | .hbm, ⟨51, _⟩ => ⟨S4096x128, .f32⟩
  | .hbm, ⟨52, _⟩ => ⟨S4096x128, .f32⟩
  | .hbm, ⟨53, _⟩ => ⟨S4096x128, .f32⟩
  | .hbm, ⟨54, _⟩ => ⟨S_, .f32⟩
  | .hbm, ⟨55, _⟩ => ⟨S4096x128, .f32⟩
  | .hbm, ⟨56, _⟩ => ⟨S4096x128, .f32⟩
  | .hbm, ⟨57, _⟩ => ⟨S4096x128, .f32⟩
  | .hbm, ⟨58, _⟩ => ⟨S4096x128, .f32⟩
  | .hbm, ⟨59, _⟩ => ⟨S4096x128, .f32⟩
  | .hbm, ⟨60, _⟩ => ⟨S4096x128, .f32⟩
  | .hbm, ⟨61, _⟩ => ⟨S_, .f32⟩
  | .hbm, ⟨62, _⟩ => ⟨S4096x128, .f32⟩
  | .hbm, ⟨63, _⟩ => ⟨S4096x128, .f32⟩
  | .hbm, ⟨64, _⟩ => ⟨S_, .f32⟩
  | .hbm, ⟨65, _⟩ => ⟨S4096x128, .f32⟩
  | .hbm, ⟨66, _⟩ => ⟨S4096x128, .f32⟩
  | .hbm, ⟨67, _⟩ => ⟨S_, .f32⟩
  | .hbm, ⟨68, _⟩ => ⟨S4096x128, .f32⟩
  | .hbm, ⟨69, _⟩ => ⟨S4096x128, .f32⟩
  | .hbm, ⟨70, _⟩ => ⟨S4096x128, .f32⟩
  | .hbm, ⟨71, _⟩ => ⟨S4096x128, .f32⟩
  | .hbm, ⟨72, _⟩ => ⟨S4096x128, .f32⟩
  | .hbm, ⟨73, _⟩ => ⟨S4096x128, .f32⟩
  | .hbm, ⟨74, _⟩ => ⟨S4096x128, .f32⟩
  | .hbm, ⟨75, _⟩ => ⟨S_, .f32⟩
  | .hbm, ⟨76, _⟩ => ⟨S128, .f32⟩
  | .hbm, ⟨77, _⟩ => ⟨S1x128, .f32⟩
  | .hbm, ⟨78, _⟩ => ⟨S4096x128, .f32⟩
  | .hbm, ⟨79, _⟩ => ⟨S_, .f32⟩
  | .hbm, ⟨80, _⟩ => ⟨S128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S4096x256, .f32⟩
  | .hbm, ⟨85, _⟩ => ⟨S4096x256, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v6_0 : Ref sig .tc := ⟨.hbm, 24, rfl⟩
abbrev main_call0_cst_0 : Ref sig .tc := ⟨.hbm, 25, rfl⟩
abbrev main_call0_v13 : Ref sig .tc := ⟨.hbm, 26, rfl⟩
abbrev main_call0_v14 : Ref sig .tc := ⟨.hbm, 27, rfl⟩
abbrev main_call0_cst_1 : Ref sig .tc := ⟨.hbm, 28, rfl⟩
abbrev main_call0_v15 : Ref sig .tc := ⟨.hbm, 29, rfl⟩
abbrev main_call0_v16 : Ref sig .tc := ⟨.hbm, 30, rfl⟩
abbrev main_call0_cst_2 : Ref sig .tc := ⟨.hbm, 31, rfl⟩
abbrev main_call0_v17 : Ref sig .tc := ⟨.hbm, 32, rfl⟩
abbrev main_call0_v18 : Ref sig .tc := ⟨.hbm, 33, rfl⟩
abbrev main_call0_cst_3 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_v6_1 : Ref sig .tc := ⟨.hbm, 38, rfl⟩
abbrev main_call0_cst_4 : Ref sig .tc := ⟨.hbm, 39, rfl⟩
abbrev main_call0_cst_5 : Ref sig .tc := ⟨.hbm, 40, rfl⟩
abbrev main_call0_v23 : Ref sig .tc := ⟨.hbm, 41, rfl⟩
abbrev main_call0_cst_6 : Ref sig .tc := ⟨.hbm, 42, rfl⟩
abbrev main_call0_cst_7 : Ref sig .tc := ⟨.hbm, 43, rfl⟩
abbrev main_call0_v24 : Ref sig .tc := ⟨.hbm, 44, rfl⟩
abbrev main_call0_cst_8 : Ref sig .tc := ⟨.hbm, 45, rfl⟩
abbrev main_call0_v25 : Ref sig .tc := ⟨.hbm, 46, rfl⟩
abbrev main_call0_v26 : Ref sig .tc := ⟨.hbm, 47, rfl⟩
abbrev main_call0_cst_9 : Ref sig .tc := ⟨.hbm, 48, rfl⟩
abbrev main_call0_v27 : Ref sig .tc := ⟨.hbm, 49, rfl⟩
abbrev main_call0_v28 : Ref sig .tc := ⟨.hbm, 50, rfl⟩
abbrev main_call0_v29 : Ref sig .tc := ⟨.hbm, 51, rfl⟩
abbrev main_call0_v30 : Ref sig .tc := ⟨.hbm, 52, rfl⟩
abbrev main_call0_v31 : Ref sig .tc := ⟨.hbm, 53, rfl⟩
abbrev main_call0_cst_10 : Ref sig .tc := ⟨.hbm, 54, rfl⟩
abbrev main_call0_v32 : Ref sig .tc := ⟨.hbm, 55, rfl⟩
abbrev main_v6_2 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_cst : Ref sig .tc := ⟨.hbm, 61, rfl⟩
abbrev main_v11 : Ref sig .tc := ⟨.hbm, 62, rfl⟩
abbrev main_v12 : Ref sig .tc := ⟨.hbm, 63, rfl⟩
abbrev main_cst_0 : Ref sig .tc := ⟨.hbm, 64, rfl⟩
abbrev main_v13 : Ref sig .tc := ⟨.hbm, 65, rfl⟩
abbrev main_v14 : Ref sig .tc := ⟨.hbm, 66, rfl⟩
abbrev main_cst_1 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_cst_2 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_cst_3 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩

abbrev nD : Nat := 1
abbrev τ : Topo := Topo.v7x

variable {F : FTy → Type} [FloatOps F]
-- ==== HgrnPrepGrad.lean ====
abbrev S4096x8192 : Shape := ⟨2, ![4096, 8192]⟩
abbrev S2x1024 : Shape := ⟨2, ![2, 1024]⟩
abbrev S4096x1024 : Shape := ⟨2, ![4096, 1024]⟩
abbrev S512x1024 : Shape := ⟨2, ![512, 1024]⟩
abbrev S1x1024 : Shape := ⟨2, ![1, 1024]⟩
abbrev S1024 : Shape := ⟨1, ![1024]⟩

abbrev nBuf : Space → Nat
  | .hbm => 8
  | .vmem => 16
  | .smem => 0
  | _ => 0

abbrev bufTy : (tb : Table) → Fin (tcTables nBuf tb) → BufTy
  | .hbm, ⟨0, _⟩ => ⟨S4096x8192, .f32⟩
  | .hbm, ⟨1, _⟩ => ⟨S2x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S4096x1024, .bf16⟩
  | .hbm, ⟨7, _⟩ => ⟨S2x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S2x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S2x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== HgrnPrepGradRefIdeal.lean ====
abbrev S4096x8192 : Shape := ⟨2, ![4096, 8192]⟩
abbrev S2x1024 : Shape := ⟨2, ![2, 1024]⟩
abbrev S4096x1024 : Shape := ⟨2, ![4096, 1024]⟩
abbrev S_ : Shape := ⟨0, ![]⟩
abbrev S1024 : Shape := ⟨1, ![1024]⟩
abbrev S1x1024 : Shape := ⟨2, ![1, 1024]⟩

abbrev nBuf : Space → Nat
  | .hbm => 154
  | .vmem => 0
  | .smem => 0
  | _ => 0

abbrev hbmTy0_0 (i : Nat) : BufTy := match i % 128 with
  | 0 => ⟨S4096x8192, .f32⟩
  | 1 => ⟨S2x1024, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S_, .f32⟩
  | 8 => ⟨S1024, .f32⟩
  | 9 => ⟨S1x1024, .f32⟩
  | 10 => ⟨S2x1024, .f32⟩
  | 11 => ⟨S2x1024, .i1⟩
  | 12 => ⟨S2x1024, .f32⟩
  | 13 => ⟨S_, .f32⟩
  | 14 => ⟨S1024, .f32⟩
  | 15 => ⟨S_, .f32⟩
  | 16 => ⟨S1024, .f32⟩
  | 17 => ⟨S1024, .f32⟩
  | 18 => ⟨S_, .f32⟩
  | 19 => ⟨S1024, .f32⟩
  | 20 => ⟨S1024, .i1⟩
  | 21 => ⟨S_, .f32⟩
  | 22 => ⟨S1024, .f32⟩
  | 23 => ⟨S1024, .i1⟩
  | 24 => ⟨S_, .f32⟩
  | 25 => ⟨S1024, .f32⟩
  | 26 => ⟨S_, .f32⟩
  | 27 => ⟨S1024, .f32⟩
  | 28 => ⟨S_, .f32⟩
  | 29 => ⟨S1024, .f32⟩
  | 30 => ⟨S1024, .f32⟩
  | 31 => ⟨S1024, .f32⟩
  | 32 => ⟨S1x1024, .f32⟩
  | 33 => ⟨S2x1024, .f32⟩
  | 34 => ⟨S2x1024, .f32⟩
  | 35 => ⟨S2x1024, .f32⟩
  | 36 => ⟨S_, .f32⟩
  | 37 => ⟨S1024, .f32⟩
  | 38 => ⟨S1x1024, .f32⟩
  | 39 => ⟨S2x1024, .f32⟩
  | 40 => ⟨S2x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S1024, .f32⟩
  | 47 => ⟨S_, .f32⟩
  | 48 => ⟨S1024, .f32⟩
  | 49 => ⟨S1024, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S4096x1024, .f32⟩
  | 62 => ⟨S1x1024, .f32⟩
  | 63 => ⟨S4096x1024, .f32⟩
  | 64 => ⟨S4096x1024, .f32⟩
  | 65 => ⟨S1x1024, .f32⟩
  | 66 => ⟨S4096x1024, .f32⟩
  | 67 => ⟨S4096x1024, .f32⟩
  | 68 => ⟨S4096x1024, .f32⟩
  | 69 => ⟨S4096x1024, .f32⟩
  | 70 => ⟨S_, .f32⟩
  | 71 => ⟨S4096x1024, .f32⟩
  | 72 => ⟨S4096x1024, .f32⟩
  | 73 => ⟨S_, .f32⟩
  | 74 => ⟨S4096x1024, .f32⟩
  | 75 => ⟨S4096x1024, .f32⟩
  | 76 => ⟨S_, .f32⟩
  | 77 => ⟨S4096x1024, .f32⟩
  | 78 => ⟨S4096x1024, .f32⟩
  | 79 => ⟨S4096x1024, .f32⟩
  | 80 => ⟨S4096x1024, .f32⟩
  | 81 => ⟨S_, .f32⟩
  | 82 => ⟨S1024, .f32⟩
  | 83 => ⟨S1024, .f32⟩
  | 84 => ⟨S4096x1024, .f32⟩
  | 85 => ⟨S4096x1024, .f32⟩
  | 86 => ⟨S4096x1024, .f32⟩
  | 87 => ⟨S_, .f32⟩
  | 88 => ⟨S4096x1024, .f32⟩
  | 89 => ⟨S4096x1024, .f32⟩
  | 90 => ⟨S_, .f32⟩
  | 91 => ⟨S4096x1024, .f32⟩
  | 92 => ⟨S4096x1024, .f32⟩
  | 93 => ⟨S_, .f32⟩
  | 94 => ⟨S4096x1024, .f32⟩
  | 95 => ⟨S4096x1024, .f32⟩
  | 96 => ⟨S4096x1024, .f32⟩
  | 97 => ⟨S1x1024, .f32⟩
  | 98 => ⟨S4096x1024, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S_, .f32⟩
  | 106 => ⟨S1024, .f32⟩
  | 107 => ⟨S1x1024, .f32⟩
  | 108 => ⟨S_, .f32⟩
  | 109 => ⟨S1024, .f32⟩
  | 110 => ⟨S4096x1024, .f32⟩
  | 111 => ⟨S4096x1024, .f32⟩
  | 112 => ⟨S1024, .f32⟩
  | 113 => ⟨S4096x1024, .f32⟩
  | 114 => ⟨S4096x1024, .f32⟩
  | 115 => ⟨S4096x1024, .f32⟩
  | 116 => ⟨S4096x1024, .f32⟩
  | 117 => ⟨S_, .f32⟩
  | 118 => ⟨S1024, .f32⟩
  | 119 => ⟨S1x1024, .f32⟩
  | 120 => ⟨S_, .f32⟩
  | 121 => ⟨S1024, .f32⟩
  | 122 => ⟨S1024, .f32⟩
  | 123 => ⟨S4096x1024, .f32⟩
  | 124 => ⟨S4096x1024, .f32⟩
  | 125 => ⟨S4096x1024, .f32⟩
  | 126 => ⟨S_, .f32⟩
  | 127 => ⟨S1024, .f32⟩
  | _ => ⟨S4096x8192, .f32⟩

abbrev hbmTy0_1 (i : Nat) : BufTy := match i % 128 with
  | 0 => ⟨S1x1024, .f32⟩
  | 1 => ⟨S_, .f32⟩
  | 2 => ⟨S1024, .f32⟩
  | 3 => ⟨S4096x1024, .f32⟩
  | 4 => ⟨S4096x1024, .f32⟩
  | 5 => ⟨S1024, .f32⟩
  | 6 => ⟨S1024, .f32⟩
  | 7 => ⟨S1x1024, .f32⟩
  | 8 => ⟨S_, .f32⟩
  | 9 => ⟨S2x1024, .f32⟩
  | 10 => ⟨S2x1024, .f32⟩
  | 11 => ⟨S2x1024, .f32⟩
  | 12 => ⟨S2x1024, .f32⟩
  | 13 => ⟨S_, .f32⟩
  | 14 => ⟨S1024, .f32⟩
  | 15 => ⟨S1x1024, .f32⟩
  | 16 => ⟨S1x1024, .f32⟩
  | 17 => ⟨S2x1024, .f32⟩
  | 18 => ⟨S2x1024, .f32⟩
  | 19 => ⟨S_, .f32⟩
  | 20 => ⟨S1024, .f32⟩
  | 21 => ⟨S2x1024, .f32⟩
  | 22 => ⟨S2x1024, .f32⟩
  | 23 => ⟨S2x1024, .f32⟩
  | 24 => ⟨S4096x1024, .bf16⟩
  | 25 => ⟨S4096x1024, .bf16⟩
  | _ => ⟨S4096x8192, .f32⟩

abbrev hbmTy (i : Nat) : BufTy := match i / 128 with
  | 0 => hbmTy0_0 i
  | 1 => hbmTy0_1 i
  | _ => ⟨S4096x8192, .f32⟩

abbrev bufTy : (tb : Table) → Fin (tcTables nBuf tb) → BufTy
  | .hbm, ⟨i, _⟩ => hbmTy i
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_cst_6 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_v49_2 : Ref sig .tc := ⟨.hbm, 75, rfl⟩
abbrev main_call0_cst_1 : Ref sig .tc := ⟨.hbm, 76, rfl⟩
abbrev main_call0_v6 : Ref sig .tc := ⟨.hbm, 77, rfl⟩
abbrev main_call0_v7 : Ref sig .tc := ⟨.hbm, 78, rfl⟩
abbrev main_v49_1 : Ref sig .tc := ⟨.hbm, 79, rfl⟩
abbrev main_v49_0 : Ref sig .tc := ⟨.hbm, 80, rfl⟩
abbrev main_cst_13 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_14 : Ref sig .tc := ⟨.hbm, 87, rfl⟩
abbrev main_v55 : Ref sig .tc := ⟨.hbm, 88, rfl⟩
abbrev main_v56 : Ref sig .tc := ⟨.hbm, 89, rfl⟩
abbrev main_cst_15 : Ref sig .tc := ⟨.hbm, 90, rfl⟩
abbrev main_v57 : Ref sig .tc := ⟨.hbm, 91, rfl⟩
abbrev main_v58 : Ref sig .tc := ⟨.hbm, 92, rfl⟩
abbrev main_cst_16 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_17 : Ref sig .tc := ⟨.hbm, 105, rfl⟩
abbrev main_v70 : Ref sig .tc := ⟨.hbm, 106, rfl⟩
abbrev main_v71 : Ref sig .tc := ⟨.hbm, 107, rfl⟩
abbrev main_cst_18 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_call1_v0 : Ref sig .tc := ⟨.hbm, 113, rfl⟩
abbrev main_call1_v1 : Ref sig .tc := ⟨.hbm, 114, rfl⟩
abbrev main_call1_v2 : Ref sig .tc := ⟨.hbm, 115, rfl⟩
abbrev main_v76 : Ref sig .tc := ⟨.hbm, 116, rfl⟩
abbrev main_cst_19 : Ref sig .tc := ⟨.hbm, 117, rfl⟩
abbrev main_v77 : Ref sig .tc := ⟨.hbm, 118, rfl⟩
abbrev main_v78 : Ref sig .tc := ⟨.hbm, 119, rfl⟩
abbrev main_cst_20 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_21 : Ref sig .tc := ⟨.hbm, 126, rfl⟩
abbrev main_v84 : Ref sig .tc := ⟨.hbm, 127, rfl⟩
abbrev main_v85 : Ref sig .tc := ⟨.hbm, 128, rfl⟩
abbrev main_cst_22 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_23 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_24 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_25 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩

abbrev nD : Nat := 1
abbrev τ : Topo := Topo.v7x

variable {F : FTy → Type} [FloatOps F]
-- ==== AdamSmall.lean ====
abbrev S96x128 : Shape := ⟨2, ![96, 128]⟩

abbrev nBuf : Space → Nat
  | .hbm => 7
  | .vmem => 7
  | .smem => 0
  | _ => 0

abbrev bufTy : (tb : Table) → Fin (tcTables nBuf tb) → BufTy
  | .hbm, ⟨0, _⟩ => ⟨S96x128, .f32⟩
  | .hbm, ⟨1, _⟩ => ⟨S96x128, .f32⟩
  | .hbm, ⟨2, _⟩ => ⟨S96x128, .f32⟩
  | .hbm, ⟨3, _⟩ => ⟨S96x128, .f32⟩
  | .hbm, ⟨4, _⟩ => ⟨S96x128, .f32⟩
  | .hbm, ⟨5, _⟩ => ⟨S96x128, .f32⟩
  | .hbm, ⟨6, _⟩ => ⟨S96x128, .f32⟩
  | .local _ .vmem, ⟨0, _⟩ => ⟨S96x128, .f32⟩
  | .local _ .vmem, ⟨1, _⟩ => ⟨S96x128, .f32⟩
  | .local _ .vmem, ⟨2, _⟩ => ⟨S96x128, .f32⟩
  | .local _ .vmem, ⟨3, _⟩ => ⟨S96x128, .f32⟩
  | .local _ .vmem, ⟨4, _⟩ => ⟨S96x128, .f32⟩
  | .local _ .vmem, ⟨5, _⟩ => ⟨S96x128, .f32⟩
  | .local _ .vmem, ⟨6, _⟩ => ⟨S96x128, .f32⟩
  | _, _ => ⟨S96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S96x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S96x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallIdeal.lean ====
variable {F : FTy → Type} [FloatOps F] [Named F]
def κ : String → Option EReal := fun
  | "scale_m" => some ((8388608 / 5463681 : ℝ) : EReal)
  | "scale_v" => some ((268435456 / 2672307 : ℝ) : EReal)
  | _ => none
-- ==== AdamSmallRefIdeal.lean ====
abbrev S96x128 : Shape := ⟨2, ![96, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S96x128, .f32⟩
  | .hbm, ⟨1, _⟩ => ⟨S96x128, .f32⟩
  | .hbm, ⟨2, _⟩ => ⟨S96x128, .f32⟩
  | .hbm, ⟨3, _⟩ => ⟨S96x128, .f32⟩
  | .hbm, ⟨4, _⟩ => ⟨S_, .f32⟩
  | .hbm, ⟨5, _⟩ => ⟨S96x128, .f32⟩
  | .hbm, ⟨6, _⟩ => ⟨S96x128, .f32⟩
  | .hbm, ⟨7, _⟩ => ⟨S_, .f32⟩
  | .hbm, ⟨8, _⟩ => ⟨S96x128, .f32⟩
  | .hbm, ⟨9, _⟩ => ⟨S96x128, .f32⟩
  | .hbm, ⟨10, _⟩ => ⟨S96x128, .f32⟩
  | .hbm, ⟨11, _⟩ => ⟨S_, .f32⟩
  | .hbm, ⟨12, _⟩ => ⟨S96x128, .f32⟩
  | .hbm, ⟨13, _⟩ => ⟨S96x128, .f32⟩
  | .hbm, ⟨14, _⟩ => ⟨S96x128, .f32⟩
  | .hbm, ⟨15, _⟩ => ⟨S_, .f32⟩
  | .hbm, ⟨16, _⟩ => ⟨S96x128, .f32⟩
  | .hbm, ⟨17, _⟩ => ⟨S96x128, .f32⟩
  | .hbm, ⟨18, _⟩ => ⟨S96x128, .f32⟩
  | .hbm, ⟨19, _⟩ => ⟨S_, .f32⟩
  | .hbm, ⟨20, _⟩ => ⟨S96x128, .f32⟩
  | .hbm, ⟨21, _⟩ => ⟨S96x128, .f32⟩
  | .hbm, ⟨22, _⟩ => ⟨S_, .f32⟩
  | .hbm, ⟨23, _⟩ => ⟨S96x128, .f32⟩
  | .hbm, ⟨24, _⟩ => ⟨S96x128, .f32⟩
  | .hbm, ⟨25, _⟩ => ⟨S96x128, .f32⟩
  | .hbm, ⟨26, _⟩ => ⟨S_, .f32⟩
  | .hbm, ⟨27, _⟩ => ⟨S96x128, .f32⟩
  | .hbm, ⟨28, _⟩ => ⟨S96x128, .f32⟩
  | .hbm, ⟨29, _⟩ => ⟨S96x128, .f32⟩
  | .hbm, ⟨30, _⟩ => ⟨S_, .f32⟩
  | .hbm, ⟨31, _⟩ => ⟨S96x128, .f32⟩
  | .hbm, ⟨32, _⟩ => ⟨S96x128, .f32⟩
  | .hbm, ⟨33, _⟩ => ⟨S96x128, .f32⟩
  | .hbm, ⟨34, _⟩ => ⟨S_, .f32⟩
  | .hbm, ⟨35, _⟩ => ⟨S96x128, .f32⟩
  | .hbm, ⟨36, _⟩ => ⟨S96x128, .f32⟩
  | _, _ => ⟨S96x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S2052x1x2048 : Shape := ⟨3, ![2052, 1, 2048]⟩
abbrev S27x1x2048 : Shape := ⟨3, ![27, 1, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2052x1x2048, .f32⟩
  | .hbm, ⟨1, _⟩ => ⟨S2052x1x2048, .f32⟩
  | .hbm, ⟨2, _⟩ => ⟨S2052x1x2048, .f32⟩
  | .hbm, ⟨3, _⟩ => ⟨S2052x1x2048, .f32⟩
  | .hbm, ⟨4, _⟩ => ⟨S2052x1x2048, .f32⟩
  | .hbm, ⟨5, _⟩ => ⟨S2052x1x2048, .f32⟩
  | .hbm, ⟨6, _⟩ => ⟨S2052x1x2048, .f32⟩
  | .local _ .vmem, ⟨0, _⟩ => ⟨S27x1x2048, .f32⟩
  | .local _ .vmem, ⟨1, _⟩ => ⟨S27x1x2048, .f32⟩
  | .local _ .vmem, ⟨2, _⟩ => ⟨S27x1x2048, .f32⟩
  | .local _ .vmem, ⟨3, _⟩ => ⟨S27x1x2048, .f32⟩
  | .local _ .vmem, ⟨4, _⟩ => ⟨S27x1x2048, .f32⟩
  | .local _ .vmem, ⟨5, _⟩ => ⟨S27x1x2048, .f32⟩
  | .local _ .vmem, ⟨6, _⟩ => ⟨S27x1x2048, .f32⟩
  | .local _ .vmem, ⟨7, _⟩ => ⟨S27x1x2048, .f32⟩
  | .local _ .vmem, ⟨8, _⟩ => ⟨S27x1x2048, .f32⟩
  | .local _ .vmem, ⟨9, _⟩ => ⟨S27x1x2048, .f32⟩
  | .local _ .vmem, ⟨10, _⟩ => ⟨S27x1x2048, .f32⟩
  | .local _ .vmem, ⟨11, _⟩ => ⟨S27x1x2048, .f32⟩
  | .local _ .vmem, ⟨12, _⟩ => ⟨S27x1x2048, .f32⟩
  | .local _ .vmem, ⟨13, _⟩ => ⟨S27x1x2048, .f32⟩
  | _, _ => ⟨S2052x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![76], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S27x1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S27x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S27x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S27x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S27x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S27x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S27x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
variable {F : FTy → Type} [FloatOps F] [Named F]
def κ : String → Option EReal := fun
  | "scale_m" => some ((8388608 / 5463681 : ℝ) : EReal)
  | "scale_v" => some ((268435456 / 2672307 : ℝ) : EReal)
  | _ => none
-- ==== AdamInRefIdeal.lean ====
abbrev S2052x1x2048 : Shape := ⟨3, ![2052, 1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2052x1x2048, .f32⟩
  | .hbm, ⟨1, _⟩ => ⟨S2052x1x2048, .f32⟩
  | .hbm, ⟨2, _⟩ => ⟨S2052x1x2048, .f32⟩
  | .hbm, ⟨3, _⟩ => ⟨S2052x1x2048, .f32⟩
  | .hbm, ⟨4, _⟩ => ⟨S_, .f32⟩
  | .hbm, ⟨5, _⟩ => ⟨S2052x1x2048, .f32⟩
  | .hbm, ⟨6, _⟩ => ⟨S2052x1x2048, .f32⟩
  | .hbm, ⟨7, _⟩ => ⟨S_, .f32⟩
  | .hbm, ⟨8, _⟩ => ⟨S2052x1x2048, .f32⟩
  | .hbm, ⟨9, _⟩ => ⟨S2052x1x2048, .f32⟩
  | .hbm, ⟨10, _⟩ => ⟨S2052x1x2048, .f32⟩
  | .hbm, ⟨11, _⟩ => ⟨S_, .f32⟩
  | .hbm, ⟨12, _⟩ => ⟨S2052x1x2048, .f32⟩
  | .hbm, ⟨13, _⟩ => ⟨S2052x1x2048, .f32⟩
  | .hbm, ⟨14, _⟩ => ⟨S2052x1x2048, .f32⟩
  | .hbm, ⟨15, _⟩ => ⟨S_, .f32⟩
  | .hbm, ⟨16, _⟩ => ⟨S2052x1x2048, .f32⟩
  | .hbm, ⟨17, _⟩ => ⟨S2052x1x2048, .f32⟩
  | .hbm, ⟨18, _⟩ => ⟨S2052x1x2048, .f32⟩
  | .hbm, ⟨19, _⟩ => ⟨S_, .f32⟩
  | .hbm, ⟨20, _⟩ => ⟨S2052x1x2048, .f32⟩
  | .hbm, ⟨21, _⟩ => ⟨S2052x1x2048, .f32⟩
  | .hbm, ⟨22, _⟩ => ⟨S_, .f32⟩
  | .hbm, ⟨23, _⟩ => ⟨S2052x1x2048, .f32⟩
  | .hbm, ⟨24, _⟩ => ⟨S2052x1x2048, .f32⟩
  | .hbm, ⟨25, _⟩ => ⟨S2052x1x2048, .f32⟩
  | .hbm, ⟨26, _⟩ => ⟨S_, .f32⟩
  | .hbm, ⟨27, _⟩ => ⟨S2052x1x2048, .f32⟩
  | .hbm, ⟨28, _⟩ => ⟨S2052x1x2048, .f32⟩
  | .hbm, ⟨29, _⟩ => ⟨S2052x1x2048, .f32⟩
  | .hbm, ⟨30, _⟩ => ⟨S_, .f32⟩
  | .hbm, ⟨31, _⟩ => ⟨S2052x1x2048, .f32⟩
  | .hbm, ⟨32, _⟩ => ⟨S2052x1x2048, .f32⟩
  | .hbm, ⟨33, _⟩ => ⟨S2052x1x2048, .f32⟩
  | .hbm, ⟨34, _⟩ => ⟨S_, .f32⟩
  | .hbm, ⟨35, _⟩ => ⟨S2052x1x2048, .f32⟩
  | .hbm, ⟨36, _⟩ => ⟨S2052x1x2048, .f32⟩
  | _, _ => ⟨S2052x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.KernelFrame.lean ====
/- The frame of the kernel at the machine's own floats. The two programs have the same text, so the run proved once, at any
   float values, gives it. -/
module

public import proofs.«01_k».proof.Defs
public import proofs.«01_k».proof.Proof.Gen.Kernel
public import proofs.«01_k».proof.Proof.Gen.KernelIdeal.Frame

@[expose] public section

noncomputable section

namespace Hgrn

open Idealize.ShloMosaic Idealize.ShloMosaic.Tactic Idealize.SL.Sem Cert.KernelIdeal.Gen

/-- The kernel runs, leaves its arguments as they were, and every counter ends at zero. -/
theorem frame_kernel : Cert.quiescent_Kernel (hKernel := Cert.Kernel.Gen.facts) :=
  fun m ρ _ => by
    refine cast ?_ (Cert.KernelIdeal.Gen.frame (F := Bits) m ρ)
    sl_kernel_rfl

end Hgrn

end
-- ==== Proof.Blocks.lean ====
/- The blocks that a grid point reads, as parts of the argument arrays. -/
module

public import proofs.«01_k».proof.Proof.Gen.KernelIdeal.Frame.Runs

public import Idealize.ShloMosaic.Lib.Pipeline.ValueKit

@[expose] public section

set_option maxRecDepth 16384

noncomputable section

namespace Hgrn

open Idealize.ShloMosaic Idealize.ShloMosaic.TcCoe Idealize.ShloMosaic.Tactic Idealize.SL Cert.KernelIdeal Cert.KernelIdeal.Gen

variable {F : FTy → Type} [FloatOps F]
variable (m : (ℓ : Loc nD τ sig) → Buf (Elt F) ℓ) (c : Dev nD)

theorem index_0 : ∀ t : Fin cfg0.N, win0_0.index t = ![31 - t.val, 0] := (by decide +kernel : ∀ t : Fin grid0.N, win0_0.index t = ![31 - t.val, 0])
theorem index_1 : ∀ t : Fin cfg0.N, win0_1.index t = ![31 - t.val, 0] := (by decide +kernel : ∀ t : Fin grid0.N, win0_1.index t = ![31 - t.val, 0])
theorem index_2 : ∀ t : Fin cfg0.N, win0_2.index t = ![31 - t.val, 6] := (by decide +kernel : ∀ t : Fin grid0.N, win0_2.index t = ![31 - t.val, 6])
theorem index_3 : ∀ t : Fin cfg0.N, win0_3.index t = ![31 - t.val, 0] := (by decide +kernel : ∀ t : Fin grid0.N, win0_3.index t = ![31 - t.val, 0])
theorem index_4 : ∀ t : Fin cfg0.N, win0_4.index t = ![0, 31 - t.val, 0, 0] := (by decide +kernel : ∀ t : Fin grid0.N, win0_4.index t = ![0, 31 - t.val, 0, 0])
theorem index_5 : ∀ t : Fin cfg0.N, win0_5.index t = ![31 - t.val, 1] := (by decide +kernel : ∀ t : Fin grid0.N, win0_5.index t = ![31 - t.val, 1])

/-- The array's row of the block's row `a` at point `t`. -/
def row (t : Fin cfg0.N) (a : Fin 128) : Fin 4096 := ⟨128 * (31 - t.val) + a.val, by omega⟩

theorem iblk_0 (t : Fin cfg0.N) (a : Fin 128) (b : Fin 1024) :
    iblk m c 0 t (ix2 a b) = m ((c : Thread nD τ).loc main_arg0) (ix2 (row t a) b) := by
  rw [← V_main_arg0 m c]
  blk_ext [iblk, row, index_0 t]

theorem iblk_1 (t : Fin cfg0.N) (a : Fin 128) (b : Fin 1024) :
    iblk m c 1 t (ix2 a b) = m ((c : Thread nD τ).loc main_arg1) (ix2 (row t a) b) := by
  rw [← V_main_arg1 m c]
  blk_ext [iblk, row, index_1 t]

theorem iblk_2 (t : Fin cfg0.N) (a : Fin 128) (b : Fin 1024) :
    iblk m c 2 t (ix2 a b) = m ((c : Thread nD τ).loc main_arg2) (ix2 (row t a) ⟨6144 + b.val, by omega⟩) := by
  rw [← V_main_arg2 m c]
  blk_ext [iblk, row, index_2 t]

theorem iblk_3 (t : Fin cfg0.N) (a : Fin 128) (b : Fin 1024) :
    iblk m c 3 t (ix2 a b) = m ((c : Thread nD τ).loc main_arg3) (ix2 (row t a) b) := by
  rw [← V_main_arg3 m c]
  blk_ext [iblk, row, index_3 t]

theorem iblk_4 (t : Fin cfg0.N) (h : Fin 8) (e d : Fin 128) :
    iblk m c 4 t (ix4 h 0 e d) = V m c main_v32 (ix4 h ⟨31 - t.val, by omega⟩ e d) := by
  blk_ext [iblk, row, index_4 t]

theorem iblk_5 (t : Fin cfg0.N) (a : Fin 128) (b : Fin 1024) :
    iblk m c 5 t (ix2 a b) = m ((c : Thread nD τ).loc main_arg4) (ix2 (row t a) ⟨1024 + b.val, by omega⟩) := by
  rw [← V_main_arg4 m c]
  blk_ext [iblk, row, index_5 t]

end Hgrn

end
-- ==== Proof.Head.lean ====
/- One head's part of one grid point of the backward kernel, as functions of the blocks it reads: the queries `q`, keys `k`,
   values `v`, logarithms of the forget gates `lf`, the state `s` before the chunk, the gradient `g` of the chunk's output
   and the gradient `ds` of the state after the chunk. `dqOf`, `dkOf`, `dvOf`, `dlfOf` and `dsOf` are what the point stores
   for the head; each of the eight heads of the kernel's body computes these functions of its own blocks. -/
module

public import Idealize.ShloMosaic.PureOps

@[expose] public section

noncomputable section

namespace Hgrn

open Idealize.ShloMosaic

abbrev Sq : Shape := ⟨2, ![128, 128]⟩
abbrev Sub : Shape := ⟨2, ![16, 128]⟩
abbrev Row : Shape := ⟨2, ![1, 128]⟩
abbrev Lane : Shape := ⟨1, ![128]⟩

theorem iota0 : Sq.Iotas .tc 32 [0] := by decide
theorem iota1 : Sq.Iotas .tc 32 [1] := by decide
theorem rotates : Sq.Rotates 0 none := by decide
theorem reduces : Sq.Reduces [0] Lane := by decide
theorem reducesSub : Sub.Reduces [0] Lane := by decide
theorem castLane : Lane.ShapeCasts Row := by decide
theorem castRow : Row.ShapeCasts Row := by decide
theorem spreads : Row.Broadcasts Sq := by decide
theorem narrower : FTy.bits .bf16 < FTy.bits .f32 := by decide
theorem slices : ∀ x : Fin 8, Sq.Slices ![16 * x.val, 0] Sub := by decide
theorem piles : Shape.Concatenates [Sub, Sub, Sub, Sub, Sub, Sub, Sub, Sub] Sq 0 := by decide

/-- `l · rᵀ` of a sub-block's rows with a chunk's. -/
def subNT : DotDims Sub Sq Sub where
  lhsContracting := [1]
  rhsContracting := [1]
  lhsNonContracting := [0]
  rhsNonContracting := [0]
  lhsBatch := []
  rhsBatch := []
  wf := by decide

/-- `l · r` of a sub-block's rows with a chunk's. -/
def subNN : DotDims Sub Sq Sub where
  lhsContracting := [1]
  rhsContracting := [0]
  lhsNonContracting := [0]
  rhsNonContracting := [1]
  lhsBatch := []
  rhsBatch := []
  wf := by decide

/-- `lᵀ · r` of a sub-block's rows. -/
def subTN : DotDims Sub Sub Sq where
  lhsContracting := [0]
  rhsContracting := [0]
  lhsNonContracting := [1]
  rhsNonContracting := [1]
  lhsBatch := []
  rhsBatch := []
  wf := by decide

def dotNT : DotDims Sq Sq Sq where
  lhsContracting := [1]
  rhsContracting := [1]
  lhsNonContracting := [0]
  rhsNonContracting := [0]
  lhsBatch := []
  rhsBatch := []
  wf := by decide

def dotNN : DotDims Sq Sq Sq where
  lhsContracting := [1]
  rhsContracting := [0]
  lhsNonContracting := [0]
  rhsNonContracting := [1]
  lhsBatch := []
  rhsBatch := []
  wf := by decide

def dotTN : DotDims Sq Sq Sq where
  lhsContracting := [0]
  rhsContracting := [0]
  lhsNonContracting := [1]
  rhsNonContracting := [1]
  lhsBatch := []
  rhsBatch := []
  wf := by decide

variable {F : FTy → Type} [FloatOps F]

/-! ## Rows and their sums -/

def rows : IVec Sq 32 := iota .tc Sq 32 [0] iota0
def cols : IVec Sq 32 := iota .tc Sq 32 [1] iota1
def zeros : FVec F Sq .f32 := broadcast Sq (Scalar.ofBits .f32 0x00000000#32)
def spread (r : FVec F Row .f32) : FVec F Sq .f32 := broadcastTo Sq r spreads

/-- One doubling step of the running sum of rows. -/
def shiftAdd (n : BitVec 32) (x : FVec F Sq .f32) : FVec F Sq .f32 :=
  addf x (select (cmpi .sge rows (broadcast Sq n)) (dynamicRotate 0 n none x rotates) zeros)

/-- The running sum of rows, in seven doubling steps. -/
def cumRows (x : FVec F Sq .f32) : FVec F Sq .f32 :=
  shiftAdd 64#32 (shiftAdd 32#32 (shiftAdd 16#32 (shiftAdd 8#32 (shiftAdd 4#32 (shiftAdd 2#32 (shiftAdd 1#32 x))))))

def sumRows (x : FVec F Sq .f32) : FVec F Row .f32 :=
  shapeCast Row (multiReduction .add [0] Lane x 0x00000000#32 reduces (.inl rfl) rfl) castLane

def sumSubRows (x : FVec F Sub .f32) : FVec F Row .f32 :=
  shapeCast Row (multiReduction .add [0] Lane x 0x00000000#32 reducesSub (.inl rfl) rfl) castLane

/-- Eight sub-blocks' rows, one below the other. -/
def stack (f : Fin 8 → FVec F Sub .f32) : FVec F Sq .f32 :=
  concatenate Sq 0 [⟨Sub, f 0⟩, ⟨Sub, f 1⟩, ⟨Sub, f 2⟩, ⟨Sub, f 3⟩, ⟨Sub, f 4⟩, ⟨Sub, f 5⟩, ⟨Sub, f 6⟩, ⟨Sub, f 7⟩] piles

/-- Sub-block `x`'s rows. -/
def cut (x : Fin 8) (y : FVec F Sq .f32) : FVec F Sub .f32 := extractStridedSlice Sub ![16 * x.val, 0] y (slices x)

/-- The rows at and above the diagonal's row, `0` elsewhere. -/
def causal (a : FVec F Sq .f32) : FVec F Sq .f32 := select (cmpi .sge rows cols) a zeros

/-! ## Products, of operands rounded to bf16 -/

def mulSubNT (a : FVec F Sub .f32) (b : FVec F Sq .f32) : FVec F Sub .f32 :=
  matmul subNT none (truncf .bf16 a narrower) (truncf .bf16 b narrower) (constant Sub .f32 0x00000000#32)
def mulSubNN (a : FVec F Sub .f32) (b : FVec F Sq .f32) : FVec F Sub .f32 :=
  matmul subNN none (truncf .bf16 a narrower) (truncf .bf16 b narrower) (constant Sub .f32 0x00000000#32)
def mulSubTN (a b : FVec F Sub .f32) : FVec F Sq .f32 :=
  matmul subTN none (truncf .bf16 a narrower) (truncf .bf16 b narrower) (constant Sq .f32 0x00000000#32)
def mulNT (a b : FVec F Sq .f32) : FVec F Sq .f32 :=
  matmul dotNT none (truncf .bf16 a narrower) (truncf .bf16 b narrower) (constant Sq .f32 0x00000000#32)
def mulNN (a b : FVec F Sq .f32) : FVec F Sq .f32 :=
  matmul dotNN none (truncf .bf16 a narrower) (truncf .bf16 b narrower) (constant Sq .f32 0x00000000#32)
def mulTN (a b : FVec F Sq .f32) : FVec F Sq .f32 :=
  matmul dotTN none (truncf .bf16 a narrower) (truncf .bf16 b narrower) (constant Sq .f32 0x00000000#32)

/-! ## The chunk's factors -/

/-- The sum of the rows before row `n`. -/
def before (n : BitVec 32) (lf : FVec F Sq .f32) : FVec F Row .f32 :=
  sumRows (select (cmpi .slt rows (broadcast Sq n)) lf zeros)

def startWord (x : Fin 8) : BitVec 32 := BitVec.ofNat 32 (16 * x.val)
def endWord (x : Fin 8) : BitVec 32 := BitVec.ofNat 32 (16 * x.val + 16)

def qSub (x : Fin 8) (q lf : FVec F Sq .f32) : FVec F Sub .f32 :=
  cut x (mulf q (exp (minimumf (subf (cumRows lf) (spread (before (startWord x) lf))) zeros)))

def kFac (x : Fin 8) (lf : FVec F Sq .f32) : FVec F Sq .f32 :=
  select (cmpi .slt rows (broadcast Sq (endWord x)))
    (exp (minimumf (subf (spread (before (startWord x) lf)) (cumRows lf)) (broadcast Sq (Scalar.ofBits .f32 0x42A00000#32)))) zeros

def kSub (x : Fin 8) (k lf : FVec F Sq .f32) : FVec F Sq .f32 := mulf k (kFac x lf)

def attn (q k lf : FVec F Sq .f32) : FVec F Sq .f32 :=
  causal (stack fun x => mulSubNT (qSub x q lf) (kSub x k lf))

def decay (lf : FVec F Sq .f32) : FVec F Sq .f32 := exp (cumRows lf)
def toEnd (lf : FVec F Sq .f32) : FVec F Sq .f32 := exp (subf (spread (sumRows lf)) (cumRows lf))
def whole (lf : FVec F Sq .f32) : FVec F Row .f32 := exp (sumRows lf)

/-! ## The backward pass -/

def dAttn (v g : FVec F Sq .f32) : FVec F Sq .f32 := causal (mulNT g v)

def dqSub (x : Fin 8) (k v lf g : FVec F Sq .f32) : FVec F Sub .f32 := mulSubNN (cut x (dAttn v g)) (kSub x k lf)
def dkSub (x : Fin 8) (q v lf g : FVec F Sq .f32) : FVec F Sq .f32 := mulSubTN (cut x (dAttn v g)) (qSub x q lf)
def qdq (x : Fin 8) (q k v lf g : FVec F Sq .f32) : FVec F Sub .f32 := mulf (dqSub x k v lf g) (qSub x q lf)
def kdk (x : Fin 8) (q k v lf g : FVec F Sq .f32) : FVec F Sq .f32 := mulf (dkSub x q v lf g) (kSub x k lf)

/-- What the later chunks' gradient gives `k · dk`. -/
def endOf (k v lf ds : FVec F Sq .f32) : FVec F Sq .f32 := mulf (mulNN v ds) (mulf k (toEnd lf))

/-- A row added at one row of a chunk only. -/
def atRow (n : BitVec 32) (r : FVec F Row .f32) : FVec F Sq .f32 :=
  select (cmpi .eq rows (broadcast Sq n)) (spread (shapeCast Row r castRow)) zeros

def lastWord (x : Fin 8) : BitVec 32 := BitVec.ofNat 32 (16 * x.val - 1)

def dkOf (q k v lf g ds : FVec F Sq .f32) : FVec F Sq .f32 :=
  let step (x : Fin 8) (d : FVec F Sq .f32) := addf d (mulf (dkSub x q v lf g) (kFac x lf))
  step 7 (step 6 (step 5 (step 4 (step 3 (step 2 (step 1 (step 0 (mulf (mulNN v ds) (toEnd lf)))))))))

/-- The gradient of the running sum of `lf`, but for the queries' part inside the chunk. -/
def dbKeys (q k v lf s g ds : FVec F Sq .f32) : FVec F Sq .f32 :=
  let first := addf (subf (mulf (mulNN g s) (mulf q (decay lf))) (endOf k v lf ds))
    (atRow 127#32 (sumRows (addf (endOf k v lf ds) (mulf (mulf s (spread (whole lf))) ds))))
  let step (x : Fin 8) (d : FVec F Sq .f32) := subf d (kdk x q k v lf g)
  let stepTo (x : Fin 8) (d : FVec F Sq .f32) :=
    addf (step x d) (atRow (lastWord x) (subf (sumRows (kdk x q k v lf g)) (sumSubRows (qdq x q k v lf g))))
  stepTo 7 (stepTo 6 (stepTo 5 (stepTo 4 (stepTo 3 (stepTo 2 (stepTo 1 (step 0 first)))))))

def dbOf (q k v lf s g ds : FVec F Sq .f32) : FVec F Sq .f32 :=
  addf (dbKeys q k v lf s g ds) (stack fun x => qdq x q k v lf g)

/-- Row by row, the sum of `lf` before the row's sub-block. -/
def starts (lf : FVec F Sq .f32) : FVec F Sq .f32 :=
  let step (x : Fin 8) (d : FVec F Sq .f32) :=
    select (cmpi .sge rows (broadcast Sq (startWord x))) (spread (shapeCast Row (before (startWord x) lf) castRow)) d
  step 7 (step 6 (step 5 (step 4 (step 3 (step 2 (step 1 zeros))))))

def dqOf (k v lf s g : FVec F Sq .f32) : FVec F Sq .f32 :=
  addf (mulf (mulNN g s) (decay lf))
    (mulf (stack fun x => dqSub x k v lf g) (exp (minimumf (subf (cumRows lf) (starts lf)) zeros)))

def dvOf (q k lf g ds : FVec F Sq .f32) : FVec F Sq .f32 :=
  addf (mulTN (attn q k lf) g) (mulNT (mulf k (toEnd lf)) ds)

def dlfOf (q k v lf s g ds : FVec F Sq .f32) : FVec F Sq .f32 :=
  addf (subf (spread (sumRows (dbOf q k v lf s g ds))) (cumRows (dbOf q k v lf s g ds))) (dbOf q k v lf s g ds)

def dsOf (q lf g ds : FVec F Sq .f32) : FVec F Sq .f32 :=
  addf (mulTN g (mulf q (decay lf))) (mulf ds (spread (whole lf)))

end Hgrn

end
-- ==== Proof.StoresB.lean ====
/- What a grid point after the first stores: head by head, the functions of Head.lean of the head's own columns. -/
module

public import proofs.«01_k».proof.Proof.Gen.KernelIdeal.Frame.RunB
public import Idealize.ShloMosaic.Lib.WritesUnit
public import proofs.«01_k».proof.Proof.Head

@[expose] public section

noncomputable section

namespace Hgrn

open Idealize.ShloMosaic Idealize.ShloMosaic.TcCoe Idealize.ShloMosaic.Tactic Idealize.SL Cert.KernelIdeal Cert.KernelIdeal.Gen

variable {F : FTy → Type} [FloatOps F]

abbrev Wide : Shape := ⟨2, ![128, 1024]⟩
abbrev States : Shape := ⟨4, ![8, 1, 128, 128]⟩
abbrev Carried : Shape := ⟨3, ![8, 128, 128]⟩

theorem inWide : ∀ (h : Fin 8) (a : Fin 2), (![0, 128 * h.val] : Fin 2 → ℕ) a + (![128, 128] : Fin 2 → ℕ) a ≤ Wide.size a := by decide
theorem inStates : ∀ (h : Fin 8) (a : Fin 4), (![h.val, 0, 0, 0] : Fin 4 → ℕ) a + (![1, 1, 128, 128] : Fin 4 → ℕ) a ≤ States.size a := by decide
theorem inCarried : ∀ (h : Fin 8) (a : Fin 3), (![h.val, 0, 0] : Fin 3 → ℕ) a + (![1, 128, 128] : Fin 3 → ℕ) a ≤ Carried.size a := by decide
theorem castState : (⟨4, ![1, 1, 128, 128]⟩ : Shape).ShapeCasts Sq := by decide
theorem castCarried : (⟨3, ![1, 128, 128]⟩ : Shape).ShapeCasts Sq := by decide
theorem castBack : Sq.ShapeCasts (⟨3, ![1, 128, 128]⟩ : Shape) := by decide

/-- Head `h`'s columns of a block. -/
def part (x : Vec F Wide .f32) (h : Fin 8) : FVec F Sq .f32 := View.ld (Val := Elt F) x (Rect.unit ![0, 128 * h.val] ![128, 128] (inWide h))
/-- Head `h`'s state of a block of states. -/
def partState (x : Vec F States .f32) (h : Fin 8) : FVec F Sq .f32 :=
  shapeCast Sq (View.ld (Val := Elt F) x (Rect.unit ![h.val, 0, 0, 0] ![1, 1, 128, 128] (inStates h))) castState
/-- Head `h`'s part of the carried gradient. -/
def partCarried (x : Vec F Carried .f32) (h : Fin 8) : FVec F Sq .f32 :=
  shapeCast Sq (View.ld (Val := Elt F) x (Rect.unit ![h.val, 0, 0] ![1, 128, 128] (inCarried h))) castCarried

/-- Eight stores, one for each head's columns. -/
def columns (w : Fin 8 → FVec F Sq .f32) : List (View.Piece (Elt F) Wide .f32) :=
  View.tilePieces (Val := Elt F) (s := Wide) ![128, 128] (fun h : Fin 8 => ![0, 128 * h.val]) inWide w 8 le_rfl

/-- Eight stores, one for each head's part of the carried gradient. -/
def carriedParts (w : Fin 8 → FVec F Sq .f32) : List (View.Piece (Elt F) Carried .f32) :=
  View.tilePieces (Val := Elt F) (s := Carried) ![1, 128, 128] (fun h : Fin 8 => ![h.val, 0, 0]) inCarried
    (fun h => shapeCast ⟨3, ![1, 128, 128]⟩ (w h) castBack) 8 le_rfl

variable (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S8x1x128x128 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S8x128x128 .f32) (harg12 : arg12.IsWhole) (hc0 : ¬cond0_0 i)
  (x0 x1 x2 x3 : Vec F S128x1024 .f32) (x4 : Vec F S8x1x128x128 .f32) (x5 : Vec F S128x1024 .f32) (xs0 : Vec F S8x128x128 .f32)

/-- What a whole buffer reads that was filled with `x`. -/
abbrev held {s : Shape} (a : Memref sig .tc .vmem s .f32) (h : a.IsWhole) (x : Vec F s .f32) : Vec F s .f32 := a.view.read (Elt F) (h.unread x)

/-- The gradient of the queries, as the point stores it. -/
theorem piecesB_6 : (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).1
    = columns fun h => dqOf (part (held arg3 harg3 x1) h) (part (held arg4 harg4 x2) h) (part (held arg5 harg5 x3) h) (partState (held arg6 harg6 x4) h) (part (held arg7 harg7 x5) h) := by
  sl_kernel_rfl

/-- The gradient of the keys, as the point stores it. -/
theorem piecesB_7 : (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).2.1
    = columns fun h => dkOf (part (held arg2 harg2 x0) h) (part (held arg3 harg3 x1) h) (part (held arg4 harg4 x2) h) (part (held arg5 harg5 x3) h) (part (held arg7 harg7 x5) h) (partCarried (held arg12 harg12 xs0) h) := by
  sl_kernel_rfl

/-- The gradient of the values, as the point stores it. -/
theorem piecesB_8 : (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).2.2.1
    = columns fun h => dvOf (part (held arg2 harg2 x0) h) (part (held arg3 harg3 x1) h) (part (held arg5 harg5 x3) h) (part (held arg7 harg7 x5) h) (partCarried (held arg12 harg12 xs0) h) := by
  sl_kernel_rfl

/-- The gradient of the gates' logarithms, as the point stores it. -/
theorem piecesB_9 : (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).2.2.2.1
    = columns fun h => dlfOf (part (held arg2 harg2 x0) h) (part (held arg3 harg3 x1) h) (part (held arg4 harg4 x2) h) (part (held arg5 harg5 x3) h) (partState (held arg6 harg6 x4) h) (part (held arg7 harg7 x5) h) (partCarried (held arg12 harg12 xs0) h) := by
  sl_kernel_rfl

/-- The carried gradient, as the point stores it. -/
theorem piecesB_carried : (kernelRun0_B c i arg2 harg2 arg3 harg3 arg4 harg4 arg5 harg5 arg6 harg6 arg7 harg7 arg8 harg8 arg9 harg9 arg10 harg10 arg11 harg11 arg12 harg12 hc0 x0 x1 x2 x3 x4 x5 xs0).2.2.2.2.1
    = carriedParts fun h => dsOf (part (held arg2 harg2 x0) h) (part (held arg5 harg5 x3) h) (part (held arg7 harg7 x5) h) (partCarried (held arg12 harg12 xs0) h) := by
  sl_kernel_rfl

end Hgrn

end
-- ==== Proof.StoresA.lean ====
/- What the first grid point stores: head by head, the functions of Head.lean of the head's own columns. -/
module

public import proofs.«01_k».proof.Proof.Gen.KernelIdeal.Frame.RunA
public import proofs.«01_k».proof.Proof.StoresB
public import proofs.«01_k».proof.Proof.Head

@[expose] public section

noncomputable section

namespace Hgrn

open Idealize.ShloMosaic Idealize.ShloMosaic.TcCoe Idealize.ShloMosaic.Tactic Idealize.SL Cert.KernelIdeal Cert.KernelIdeal.Gen

variable {F : FTy → Type} [FloatOps F]

theorem inWhole : ∀ a : Fin 3, (![0, 0, 0] : Fin 3 → ℕ) a + Carried.size a ≤ Carried.size a := by decide

/-- The fill of the carried gradient with zeros, at the first point. -/
def zeroFill : List (View.Piece (Elt F) Carried .f32) := [⟨Rect.unit (s := Carried) ![0, 0, 0] Carried.size inWhole, k0_pay2⟩]

/-- Head `h`'s part of the carried gradient after the fill. -/
def partFilled (a : Memref sig .tc .vmem Carried .f32) (h : Fin 8) : FVec F Sq .f32 :=
  shapeCast Sq (a.view.readCov zeroFill (Rect.unit (s := Carried) ![h.val, 0, 0] ![1, 128, 128] (inCarried h)).toLoadRect) castCarried

variable (c : Dev nD) (i : grid0.Coords) (arg2 : Memref sig .tc .vmem S128x1024 .f32) (harg2 : arg2.IsWhole) (arg3 : Memref sig .tc .vmem S128x1024 .f32) (harg3 : arg3.IsWhole) (arg4 : Memref sig .tc .vmem S128x1024 .f32) (harg4 : arg4.IsWhole) (arg5 : Memref sig .tc .vmem S128x1024 .f32) (harg5 : arg5.IsWhole) (arg6 : Memref sig .tc .vmem S8x1x128x128 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S128x1024 .f32) (harg11 : arg11.IsWhole) (arg12 : Memref sig .tc .vmem S8x128x128 .f32) (harg12 : arg12.IsWhole) (hc0 : cond0_0 i)
  (x0 x1 x2 x3 : Vec F S128x1024 .f32) (x4 : Vec F S8x1x128x128 .f32) (x5 : Vec F S128x1024 .f32)

/-- The gradient of the queries, as the first point stores it. -/
theorem piecesA_6 : (kernelRun0_A c i arg2 harg2 arg3 harg3 arg4 harg4 arg5 harg5 arg6 harg6 arg7 harg7 arg8 harg8 arg9 harg9 arg10 harg10 arg11 harg11 arg12 harg12 hc0 x0 x1 x2 x3 x4 x5).1
    = columns fun h => dqOf (part (held arg3 harg3 x1) h) (part (held arg4 harg4 x2) h) (part (held arg5 harg5 x3) h) (partState (held arg6 harg6 x4) h) (part (held arg7 harg7 x5) h) := by
  sl_kernel_rfl

/-- The gradient of the keys, as the first point stores it. -/
theorem piecesA_7 : (kernelRun0_A c i arg2 harg2 arg3 harg3 arg4 harg4 arg5 harg5 arg6 harg6 arg7 harg7 arg8 harg8 arg9 harg9 arg10 harg10 arg11 harg11 arg12 harg12 hc0 x0 x1 x2 x3 x4 x5).2.1
    = columns fun h => dkOf (part (held arg2 harg2 x0) h) (part (held arg3 harg3 x1) h) (part (held arg4 harg4 x2) h) (part (held arg5 harg5 x3) h) (part (held arg7 harg7 x5) h) (partFilled arg12 h) := by
  sl_kernel_rfl

/-- The gradient of the values, as the first point stores it. -/
theorem piecesA_8 : (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.1
    = columns fun h => dvOf (part (held arg2 harg2 x0) h) (part (held arg3 harg3 x1) h) (part (held arg5 harg5 x3) h) (part (held arg7 harg7 x5) h) (partFilled arg12 h) := by
  sl_kernel_rfl

/-- The gradient of the gates' logarithms, as the first point stores it. -/
theorem piecesA_9 : (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.2.1
    = columns fun h => dlfOf (part (held arg2 harg2 x0) h) (part (held arg3 harg3 x1) h) (part (held arg4 harg4 x2) h) (part (held arg5 harg5 x3) h) (partState (held arg6 harg6 x4) h) (part (held arg7 harg7 x5) h) (partFilled arg12 h) := by
  sl_kernel_rfl

/-- The carried gradient, as the first point stores it. -/
theorem piecesA_carried : (kernelRun0_A c i arg2 harg2 arg3 harg3 arg4 harg4 arg5 harg5 arg6 harg6 arg7 harg7 arg8 harg8 arg9 harg9 arg10 harg10 arg11 harg11 arg12 harg12 hc0 x0 x1 x2 x3 x4 x5).2.2.2.2.1
    = (carriedParts fun h => dsOf (part (held arg2 harg2 x0) h) (part (held arg5 harg5 x3) h) (part (held arg7 harg7 x5) h) (partFilled arg12 h)) ++ zeroFill := by
  sl_kernel_rfl

end Hgrn

end
-- ==== Proof.Lift.lean ====
/- The operations of one head's part on arrays of real numbers: each operation, applied to arrays that hold real numbers,
   gives the array that holds the real numbers written here. -/
module

public import Idealize.ShloMosaic.Lib.Pointwise
public import Idealize.ShloMosaic.Lib.WordCmp
public import proofs.«01_k».proof.Proof.Head

@[expose] public section

set_option maxRecDepth 16384

noncomputable section

namespace Hgrn

open Idealize.ShloMosaic

/-- The array that holds the real numbers `X`. -/
def up {n m : Nat} (X : Fin n → Fin m → ℝ) : FVec Ideal ⟨2, ![n, m]⟩ .f32 := fun i => ((X (i 0) (i 1) : ℝ) : EReal)

theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

section Lifts

variable {n m : Nat}

theorem up_add (X Y : Fin n → Fin m → ℝ) : addf (up X) (up Y) = up fun a b => X a b + Y a b := by
  funext j
  pointwise
  simp only [up, EReal.coe_add]

theorem up_sub (X Y : Fin n → Fin m → ℝ) : subf (up X) (up Y) = up fun a b => X a b - Y a b := by
  funext j
  pointwise
  simp only [up, EReal.coe_sub]

theorem up_mul (X Y : Fin n → Fin m → ℝ) : mulf (up X) (up Y) = up fun a b => X a b * Y a b := by
  funext j
  pointwise
  simp only [up, EReal.coe_mul]

theorem up_exp (X : Fin n → Fin m → ℝ) : exp (up X) = up fun a b => Real.exp (X a b) := by
  funext j
  pointwise
  simp only [up, Ideal.exp_coe]

theorem up_min (X Y : Fin n → Fin m → ℝ) : minimumf (up X) (up Y) = up fun a b => min (X a b) (Y a b) := by
  funext j
  pointwise
  simp only [up]
  exact (EReal.coe_strictMono.monotone.map_min).symm

end Lifts

theorem up_zeros : (zeros : FVec Ideal Sq .f32) = up fun _ _ => 0 := by
  funext j
  pointwise [zeros, up]
  simp

theorem up_spread (X : Fin 1 → Fin 128 → ℝ) : spread (up X) = up fun _ d => X 0 d := by
  funext j
  pointwise [spread, up]

theorem up_castRow (X : Fin 1 → Fin 128 → ℝ) : shapeCast Row (up X) castRow = up X := by
  funext j
  pointwise [up]

theorem up_sumRows (X : Fin 128 → Fin 128 → ℝ) : sumRows (up X) = up fun _ d => ∑ i, X i d := by
  funext j
  pointwise [sumRows, up]
  rw [coe_sum]

theorem up_sumSubRows (X : Fin 16 → Fin 128 → ℝ) : sumSubRows (up X) = up fun _ d => ∑ i, X i d := by
  funext j
  pointwise [sumSubRows, up]
  rw [coe_sum]

theorem up_mulSubNT (X : Fin 16 → Fin 128 → ℝ) (Y : Fin 128 → Fin 128 → ℝ) :
    mulSubNT (up X) (up Y) = up fun a b => ∑ i, X a i * Y b i := by
  funext j
  pointwise [mulSubNT, subNT, up]
  simp only [← EReal.coe_mul, coe_sum]

theorem up_mulSubNN (X : Fin 16 → Fin 128 → ℝ) (Y : Fin 128 → Fin 128 → ℝ) :
    mulSubNN (up X) (up Y) = up fun a b => ∑ i, X a i * Y i b := by
  funext j
  pointwise [mulSubNN, subNN, up]
  simp only [← EReal.coe_mul, coe_sum]

theorem up_mulSubTN (X Y : Fin 16 → Fin 128 → ℝ) :
    mulSubTN (up X) (up Y) = up fun a b => ∑ i, X i a * Y i b := by
  funext j
  pointwise [mulSubTN, subTN, up]
  simp only [← EReal.coe_mul, coe_sum]

theorem up_mulNT (X Y : Fin 128 → Fin 128 → ℝ) : mulNT (up X) (up Y) = up fun a b => ∑ i, X a i * Y b i := by
  funext j
  pointwise [mulNT, dotNT, up]
  simp only [← EReal.coe_mul, coe_sum]

theorem up_mulNN (X Y : Fin 128 → Fin 128 → ℝ) : mulNN (up X) (up Y) = up fun a b => ∑ i, X a i * Y i b := by
  funext j
  pointwise [mulNN, dotNN, up]
  simp only [← EReal.coe_mul, coe_sum]

theorem up_mulTN (X Y : Fin 128 → Fin 128 → ℝ) : mulTN (up X) (up Y) = up fun a b => ∑ i, X i a * Y i b := by
  funext j
  pointwise [mulTN, dotTN, up]
  simp only [← EReal.coe_mul, coe_sum]

/-- A one-bit word that says whether a proposition holds. -/
abbrev bit (p : Prop) [Decidable p] : BitVec 1 := BitVec.ofBool (decide p)

theorem up_if (p : Fin 128 → Fin 128 → Prop) [∀ a b, Decidable (p a b)] (c : IVec Sq 1)
    (hc : ∀ a b : Fin 128, c (ix2 a b) = bit (p a b)) (X Y : Fin 128 → Fin 128 → ℝ) :
    select c (up X) (up Y) = up fun a b => if p a b then X a b else Y a b := by
  funext j
  obtain ⟨a, b, rfl⟩ : ∃ a b : Fin 128, j = ix2 a b := ⟨j 0, j 1, by funext l; match l with | 0 => rfl | 1 => rfl⟩
  show Scalar.select (c (ix2 a b)) ((X a b : ℝ) : EReal) ((Y a b : ℝ) : EReal) = ((if p a b then X a b else Y a b : ℝ) : EReal)
  rw [hc]
  by_cases h : p a b <;> simp [h, Scalar.select, bit]

theorem rows_ge (N : Nat) (hN : N ≤ 128) (a b : Fin 128) :
    cmpi .sge rows (broadcast Sq (BitVec.ofNat 32 N)) (ix2 a b) = bit (N ≤ a.val) := by
  pointwise [rows]
  exact WordCmp.cmpi_sge_ofNat (by omega) (by omega)

theorem rows_lt (N : Nat) (hN : N ≤ 128) (a b : Fin 128) :
    cmpi .slt rows (broadcast Sq (BitVec.ofNat 32 N)) (ix2 a b) = bit (a.val < N) := by
  pointwise [rows]
  exact WordCmp.cmpi_slt_ofNat (by omega) (by omega)

theorem rows_eq (N : Nat) (hN : N ≤ 128) (a b : Fin 128) :
    cmpi .eq rows (broadcast Sq (BitVec.ofNat 32 N)) (ix2 a b) = bit (a.val = N) := by
  pointwise [rows]
  rw [WordCmp.cmpi_eq_eq_toNat, BitVec.toNat_ofNat, BitVec.toNat_ofNat, Nat.mod_eq_of_lt (by omega), Nat.mod_eq_of_lt (by omega)]

theorem rows_cols (a b : Fin 128) : cmpi .sge rows cols (ix2 a b) = bit (b.val ≤ a.val) := by
  pointwise [rows, cols]
  exact WordCmp.cmpi_sge_ofNat (by omega) (by omega)

theorem up_ge (N : Nat) (hN : N ≤ 128) (X Y : Fin 128 → Fin 128 → ℝ) :
    select (cmpi .sge rows (broadcast Sq (BitVec.ofNat 32 N))) (up X) (up Y) = up fun a b => if N ≤ a.val then X a b else Y a b :=
  up_if (fun a _ => N ≤ a.val) _ (rows_ge N hN) X Y

theorem up_lt (N : Nat) (hN : N ≤ 128) (X Y : Fin 128 → Fin 128 → ℝ) :
    select (cmpi .slt rows (broadcast Sq (BitVec.ofNat 32 N))) (up X) (up Y) = up fun a b => if a.val < N then X a b else Y a b :=
  up_if (fun a _ => a.val < N) _ (rows_lt N hN) X Y

theorem up_eq (N : Nat) (hN : N ≤ 128) (X Y : Fin 128 → Fin 128 → ℝ) :
    select (cmpi .eq rows (broadcast Sq (BitVec.ofNat 32 N))) (up X) (up Y) = up fun a b => if a.val = N then X a b else Y a b :=
  up_if (fun a _ => a.val = N) _ (rows_eq N hN) X Y

theorem up_causal (X : Fin 128 → Fin 128 → ℝ) : causal (up X) = up fun a b => if b.val ≤ a.val then X a b else 0 := by
  rw [causal, up_zeros]
  exact up_if (fun a b => b.val ≤ a.val) _ rows_cols X _

theorem up_shift (s : Nat) (hs : s < 128) (X : Fin 128 → Fin 128 → ℝ) :
    dynamicRotate 0 (BitVec.ofNat 32 s) none (up X) rotates = up fun a b => X ⟨(a.val + 128 - s) % 128, Nat.mod_lt _ (by decide)⟩ b := by
  funext j
  pointwise [up]
  congr 4
  rw [BitVec.toNat_ofNat]
  omega

theorem up_cut (x : Fin 8) (X : Fin 128 → Fin 128 → ℝ) :
    cut x (up X) = up fun a b => X ⟨16 * x.val + a.val, by have := x.isLt; have := a.isLt; omega⟩ b := by
  funext j
  pointwise [cut, up]

theorem up_stack (X : Fin 8 → Fin 16 → Fin 128 → ℝ) :
    stack (fun x => up (X x))
      = up fun a b => X ⟨a.val / 16, by have := a.isLt; omega⟩ ⟨a.val % 16, Nat.mod_lt _ (by decide)⟩ b := by
  have key : ∀ (x y : Fin 8) (i l : Fin 16) (d : Fin 128), x.val = y.val → i.val = l.val →
      ((X x i d : ℝ) : EReal) = X y l d := by
    intro x y i l d h h'
    rw [Fin.ext h, Fin.ext h']
  funext j
  have hj : (j 0).val < 128 := (j 0).isLt
  pointwise [stack, up]
  split_ifs <;> exact key _ _ _ _ _ (by simp; omega) (by simp; omega)

end Hgrn

end
-- ==== Proof.Chunk.lean ====
/- One head's part of a grid point, on real numbers: with the head's queries, keys, values, logarithms of gates and output
   gradients given token by token, what the kernel computes for the chunk that begins at token `o` is a plain sum over
   the chunk's tokens. `pre lf t` is the sum of the logarithms before token `t`, so the decay from after token `s` to
   after token `t` is `exp (pre lf (t + 1) - pre lf (s + 1))`; the kernel's sub-block factors multiply to it, and its cap
   at `80` binds nowhere. -/
module

public import proofs.«01_k».proof.Proof.Lift

@[expose] public section

set_option maxRecDepth 16384

noncomputable section

namespace Hgrn

open Idealize.ShloMosaic Finset

abbrev Tok := Nat → Fin 128 → ℝ

def pre (x : Tok) (m : Nat) (d : Fin 128) : ℝ := ∑ r ∈ range m, x r d

theorem pre_succ (x : Tok) (m : Nat) (d : Fin 128) : pre x (m + 1) d = pre x m d + x m d := sum_range_succ _ _

theorem pre_sub (x : Tok) (o m : Nat) (d : Fin 128) : ∑ r ∈ range m, x (o + r) d = pre x (o + m) d - pre x o d := by
  rw [pre, pre, sum_range_add, add_sub_cancel_left]

/-- The decay from after token `s` to after token `t`. -/
def fade (lf : Tok) (t s : Nat) (d : Fin 128) : ℝ := Real.exp (pre lf (t + 1) d - pre lf (s + 1) d)

/-- The gradient of the attention weight of token `t` on token `s`. -/
def dw (v g : Tok) (t s : Nat) : ℝ := if s ≤ t then ∑ e, g t e * v s e else 0

/-- The attention weight of token `t` on token `s`. -/
def wt (q k lf : Tok) (t s : Nat) : ℝ := if s ≤ t then ∑ d, q t d * k s d * fade lf t s d else 0

/-- The product that both `q · dq` and `k · dk` are sums of. -/
def cross (q k v lf g : Tok) (t s : Nat) (d : Fin 128) : ℝ := dw v g t s * (q t d * k s d * fade lf t s d)

theorem dw_of_lt (v g : Tok) {t s : Nat} (h : t < s) : dw v g t s = 0 := if_neg (by omega)

theorem cross_of_lt (q k v lf g : Tok) {t s : Nat} (h : t < s) (d : Fin 128) : cross q k v lf g t s d = 0 := by
  rw [cross, dw_of_lt v g h, zero_mul]

/-- The chunk of `x` that begins at token `o`. -/
abbrev blk (x : Tok) (o : Nat) : FVec Ideal Sq .f32 := up fun a d => x (o + a.val) d

def Gate (lf : Tok) : Prop := ∀ r d, lf r d ≤ 0 ∧ -5 ≤ lf r d

theorem pre_anti {lf : Tok} (h : Gate lf) {m n : Nat} (hmn : m ≤ n) (d : Fin 128) : pre lf n d ≤ pre lf m d := by
  induction n, hmn using Nat.le_induction with
  | base => exact le_rfl
  | succ n _ ih => rw [pre_succ]; linarith [(h n d).1]

theorem pre_steep {lf : Tok} (h : Gate lf) {m n : Nat} (hmn : m ≤ n) (d : Fin 128) :
    pre lf m d - pre lf n d ≤ 5 * ((n - m : Nat) : ℝ) := by
  induction n, hmn using Nat.le_induction with
  | base => simp
  | succ n hn ih =>
    rw [pre_succ, Nat.succ_sub hn]
    push_cast
    linarith [(h n d).2]

/-! ## Running sums -/

theorem up_shiftAdd (N : Nat) (hN : 0 < N) (hN' : N < 128) (p : Nat → Fin 128 → ℝ) :
    shiftAdd (BitVec.ofNat 32 N) (up fun a d => p (a.val + 1) d - p (a.val + 1 - N) d)
      = up fun a d => p (a.val + 1) d - p (a.val + 1 - (N + N)) d := by
  rw [shiftAdd, up_shift N hN', up_zeros, up_ge N (by omega), up_add]
  congr 1
  funext a d
  have ha := a.isLt
  by_cases h : N ≤ a.val
  · rw [if_pos h]
    have e : (a.val + 128 - N) % 128 = a.val - N := by omega
    simp only [e]
    rw [show a.val - N + 1 = a.val + 1 - N by omega, show a.val + 1 - N - N = a.val + 1 - (N + N) by omega]
    ring
  · rw [if_neg h, show a.val + 1 - N = 0 by omega, show a.val + 1 - (N + N) = 0 by omega, add_zero]

theorem up_cumRows (x : Tok) (o : Nat) : cumRows (blk x o) = up fun a d => pre x (o + a.val + 1) d - pre x o d := by
  have h0 : blk x o = up fun a d => pre x (o + (a.val + 1)) d - pre x (o + (a.val + 1 - 1)) d := by
    unfold blk
    congr 1
    funext a d
    rw [← add_assoc, pre_succ, Nat.add_sub_cancel]
    ring
  have step := fun N h h' => up_shiftAdd N h h' fun m d => pre x (o + m) d
  rw [cumRows, h0]
  rw [step 1 (by decide) (by decide), step 2 (by decide) (by decide), step 4 (by decide) (by decide),
    step 8 (by decide) (by decide), step 16 (by decide) (by decide), step 32 (by decide) (by decide),
    step 64 (by decide) (by decide)]
  congr 1
  funext a d
  rw [show a.val + 1 - (64 + 64) = 0 by have := a.isLt; omega]
  rfl

theorem fin_sum (n : Nat) (f : Nat → ℝ) : ∑ i : Fin n, f i.val = ∑ i ∈ range n, f i := Fin.sum_univ_eq_sum_range f n

theorem up_sumBlk (x : Tok) (o : Nat) : sumRows (blk x o) = up fun _ d => pre x (o + 128) d - pre x o d := by
  rw [up_sumRows]
  congr 1
  funext _ d
  rw [fin_sum 128 fun i => x (o + i) d, pre_sub]

theorem up_before (N : Nat) (hN : N ≤ 128) (x : Tok) (o : Nat) :
    before (BitVec.ofNat 32 N) (blk x o) = up fun _ d => pre x (o + N) d - pre x o d := by
  rw [before, up_zeros, up_lt N hN, up_sumRows]
  congr 1
  funext _ d
  rw [fin_sum 128 fun i => if i < N then x (o + i) d else 0, ← sum_filter, ← pre_sub]
  congr 1
  ext i
  simp only [mem_filter, mem_range]
  omega

/-! ## The sub-blocks' factors -/

section Factors

variable {q k v lf g : Tok} {o : Nat}

theorem up_qSub (hl : Gate lf) (x : Fin 8) :
    qSub x (blk q o) (blk lf o)
      = up fun a d => q (o + (16 * x.val + a.val)) d * Real.exp (pre lf (o + (16 * x.val + a.val) + 1) d - pre lf (o + 16 * x.val) d) := by
  rw [qSub, up_cumRows, startWord, up_before _ (by omega), up_spread, up_sub, up_zeros, up_min, up_exp, up_mul, up_cut]
  congr 1
  funext a d
  dsimp only
  rw [min_eq_left, sub_sub_sub_cancel_right]
  linarith [pre_anti hl (show o + 16 * x.val ≤ o + (16 * x.val + a.val) + 1 by omega) d]

theorem cap_eq : (broadcast Sq (Scalar.ofBits .f32 0x42A00000#32) : FVec Ideal Sq .f32) = up fun _ _ => 80 := by
  funext j
  pointwise [up]
  simp [Ideal.ofBits, Ideal.ieee, -EReal.coe_mul]
  norm_num

theorem up_kFac (hl : Gate lf) (x : Fin 8) :
    kFac x (blk lf o)
      = up fun s d => if s.val < 16 * x.val + 16 then Real.exp (pre lf (o + 16 * x.val) d - pre lf (o + s.val + 1) d) else 0 := by
  rw [kFac, up_cumRows, startWord, up_before _ (by omega), up_spread, up_sub, cap_eq, up_min, up_exp, up_zeros, endWord,
    up_lt _ (by omega)]
  congr 1
  funext a d
  split_ifs with h
  · rw [min_eq_left, sub_sub_sub_cancel_right]
    rw [sub_sub_sub_cancel_right]
    rcases le_total (16 * x.val) (a.val + 1) with h' | h'
    · have := pre_steep hl (show o + 16 * x.val ≤ o + a.val + 1 by omega) d
      have : ((o + a.val + 1 - (o + 16 * x.val) : Nat) : ℝ) ≤ 16 := by
        exact_mod_cast (by omega : o + a.val + 1 - (o + 16 * x.val) ≤ 16)
      linarith
    · linarith [pre_anti hl (show o + a.val + 1 ≤ o + 16 * x.val by omega) d]
  · rfl

theorem up_kSub (hl : Gate lf) (x : Fin 8) :
    kSub x (blk k o) (blk lf o)
      = up fun s d => k (o + s.val) d
          * if s.val < 16 * x.val + 16 then Real.exp (pre lf (o + 16 * x.val) d - pre lf (o + s.val + 1) d) else 0 := by
  rw [kSub, up_kFac hl, up_mul]

theorem fade_eq (lf : Tok) (t s m : Nat) (d : Fin 128) :
    Real.exp (pre lf (t + 1) d - pre lf m d) * Real.exp (pre lf m d - pre lf (s + 1) d) = fade lf t s d := by
  rw [← Real.exp_add, fade]
  congr 1
  ring

theorem up_attn (hl : Gate lf) :
    attn (blk q o) (blk k o) (blk lf o) = up fun a b => wt q k lf (o + a.val) (o + b.val) := by
  have h : (fun x => mulSubNT (qSub x (blk q o) (blk lf o)) (kSub x (blk k o) (blk lf o))) = fun x : Fin 8 =>
      up fun a b => ∑ d, (q (o + (16 * x.val + a.val)) d
        * Real.exp (pre lf (o + (16 * x.val + a.val) + 1) d - pre lf (o + 16 * x.val) d))
        * (k (o + b.val) d
          * if b.val < 16 * x.val + 16 then Real.exp (pre lf (o + 16 * x.val) d - pre lf (o + b.val + 1) d) else 0) := by
    funext x
    rw [up_qSub hl, up_kSub hl, up_mulSubNT]
  rw [attn, h, up_stack, up_causal]
  congr 1
  funext a b
  rw [wt]
  dsimp only
  by_cases hba : b.val ≤ a.val
  · rw [if_pos hba, if_pos (by omega)]
    refine sum_congr rfl fun d _ => ?_
    rw [if_pos (by omega), Nat.div_add_mod, ← fade_eq lf (o + a.val) (o + b.val) (o + 16 * (a.val / 16)) d]
    ring
  · rw [if_neg hba, if_neg (by omega)]

theorem up_dAttn : dAttn (blk v o) (blk g o) = up fun a b => dw v g (o + a.val) (o + b.val) := by
  rw [dAttn, up_mulNT, up_causal]
  congr 1
  funext a b
  simp only [dw, add_le_add_iff_left]

theorem up_dqSub (hl : Gate lf) (x : Fin 8) :
    dqSub x (blk k o) (blk v o) (blk lf o) (blk g o)
      = up fun a d => ∑ s : Fin 128, dw v g (o + (16 * x.val + a.val)) (o + s.val)
          * (k (o + s.val) d * Real.exp (pre lf (o + 16 * x.val) d - pre lf (o + s.val + 1) d)) := by
  rw [dqSub, up_dAttn, up_cut, up_kSub hl, up_mulSubNN]
  congr 1
  funext a d
  refine sum_congr rfl fun s _ => ?_
  dsimp only
  split_ifs with h
  · rfl
  · rw [dw_of_lt v g (by omega), zero_mul, zero_mul]

theorem up_dkSub (hl : Gate lf) (x : Fin 8) :
    dkSub x (blk q o) (blk v o) (blk lf o) (blk g o)
      = up fun s d => ∑ a : Fin 16, dw v g (o + (16 * x.val + a.val)) (o + s.val)
          * (q (o + (16 * x.val + a.val)) d
            * Real.exp (pre lf (o + (16 * x.val + a.val) + 1) d - pre lf (o + 16 * x.val) d)) := by
  rw [dkSub, up_dAttn, up_cut, up_qSub hl, up_mulSubTN]

theorem up_qdq (hl : Gate lf) (x : Fin 8) :
    qdq x (blk q o) (blk k o) (blk v o) (blk lf o) (blk g o)
      = up fun a d => ∑ s : Fin 128, cross q k v lf g (o + (16 * x.val + a.val)) (o + s.val) d := by
  rw [qdq, up_dqSub hl, up_qSub hl, up_mul]
  congr 1
  funext a d
  rw [sum_mul]
  refine sum_congr rfl fun s _ => ?_
  rw [cross, ← fade_eq lf _ _ (o + 16 * x.val) d]
  ring

/-- Sub-block `x`'s part of the keys' gradient. -/
theorem up_dkFac (hl : Gate lf) (x : Fin 8) :
    mulf (dkSub x (blk q o) (blk v o) (blk lf o) (blk g o)) (kFac x (blk lf o))
      = up fun s d => ∑ a : Fin 16, dw v g (o + (16 * x.val + a.val)) (o + s.val)
          * (q (o + (16 * x.val + a.val)) d * fade lf (o + (16 * x.val + a.val)) (o + s.val) d) := by
  rw [up_dkSub hl, up_kFac hl, up_mul]
  congr 1
  funext s d
  rw [sum_mul]
  refine sum_congr rfl fun a _ => ?_
  split_ifs with h
  · rw [← fade_eq lf _ _ (o + 16 * x.val) d]
    ring
  · rw [dw_of_lt v g (by omega)]
    ring

theorem up_kdk (hl : Gate lf) (x : Fin 8) :
    kdk x (blk q o) (blk k o) (blk v o) (blk lf o) (blk g o)
      = up fun s d => ∑ a : Fin 16, cross q k v lf g (o + (16 * x.val + a.val)) (o + s.val) d := by
  have e : kdk x (blk q o) (blk k o) (blk v o) (blk lf o) (blk g o)
      = mulf (mulf (dkSub x (blk q o) (blk v o) (blk lf o) (blk g o)) (kFac x (blk lf o))) (blk k o) := by
    rw [kdk, kSub, up_dkSub hl, up_kFac hl, up_mul, up_mul, up_mul, up_mul]
    congr 1
    funext s d
    ring
  rw [e, up_dkFac hl, up_mul]
  congr 1
  funext s d
  rw [sum_mul]
  refine sum_congr rfl fun a _ => ?_
  rw [cross]
  ring

end Factors

/-- Sums over the eight sub-blocks' tokens are sums over the chunk's. -/
theorem sum_sub (f : Nat → ℝ) :
    ∑ i : Fin 128, f i.val = ∑ x : Fin 8, ∑ a : Fin 16, f (16 * x.val + a.val) := by
  rw [← Fintype.sum_prod_type']
  refine (Fintype.sum_equiv (finProdFinEquiv (m := 8) (n := 16)) _ _ fun p => ?_).symm
  simp [finProdFinEquiv, add_comm]

/-! ## What the head stores -/

section Stores

variable {q k v lf g : Tok} {o : Nat} {S D : Fin 128 → Fin 128 → ℝ}

theorem up_decay : decay (blk lf o) = up fun a d => Real.exp (pre lf (o + a.val + 1) d - pre lf o d) := by
  rw [decay, up_cumRows, up_exp]

theorem up_toEnd : toEnd (blk lf o) = up fun a d => Real.exp (pre lf (o + 128) d - pre lf (o + a.val + 1) d) := by
  rw [toEnd, up_cumRows, up_sumBlk, up_spread, up_sub, up_exp]
  congr 1
  funext a d
  rw [sub_sub_sub_cancel_right]

theorem up_whole : whole (blk lf o) = up fun _ d => Real.exp (pre lf (o + 128) d - pre lf o d) := by
  rw [whole, up_sumBlk, up_exp]

theorem up_dkOf (hl : Gate lf) :
    dkOf (blk q o) (blk k o) (blk v o) (blk lf o) (blk g o) (up D)
      = up fun s d => (∑ e, v (o + s.val) e * D e d) * Real.exp (pre lf (o + 128) d - pre lf (o + s.val + 1) d)
          + ∑ a : Fin 128, dw v g (o + a.val) (o + s.val) * (q (o + a.val) d * fade lf (o + a.val) (o + s.val) d) := by
  rw [dkOf]
  simp only [up_mulNN, up_toEnd, up_mul, up_dkFac hl, up_add]
  congr 1
  funext s d
  rw [sum_sub fun i => dw v g (o + i) (o + s.val) * (q (o + i) d * fade lf (o + i) (o + s.val) d), Fin.sum_univ_eight]
  ring

/-- What the later chunks' gradient gives `k · dk` at token `s`. -/
def tailOf (k v lf : Tok) (o : Nat) (D : Fin 128 → Fin 128 → ℝ) (s : Nat) (d : Fin 128) : ℝ :=
  (∑ e, v (o + s) e * D e d) * (k (o + s) d * Real.exp (pre lf (o + 128) d - pre lf (o + s + 1) d))

theorem up_endOf : endOf (blk k o) (blk v o) (blk lf o) (up D) = up fun s d => tailOf k v lf o D s.val d := by
  rw [endOf, up_mulNN, up_toEnd, up_mul, up_mul]
  rfl

theorem up_atRow (N : Nat) (hN : N ≤ 128) (X : Fin 1 → Fin 128 → ℝ) :
    atRow (BitVec.ofNat 32 N) (up X) = up fun a d => if a.val = N then X 0 d else 0 := by
  rw [atRow, up_castRow, up_spread, up_zeros, up_eq N hN]

/-- The sum that the gradient's last row takes from the later chunks. -/
def carry (k v lf : Tok) (o : Nat) (S D : Fin 128 → Fin 128 → ℝ) (d : Fin 128) : ℝ :=
  ∑ s : Fin 128, tailOf k v lf o D s.val d
    + ∑ e, S e d * Real.exp (pre lf (o + 128) d - pre lf o d) * D e d

/-- The gradient of the running sum of `lf` at the chunk's token `a`. -/
def dbAt (q k v lf g : Tok) (o : Nat) (S D : Fin 128 → Fin 128 → ℝ) (a : Nat) (d : Fin 128) : ℝ :=
  (∑ e, g (o + a) e * S e d) * (q (o + a) d * Real.exp (pre lf (o + a + 1) d - pre lf o d)) - tailOf k v lf o D a d
    + (if a = 127 then carry k v lf o S D d else 0)
    - ∑ t : Fin 128, cross q k v lf g (o + t.val) (o + a) d + ∑ s : Fin 128, cross q k v lf g (o + a) (o + s.val) d

theorem up_dbOf (hl : Gate lf) :
    dbOf (blk q o) (blk k o) (blk v o) (blk lf o) (up S) (blk g o) (up D)
      = up fun a d => dbAt q k v lf g o S D a.val d := by
  have zero : ∀ (x : Fin 8) (w : BitVec 32), (∃ N ≤ 128, w = BitVec.ofNat 32 N) →
      atRow w (subf (sumRows (kdk x (blk q o) (blk k o) (blk v o) (blk lf o) (blk g o)))
        (sumSubRows (qdq x (blk q o) (blk k o) (blk v o) (blk lf o) (blk g o)))) = up fun _ _ => 0 := by
    rintro x w ⟨N, hN, rfl⟩
    rw [up_kdk hl, up_qdq hl, up_sumRows, up_sumSubRows, up_sub, up_atRow N hN]
    congr 1
    funext a d
    rw [sum_comm, sub_self, ite_self]
  have word : ∀ x : Fin 8, ∃ N ≤ 128, lastWord x = BitVec.ofNat 32 N := fun x => ⟨16 * x.val - 1, by omega, rfl⟩
  have last : ∀ X : Fin 1 → Fin 128 → ℝ, atRow 127#32 (up X) = up fun a d => if a.val = 127 then X 0 d else 0 :=
    up_atRow 127 (by decide)
  rw [dbOf, dbKeys]
  simp only [zero _ _ (word _)]
  simp only [up_mulNN, up_decay, up_mul, up_endOf, up_whole, up_spread, up_add, up_sub, up_sumRows, last,
    up_kdk hl, up_qdq hl, up_stack]
  congr 1
  funext a d
  rw [dbAt, carry, sum_sub fun i => cross q k v lf g (o + i) (o + a.val) d, Fin.sum_univ_eight, sum_add_distrib,
    Nat.div_add_mod]
  ring

theorem up_starts : starts (blk lf o) = up fun a d => pre lf (o + 16 * (a.val / 16)) d - pre lf o d := by
  have step : ∀ (x : Fin 8) (X : Fin 128 → Fin 128 → ℝ),
      select (cmpi .sge rows (broadcast Sq (startWord x))) (spread (shapeCast Row (before (startWord x) (blk lf o)) castRow)) (up X)
        = up fun a d => if 16 * x.val ≤ a.val then pre lf (o + 16 * x.val) d - pre lf o d else X a d := by
    intro x X
    rw [startWord, up_before _ (by omega), up_castRow, up_spread, up_ge _ (by omega)]
  rw [starts]
  simp only [step, up_zeros]
  congr 1
  funext a d
  have key : ∀ x y : Nat, x = y → pre lf (o + x) d - pre lf o d = pre lf (o + y) d - pre lf o d := by
    rintro x y rfl
    rfl
  have ha := a.isLt
  split_ifs <;> first | exact key _ _ (by simp at *; omega) | skip
  rw [show a.val / 16 = 0 by simp at *; omega, Nat.mul_zero, Nat.add_zero, sub_self]

theorem up_dqOf (hl : Gate lf) :
    dqOf (blk k o) (blk v o) (blk lf o) (up S) (blk g o)
      = up fun a d => (∑ e, g (o + a.val) e * S e d) * Real.exp (pre lf (o + a.val + 1) d - pre lf o d)
          + ∑ s : Fin 128, dw v g (o + a.val) (o + s.val) * (k (o + s.val) d * fade lf (o + a.val) (o + s.val) d) := by
  rw [dqOf]
  simp only [up_mulNN, up_decay, up_mul, up_dqSub hl, up_stack, up_cumRows, up_starts, up_sub, up_zeros, up_min, up_exp, up_add]
  congr 1
  funext a d
  refine congrArg₂ (· + ·) rfl ?_
  rw [sum_mul, min_eq_left]
  · refine sum_congr rfl fun s _ => ?_
    rw [Nat.div_add_mod, sub_sub_sub_cancel_right, ← fade_eq lf _ _ (o + 16 * (a.val / 16)) d]
    ring
  · rw [sub_sub_sub_cancel_right]
    linarith [pre_anti hl (show o + 16 * (a.val / 16) ≤ o + a.val + 1 by omega) d]

theorem up_dvOf (hl : Gate lf) :
    dvOf (blk q o) (blk k o) (blk lf o) (blk g o) (up D)
      = up fun a e => ∑ t : Fin 128, wt q k lf (o + t.val) (o + a.val) * g (o + t.val) e
          + ∑ d, k (o + a.val) d * Real.exp (pre lf (o + 128) d - pre lf (o + a.val + 1) d) * D e d := by
  rw [dvOf, up_attn hl, up_mulTN, up_toEnd, up_mul, up_mulNT, up_add]

theorem up_dlfOf (hl : Gate lf) :
    dlfOf (blk q o) (blk k o) (blk v o) (blk lf o) (up S) (blk g o) (up D)
      = up fun a d => ∑ i ∈ range (128 - a.val), dbAt q k v lf g o S D (a.val + i) d := by
  have h : dbOf (blk q o) (blk k o) (blk v o) (blk lf o) (up S) (blk g o) (up D) = blk (dbAt q k v lf g o S D) 0 := by
    rw [up_dbOf hl]
    unfold blk
    simp only [Nat.zero_add]
  rw [dlfOf, h, up_sumBlk, up_spread, up_cumRows, up_sub, up_add]
  congr 1
  funext a d
  rw [pre_sub, pre_succ _ (0 + a.val), show a.val + (128 - a.val) = 0 + 128 by have := a.isLt; omega, Nat.zero_add]
  ring_nf

theorem up_dsOf :
    dsOf (blk q o) (blk lf o) (blk g o) (up D)
      = up fun e d => ∑ t : Fin 128, g (o + t.val) e * (q (o + t.val) d * Real.exp (pre lf (o + t.val + 1) d - pre lf o d))
          + D e d * Real.exp (pre lf (o + 128) d - pre lf o d) := by
  rw [dsOf, up_decay, up_mul, up_mulTN, up_whole, up_spread, up_mul, up_add]

end Stores

end Hgrn

end
-- ==== Proof.Tokens.lean ====
/- The chunked backward pass against the plain one, on real numbers: for a head's `T` tokens, what a chunk computes from its
   own tokens, the state before the chunk and the gradient of the state after it is the gradient summed over all tokens.
   `stateAt o` is the state before token `o`, `gradAt T o` the gradient of that state by the outputs from token `o` on. -/
module

public import proofs.«01_k».proof.Proof.Chunk

@[expose] public section

noncomputable section

namespace Hgrn

open Finset

def stateAt (k v lf : Tok) (o : Nat) (e d : Fin 128) : ℝ :=
  ∑ s ∈ range o, v s e * (k s d * Real.exp (pre lf o d - pre lf (s + 1) d))

def gradAt (q lf g : Tok) (T o : Nat) (e d : Fin 128) : ℝ :=
  ∑ t ∈ Ico o T, g t e * (q t d * Real.exp (pre lf (t + 1) d - pre lf o d))

variable {q k v lf g : Tok} {T o : Nat}

/-- A sum over all tokens, cut at a chunk. -/
theorem sum_cut (hT : o + 128 ≤ T) (f : Nat → ℝ) :
    ∑ i ∈ range T, f i = ∑ i ∈ range o, f i + ∑ i : Fin 128, f (o + i.val) + ∑ i ∈ Ico (o + 128) T, f i := by
  rw [fin_sum 128 fun i => f (o + i), range_eq_Ico, range_eq_Ico, range_eq_Ico,
    ← sum_Ico_consecutive f (Nat.zero_le o) (by omega : o ≤ T), ← sum_Ico_consecutive f (by omega : o ≤ o + 128) hT,
    sum_Ico_add f 0 128 o, Nat.zero_add, add_comm 128 o, add_assoc]

theorem gradAt_end (h : T ≤ o) : gradAt q lf g T o = fun _ _ => 0 := by
  funext e d
  rw [gradAt, Ico_eq_empty (by omega), sum_empty]

theorem gradAt_step (hT : o + 128 ≤ T) (e d : Fin 128) :
    ∑ t : Fin 128, g (o + t.val) e * (q (o + t.val) d * Real.exp (pre lf (o + t.val + 1) d - pre lf o d))
        + gradAt q lf g T (o + 128) e d * Real.exp (pre lf (o + 128) d - pre lf o d)
      = gradAt q lf g T o e d := by
  rw [fin_sum 128 fun t => g (o + t) e * (q (o + t) d * Real.exp (pre lf (o + t + 1) d - pre lf o d)), gradAt, gradAt,
    ← sum_Ico_consecutive _ (by omega : o ≤ o + 128) hT, sum_mul, range_eq_Ico,
    sum_Ico_add (fun t => g t e * (q t d * Real.exp (pre lf (t + 1) d - pre lf o d))) 0 128 o, Nat.zero_add, add_comm 128 o]
  congr 1
  refine sum_congr rfl fun t _ => ?_
  rw [mul_assoc, mul_assoc, ← Real.exp_add, sub_add_sub_cancel]

/-- A token of the chunk takes its gradient's part of the earlier tokens from the state. -/
theorem early (t : Nat) (ht : o ≤ t) (d : Fin 128) (c : ℝ) :
    (∑ e, g t e * stateAt k v lf o e d) * (c * Real.exp (pre lf (t + 1) d - pre lf o d))
      = ∑ s ∈ range o, dw v g t s * (c * k s d * fade lf t s d) := by
  have h : ∀ e, g t e * stateAt k v lf o e d
      = ∑ s ∈ range o, g t e * v s e * (k s d * Real.exp (pre lf o d - pre lf (s + 1) d)) := by
    intro e
    rw [stateAt, mul_sum]
    exact sum_congr rfl fun s _ => by ring
  rw [sum_congr rfl fun e _ => h e, sum_comm, sum_mul]
  refine sum_congr rfl fun s hs => ?_
  rw [dw, if_pos (by have := mem_range.mp hs; omega), ← sum_mul, ← fade_eq lf t s o d]
  ring

/-- A token of the chunk takes its gradient's part of the later tokens from the gradient of the state. -/
theorem late (s : Nat) (hs : s < o) (d : Fin 128) (c : ℝ) :
    (∑ e, v s e * gradAt q lf g T o e d) * (c * Real.exp (pre lf o d - pre lf (s + 1) d))
      = ∑ t ∈ Ico o T, dw v g t s * (q t d * c * fade lf t s d) := by
  have h : ∀ e, v s e * gradAt q lf g T o e d
      = ∑ t ∈ Ico o T, g t e * v s e * (q t d * Real.exp (pre lf (t + 1) d - pre lf o d)) := by
    intro e
    rw [gradAt, mul_sum]
    exact sum_congr rfl fun t _ => by ring
  rw [sum_congr rfl fun e _ => h e, sum_comm, sum_mul]
  refine sum_congr rfl fun t ht => ?_
  rw [dw, if_pos (by have := mem_Ico.mp ht; omega), ← sum_mul, ← fade_eq lf t s o d]
  ring

variable (hT : o + 128 ≤ T) (a : Fin 128)
include hT

theorem dq_total (d : Fin 128) :
    (∑ e, g (o + a.val) e * stateAt k v lf o e d) * Real.exp (pre lf (o + a.val + 1) d - pre lf o d)
        + ∑ s : Fin 128, dw v g (o + a.val) (o + s.val) * (k (o + s.val) d * fade lf (o + a.val) (o + s.val) d)
      = ∑ s ∈ range T, dw v g (o + a.val) s * (k s d * fade lf (o + a.val) s d) := by
  have h := early (k := k) (v := v) (lf := lf) (g := g) (o + a.val) (by omega : o ≤ o + a.val) d 1
  simp only [one_mul] at h
  rw [h, sum_cut hT, left_eq_add]
  refine sum_eq_zero fun s hs => ?_
  rw [dw_of_lt v g (by have := mem_Ico.mp hs; omega), zero_mul]

theorem dk_total (d : Fin 128) :
    (∑ e, v (o + a.val) e * gradAt q lf g T (o + 128) e d) * Real.exp (pre lf (o + 128) d - pre lf (o + a.val + 1) d)
        + ∑ t : Fin 128, dw v g (o + t.val) (o + a.val) * (q (o + t.val) d * fade lf (o + t.val) (o + a.val) d)
      = ∑ t ∈ range T, dw v g t (o + a.val) * (q t d * fade lf t (o + a.val) d) := by
  have h := late (T := T) (q := q) (v := v) (lf := lf) (g := g) (o + a.val) (by omega : o + a.val < o + 128) d 1
  simp only [one_mul, mul_one] at h
  rw [h, sum_cut hT, add_comm, add_assoc, right_eq_add]
  refine sum_eq_zero fun t ht => ?_
  rw [dw_of_lt v g (by have := mem_range.mp ht; omega), zero_mul]

theorem dv_total (e : Fin 128) :
    ∑ t : Fin 128, wt q k lf (o + t.val) (o + a.val) * g (o + t.val) e
        + ∑ d, k (o + a.val) d * Real.exp (pre lf (o + 128) d - pre lf (o + a.val + 1) d) * gradAt q lf g T (o + 128) e d
      = ∑ t ∈ range T, wt q k lf t (o + a.val) * g t e := by
  have h : ∀ d, k (o + a.val) d * Real.exp (pre lf (o + 128) d - pre lf (o + a.val + 1) d) * gradAt q lf g T (o + 128) e d
      = ∑ t ∈ Ico (o + 128) T, q t d * k (o + a.val) d * fade lf t (o + a.val) d * g t e := by
    intro d
    rw [gradAt, mul_sum]
    refine sum_congr rfl fun t _ => ?_
    rw [← fade_eq lf t _ (o + 128) d]
    ring
  have h' : ∑ t ∈ range o, wt q k lf t (o + a.val) * g t e = 0 := by
    refine sum_eq_zero fun t ht => ?_
    rw [wt, if_neg (by have := mem_range.mp ht; omega), zero_mul]
  rw [sum_congr rfl fun d _ => h d, sum_comm, sum_cut hT, h', zero_add]
  congr 1
  refine sum_congr rfl fun t ht => ?_
  rw [wt, if_pos (by have := mem_Ico.mp ht; omega), sum_mul]

/-- The gradient of the running sum of `lf` at token `t`. -/
def dbTok (q k v lf g : Tok) (T t : Nat) (d : Fin 128) : ℝ :=
  ∑ s ∈ range T, cross q k v lf g t s d - ∑ t' ∈ range T, cross q k v lf g t' t d

omit hT in
theorem sum_cross_early (t : Nat) (ht : o ≤ t) (d : Fin 128) :
    (∑ e, g t e * stateAt k v lf o e d) * (q t d * Real.exp (pre lf (t + 1) d - pre lf o d))
      = ∑ s ∈ range o, cross q k v lf g t s d := early t ht d (q t d)

theorem tailOf_eq (s : Nat) (hs : s < 128) (d : Fin 128) :
    tailOf k v lf o (gradAt q lf g T (o + 128)) s d = ∑ t ∈ Ico (o + 128) T, cross q k v lf g t (o + s) d := by
  rw [tailOf, late (o + s) (by omega)]
  rfl

theorem carry_eq (d : Fin 128) :
    carry k v lf o (stateAt k v lf o) (gradAt q lf g T (o + 128)) d = ∑ t ∈ Ico (o + 128) T, dbTok q k v lf g T t d := by
  have h1 : ∑ s : Fin 128, tailOf k v lf o (gradAt q lf g T (o + 128)) s.val d
      = ∑ t ∈ Ico (o + 128) T, ∑ s : Fin 128, cross q k v lf g t (o + s.val) d := by
    rw [sum_congr rfl fun (s : Fin 128) _ => tailOf_eq hT s.val s.isLt d, sum_comm]
  have h2 : ∑ e, stateAt k v lf o e d * Real.exp (pre lf (o + 128) d - pre lf o d) * gradAt q lf g T (o + 128) e d
      = ∑ t ∈ Ico (o + 128) T, ∑ s ∈ range o, cross q k v lf g t s d := by
    have h : ∀ e, stateAt k v lf o e d * Real.exp (pre lf (o + 128) d - pre lf o d) * gradAt q lf g T (o + 128) e d
        = ∑ t ∈ Ico (o + 128) T, g t e * stateAt k v lf o e d * (q t d * Real.exp (pre lf (t + 1) d - pre lf o d)) := by
      intro e
      rw [gradAt, mul_sum]
      refine sum_congr rfl fun t _ => ?_
      rw [show pre lf (t + 1) d - pre lf o d = (pre lf (o + 128) d - pre lf o d) + (pre lf (t + 1) d - pre lf (o + 128) d) by ring,
        Real.exp_add]
      ring
    rw [sum_congr rfl fun e _ => h e, sum_comm]
    refine sum_congr rfl fun t ht => ?_
    rw [← sum_mul, sum_cross_early t (by have := mem_Ico.mp ht; omega)]
  have h3 : ∀ t ∈ Ico (o + 128) T, ∑ t' ∈ range T, cross q k v lf g t' t d = ∑ t' ∈ Ico (o + 128) T, cross q k v lf g t' t d := by
    intro t ht
    have ht := mem_Ico.mp ht
    rw [sum_cut hT, sum_eq_zero fun t' ht' => cross_of_lt q k v lf g (by have := mem_range.mp ht'; omega) d,
      sum_eq_zero fun (t' : Fin 128) _ => cross_of_lt q k v lf g (by omega : o + t'.val < t) d, zero_add, zero_add]
  rw [carry, h1, h2]
  simp only [dbTok]
  rw [sum_sub_distrib, sum_congr rfl h3, sum_comm (f := fun t t' => cross q k v lf g t' t d), ← sum_sub_distrib, ← sum_add_distrib]
  refine sum_congr rfl fun t _ => ?_
  rw [sum_cut hT fun s => cross q k v lf g t s d]
  ring

/-- What the chunk computes at a token: the token's part, and at the last token the later tokens' parts too. -/
theorem dbAt_eq (d : Fin 128) :
    dbAt q k v lf g o (stateAt k v lf o) (gradAt q lf g T (o + 128)) a.val d
      = dbTok q k v lf g T (o + a.val) d + if a.val = 127 then ∑ t ∈ Ico (o + 128) T, dbTok q k v lf g T t d else 0 := by
  have h1 : ∑ s ∈ Ico (o + 128) T, cross q k v lf g (o + a.val) s d = 0 :=
    sum_eq_zero fun s hs => cross_of_lt q k v lf g (by have := mem_Ico.mp hs; omega) d
  have h2 : ∑ t ∈ range o, cross q k v lf g t (o + a.val) d = 0 :=
    sum_eq_zero fun t ht => cross_of_lt q k v lf g (by have := mem_range.mp ht; omega) d
  rw [dbAt, sum_cross_early _ (by omega), tailOf_eq hT _ a.isLt, carry_eq hT, dbTok,
    sum_cut hT fun s => cross q k v lf g (o + a.val) s d, sum_cut hT fun t => cross q k v lf g t (o + a.val) d, h1, h2]
  ring

theorem dlf_total (d : Fin 128) :
    ∑ i ∈ range (128 - a.val), dbAt q k v lf g o (stateAt k v lf o) (gradAt q lf g T (o + 128)) (a.val + i) d
      = ∑ t ∈ Ico (o + a.val) T, dbTok q k v lf g T t d := by
  have ha := a.isLt
  have h : ∀ i ∈ range (128 - a.val), dbAt q k v lf g o (stateAt k v lf o) (gradAt q lf g T (o + 128)) (a.val + i) d
      = dbTok q k v lf g T (o + a.val + i) d
        + if i = 127 - a.val then ∑ t ∈ Ico (o + 128) T, dbTok q k v lf g T t d else 0 := by
    intro i hi
    have hi := mem_range.mp hi
    have e := dbAt_eq (q := q) (k := k) (v := v) (lf := lf) (g := g) hT ⟨a.val + i, by omega⟩ d
    rw [e, ← add_assoc]
    congr 1
    by_cases h : i = 127 - a.val
    · rw [if_pos h, if_pos (by dsimp only; omega)]
    · rw [if_neg h, if_neg (by dsimp only; omega)]
  rw [sum_congr rfl h, sum_add_distrib, sum_ite_eq' (range (128 - a.val)) (127 - a.val), if_pos (mem_range.mpr (by omega)),
    ← sum_Ico_consecutive _ (by omega : o + a.val ≤ o + 128) hT]
  congr 1
  rw [sum_Ico_eq_sum_range, show o + 128 - (o + a.val) = 128 - a.val by omega]

end Hgrn

end
-- ==== Proof.Window.lean ====
/- Running sums along the tokens: a window sum padded before or behind, on arrays of real numbers. -/
module

public import Idealize.ShloMosaic.Lib.Tactic
public import proofs.«01_k».proof.Proof.Tokens

@[expose] public section

set_option maxRecDepth 16384

noncomputable section

namespace Hgrn

open Idealize.ShloMosaic Idealize.ShloMosaic.Tactic Finset

abbrev Heads : Shape := ⟨3, ![8, 4096, 128]⟩
abbrev Win : Shape := ⟨3, ![1, 4096, 1]⟩

theorem zero_word : (FloatOps.ofBits .f32 0x00000000#32 : Ideal .f32) = (0 : EReal) := by
  pointwise []

theorem low_word : (FloatOps.ofBits .f32 0xFF800000#32 : Ideal .f32) = (⊥ : EReal) := by
  pointwise []
  simp [Ideal.ofBits, Ideal.ieee, -EReal.coe_mul]

theorem sel_apply (p : Prop) [Decidable p] (x y : EReal) : (Scalar.select (bit p) x y : EReal) = if p then x else y := by
  by_cases h : p <;> simp [h, Scalar.select, bit]

/-- Column `d` of head `h`. -/
def col (h : Fin 8) (d : Fin 128) : Fin 1024 := ⟨128 * h.val + d.val, by omega⟩

abbrev Plain : Shape := ⟨2, ![4096, 1024]⟩
abbrev Proj : Shape := ⟨2, ![4096, 8192]⟩
abbrev Cot : Shape := ⟨2, ![4096, 2048]⟩

/-- The five arguments hold these real numbers. -/
structure Holds (x0 x1 : FVec Ideal Plain .f32) (x2 : FVec Ideal Proj .f32) (x3 : FVec Ideal Plain .f32) (x4 : FVec Ideal Cot .f32)
    (q k v lf g : Fin 8 → Tok) : Prop where
  q : ∀ h (t : Fin 4096) d, x0 (ix2 t (col h d)) = ((q h t.val d : ℝ) : EReal)
  k : ∀ h (t : Fin 4096) d, x1 (ix2 t (col h d)) = ((k h t.val d : ℝ) : EReal)
  v : ∀ h (t : Fin 4096) d, x2 (ix2 t ⟨6144 + (col h d).val, by omega⟩) = ((v h t.val d : ℝ) : EReal)
  lf : ∀ h (t : Fin 4096) d, x3 (ix2 t (col h d)) = ((lf h t.val d : ℝ) : EReal)
  g : ∀ h (t : Fin 4096) d, x4 (ix2 t ⟨1024 + (col h d).val, by omega⟩) = ((g h t.val d : ℝ) : EReal)

def winEquiv : Fin 4096 ≃ Win.Idx where
  toFun k := ix3 0 k 0
  invFun i := i 1
  left_inv _ := rfl
  right_inv i := by
    rw [eq_ix3 i]
    have h0 : i 0 = (0 : Fin 1) := Subsingleton.elim (α := Fin 1) _ _
    have h2 : i 2 = (0 : Fin 1) := Subsingleton.elim (α := Fin 1) _ _
    rw [h0, h2]
    rfl

theorem foldl_add {ι : Type*} (g : ι → EReal) (l : List ι) (v : EReal) : l.foldl (fun r n => r + g n) v = v + (l.map g).sum := by
  induction l generalizing v with
  | nil => simp
  | cons a l ih => rw [List.foldl_cons, ih, List.map_cons, List.sum_cons, add_assoc]

variable {u : Shape} (x : FVec Ideal Heads .f32) (init : FVec Ideal u .f32) (hu : 0 < u.numel) (h0 : init (Shape.Idx.first hu) = 0)
  (X : Fin 8 → Tok) (hx : ∀ h (t : Fin 4096) d, x (ix3 h t d) = ((X h t.val d : ℝ) : EReal))

include h0 hx in
theorem window_sum (L R : ℕ) (H : Heads.ReduceWindows ![1, 4096, 1] ![1, 1, 1] ![0, L, 0] ![0, R, 0] Heads) (h : Fin 8) (t : Fin 4096) (d : Fin 128) :
    Host.reduceWindowAdd ![1, 4096, 1] ![1, 1, 1] ![0, L, 0] ![0, R, 0] x init H hu (ix3 h t d)
      = ((∑ k ∈ range 4096, (if L ≤ t.val + k ∧ t.val + k - L < 4096 then X h (t.val + k - L) d else 0) : ℝ) : EReal) := by
  unfold Host.reduceWindowAdd
  rw [h0, Ideal.hostReduceWindowAdd_def, Ideal.hostReduceWindowAdd, Host.reduceWindow]
  dsimp only
  refine (foldl_add _ _ _).trans ?_
  rw [zero_add, ← Fin.sum_univ_def, Finset.sum_range, ← coe_sum]
  refine (Equiv.sum_comp (winEquiv.trans Win.rowMajor) _).symm.trans ?_
  refine Finset.sum_congr rfl fun k _ => ?_
  simp only [Equiv.trans_apply, Equiv.symm_apply_apply]
  by_cases hk : L ≤ t.val + k.val ∧ t.val + k.val - L < 4096
  · rw [if_pos hk, ← hx h ⟨t.val + k.val - L, hk.2⟩ d]
    refine (dif_pos ?_).trans ?_
    · intro a
      fin_cases a
      · show 0 ≤ h.val * 1 + 0 ∧ h.val * 1 + 0 - 0 < 8
        omega
      · show L ≤ t.val * 1 + k.val ∧ t.val * 1 + k.val - L < 4096
        omega
      · show 0 ≤ d.val * 1 + 0 ∧ d.val * 1 + 0 - 0 < 128
        omega
    refine congrArg x (funext fun a => Fin.ext ?_)
    fin_cases a
    · show h.val * 1 + 0 - 0 = h.val
      omega
    · show t.val * 1 + k.val - L = t.val + k.val - L
      omega
    · show d.val * 1 + 0 - 0 = d.val
      omega
  · refine (dif_neg fun hin => hk ?_).trans ?_
    · have := hin 1
      change L ≤ t.val * 1 + k.val ∧ t.val * 1 + k.val - L < 4096 at this
      omega
    · rw [if_neg hk]
      rfl

include h0 hx in
/-- The running sum: padded before the first token. -/
theorem window_upto (H : Heads.ReduceWindows ![1, 4096, 1] ![1, 1, 1] ![0, 4095, 0] ![0, 0, 0] Heads) (h : Fin 8) (t : Fin 4096) (d : Fin 128) :
    Host.reduceWindowAdd ![1, 4096, 1] ![1, 1, 1] ![0, 4095, 0] ![0, 0, 0] x init H hu (ix3 h t d) = ((pre (X h) (t.val + 1) d : ℝ) : EReal) := by
  rw [window_sum x init hu h0 X hx 4095 0 H, pre]
  congr 1
  have ht := t.isLt
  rw [← sum_filter]
  refine sum_nbij' (fun k => t.val + k - 4095) (fun r => r + 4095 - t.val) ?_ ?_ ?_ ?_ ?_
  · intro k hk
    rw [mem_filter, mem_range] at hk
    exact mem_range.mpr (by omega)
  · intro r hr
    rw [mem_range] at hr
    exact mem_filter.mpr ⟨mem_range.mpr (by omega), by omega⟩
  · intro k hk
    rw [mem_filter, mem_range] at hk
    omega
  · intro r hr
    rw [mem_range] at hr
    omega
  · intros
    trivial

include h0 hx in
/-- The running sum from the end: padded behind the last token. -/
theorem window_from (H : Heads.ReduceWindows ![1, 4096, 1] ![1, 1, 1] ![0, 0, 0] ![0, 4095, 0] Heads) (h : Fin 8) (t : Fin 4096) (d : Fin 128) :
    Host.reduceWindowAdd ![1, 4096, 1] ![1, 1, 1] ![0, 0, 0] ![0, 4095, 0] x init H hu (ix3 h t d)
      = ((∑ r ∈ Ico t.val 4096, X h r d : ℝ) : EReal) := by
  rw [window_sum x init hu h0 X hx 0 4095 H]
  congr 1
  have ht := t.isLt
  rw [← sum_filter]
  refine sum_nbij' (fun k => t.val + k) (fun r => r - t.val) ?_ ?_ ?_ ?_ ?_
  · intro k hk
    rw [mem_filter, mem_range] at hk
    exact mem_Ico.mpr (by omega)
  · intro r hr
    rw [mem_Ico] at hr
    exact mem_filter.mpr ⟨mem_range.mpr (by omega), by omega⟩
  · intro k hk
    rw [mem_filter, mem_range] at hk
    omega
  · intro r hr
    rw [mem_Ico] at hr
    omega
  · intros
    trivial

end Hgrn

end
-- ==== Proof.Outs.lean ====
/- What a grid point leaves in its outputs and in the carried gradient, head by head, from its blocks and from what the point before left. -/
module

public import proofs.«01_k».proof.Proof.Gen.KernelIdeal.Frame
public import proofs.«01_k».proof.Proof.StoresA
public import proofs.«01_k».proof.Proof.StoresB
public import Idealize.ShloMosaic.Lib.Pipeline.ReadBack
public import Idealize.ShloMosaic.Lib.Pipeline.ValueKit.Tiles
public import proofs.«01_k».proof.Proof.Window

@[expose] public section

set_option maxRecDepth 16384

noncomputable section

namespace Hgrn

open Idealize.ShloMosaic Idealize.ShloMosaic.TcCoe Idealize.ShloMosaic.Tactic Idealize.SL Cert.KernelIdeal Cert.KernelIdeal.Gen
open Idealize.ShloMosaic.Pipeline (Dat)

variable {F : FTy → Type} [FloatOps F]

theorem part_apply (x : Vec F Wide .f32) (h : Fin 8) (a d : Fin 128) : part x h (ix2 a d) = x (ix2 a (col h d)) := by
  refine View.ld_unit_apply_of _ _ _ _ _ _ ?_
  intro b
  fin_cases b
  · show a.val = 0 + a.val
    omega
  · rfl

theorem castState_apply (x : Vec F ⟨4, ![1, 1, 128, 128]⟩ .f32) (e d : Fin 128) : shapeCast Sq x castState (ix2 e d) = x (ix4 0 0 e d) := by
  pointwise []

theorem castCarried_apply (x : Vec F ⟨3, ![1, 128, 128]⟩ .f32) (e d : Fin 128) : shapeCast Sq x castCarried (ix2 e d) = x (ix3 0 e d) := by
  pointwise []

theorem partState_apply (x : Vec F States .f32) (h : Fin 8) (e d : Fin 128) : partState x h (ix2 e d) = x (ix4 h 0 e d) := by
  rw [partState, castState_apply]
  refine View.ld_unit_apply_of _ _ _ _ _ _ ?_
  intro b
  fin_cases b
  · rfl
  · rfl
  · show e.val = 0 + e.val
    omega
  · show d.val = 0 + d.val
    omega

theorem partCarried_apply (x : Vec F Carried .f32) (h : Fin 8) (e d : Fin 128) : partCarried x h (ix2 e d) = x (ix3 h e d) := by
  rw [partCarried, castCarried_apply]
  refine View.ld_unit_apply_of _ _ _ _ _ _ ?_
  intro b
  fin_cases b
  · rfl
  · show e.val = 0 + e.val
    omega
  · show d.val = 0 + d.val
    omega

theorem castBack_apply (x : FVec F Sq .f32) (e d : Fin 128) : shapeCast ⟨3, ![1, 128, 128]⟩ x castBack (ix3 0 e d) = x (ix2 e d) := by
  pointwise []

section Reads

variable {κ : Kind} {sp : Space} {sig : RefSig}

theorem columns_read (v : View sig κ sp Wide .f32) (f : v.ty.Contents (Elt F)) (w : Fin 8 → FVec F Sq .f32) (h : Fin 8) (a d : Fin 128) :
    v.read (Elt F) (v.writes (Elt F) f (columns w)) (ix2 a (col h d)) = w h (ix2 a d) := by
  rw [columns]
  refine View.read_tilePieces v f ![128, 128] (fun h : Fin 8 => ![0, 128 * h.val]) inWide w 8 le_rfl (ix2 a (col h d)) h h.isLt (ix2 a d) ?_ 1 ?_
  · intro x
    fin_cases x
    · show a.val = 0 + a.val
      omega
    · rfl
  · intro h' hne
    have : h'.val ≠ h.val := fun e => hne (Fin.ext e)
    show 128 * h.val + d.val < 128 * h'.val ∨ 128 * h'.val + 128 ≤ 128 * h.val + d.val
    omega

theorem carriedParts_read (v : View sig κ sp Carried .f32) (f : v.ty.Contents (Elt F)) (w : Fin 8 → FVec F Sq .f32) (h : Fin 8) :
    partCarried (v.read (Elt F) (v.writes (Elt F) f (carriedParts w))) h = w h := by
  funext j
  rw [eq_ix2 j]
  refine (partCarried_apply _ h (j 0) (j 1)).trans ?_
  rw [carriedParts]
  refine (View.read_tilePieces v f ![1, 128, 128] (fun h : Fin 8 => ![h.val, 0, 0]) inCarried _ 8 le_rfl (ix3 h (j 0) (j 1)) h h.isLt (ix3 0 (j 0) (j 1)) ?_ 0 ?_).trans ?_
  · intro x
    fin_cases x
    · rfl
    · show (j 0).val = 0 + (j 0).val
      omega
    · show (j 1).val = 0 + (j 1).val
      omega
  · intro h' hne
    have : h'.val ≠ h.val := fun e => hne (Fin.ext e)
    show h.val < h'.val ∨ h'.val + 1 ≤ h.val
    omega
  · exact castBack_apply (w h) (j 0) (j 1)

end Reads

theorem partFilled_eq (a : Memref sig .tc .vmem Carried .f32) (h : Fin 8) : partFilled (F := F) a h = zeros := by
  have hz : (k0_pay2 : FVec F Carried .f32) = fun _ => Scalar.ofBits .f32 0x00000000#32 := by
    funext j
    pointwise [k0_pay2]
  rw [partFilled, zeroFill, View.readCov_fill _ _ _ _ _ (by decide), hz]
  rfl

section Points

variable (m : (ℓ : Loc nD τ sig) → Buf (Elt F) ℓ) (c : Dev nD) (t : Fin cfg0.N)

/-- Head `h`'s carried gradient, as point `t` finds it: zeros at the first point. -/
def found (h : Fin 8) : FVec F Sq .f32 :=
  if t.val % 32 = 0 then zeros else partCarried (outsAt0 m c (t.val - 1) (Nat.lt_of_le_of_lt (Nat.sub_le _ _) t.isLt)).2.2.2.2 h

theorem outs_dq (h : Fin 8) (a d : Fin 128) : (outsAt0 m c t.val t.isLt).1 (ix2 a (col h d))
    = dqOf (part (iblk m c 1 t) h) (part (iblk m c 2 t) h) (part (iblk m c 3 t) h) (partState (iblk m c 4 t) h) (part (iblk m c 5 t) h) (ix2 a d) := by
  by_cases h0 : t.val % 32 = 0
  · rw [outsAt0_A m c t h0]
    dsimp only
    rw [out0_A_6, piecesA_6, columns_read]
    simp only [held, Memref.IsWhole.read_unread, partFilled_eq]
  · rw [outsAt0_B m c t h0]
    dsimp only
    rw [out0_B_6, piecesB_6, columns_read]
    simp only [held, Memref.IsWhole.read_unread]

theorem outs_dk (h : Fin 8) (a d : Fin 128) : (outsAt0 m c t.val t.isLt).2.1 (ix2 a (col h d))
    = dkOf (part (iblk m c 0 t) h) (part (iblk m c 1 t) h) (part (iblk m c 2 t) h) (part (iblk m c 3 t) h) (part (iblk m c 5 t) h) (found m c t h) (ix2 a d) := by
  by_cases h0 : t.val % 32 = 0
  · rw [outsAt0_A m c t h0]
    dsimp only
    rw [out0_A_7, piecesA_7, columns_read]
    simp only [held, Memref.IsWhole.read_unread, partFilled_eq, found, if_pos h0]
  · rw [outsAt0_B m c t h0]
    dsimp only
    rw [out0_B_7, piecesB_7, columns_read]
    simp only [held, Memref.IsWhole.read_unread, read_unread_whole, found, if_neg h0]

theorem outs_dv (h : Fin 8) (a d : Fin 128) : (outsAt0 m c t.val t.isLt).2.2.1 (ix2 a (col h d))
    = dvOf (part (iblk m c 0 t) h) (part (iblk m c 1 t) h) (part (iblk m c 3 t) h) (part (iblk m c 5 t) h) (found m c t h) (ix2 a d) := by
  by_cases h0 : t.val % 32 = 0
  · rw [outsAt0_A m c t h0]
    dsimp only
    rw [out0_A_8, piecesA_8, columns_read]
    simp only [held, Memref.IsWhole.read_unread, partFilled_eq, found, if_pos h0]
  · rw [outsAt0_B m c t h0]
    dsimp only
    rw [out0_B_8, piecesB_8, columns_read]
    simp only [held, Memref.IsWhole.read_unread, read_unread_whole, found, if_neg h0]

theorem outs_dlf (h : Fin 8) (a d : Fin 128) : (outsAt0 m c t.val t.isLt).2.2.2.1 (ix2 a (col h d))
    = dlfOf (part (iblk m c 0 t) h) (part (iblk m c 1 t) h) (part (iblk m c 2 t) h) (part (iblk m c 3 t) h) (partState (iblk m c 4 t) h) (part (iblk m c 5 t) h) (found m c t h) (ix2 a d) := by
  by_cases h0 : t.val % 32 = 0
  · rw [outsAt0_A m c t h0]
    dsimp only
    rw [out0_A_9, piecesA_9, columns_read]
    simp only [held, Memref.IsWhole.read_unread, partFilled_eq, found, if_pos h0]
  · rw [outsAt0_B m c t h0]
    dsimp only
    rw [out0_B_9, piecesB_9, columns_read]
    simp only [held, Memref.IsWhole.read_unread, read_unread_whole, found, if_neg h0]

theorem outs_ds (h : Fin 8) : partCarried (outsAt0 m c t.val t.isLt).2.2.2.2 h = dsOf (part (iblk m c 0 t) h) (part (iblk m c 3 t) h) (part (iblk m c 5 t) h) (found m c t h) := by
  by_cases h0 : t.val % 32 = 0
  · rw [outsAt0_A m c t h0]
    dsimp only
    rw [sout0_A_0, piecesA_carried, View.writes_append, carriedParts_read]
    simp only [held, Memref.IsWhole.read_unread, partFilled_eq, found, if_pos h0]
  · rw [outsAt0_B m c t h0]
    dsimp only
    rw [sout0_B_0, piecesB_carried, carriedParts_read]
    simp only [held, Memref.IsWhole.read_unread, read_unread_whole, found, if_neg h0]

end Points

end Hgrn

end
-- ==== Proof.States.lean ====
/- The host lines that prepare the states: the state of the recurrence before each chunk, as a sum over the tokens before it. -/
module

public import proofs.«01_k».proof.Proof.Gen.KernelIdeal.Frame
public import proofs.«01_k».proof.Proof.Window
public import Idealize.ShloMosaic.Lib.Claim

@[expose] public section

set_option maxRecDepth 16384

noncomputable section

namespace Hgrn

open Idealize.ShloMosaic Idealize.ShloMosaic.TcCoe Idealize.ShloMosaic.Tactic Idealize.SL Finset Cert.KernelIdeal Cert.KernelIdeal.Gen

section Lines

variable {F : FTy → Type} [FloatOps F]

def byHead (x : FVec F ⟨2, ![4096, 1024]⟩ .f32) : FVec F Heads .f32 :=
  transpose S8x4096x128 [1, 0, 2] (shapeCast S4096x8x128 x shapeCasts_S4096x1024_S4096x8x128) transposes_S4096x8x128_S8x4096x128_1_0_2

def values (x : FVec F ⟨2, ![4096, 8192]⟩ .f32) : FVec F ⟨2, ![4096, 1024]⟩ .f32 :=
  extractStridedSlice S4096x1024 ![0, 6144] x slices_S4096x8192_S4096x1024_0_6144

def zero0 : FVec F ⟨0, ![]⟩ .f32 := broadcastInDim S_ ![] bcast_S_S_ (constant S_ .f32 0x00000000#32)

def runUpto (x : FVec F Heads .f32) : FVec F Heads .f32 :=
  Host.reduceWindowAdd ![1, 4096, 1] ![1, 1, 1] ![0, 4095, 0] ![0, 0, 0] x (zero0 (F := F)) reduceWindows_S8x4096x128_S8x4096x128_w1s1p0_0_w4096s1p4095_0_w1s1p0_0 h_S_

def chunkStarts (b : FVec F Heads .f32) : FVec F ⟨3, ![8, 32, 128]⟩ .f32 :=
  concatenate S8x32x128 1 [⟨S8x1x128, broadcastInDim S8x1x128 ![] bcast_S_S8x1x128 (constant S_ .f32 0x00000000#32)⟩,
    ⟨S8x31x128, Host.slice S8x31x128 ![0, 127, 0] ![1, 128, 1] b slicesBy_S8x4096x128_S8x31x128_0s1_127s128_0s1⟩]
    concatenates_S8x1x128_S8x31x128_S8x32x128_d1

def earlier : IVec ⟨2, ![32, 4096]⟩ 1 :=
  cmpi .sgt
    (broadcastInDim S32x4096 ![0, 1] bcast_S32x1_S32x4096_0_1 (broadcastInDim S32x1 ![0] bcast_S32_S32x1_0
      (muli (broadcastInDim S32 ![] bcast_S_S32 (constantI S_ 32 128#32)) (iotaInDim S32 32 0))))
    (broadcastInDim S32x4096 ![0, 1] bcast_S1x4096_S32x4096_0_1 (broadcastInDim S1x4096 ![1] bcast_S4096_S1x4096_1 (iotaInDim S4096 32 0)))

def gaps (b : FVec F Heads .f32) : FVec F ⟨4, ![8, 32, 4096, 128]⟩ .f32 :=
  subf
    (broadcastInDim S8x32x4096x128 ![0, 1, 2, 3] bcast_S8x32x1x128_S8x32x4096x128_0_1_2_3
      (broadcastInDim S8x32x1x128 ![0, 1, 3] bcast_S8x32x128_S8x32x1x128_0_1_3 (chunkStarts b)))
    (broadcastInDim S8x32x4096x128 ![0, 1, 2, 3] bcast_S8x1x4096x128_S8x32x4096x128_0_1_2_3
      (broadcastInDim S8x1x4096x128 ![0, 2, 3] bcast_S8x4096x128_S8x1x4096x128_0_2_3 b))

def fades (b : FVec F Heads .f32) : FVec F ⟨4, ![8, 32, 4096, 128]⟩ .f32 :=
  Host.exp (select (broadcastInDim S8x32x4096x128 ![1, 2, 3] bcast_S32x4096x1_S8x32x4096x128_1_2_3
      (broadcastInDim S32x4096x1 ![0, 1] bcast_S32x4096_S32x4096x1_0_1 earlier)) (gaps b)
    (broadcastInDim S8x32x4096x128 ![] bcast_S_S8x32x4096x128 (constant S_ .f32 0xFF800000#32)))

def fadedKeys (b k : FVec F Heads .f32) : FVec F ⟨4, ![8, 32, 4096, 128]⟩ .f32 :=
  mulf (fades b) (broadcastInDim S8x32x4096x128 ![0, 1, 2, 3] bcast_S8x1x4096x128_S8x32x4096x128_0_1_2_3
    (broadcastInDim S8x1x4096x128 ![0, 2, 3] bcast_S8x4096x128_S8x1x4096x128_0_2_3 k))

def products (v : FVec F Heads .f32) (y : FVec F ⟨4, ![8, 32, 4096, 128]⟩ .f32) : FVec F ⟨4, ![8, 128, 32, 128]⟩ .f32 :=
  Host.dotGeneral dot_S8x4096x128_S8x32x4096x128_S8x128x32x128_1_2_2_13_0_0 none v y

def statesOf (x1 : FVec F ⟨2, ![4096, 1024]⟩ .f32) (x2 : FVec F ⟨2, ![4096, 8192]⟩ .f32) (x3 : FVec F ⟨2, ![4096, 1024]⟩ .f32) :
    FVec F ⟨4, ![8, 32, 128, 128]⟩ .f32 :=
  transpose S8x32x128x128 [0, 2, 1, 3] (products (byHead (values x2)) (fadedKeys (runUpto (byHead x3)) (byHead x1)))
    transposes_S8x128x32x128_S8x32x128x128_0_2_1_3

variable (m : (ℓ : Loc nD τ sig) → Buf (Elt F) ℓ) (c : Dev nD)

theorem states_held : V m c main_v32 = statesOf (m ((c.tc : Thread nD τ).loc main_arg1)) (m ((c.tc : Thread nD τ).loc main_arg2)) (m ((c.tc : Thread nD τ).loc main_arg3)) := by
  sl_kernel_rfl

end Lines

theorem byHead_apply (x : FVec Ideal ⟨2, ![4096, 1024]⟩ .f32) (h : Fin 8) (t : Fin 4096) (d : Fin 128) : byHead x (ix3 h t d) = x (ix2 t (col h d)) := by
  rw [byHead]
  refine (transpose_apply [1, 0, 2] _ transposes_S4096x8x128_S8x4096x128_1_0_2 _ (ix3 t h d) ?_).trans ?_
  · intro b
    fin_cases b <;> rfl
  · refine shapeCast_apply x shapeCasts_S4096x1024_S4096x8x128 _ (ix2 t (col h d)) ?_
    rw [Shape.rowMajor_val_two, Shape.rowMajor_val_three]
    show t.val * 1024 + (128 * h.val + d.val) = (t.val * 8 + h.val) * 128 + d.val
    omega

theorem values_apply (x : FVec Ideal ⟨2, ![4096, 8192]⟩ .f32) (t : Fin 4096) (b : Fin 1024) : values x (ix2 t b) = x (ix2 t ⟨6144 + b.val, by omega⟩) := by
  rw [values]
  refine extractStridedSlice_apply ![0, 6144] x slices_S4096x8192_S4096x1024_0_6144 _ _ ?_
  intro a
  fin_cases a
  · show t.val = 0 + t.val
    omega
  · rfl

theorem earlier_apply (n : Fin 32) (t : Fin 4096) : earlier (ix2 n t) = bit (t.val < 128 * n.val) := by
  pointwise [earlier]
  have e : IntOp.muli 128#32 (BitVec.ofNat 32 n.val) = BitVec.ofNat 32 (128 * n.val) := by
    rw [BitVec.ofNat_mul]
    rfl
  rw [e]
  exact WordCmp.cmpi_sgt_ofNat (a := 128 * n.val) (b := t.val) (by omega) (by omega)

theorem zero0_apply (j : Shape.Idx ⟨0, ![]⟩) : (zero0 (F := Ideal)) j = (0 : EReal) := by
  pointwise [zero0]

variable (B : Fin 8 → Tok) (b : FVec Ideal Heads .f32) (hb : ∀ h (t : Fin 4096) d, b (ix3 h t d) = ((pre (B h) (t.val + 1) d : ℝ) : EReal))

include hb

theorem chunkStarts_apply (h : Fin 8) (n : Fin 32) (d : Fin 128) : chunkStarts b (ix3 h n d) = ((pre (B h) (128 * n.val) d : ℝ) : EReal) := by
  pointwise [chunkStarts]
  split
  · have hn : n.val = 0 := by omega
    rw [hn]
    simp [pre]
  · rw [hb]
    have e : 127 + 128 * (n.val - 1) + 1 = 128 * n.val := by omega
    exact congrArg (fun r => ((pre (B h) r d : ℝ) : EReal)) e

theorem gaps_apply (h : Fin 8) (n : Fin 32) (t : Fin 4096) (d : Fin 128) : gaps b (ix4 h n t d) = ((pre (B h) (128 * n.val) d - pre (B h) (t.val + 1) d : ℝ) : EReal) := by
  pointwise [gaps]
  rw [hb, chunkStarts_apply B b hb, EReal.coe_sub]

theorem fades_apply (h : Fin 8) (n : Fin 32) (t : Fin 4096) (d : Fin 128) :
    fades b (ix4 h n t d) = ((if t.val < 128 * n.val then Real.exp (pre (B h) (128 * n.val) d - pre (B h) (t.val + 1) d) else 0 : ℝ) : EReal) := by
  pointwise [fades]
  rw [earlier_apply, gaps_apply B b hb, sel_apply]
  split
  · exact Ideal.exp_coe _
  · exact (congrArg Ideal.exp low_word).trans rfl

theorem fadedKeys_apply (K : Fin 8 → Tok) (k : FVec Ideal Heads .f32) (hk : ∀ h (t : Fin 4096) d, k (ix3 h t d) = ((K h t.val d : ℝ) : EReal))
    (h : Fin 8) (n : Fin 32) (t : Fin 4096) (d : Fin 128) :
    fadedKeys b k (ix4 h n t d) = ((if t.val < 128 * n.val then K h t.val d * Real.exp (pre (B h) (128 * n.val) d - pre (B h) (t.val + 1) d) else 0 : ℝ) : EReal) := by
  pointwise [fadedKeys]
  rw [fades_apply B b hb, hk, ← EReal.coe_mul]
  refine congrArg _ ?_
  split <;> ring

omit hb in
theorem products_apply (v : FVec Ideal Heads .f32) (y : FVec Ideal ⟨4, ![8, 32, 4096, 128]⟩ .f32) (h : Fin 8) (e : Fin 128) (n : Fin 32) (d : Fin 128) :
    products v y (ix4 h e n d) = ∑ t : Fin 4096, v (ix3 h t e) * y (ix4 h n t d) := by
  pointwise [products]

omit hb in
/-- The state before chunk `n`, as the host lines prepare it. -/
theorem statesOf_apply (x1 : FVec Ideal ⟨2, ![4096, 1024]⟩ .f32) (x2 : FVec Ideal ⟨2, ![4096, 8192]⟩ .f32) (x3 : FVec Ideal ⟨2, ![4096, 1024]⟩ .f32)
    (k v lf : Fin 8 → Tok) (hk : ∀ h (t : Fin 4096) d, x1 (ix2 t (col h d)) = ((k h t.val d : ℝ) : EReal))
    (hv : ∀ h (t : Fin 4096) d, x2 (ix2 t ⟨6144 + (col h d).val, by omega⟩) = ((v h t.val d : ℝ) : EReal))
    (hl : ∀ h (t : Fin 4096) d, x3 (ix2 t (col h d)) = ((lf h t.val d : ℝ) : EReal))
    (h : Fin 8) (n : Fin 32) (e d : Fin 128) :
    statesOf x1 x2 x3 (ix4 h n e d) = ((stateAt (k h) (v h) (lf h) (128 * n.val) e d : ℝ) : EReal) := by
  have hb : ∀ h (t : Fin 4096) d, runUpto (byHead x3) (ix3 h t d) = ((pre (lf h) (t.val + 1) d : ℝ) : EReal) := fun h t d =>
    window_upto _ _ _ (zero0_apply _) lf (fun h t d => (byHead_apply x3 h t d).trans (hl h t d)) _ h t d
  have hk' : ∀ h (t : Fin 4096) d, byHead x1 (ix3 h t d) = ((k h t.val d : ℝ) : EReal) := fun h t d => (byHead_apply x1 h t d).trans (hk h t d)
  have hv' : ∀ h (t : Fin 4096) d, byHead (values x2) (ix3 h t d) = ((v h t.val d : ℝ) : EReal) := fun h t d =>
    (byHead_apply _ h t d).trans ((values_apply x2 t (col h d)).trans (hv h t d))
  have ht : statesOf x1 x2 x3 (ix4 h n e d)
      = products (byHead (values x2)) (fadedKeys (runUpto (byHead x3)) (byHead x1)) (ix4 h e n d) := by
    rw [statesOf]
    refine transpose_apply [0, 2, 1, 3] _ transposes_S8x128x32x128_S8x32x128x128_0_2_1_3 _ _ ?_
    intro b
    fin_cases b <;> rfl
  rw [ht, products_apply]
  simp only [hv', fadedKeys_apply lf _ hb k _ hk', ← EReal.coe_mul, coe_sum]
  refine congrArg _ ?_
  rw [stateAt, ← sum_range (fun t => v h t e * if t < 128 * n.val then k h t d * Real.exp (pre (lf h) (128 * n.val) d - pre (lf h) (t + 1) d) else 0)]
  refine (sum_subset (range_subset_range.2 (by omega)) fun t _ ht => ?_).symm.trans (sum_congr rfl fun t ht => ?_)
  · rw [if_neg (by simpa using ht), mul_zero]
  · rw [if_pos (by simpa using ht)]

end Hgrn

end
-- ==== Proof.Value.lean ====
/- What the backward call leaves in its four results: the sums over all tokens of the closed form. -/
module

public import proofs.«01_k».proof.Proof.Gen.KernelIdeal.Value
public import proofs.«01_k».proof.Proof.Blocks
public import proofs.«01_k».proof.Proof.Outs
public import proofs.«01_k».proof.Proof.States
public import proofs.«01_k».proof.Proof.Tokens

@[expose] public section

set_option maxRecDepth 16384

noncomputable section

namespace Hgrn

open Idealize.ShloMosaic Idealize.ShloMosaic.TcCoe Idealize.ShloMosaic.Tactic Idealize.SL Finset Cert.KernelIdeal Cert.KernelIdeal.Gen
open Idealize.ShloMosaic.Pipeline (Dat)

variable {m : (ℓ : Loc nD τ sig) → Buf (Elt Ideal) ℓ} {c : Dev nD} {q k v lf g : Fin 8 → Tok}
  (H : Holds (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) q k v lf g)
  (hl : ∀ h, Gate (lf h))

section Point

variable (t : Fin cfg0.N) (h : Fin 8)

/-- The first token of the chunk that point `t` works on. -/
abbrev first : Nat := 128 * (31 - t.val)

theorem first_le : first t + 128 ≤ 4096 := by
  show 128 * (31 - t.val) + 128 ≤ 4096
  omega

include H

theorem part_q : part (iblk m c 0 t) h = blk (q h) (first t) := by
  funext j
  rw [eq_ix2 j]
  exact (part_apply _ h (j 0) (j 1)).trans ((iblk_0 m c t (j 0) (col h (j 1))).trans (H.q h (row t (j 0)) (j 1)))

theorem part_k : part (iblk m c 1 t) h = blk (k h) (first t) := by
  funext j
  rw [eq_ix2 j]
  exact (part_apply _ h (j 0) (j 1)).trans ((iblk_1 m c t (j 0) (col h (j 1))).trans (H.k h (row t (j 0)) (j 1)))

theorem part_v : part (iblk m c 2 t) h = blk (v h) (first t) := by
  funext j
  rw [eq_ix2 j]
  exact (part_apply _ h (j 0) (j 1)).trans ((iblk_2 m c t (j 0) (col h (j 1))).trans (H.v h (row t (j 0)) (j 1)))

theorem part_lf : part (iblk m c 3 t) h = blk (lf h) (first t) := by
  funext j
  rw [eq_ix2 j]
  exact (part_apply _ h (j 0) (j 1)).trans ((iblk_3 m c t (j 0) (col h (j 1))).trans (H.lf h (row t (j 0)) (j 1)))

theorem part_g : part (iblk m c 5 t) h = blk (g h) (first t) := by
  funext j
  rw [eq_ix2 j]
  exact (part_apply _ h (j 0) (j 1)).trans ((iblk_5 m c t (j 0) (col h (j 1))).trans (H.g h (row t (j 0)) (j 1)))

theorem part_state : partState (iblk m c 4 t) h = up (stateAt (k h) (v h) (lf h) (first t)) := by
  funext j
  rw [eq_ix2 j]
  refine (partState_apply _ h (j 0) (j 1)).trans ((iblk_4 m c t h (j 0) (j 1)).trans ?_)
  rw [states_held]
  exact statesOf_apply _ _ _ k v lf H.k H.v H.lf h ⟨31 - t.val, by omega⟩ (j 0) (j 1)

theorem carried (n : Nat) (hn : n < cfg0.N) :
    partCarried (outsAt0 m c n hn).2.2.2.2 h = up (gradAt (q h) (lf h) (g h) 4096 (128 * (31 - n))) := by
  have hN : cfg0.N = 32 := by decide +kernel
  induction n with
  | zero =>
    have e := outs_ds m c ⟨0, hn⟩ h
    rw [part_q H, part_lf H, part_g H, found, if_pos (by rfl), up_zeros] at e
    refine e.trans ?_
    rw [← gradAt_end (q := q h) (lf := lf h) (g := g h) (le_refl 4096), up_dsOf]
    congr 1
    funext e d
    exact gradAt_step (first_le ⟨_, hn⟩) e d
  | succ n ih =>
    have e := outs_ds m c ⟨n + 1, hn⟩ h
    rw [part_q H, part_lf H, part_g H, found, if_neg (by show ¬ (n + 1) % 32 = 0; omega)] at e
    refine e.trans ?_
    have ih' := ih (by omega)
    rw [show 128 * (31 - n) = 128 * (31 - (n + 1)) + 128 by omega] at ih'
    refine (congrArg _ ih').trans ?_
    rw [up_dsOf]
    congr 1
    funext e d
    exact gradAt_step (first_le ⟨_, hn⟩) e d

theorem found_eq : found m c t h = up (gradAt (q h) (lf h) (g h) 4096 (first t + 128)) := by
  have ht := t.isLt
  have hN : cfg0.N = 32 := by decide +kernel
  rw [found]
  split
  · have e : 4096 ≤ first t + 128 := by
      show 4096 ≤ 128 * (31 - t.val) + 128
      omega
    rw [gradAt_end e, up_zeros]
  · rw [carried H h]
    have e : 128 * (31 - (t.val - 1)) = first t + 128 := by
      show 128 * (31 - (t.val - 1)) = 128 * (31 - t.val) + 128
      omega
    rw [e]

include hl

variable (a d : Fin 128)

theorem point_dq : (outsAt0 m c t.val t.isLt).1 (ix2 a (col h d))
    = ((∑ s ∈ range 4096, dw (v h) (g h) (first t + a.val) s * (k h s d * fade (lf h) (first t + a.val) s d) : ℝ) : EReal) := by
  rw [outs_dq, part_k H, part_v H, part_lf H, part_state H, part_g H, up_dqOf (hl h)]
  exact congrArg _ (dq_total (first_le t) a d)

theorem point_dk : (outsAt0 m c t.val t.isLt).2.1 (ix2 a (col h d))
    = ((∑ r ∈ range 4096, dw (v h) (g h) r (first t + a.val) * (q h r d * fade (lf h) r (first t + a.val) d) : ℝ) : EReal) := by
  rw [outs_dk, part_q H, part_k H, part_v H, part_lf H, part_g H, found_eq H, up_dkOf (hl h)]
  exact congrArg _ (dk_total (first_le t) a d)

theorem point_dv : (outsAt0 m c t.val t.isLt).2.2.1 (ix2 a (col h d))
    = ((∑ r ∈ range 4096, wt (q h) (k h) (lf h) r (first t + a.val) * g h r d : ℝ) : EReal) := by
  rw [outs_dv, part_q H, part_k H, part_lf H, part_g H, found_eq H, up_dvOf (hl h)]
  exact congrArg _ (dv_total (first_le t) a d)

theorem point_dlf : (outsAt0 m c t.val t.isLt).2.2.2.1 (ix2 a (col h d))
    = ((∑ r ∈ Ico (first t + a.val) 4096, dbTok (q h) (k h) (v h) (lf h) (g h) 4096 r d : ℝ) : EReal) := by
  rw [outs_dlf, part_q H, part_k H, part_v H, part_lf H, part_state H, part_g H, found_eq H, up_dlfOf (hl h)]
  exact congrArg _ (dlf_total (first_le t) a d)

end Point

theorem index_6 : ∀ t : Fin cfg0.N, win0_6.index t = ![31 - t.val, 0] := (by decide +kernel : ∀ t : Fin grid0.N, win0_6.index t = ![31 - t.val, 0])
theorem index_7 : ∀ t : Fin cfg0.N, win0_7.index t = ![31 - t.val, 0] := (by decide +kernel : ∀ t : Fin grid0.N, win0_7.index t = ![31 - t.val, 0])
theorem index_8 : ∀ t : Fin cfg0.N, win0_8.index t = ![31 - t.val, 0] := (by decide +kernel : ∀ t : Fin grid0.N, win0_8.index t = ![31 - t.val, 0])
theorem index_9 : ∀ t : Fin cfg0.N, win0_9.index t = ![31 - t.val, 0] := (by decide +kernel : ∀ t : Fin grid0.N, win0_9.index t = ![31 - t.val, 0])

/-- An array of real numbers, given head by head. -/
def allHeads (X : Fin 8 → Tok) : FVec Ideal Plain .f32 := fun i =>
  let a : Fin 4096 := i 0
  let b : Fin 1024 := i 1
  ((X ⟨b.val / 128, by omega⟩ a.val ⟨b.val % 128, by omega⟩ : ℝ) : EReal)

theorem allHeads_apply (X : Fin 8 → Tok) (h : Fin 8) (t : Fin 4096) (d : Fin 128) : allHeads X (ix2 t (col h d)) = ((X h t.val d : ℝ) : EReal) := by
  have e1 : (⟨(col h d).val / 128, by omega⟩ : Fin 8) = h := Fin.ext (by show (128 * h.val + d.val) / 128 = h.val; omega)
  have e2 : (⟨(col h d).val % 128, by omega⟩ : Fin 128) = d := Fin.ext (by show (128 * h.val + d.val) % 128 = d.val; omega)
  show ((X ⟨(col h d).val / 128, _⟩ t.val ⟨(col h d).val % 128, _⟩ : ℝ) : EReal) = _
  rw [e1, e2]

theorem is_col (b : Fin 1024) : ∃ h d, b = col h d :=
  ⟨⟨b.val / 128, by omega⟩, ⟨b.val % 128, by omega⟩, Fin.ext (by show b.val = 128 * (b.val / 128) + b.val % 128; omega)⟩

/-- A block whose entries are those of the array, read at any index of the block. -/
theorem at_block (X : Fin 8 → Tok) (t : Fin cfg0.N) (f : FVec Ideal ⟨2, ![128, 1024]⟩ .f32)
    (hf : ∀ h a d, f (ix2 a (col h d)) = ((X h (first t + a.val) d : ℝ) : EReal)) (a : Fin 128) (b : Fin 1024) :
    f (ix2 a b) = allHeads X (ix2 (row t a) b) := by
  obtain ⟨h, d, rfl⟩ := is_col b
  rw [hf, allHeads_apply]
  rfl

theorem emb_6 (t : Fin cfg0.N) (a : Fin 128) (b : Fin 1024) : (win0_6.blk t).view.emb (ix2 a b) = ix2 (row t a) b := by
  blk_ext [row, index_6 t]

theorem emb_7 (t : Fin cfg0.N) (a : Fin 128) (b : Fin 1024) : (win0_7.blk t).view.emb (ix2 a b) = ix2 (row t a) b := by
  blk_ext [row, index_7 t]

theorem emb_8 (t : Fin cfg0.N) (a : Fin 128) (b : Fin 1024) : (win0_8.blk t).view.emb (ix2 a b) = ix2 (row t a) b := by
  blk_ext [row, index_8 t]

theorem emb_9 (t : Fin cfg0.N) (a : Fin 128) (b : Fin 1024) : (win0_9.blk t).view.emb (ix2 a b) = ix2 (row t a) b := by
  blk_ext [row, index_9 t]

include H hl

theorem arr_dq : (dats m 0 c).arrAt 6 cfg0.N
    = allHeads fun h t d => ∑ s ∈ range 4096, dw (v h) (g h) t s * (k h s d * fade (lf h) t s d) := by
  refine (dats m 0 c).arrAt_eq_of_covers 6 _ (by decide +kernel) fun t hf y => ?_
  blk_simp
  rw [after0_6]
  exact (congrArg _ (eq_ix2 y)).trans ((at_block _ t _ (fun h a d => point_dq H hl t h a d) (y 0) (y 1)).trans
    (congrArg _ ((emb_6 t (y 0) (y 1)).symm.trans (congrArg _ (eq_ix2 y).symm))))

theorem arr_dk : (dats m 0 c).arrAt 7 cfg0.N
    = allHeads fun h t d => ∑ r ∈ range 4096, dw (v h) (g h) r t * (q h r d * fade (lf h) r t d) := by
  refine (dats m 0 c).arrAt_eq_of_covers 7 _ (by decide +kernel) fun t hf y => ?_
  blk_simp
  rw [after0_7]
  exact (congrArg _ (eq_ix2 y)).trans ((at_block _ t _ (fun h a d => point_dk H hl t h a d) (y 0) (y 1)).trans
    (congrArg _ ((emb_7 t (y 0) (y 1)).symm.trans (congrArg _ (eq_ix2 y).symm))))

theorem arr_dv : (dats m 0 c).arrAt 8 cfg0.N
    = allHeads fun h t d => ∑ r ∈ range 4096, wt (q h) (k h) (lf h) r t * g h r d := by
  refine (dats m 0 c).arrAt_eq_of_covers 8 _ (by decide +kernel) fun t hf y => ?_
  blk_simp
  rw [after0_8]
  exact (congrArg _ (eq_ix2 y)).trans ((at_block _ t _ (fun h a d => point_dv H hl t h a d) (y 0) (y 1)).trans
    (congrArg _ ((emb_8 t (y 0) (y 1)).symm.trans (congrArg _ (eq_ix2 y).symm))))

theorem arr_dlf : (dats m 0 c).arrAt 9 cfg0.N
    = allHeads fun h t d => ∑ r ∈ Ico t 4096, dbTok (q h) (k h) (v h) (lf h) (g h) 4096 r d := by
  refine (dats m 0 c).arrAt_eq_of_covers 9 _ (by decide +kernel) fun t hf y => ?_
  blk_simp
  rw [after0_9]
  exact (congrArg _ (eq_ix2 y)).trans ((at_block _ t _ (fun h a d => point_dlf H hl t h a d) (y 0) (y 1)).trans
    (congrArg _ ((emb_9 t (y 0) (y 1)).symm.trans (congrArg _ (eq_ix2 y).symm))))

end Hgrn

end
-- ==== Proof.RefRead.lean ====
/- The reference, read stage by stage: each result is a sum over tokens of real numbers. -/
module

public import proofs.«01_k».proof.Proof.Gen.ReferenceIdeal.Read
public import proofs.«01_k».proof.Proof.Window

@[expose] public section

set_option maxRecDepth 16384

noncomputable section

namespace Hgrn

open Idealize.ShloMosaic Idealize.ShloMosaic.Tactic Finset
open Cert.ReferenceIdeal Cert.ReferenceIdeal.Read

theorem ext2 {a b : Nat} {i j : Shape.Idx ⟨2, ![a, b]⟩} (h0 : i 0 = j 0) (h1 : i 1 = j 1) : i = j := by
  funext l; fin_cases l; exacts [h0, h1]

theorem ext3 {a b c : Nat} {i j : Shape.Idx ⟨3, ![a, b, c]⟩} (h0 : i 0 = j 0) (h1 : i 1 = j 1) (h2 : i 2 = j 2) : i = j := by
  funext l; fin_cases l; exacts [h0, h1, h2]

theorem ext4 {a b c e : Nat} {i j : Shape.Idx ⟨4, ![a, b, c, e]⟩} (h0 : i 0 = j 0) (h1 : i 1 = j 1) (h2 : i 2 = j 2) (h3 : i 3 = j 3) : i = j := by
  funext l; fin_cases l; exacts [h0, h1, h2, h3]

variable {x0 x1 : FVec Ideal Plain .f32} {x2 : FVec Ideal Proj .f32} {x3 : FVec Ideal Plain .f32} {x4 : FVec Ideal Cot .f32}
  {q k v lf g : Fin 8 → Tok}

variable (H : Holds x0 x1 x2 x3 x4 q k v lf g) (h : Fin 8) (t i j : Fin 4096) (d : Fin 128)

theorem head_row : (⟨((t.val * 8 + h.val) * 128 + d.val) / 1024, by omega⟩ : Fin 4096) = t := Fin.ext (by show _ / _ = t.val; omega)

theorem head_col : (⟨((t.val * 8 + h.val) * 128 + d.val) % 1024, by omega⟩ : Fin 1024) = col h d := Fin.ext (by show _ % _ = 128 * h.val + d.val; omega)

include H

theorem ref_q : val_main_v2 (F := Ideal) x0 (ix3 h t d) = ((q h t.val d : ℝ) : EReal) := by
  rw [val_main_v2_apply, val_main_v1_apply, ← H.q]
  exact congrArg x0 (ext2 (head_row h t d) (head_col h t d))

theorem ref_k : val_main_v4 (F := Ideal) x1 (ix3 h t d) = ((k h t.val d : ℝ) : EReal) := by
  rw [val_main_v4_apply, val_main_v3_apply, ← H.k]
  exact congrArg x1 (ext2 (head_row h t d) (head_col h t d))

theorem ref_lf : val_main_v8 (F := Ideal) x3 (ix3 h t d) = ((lf h t.val d : ℝ) : EReal) := by
  rw [val_main_v8_apply, val_main_v7_apply, ← H.lf]
  exact congrArg x3 (ext2 (head_row h t d) (head_col h t d))

theorem ref_v : val_main_v6 (F := Ideal) x2 (ix3 h t d) = ((v h t.val d : ℝ) : EReal) := by
  rw [val_main_v6_apply, val_main_v5_apply, val_main_v0_apply, ← H.v]
  exact congrArg x2 (ext2 (head_row h t d) (Fin.ext (by show _ = 6144 + (128 * h.val + d.val); simp only [ix3]; show 6144 + ((t.val * 8 + h.val) * 128 + d.val) % 1024 = _; omega)))

theorem ref_g : val_main_v36 (F := Ideal) x4 (ix3 h t d) = ((g h t.val d : ℝ) : EReal) := by
  rw [val_main_v36_apply, val_main_v35_apply, val_main_v34_apply, ← H.g]
  exact congrArg x4 (ext2 (head_row h t d) (Fin.ext (by show _ = 1024 + (128 * h.val + d.val); simp only [ix3]; show 1024 + ((t.val * 8 + h.val) * 128 + d.val) % 1024 = _; omega)))

theorem ref_sum : val_main_v9 (F := Ideal) x3 (ix3 h t d) = ((pre (lf h) (t.val + 1) d : ℝ) : EReal) :=
  window_upto _ _ _ ((val_main_call0_call0_v0_apply _).trans zero_word) lf (ref_lf H) _ h t d

theorem ref_mask : val_main_v22_1 (F := Ideal) (ix4 h i j d) = bit (j.val ≤ i.val) := by
  rw [val_main_v22_1_apply, val_main_v16_apply, val_main_v15_apply, val_main_v13_apply, val_main_v11_apply, val_main_v10_apply,
    val_main_v14_apply, val_main_v12_apply, val_main_v10_apply]
  exact WordCmp.cmpi_sge_ofNat (a := i.val) (b := j.val) (by omega) (by omega)

theorem ref_fade : val_main_v23 (F := Ideal) x3 (ix4 h i j d) = (((if j.val ≤ i.val then fade (lf h) i.val j.val d else 0 : ℝ)) : EReal) := by
  have e1 : val_main_v19 (F := Ideal) x3 (ix4 h i j d) = ((pre (lf h) (i.val + 1) d : ℝ) : EReal) := by
    rw [val_main_v19_apply, val_main_v17_apply, ← ref_sum H]
    exact congrArg _ (ext3 rfl rfl rfl)
  have e2 : val_main_v20 (F := Ideal) x3 (ix4 h i j d) = ((pre (lf h) (j.val + 1) d : ℝ) : EReal) := by
    rw [val_main_v20_apply, val_main_v18_apply, ← ref_sum H]
    exact congrArg _ (ext3 rfl rfl rfl)
  have e3 : val_main_call1_v2 (F := Ideal) (ix4 h i j d) = (⊥ : EReal) := by
    rw [val_main_call1_v2_apply, val_main_call1_v0_apply]
    exact low_word
  rw [val_main_v23_apply, val_main_v22_0_apply, ref_mask H, val_main_v21_apply, e1, e2, e3]
  refine (congrArg _ (sel_apply _ _ _)).trans ?_
  split
  · rw [Ideal.hostUnary_exp_def, fade, ← Ideal.exp_coe, EReal.coe_sub]
    rfl
  · rfl

theorem ref_dot : val_main_v40 (F := Ideal) x2 x4 (ix4 h i j d) = ((∑ e, g h i.val e * v h j.val e : ℝ) : EReal) := by
  rw [val_main_v40_apply, val_main_v39_apply, ← coe_sum]
  refine sum_congr rfl fun e _ => ?_
  rw [EReal.coe_mul, ← ref_g H, ← ref_v H]
  exact congrArg₂ (· * ·) (congrArg _ (ext3 rfl rfl rfl)) (congrArg _ (ext3 rfl rfl rfl))

theorem ref_qd : val_main_v26 (F := Ideal) x0 x3 (ix4 h i j d)
    = ((q h i.val d * (if j.val ≤ i.val then fade (lf h) i.val j.val d else 0) : ℝ) : EReal) := by
  rw [val_main_v26_apply, ref_fade H, val_main_v25_apply, val_main_v24_apply, EReal.coe_mul, ← ref_q H]
  exact congrArg₂ (· * ·) (congrArg _ (ext3 rfl rfl rfl)) rfl

theorem ref_kk : val_main_v44 (F := Ideal) x1 (ix4 h i j d) = ((k h j.val d : ℝ) : EReal) := by
  rw [val_main_v44_apply, val_main_v27_apply, ← ref_k H]
  exact congrArg _ (ext3 rfl rfl rfl)

theorem ref_kdot : val_main_v45 (F := Ideal) x1 x2 x4 (ix4 h i j d) = (((∑ e, g h i.val e * v h j.val e) * k h j.val d : ℝ) : EReal) := by
  rw [val_main_v45_apply, ref_dot H, ref_kk H, EReal.coe_mul]
  rfl

theorem ref_dq_pair : val_main_v49 (F := Ideal) x1 x2 x3 x4 (ix4 h i j d)
    = ((dw (v h) (g h) i.val j.val * (k h j.val d * fade (lf h) i.val j.val d) : ℝ) : EReal) := by
  rw [val_main_v49_apply, ref_kdot H, ref_fade H]
  refine (EReal.coe_mul _ _).symm.trans (congrArg _ ?_)
  rw [dw]
  split <;> ring

theorem ref_dk_pair : val_main_v41 (F := Ideal) x0 x2 x3 x4 (ix4 h i j d)
    = ((dw (v h) (g h) i.val j.val * (q h i.val d * fade (lf h) i.val j.val d) : ℝ) : EReal) := by
  rw [val_main_v41_apply, ref_qd H, ref_dot H]
  refine (EReal.coe_mul _ _).symm.trans (congrArg _ ?_)
  rw [dw]
  split <;> ring

theorem ref_cross : val_main_v54 (F := Ideal) x0 x1 x2 x3 x4 (ix4 h i j d)
    = ((cross (q h) (k h) (v h) (lf h) (g h) i.val j.val d : ℝ) : EReal) := by
  have e : val_main_v53 (F := Ideal) x0 x1 x2 x3 x4 (ix4 h i j d)
      = ((cross (q h) (k h) (v h) (lf h) (g h) i.val j.val d : ℝ) : EReal) := by
    have e1 : val_main_v47 (F := Ideal) x0 (ix4 h i j d) = ((q h i.val d : ℝ) : EReal) := by
      rw [val_main_v47_apply, val_main_v24_apply, ← ref_q H]
      exact congrArg _ (ext3 rfl rfl rfl)
    rw [val_main_v53_apply, val_main_v48_apply, e1, ref_kdot H, ref_fade H]
    refine (congrArg (· * _) (EReal.coe_mul _ _).symm).trans ((EReal.coe_mul _ _).symm.trans (congrArg _ ?_))
    rw [cross, dw]
    split <;> ring
  rw [val_main_v54_apply, ref_mask H, e, val_main_call2_v0_apply]
  refine (sel_apply _ _ _).trans ?_
  split
  · rfl
  · rename_i hij
    rw [cross, dw, if_neg hij, zero_mul]
    exact zero_word

theorem ref_wt : val_main_v30 (F := Ideal) x0 x1 x3 (ix3 h i j) = ((wt (q h) (k h) (lf h) i.val j.val : ℝ) : EReal) := by
  rw [val_main_v30_apply, val_main_cst_0_apply, zero_word, zero_add]
  have e : ∀ d : Fin 128, val_main_v29 (F := Ideal) x0 x1 x3 (idx_main_v30 (ix3 h i j) d)
      = ((if j.val ≤ i.val then q h i.val d * k h j.val d * fade (lf h) i.val j.val d else 0 : ℝ) : EReal) := fun d => by
    have e0 : idx_main_v30 (ix3 h i j) d = ix4 h i j d := ext4 rfl rfl rfl rfl
    have e1 : val_main_v28 (F := Ideal) x1 (ix4 h i j d) = ((k h j.val d : ℝ) : EReal) := by
      rw [val_main_v28_apply, val_main_v27_apply, ← ref_k H]
      exact congrArg _ (ext3 rfl rfl rfl)
    rw [e0, val_main_v29_apply, ref_qd H, e1]
    refine (EReal.coe_mul _ _).symm.trans (congrArg _ ?_)
    split <;> ring
  rw [sum_congr rfl fun d _ => e d, coe_sum, wt]
  split <;> simp

theorem ref_dq_head : val_main_v52 (F := Ideal) x1 x2 x3 x4 (ix3 h t d)
    = ((∑ s ∈ range 4096, dw (v h) (g h) t.val s * (k h s d * fade (lf h) t.val s d) : ℝ) : EReal) := by
  rw [val_main_v52_apply, val_main_cst_4_apply, zero_word, zero_add, Fin.sum_univ_one, val_main_v51_apply]
  have e : idx_main_v51 (idx_main_v52 (ix3 h t d) 0) = ix3 h t d := by
    refine ext3 (Fin.ext ?_) (Fin.ext ?_) (Fin.ext ?_)
    · show (((h.val * 4096 + t.val) * 1 + 0) * 128 + d.val) / 524288 = h.val
      omega
    · show (((h.val * 4096 + t.val) * 1 + 0) * 128 + d.val) / 128 % 4096 = t.val
      omega
    · show (((h.val * 4096 + t.val) * 1 + 0) * 128 + d.val) % 128 = d.val
      omega
  rw [e, val_main_v50_apply, val_main_cst_3_apply, zero_word, zero_add, sum_range, ← coe_sum]
  refine sum_congr rfl fun s _ => ?_
  rw [← ref_dq_pair H h t s d]
  exact congrArg _ (ext4 rfl rfl rfl rfl)

theorem ref_dk_head : val_main_v46 (F := Ideal) x0 x2 x3 x4 (ix3 h t d)
    = ((∑ r ∈ range 4096, dw (v h) (g h) r t.val * (q h r d * fade (lf h) r t.val d) : ℝ) : EReal) := by
  rw [val_main_v46_apply, val_main_cst_2_apply, zero_word, zero_add, Fin.sum_univ_one, val_main_v43_apply]
  have e : idx_main_v43 (idx_main_v46 (ix3 h t d) 0) = ix3 h t d := by
    refine ext3 (Fin.ext ?_) (Fin.ext ?_) (Fin.ext ?_)
    · show (((h.val * 1 + 0) * 4096 + t.val) * 128 + d.val) / 524288 = h.val
      omega
    · show (((h.val * 1 + 0) * 4096 + t.val) * 128 + d.val) / 128 % 4096 = t.val
      omega
    · show (((h.val * 1 + 0) * 4096 + t.val) * 128 + d.val) % 128 = d.val
      omega
  rw [e, val_main_v42_apply, val_main_cst_1_apply, zero_word, zero_add, sum_range, ← coe_sum]
  refine sum_congr rfl fun s _ => ?_
  rw [← ref_dk_pair H h s t d]
  exact congrArg _ (ext4 rfl rfl rfl rfl)

theorem ref_dv_head : val_main_v38 (F := Ideal) x0 x1 x3 x4 (ix3 h t d)
    = ((∑ r ∈ range 4096, wt (q h) (k h) (lf h) r t.val * g h r d : ℝ) : EReal) := by
  rw [val_main_v38_apply, val_main_v37_apply, sum_range, ← coe_sum]
  refine sum_congr rfl fun s _ => ?_
  rw [EReal.coe_mul, ← ref_g H, ← ref_wt H, mul_comm]
  exact congrArg₂ (· * ·) (congrArg _ (ext3 rfl rfl rfl)) (congrArg _ (ext3 rfl rfl rfl))

theorem ref_db : val_main_v62 (F := Ideal) x0 x1 x2 x3 x4 (ix3 h t d)
    = ((dbTok (q h) (k h) (v h) (lf h) (g h) 4096 t.val d : ℝ) : EReal) := by
  have e1 : val_main_v60 (F := Ideal) x0 x1 x2 x3 x4 (ix3 h t d)
      = ((-∑ r ∈ range 4096, cross (q h) (k h) (v h) (lf h) (g h) r t.val d : ℝ) : EReal) := by
    rw [val_main_v60_apply, val_main_cst_7_apply, zero_word, zero_add, Fin.sum_univ_one, val_main_v59_apply]
    have e : idx_main_v59 (idx_main_v60 (ix3 h t d) 0) = ix3 h t d := by
      refine ext3 (Fin.ext ?_) (Fin.ext ?_) (Fin.ext ?_)
      · show (((h.val * 1 + 0) * 4096 + t.val) * 128 + d.val) / 524288 = h.val
        omega
      · show (((h.val * 1 + 0) * 4096 + t.val) * 128 + d.val) / 128 % 4096 = t.val
        omega
      · show (((h.val * 1 + 0) * 4096 + t.val) * 128 + d.val) % 128 = d.val
        omega
    rw [e, val_main_v58_apply, val_main_cst_6_apply, zero_word, zero_add, sum_range, ← sum_neg_distrib, ← coe_sum]
    refine sum_congr rfl fun s _ => ?_
    rw [EReal.coe_neg, ← ref_cross H h s t d, val_main_v57_apply]
    exact congrArg (fun z => -(val_main_v54 (F := Ideal) x0 x1 x2 x3 x4 z)) (ext4 rfl rfl rfl rfl)
  have e2 : val_main_v61 (F := Ideal) x0 x1 x2 x3 x4 (ix3 h t d)
      = ((∑ s ∈ range 4096, cross (q h) (k h) (v h) (lf h) (g h) t.val s d : ℝ) : EReal) := by
    rw [val_main_v61_apply, val_main_cst_8_apply, zero_word, zero_add, Fin.sum_univ_one, val_main_v56_apply]
    have e : idx_main_v56 (idx_main_v61 (ix3 h t d) 0) = ix3 h t d := by
      refine ext3 (Fin.ext ?_) (Fin.ext ?_) (Fin.ext ?_)
      · show (((h.val * 4096 + t.val) * 1 + 0) * 128 + d.val) / 524288 = h.val
        omega
      · show (((h.val * 4096 + t.val) * 1 + 0) * 128 + d.val) / 128 % 4096 = t.val
        omega
      · show (((h.val * 4096 + t.val) * 1 + 0) * 128 + d.val) % 128 = d.val
        omega
    rw [e, val_main_v55_apply, val_main_cst_5_apply, zero_word, zero_add, sum_range, ← coe_sum]
    refine sum_congr rfl fun s _ => ?_
    rw [← ref_cross H h t s d]
    exact congrArg _ (ext4 rfl rfl rfl rfl)
  rw [val_main_v62_apply, e1, e2]
  refine (EReal.coe_add _ _).symm.trans (congrArg _ ?_)
  rw [dbTok]
  ring

theorem ref_dlf_head : val_main_v63 (F := Ideal) x0 x1 x2 x3 x4 (ix3 h t d)
    = ((∑ r ∈ Ico t.val 4096, dbTok (q h) (k h) (v h) (lf h) (g h) 4096 r d : ℝ) : EReal) :=
  window_from _ _ _ ((val_main_call3_call0_v0_apply _).trans zero_word)
    (fun h => dbTok (q h) (k h) (v h) (lf h) (g h) 4096) (ref_db H) _ h t d

omit H

theorem back_row : (⟨(t.val * 1024 + (128 * h.val + d.val)) / 1024, by omega⟩ : Fin 4096) = t := Fin.ext (by show _ / _ = t.val; omega)

theorem back_head : (⟨(t.val * 1024 + (128 * h.val + d.val)) / 128 % 8, by omega⟩ : Fin 8) = h := Fin.ext (by show _ % _ = h.val; omega)

theorem back_lane : (⟨(t.val * 1024 + (128 * h.val + d.val)) % 128, by omega⟩ : Fin 128) = d := Fin.ext (by show _ % _ = d.val; omega)

include H

theorem ref_dq : val_main_v71 (F := Ideal) x1 x2 x3 x4 (ix2 t (col h d))
    = ((∑ s ∈ range 4096, dw (v h) (g h) t.val s * (k h s d * fade (lf h) t.val s d) : ℝ) : EReal) := by
  rw [val_main_v71_apply, val_main_v70_apply, ← ref_dq_head H]
  exact congrArg _ (ext3 (back_head h t d) (back_row h t d) (back_lane h t d))

theorem ref_dk : val_main_v69 (F := Ideal) x0 x2 x3 x4 (ix2 t (col h d))
    = ((∑ r ∈ range 4096, dw (v h) (g h) r t.val * (q h r d * fade (lf h) r t.val d) : ℝ) : EReal) := by
  rw [val_main_v69_apply, val_main_v68_apply, ← ref_dk_head H]
  exact congrArg _ (ext3 (back_head h t d) (back_row h t d) (back_lane h t d))

theorem ref_dv : val_main_v67 (F := Ideal) x0 x1 x3 x4 (ix2 t (col h d))
    = ((∑ r ∈ range 4096, wt (q h) (k h) (lf h) r t.val * g h r d : ℝ) : EReal) := by
  rw [val_main_v67_apply, val_main_v66_apply, ← ref_dv_head H]
  exact congrArg _ (ext3 (back_head h t d) (back_row h t d) (back_lane h t d))

theorem ref_dlf : val_main_v65 (F := Ideal) x0 x1 x2 x3 x4 (ix2 t (col h d))
    = ((∑ r ∈ Ico t.val 4096, dbTok (q h) (k h) (v h) (lf h) (g h) 4096 r d : ℝ) : EReal) := by
  rw [val_main_v65_apply, val_main_v64_apply, ← ref_dlf_head H]
  exact congrArg _ (ext3 (back_head h t d) (back_row h t d) (back_lane h t d))

end Hgrn

end
-- ==== Proof.Bound.lean ====
/- What the precondition says: the entries the call reads are real numbers, and the logarithms of the gates lie between minus five and zero. -/
module

public import proofs.«01_k».proof.Defs
public import proofs.«01_k».proof.Proof.Window
public import proofs.«01_k».proof.Proof.Gen.Pre_bounded

@[expose] public section

set_option maxRecDepth 16384

noncomputable section

namespace Hgrn

open Idealize.ShloMosaic Idealize.ShloMosaic.Tactic Finset

/-- The real numbers an array holds in the columns from `o` on, head by head; zero past the last token. -/
def toks {w : Nat} (X : FVec Ideal ⟨2, ![4096, w]⟩ .f32) (o : Nat) (ho : o + 1024 ≤ w) (h : Fin 8) : Tok := fun t d =>
  if ht : t < 4096 then (X (ix2 ⟨t, ht⟩ ⟨o + (col h d).val, by omega⟩) : EReal).toReal else 0

theorem toks_apply {w : Nat} (X : FVec Ideal ⟨2, ![4096, w]⟩ .f32) (o : Nat) (ho : o + 1024 ≤ w) (h : Fin 8) (t : Fin 4096) (d : Fin 128) :
    toks X o ho h t.val d = (X (ix2 t ⟨o + (col h d).val, by omega⟩) : EReal).toReal := dif_pos t.isLt

theorem of_bit (p : Prop) [Decidable p] (h : BitVec.ofBool (decide p) = 1#1) : p := by
  by_contra hp
  simp [hp] at h

theorem high_word : (Ideal.ofBits .f32 0x7F800000#32 : EReal) = ⊤ := by
  simp [Ideal.ofBits, Ideal.ieee, -EReal.coe_mul]

theorem five_word : (Ideal.ofBits .f32 0xC0A00000#32 : EReal) = ((-5 : ℝ) : EReal) := by
  simp [Ideal.ofBits, Ideal.ieee, -EReal.coe_mul]
  norm_num

theorem real_of_word (x : Ideal .f32) (h : BitVec.ofBool (decide (FloatOps.absf x < (Ideal.ofBits .f32 0x7F800000#32 : EReal))) = 1#1) :
    x = ((EReal.toReal x : ℝ) : EReal) := by
  have hx := of_bit _ h
  rw [high_word, Ideal.absf_def] at hx
  have h1 : (x : EReal) ≠ ⊤ := fun e => by rw [e] at hx; simp at hx
  have h2 : (x : EReal) ≠ ⊥ := fun e => by rw [e] at hx; simp at hx
  exact (EReal.coe_toReal h1 h2).symm

local instance : Cert.Pre_bounded.Facts := Cert.Pre_bounded.Gen.facts

variable {x0 x1 : FVec Ideal ⟨2, ![4096, 1024]⟩ .f32} {x2 : FVec Ideal ⟨2, ![4096, 8192]⟩ .f32} {x3 : FVec Ideal ⟨2, ![4096, 1024]⟩ .f32}
  {x4 : FVec Ideal ⟨2, ![4096, 2048]⟩ .f32} (t : Fin 4096) (b : Fin 1024)

theorem bounded_q (H : (Cert.Pre_bounded.fn x0 x1 x2 x3 x4).1 = fun _ => 1#1) : x0 (ix2 t b) = ((EReal.toReal (x0 (ix2 t b)) : ℝ) : EReal) := by
  have e := congrFun H (ix2 t b)
  rw [Cert.Pre_bounded.fn] at e
  pointwise at e
  exact real_of_word _ e

theorem bounded_k (H : (Cert.Pre_bounded.fn x0 x1 x2 x3 x4).2.1 = fun _ => 1#1) : x1 (ix2 t b) = ((EReal.toReal (x1 (ix2 t b)) : ℝ) : EReal) := by
  have e := congrFun H (ix2 t b)
  rw [Cert.Pre_bounded.fn] at e
  pointwise at e
  exact real_of_word _ e

theorem bounded_v (H : (Cert.Pre_bounded.fn x0 x1 x2 x3 x4).2.2.1 = fun _ => 1#1) :
    x2 (ix2 t ⟨6144 + b.val, by omega⟩) = ((EReal.toReal (x2 (ix2 t ⟨6144 + b.val, by omega⟩)) : ℝ) : EReal) := by
  have e := congrFun H (ix2 t b)
  rw [Cert.Pre_bounded.fn] at e
  pointwise at e
  exact real_of_word _ e

theorem bounded_g (H : (Cert.Pre_bounded.fn x0 x1 x2 x3 x4).2.2.2.1 = fun _ => 1#1) :
    x4 (ix2 t ⟨1024 + b.val, by omega⟩) = ((EReal.toReal (x4 (ix2 t ⟨1024 + b.val, by omega⟩)) : ℝ) : EReal) := by
  have e := congrFun H (ix2 t b)
  rw [Cert.Pre_bounded.fn] at e
  pointwise at e
  exact real_of_word _ e

theorem bounded_lf (H : (Cert.Pre_bounded.fn x0 x1 x2 x3 x4).2.2.2.2.1 = fun _ => 1#1) (H' : (Cert.Pre_bounded.fn x0 x1 x2 x3 x4).2.2.2.2.2 = fun _ => 1#1) :
    x3 (ix2 t b) = ((EReal.toReal (x3 (ix2 t b)) : ℝ) : EReal) ∧ EReal.toReal (x3 (ix2 t b)) ≤ 0 ∧ -5 ≤ EReal.toReal (x3 (ix2 t b)) := by
  have e := congrFun H (ix2 t b)
  have e' := congrFun H' (ix2 t b)
  rw [Cert.Pre_bounded.fn] at e e'
  pointwise at e
  pointwise at e'
  have h0 : x3 (ix2 t b) ≤ (0 : EReal) := of_bit _ e
  have h5 : (Ideal.ofBits .f32 0xC0A00000#32 : EReal) ≤ x3 (ix2 t b) := of_bit _ e'
  rw [five_word] at h5
  have hr : x3 (ix2 t b) = ((EReal.toReal (x3 (ix2 t b)) : ℝ) : EReal) :=
    (EReal.coe_toReal (fun h => by rw [h] at h0; simp at h0) (fun h => by rw [h] at h5; simp at h5)).symm
  rw [hr] at h0 h5
  exact ⟨hr, by exact_mod_cast h0, by exact_mod_cast h5⟩

theorem gate_toks (H : (Cert.Pre_bounded.fn x0 x1 x2 x3 x4).2.2.2.2.1 = fun _ => 1#1) (H' : (Cert.Pre_bounded.fn x0 x1 x2 x3 x4).2.2.2.2.2 = fun _ => 1#1)
    (h : Fin 8) : Gate (toks x3 0 (by omega) h) := by
  intro r d
  rw [toks]
  split
  · exact (bounded_lf _ _ H H').2
  · norm_num

end Hgrn

end
-- ==== Proof.Totals.lean ====
/- The two programs' results, side by side: the same sums over all tokens. -/
module

public import proofs.«01_k».proof.Proof.Value
public import proofs.«01_k».proof.Proof.RefRead
public import proofs.«01_k».proof.Proof.Bound
public import proofs.«01_k».proof.Proof.Gen.ReferenceIdeal.Run

@[expose] public section

set_option maxRecDepth 16384

noncomputable section

namespace Hgrn

open Idealize.ShloMosaic Idealize.ShloMosaic.TcCoe Idealize.ShloMosaic.Tactic Idealize.SL Idealize.SL.Sem Finset

/-- An array is the one that holds `X` when it agrees with it column by column, head by head. -/
theorem eq_allHeads {A : FVec Ideal Plain .f32} {X : Fin 8 → Tok} (h : ∀ h t d, A (ix2 t (col h d)) = ((X h t.val d : ℝ) : EReal)) : A = allHeads X := by
  funext i
  rw [eq_ix2 i]
  obtain ⟨a, d, e⟩ := is_col (i 1)
  rw [e]
  exact (h a (i 0) d).trans (allHeads_apply X a (i 0) d).symm

/-- Under the precondition the arguments hold real numbers, and the gates are within range. -/
theorem holds_of_bounded {x0 x1 : FVec Ideal Plain .f32} {x2 : FVec Ideal Proj .f32} {x3 : FVec Ideal Plain .f32} {x4 : FVec Ideal Cot .f32}
    (H : letI := Cert.Pre_bounded.Gen.facts
      (Cert.Pre_bounded.fn x0 x1 x2 x3 x4).1 = (fun _ => 1#1)
      ∧ (Cert.Pre_bounded.fn x0 x1 x2 x3 x4).2.1 = (fun _ => 1#1)
      ∧ (Cert.Pre_bounded.fn x0 x1 x2 x3 x4).2.2.1 = (fun _ => 1#1)
      ∧ (Cert.Pre_bounded.fn x0 x1 x2 x3 x4).2.2.2.1 = (fun _ => 1#1)
      ∧ (Cert.Pre_bounded.fn x0 x1 x2 x3 x4).2.2.2.2.1 = (fun _ => 1#1)
      ∧ (Cert.Pre_bounded.fn x0 x1 x2 x3 x4).2.2.2.2.2 = (fun _ => 1#1)) :
    ∃ q k v lf g : Fin 8 → Tok, Holds x0 x1 x2 x3 x4 q k v lf g ∧ ∀ h, Gate (lf h) := by
  obtain ⟨hq, hk, hv, hg, hf, hf'⟩ := H
  have zc : ∀ b : Fin 1024, (⟨0 + b.val, by omega⟩ : Fin 1024) = b := fun b => Fin.ext (Nat.zero_add _)
  refine ⟨toks x0 0 (by omega), toks x1 0 (by omega), toks x2 6144 (by omega), toks x3 0 (by omega), toks x4 1024 (by omega), ⟨?_, ?_, ?_, ?_, ?_⟩,
    gate_toks hf hf'⟩
  · intro h t d
    rw [toks_apply, zc]
    exact bounded_q t _ hq
  · intro h t d
    rw [toks_apply, zc]
    exact bounded_k t _ hk
  · intro h t d
    rw [toks_apply]
    exact bounded_v t _ hv
  · intro h t d
    rw [toks_apply, zc]
    exact (bounded_lf t _ hf hf').1
  · intro h t d
    rw [toks_apply]
    exact bounded_g t _ hg

section Reference

open Cert.ReferenceIdeal

/-- What the reference leaves, when its arguments hold real numbers. -/
theorem reference_run (m : (ℓ : Loc nD τ sig) → Buf (Elt Ideal) ℓ) (ρ : Dev nD → PrngReg) (q k v lf g : Dev nD → Fin 8 → Tok)
    (H : ∀ c : Dev nD, Holds (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (q c) (k c) (v c) (lf c) (g c)) :
    θ_run (defs (F := Ideal)) (onTc (τ := τ) (main (F := Ideal))) ⟨m, fun _ => 0, ρ⟩ fun r => ∀ c : Dev nD,
      r.2.mem ((c.tc : Thread nD τ).loc main_v71)
        = allHeads (fun h t d => ∑ s ∈ range 4096, dw (v c h) (g c h) t s * (k c h s d * fade (lf c h) t s d))
      ∧ r.2.mem ((c.tc : Thread nD τ).loc main_v69)
        = allHeads (fun h t d => ∑ r ∈ range 4096, dw (v c h) (g c h) r t * (q c h r d * fade (lf c h) r t d))
      ∧ r.2.mem ((c.tc : Thread nD τ).loc main_v67)
        = allHeads (fun h t d => ∑ r ∈ range 4096, wt (q c h) (k c h) (lf c h) r t * g c h r d)
      ∧ r.2.mem ((c.tc : Thread nD τ).loc main_v65)
        = allHeads (fun h t d => ∑ r ∈ Ico t 4096, dbTok (q c h) (k c h) (v c h) (lf c h) (g c h) 4096 r d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => by
    obtain ⟨h0, h1, h2, h3, ha⟩ := h c
    exact ⟨h0.trans ((Read.val_main_v71_eq ..).trans (eq_allHeads fun h t d => ref_dq (H c) h t d)),
      h1.trans ((Read.val_main_v69_eq ..).trans (eq_allHeads fun h t d => ref_dk (H c) h t d)),
      h2.trans ((Read.val_main_v67_eq ..).trans (eq_allHeads fun h t d => ref_dv (H c) h t d)),
      h3.trans ((Read.val_main_v65_eq m c).trans (eq_allHeads fun h t d => ref_dlf (H c) h t d)), ha⟩)
    (Value.run m ρ)

/-- The reference leaves its arguments as they were, and it has no counter. -/
theorem frame_reference (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run _ _ _).mono (fun r h => ⟨fun c => (h c).2.2.2.2, sem_eq_zero_of_no_sems (by decide) r.2⟩) (Value.run m ρ)

end Reference

section Kernel

open Cert.KernelIdeal Cert.KernelIdeal.Gen

/-- What the backward call leaves, when its arguments hold real numbers and the gates are within range. -/
theorem kernel_run (m : (ℓ : Loc nD τ sig) → Buf (Elt Ideal) ℓ) (ρ : Dev nD → PrngReg) (q k v lf g : Dev nD → Fin 8 → Tok)
    (H : ∀ c : Dev nD, Holds (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (q c) (k c) (v c) (lf c) (g c))
    (hl : ∀ c h, Gate (lf c h)) :
    θ_run (defs (F := Ideal)) (onTc (τ := τ) (main (F := Ideal))) ⟨m, fun _ => 0, ρ⟩ fun r => ∀ c : Dev nD,
      r.2.mem ((c.tc : Thread nD τ).loc main_v33_0)
        = allHeads (fun h t d => ∑ s ∈ range 4096, dw (v c h) (g c h) t s * (k c h s d * fade (lf c h) t s d))
      ∧ r.2.mem ((c.tc : Thread nD τ).loc main_v33_1)
        = allHeads (fun h t d => ∑ r ∈ range 4096, dw (v c h) (g c h) r t * (q c h r d * fade (lf c h) r t d))
      ∧ r.2.mem ((c.tc : Thread nD τ).loc main_v33_2)
        = allHeads (fun h t d => ∑ r ∈ range 4096, wt (q c h) (k c h) (lf c h) r t * g c h r d)
      ∧ r.2.mem ((c.tc : Thread nD τ).loc main_v33_3)
        = allHeads (fun h t d => ∑ r ∈ Ico t 4096, dbTok (q c h) (k c h) (v c h) (lf c h) (g c h) 4096 r d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => by
    obtain ⟨h0, h1, h2, h3, ha⟩ := h c
    exact ⟨h0.trans (arr_dq (H c) (hl c)), h1.trans (arr_dk (H c) (hl c)), h2.trans (arr_dv (H c) (hl c)), h3.trans (arr_dlf (H c) (hl c)), ha⟩)
    (Value.run_blocks m ρ)

end Kernel

end Hgrn

end
-- ==== Proof.Product.lean ====
/- A sum over a long axis taken block by block, in the blocks' order. -/
module

public import Idealize.ShloMosaic.Lib.Pointwise
public import Idealize.ShloMosaic.Lib.Tactic
public import Idealize.ShloMosaic.PureOps

@[expose] public section

noncomputable section

namespace Hgrn

open Finset

theorem zero_pair : (![0, 0] : Fin 2 → Nat) = fun _ => 0 := funext fun a => by fin_cases a <;> rfl
theorem zero_triple : (![0, 0, 0] : Fin 3 → Nat) = fun _ => 0 := funext fun a => by fin_cases a <;> rfl

/-- A sum over `n * b` places is the sum over the `n` blocks of the sums over a block's `b` places. -/
theorem sum_blocks (n b N : ℕ) (hN : N = n * b) (f : Fin N → EReal) :
    ∑ k, f k = ∑ s : Fin n, ∑ k : Fin b, f ⟨b * s.val + k.val, by
      have hk := k.isLt; have hs := Nat.mul_le_mul_left b (Nat.succ_le_of_lt s.isLt); rw [Nat.mul_succ] at hs; rw [hN, Nat.mul_comm n b]; omega⟩ := by
  subst hN
  rw [← Equiv.sum_comp finProdFinEquiv, Fintype.sum_prod_type]
  refine sum_congr rfl fun s _ => sum_congr rfl fun k _ => congrArg f (Fin.ext ?_)
  show k.val + b * s.val = b * s.val + k.val
  omega

/-- Two blocks of 2048 places. -/
theorem sum_two (f : Fin 4096 → EReal) :
    ∑ k, f k = (∑ k : Fin 2048, f ⟨2048 * 0 + k.val, by omega⟩) + ∑ k : Fin 2048, f ⟨2048 * 1 + k.val, by omega⟩ := by
  rw [sum_blocks 2 2048 4096 (by norm_num) f, Fin.sum_univ_two]
  rfl

/-- Four blocks of 2048 places. -/
theorem sum_four (f : Fin 8192 → EReal) :
    ∑ k, f k = (((∑ k : Fin 2048, f ⟨2048 * 0 + k.val, by omega⟩) + ∑ k : Fin 2048, f ⟨2048 * 1 + k.val, by omega⟩)
      + ∑ k : Fin 2048, f ⟨2048 * 2 + k.val, by omega⟩) + ∑ k : Fin 2048, f ⟨2048 * 3 + k.val, by omega⟩ := by
  rw [sum_blocks 4 2048 8192 (by norm_num) f, Fin.sum_univ_four]
  rfl

end Hgrn

end
-- ==== Proof.ActGrad.lean ====
/- The gradient of the squared rectifier's input: the kernel's blocked product, multiplied by the slope in the same pass, is the reference's. -/
module

public import Idealize.ShloMosaic.Lib.Pipeline.ValueKit
public import proofs.«01_k».proof.Defs
public import proofs.«01_k».proof.Proof.Gen.ActGrad
public import proofs.«01_k».proof.Proof.Gen.ActGradIdeal.Value
public import proofs.«01_k».proof.Proof.Gen.ActGradRefIdeal.Read
public import proofs.«01_k».proof.Proof.Product

@[expose] public section

set_option maxRecDepth 16384

noncomputable section

namespace Hgrn.ActGrad

open Idealize.ShloMosaic Idealize.ShloMosaic.TcCoe Idealize.ShloMosaic.Tactic Idealize.SL.Sem Cert.ActGradIdeal Cert.ActGradIdeal.Gen Cert.ActGradIdeal.Value
open Cert.ActGradRefIdeal.Read

variable (m : (ℓ : Loc nD τ sig) → Buf (Elt Ideal) ℓ) (c : Dev nD)

/-- The product's element and the slope of the squared rectifier. -/
def slope (s x : EReal) : EReal := s * (Ideal.ofBits FTy.f32 1073741824#32 * max x 0)

theorem block_at (x0 x1 : Vec Ideal S1024x2048 .bf16) (x2 : Vec Ideal S1024x1024 .f32) (a b : Fin 1024) :
    out0_3 x0 x1 x2 (ix2 a b) = slope (∑ k : Fin 2048, x0 (ix2 a k) * x1 (ix2 b k)) (x2 (ix2 a b)) := by
  unfold out0_3 slope
  rw [View.canon_unit_zero zero_pair]
  simp only [View.ld_unit_zero (S := S1024x2048) zero_pair, View.ld_unit_zero (S := S1024x1024) zero_pair]
  pointwise [k0_pay1]

/-- Where the argument is at most nought the slope is nought, so the reference's choice changes nothing. -/
theorem slope_of_le (s x : EReal) (h : ¬ 0 < x) : slope s x = 0 := by
  unfold slope
  rw [max_eq_right (not_lt.mp h), mul_zero, mul_zero]

theorem reference_at (x0 : FVec Ideal S4096x2048 .bf16) (x1 : FVec Ideal S8192x2048 .bf16) (x2 : FVec Ideal S4096x8192 .f32) (i : Fin 4096) (j : Fin 8192) :
    val_main_v14 (F := Ideal) x0 x1 x2 (ix2 i j) = slope (∑ k : Fin 2048, x0 (ix2 i k) * x1 (ix2 j k)) (x2 (ix2 i j)) := by
  have e : val_main_v10 (F := Ideal) x0 x1 (ix2 i j) = ∑ k : Fin 2048, x0 (ix2 i k) * x1 (ix2 j k) := by
    rw [val_main_v10_apply]
    exact Finset.sum_congr rfl fun k _ => congrArg₂ (· * ·) (congrArg x0 (eq_ix2 _)) (congrArg x1 (eq_ix2 _))
  rw [val_main_v14_apply, val_main_v13_apply, val_main_v2_apply, val_main_v11_apply, val_main_v6_apply, val_main_v0_apply, e,
    val_main_v1_apply, val_main_cst_apply, val_main_v12_apply, val_main_cst_2_apply, val_main_v5_apply, val_main_cst_1_apply,
    val_main_call0_v0_apply, val_main_call0_cst_apply]
  generalize (∑ k : Fin 2048, x0 (ix2 i k) * x1 (ix2 j k)) = s
  generalize x2 (ix2 i j) = x
  have hz : Ideal.ofBits FTy.f32 0#32 = 0 := Ideal.ofBits_zero_f32
  show (if BitVec.ofBool (decide (Ideal.ofBits FTy.f32 0#32 < x)) = 1#1 then s * (Ideal.ofBits FTy.f32 1073741824#32 * max x (Ideal.ofBits FTy.f32 0#32))
    else Ideal.ofBits FTy.f32 0#32) = slope s x
  rw [hz]
  by_cases h : 0 < x
  · rw [if_pos (by simp [h])]
    rfl
  · rw [if_neg (by simp [h]), slope_of_le s x h]

theorem index_0 : ∀ t : Fin cfg0.N, win0_0.index t = ![t.val / 8, 0] :=
  (by decide +kernel : ∀ t : Fin grid0.N, win0_0.index t = ![t.val / 8, 0])
theorem index_1 : ∀ t : Fin cfg0.N, win0_1.index t = ![t.val % 8, 0] :=
  (by decide +kernel : ∀ t : Fin grid0.N, win0_1.index t = ![t.val % 8, 0])
theorem index_2 : ∀ t : Fin cfg0.N, win0_2.index t = ![t.val / 8, t.val % 8] :=
  (by decide +kernel : ∀ t : Fin grid0.N, win0_2.index t = ![t.val / 8, t.val % 8])
theorem index_3 : ∀ t : Fin cfg0.N, win0_3.index t = ![t.val / 8, t.val % 8] :=
  (by decide +kernel : ∀ t : Fin grid0.N, win0_3.index t = ![t.val / 8, t.val % 8])

theorem lt_points (t : Fin cfg0.N) : t.val < 32 := lt_of_lt_of_eq t.isLt (by decide +kernel)

/-- The row and the column of an element of a block. -/
def row (t : Fin cfg0.N) (a : Fin 1024) : Fin 4096 := ⟨1024 * (t.val / 8) + a.val, by have := lt_points t; omega⟩
def column (t : Fin cfg0.N) (b : Fin 1024) : Fin 8192 := ⟨1024 * (t.val % 8) + b.val, by omega⟩

theorem iblk_0 (t : Fin cfg0.N) (a : Fin 1024) (k : Fin 2048) :
    iblk m c 0 t (ix2 a k) = m ((c : Thread nD τ).loc main_arg0) (ix2 (row t a) k) := by
  rw [← V_main_arg0 m c]
  blk_ext [iblk, row, index_0 t]

theorem iblk_1 (t : Fin cfg0.N) (b : Fin 1024) (k : Fin 2048) :
    iblk m c 1 t (ix2 b k) = m ((c : Thread nD τ).loc main_arg1) (ix2 (column t b) k) := by
  rw [← V_main_arg1 m c]
  blk_ext [iblk, column, index_1 t]
theorem iblk_2 (t : Fin cfg0.N) (a b : Fin 1024) :
    iblk m c 2 t (ix2 a b) = m ((c : Thread nD τ).loc main_arg2) (ix2 (row t a) (column t b)) := by
  rw [← V_main_arg2 m c]
  blk_ext [iblk, row, column, index_2 t]

theorem point (t : Fin cfg0.N) (a b : Fin 1024) :
    out0_3 (iblk m c 0 t) (iblk m c 1 t) (iblk m c 2 t) (ix2 a b)
      = val_main_v14 (F := Ideal) (m ((c : Thread nD τ).loc main_arg0)) (m ((c : Thread nD τ).loc main_arg1)) (m ((c : Thread nD τ).loc main_arg2)) (ix2 (row t a) (column t b)) := by
  rw [block_at, reference_at]
  exact congrArg₂ slope (Finset.sum_congr rfl fun k _ => congrArg₂ (· * ·) (iblk_0 m c t a k) (iblk_1 m c t b k)) (iblk_2 m c t a b)

theorem emb_3 (t : Fin cfg0.N) (a b : Fin 1024) : (win0_3.blk t).view.emb (ix2 a b) = ix2 (row t a) (column t b) := by
  blk_ext [row, column, index_3 t]

theorem array_3 : (dats m 0 c).arrAt 3 cfg0.N = val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  exact (congrArg _ (eq_ix2 y)).trans ((point m c t (y 0) (y 1)).trans
    (congrArg _ ((emb_3 t (y 0) (y 1)).symm.trans (congrArg _ (eq_ix2 y).symm))))

/-! ## The claims -/

theorem frame_kernel : Cert.quiescent_ActGrad (hActGrad := Cert.ActGrad.Gen.facts) :=
  fun m ρ _ => by
    refine cast ?_ (Cert.ActGradIdeal.Gen.frame (F := Bits) m ρ)
    sl_kernel_rfl

theorem frame_ideal : Cert.quiescent_ActGradIdeal (hActGradIdeal := Cert.ActGradIdeal.Gen.facts) := fun m ρ _ => Cert.ActGradIdeal.Gen.frame m ρ

theorem frame_reference : Cert.quiescent_ActGradRefIdeal (hActGradRefIdeal := Cert.ActGradRefIdeal.Gen.facts) :=
  fun m ρ _ => (θ_run _ _ _).mono (fun r h => ⟨fun c => (h c).2, sem_eq_zero_of_no_sems (by decide) r.2⟩) (Cert.ActGradRefIdeal.Value.run m ρ)

theorem algebraic : Cert.algebraic_ActGradIdeal_ActGradRefIdeal (hActGradIdeal := Cert.ActGradIdeal.Gen.facts) (hActGradRefIdeal := Cert.ActGradRefIdeal.Gen.facts) := by
  intro m ρ m' ρ' _ ha
  refine ⟨_, (θ_run _ _ _).mono (fun _ h c => ⟨(h c).1.trans (array_3 m c), (h c).2⟩) (run_blocks m ρ),
    (θ_run _ _ _).mono (fun _ h c => ⟨(h c).1.trans ?_, (h c).2⟩) (Cert.ActGradRefIdeal.Value.run m' ρ')⟩
  rw [(ha c).1, (ha c).2.1, (ha c).2.2]
  rfl

end Hgrn.ActGrad

end
-- ==== Proof.Ff2Dw.lean ====
/- The second feed-forward weight's gradient: the kernel's sum over two blocks of tokens is the reference's product. -/
module

public import Idealize.ShloMosaic.Lib.Pipeline.ValueKit
public import proofs.«01_k».proof.Defs
public import proofs.«01_k».proof.Proof.Gen.Ff2Dw
public import proofs.«01_k».proof.Proof.Gen.Ff2DwIdeal.Value
public import proofs.«01_k».proof.Proof.Gen.Ff2DwRefIdeal.Read
public import proofs.«01_k».proof.Proof.Product

@[expose] public section

set_option maxRecDepth 16384

noncomputable section

namespace Hgrn.Ff2Dw

open Idealize.ShloMosaic Idealize.ShloMosaic.TcCoe Idealize.ShloMosaic.Tactic Idealize.SL.Sem Cert.Ff2DwIdeal Cert.Ff2DwIdeal.Gen Cert.Ff2DwIdeal.Value
open Cert.Ff2DwRefIdeal.Read

variable (m : (ℓ : Loc nD τ sig) → Buf (Elt Ideal) ℓ) (c : Dev nD)

/-! ## The case values -/

/-- The first step of a block's sum leaves the product of the two blocks in the carried buffer. -/
theorem sout_A (c : Dev nD) (i : grid0.Coords) (a0 : Memref sig .tc .vmem S2048x1024 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (g0 : cond0_0 i) (g1 : ¬cond0_1 i) (g2 : ¬cond0_2 i) (x0 x1 : Vec Ideal S2048x1024 .bf16) :
    sout0_A_0 c i a0 h0 a1 h1 a2 h2 a3 h3 g0 g1 g2 x0 x1 = k0_pay2 x0 x1 := by
  unfold sout0_A_0
  rw [View.read_writes_eq_canon _ _ _ (scover0_A_0 c i a0 h0 a1 h1 a2 h2 a3 h3 g0 g1 g2 x0 x1)]
  unfold kernelRun0_A
  dsimp only
  rw [View.canon_unit_zero zero_pair]
  simp only [View.readAt_eq_ld, h0.read_unread, h1.read_unread, View.ld_unit_zero (S := S2048x1024) zero_pair]

/-- The second step adds its product and writes the block. -/
theorem out_B (c : Dev nD) (i : grid0.Coords) (a0 : Memref sig .tc .vmem S2048x1024 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (g0 : ¬cond0_0 i) (g1 : ¬cond0_1 i) (g2 : cond0_2 i) (x0 x1 : Vec Ideal S2048x1024 .bf16) (xs : Vec Ideal S1024x1024 .f32) :
    out0_B_2 c i a0 h0 a1 h1 a2 h2 a3 h3 g0 g1 g2 x0 x1 xs = k0_pay4 x0 x1 xs := by
  unfold out0_B_2
  rw [View.read_writes_eq_canon _ _ _ (cover0_B_2 c i a0 h0 a1 h1 a2 h2 a3 h3 g0 g1 g2 x0 x1 xs)]
  unfold kernelRun0_B
  dsimp only
  rw [View.canon_unit_zero zero_pair]
  simp only [View.readAt_eq_ld, h0.read_unread, h1.read_unread, h3.read_unread, View.ld_unit_zero (S := S2048x1024) zero_pair,
    View.ld_unit_zero (S := S1024x1024) zero_pair]

theorem first_at (x0 x1 : Vec Ideal S2048x1024 .bf16) (a b : Fin 1024) :
    k0_pay2 x0 x1 (ix2 a b) = ∑ k : Fin 2048, x0 (ix2 k a) * x1 (ix2 k b) := by
  pointwise [k0_pay2, k0_pay1]

theorem last_at (x0 x1 : Vec Ideal S2048x1024 .bf16) (xs : Vec Ideal S1024x1024 .f32) (a b : Fin 1024) :
    k0_pay4 x0 x1 xs (ix2 a b) = xs (ix2 a b) + ∑ k : Fin 2048, x0 (ix2 k a) * x1 (ix2 k b) := by
  pointwise [k0_pay4, k0_pay1]

/-! ## The blocks -/

theorem index_0 : ∀ t : Fin cfg0.N, win0_0.index t = ![t.val % 2, t.val / 4] :=
  (by decide +kernel : ∀ t : Fin grid0.N, win0_0.index t = ![t.val % 2, t.val / 4])
theorem index_1 : ∀ t : Fin cfg0.N, win0_1.index t = ![t.val % 2, t.val / 2 % 2] :=
  (by decide +kernel : ∀ t : Fin grid0.N, win0_1.index t = ![t.val % 2, t.val / 2 % 2])
theorem index_2 : ∀ t : Fin cfg0.N, win0_2.index t = ![t.val / 4, t.val / 2 % 2] :=
  (by decide +kernel : ∀ t : Fin grid0.N, win0_2.index t = ![t.val / 4, t.val / 2 % 2])

theorem lt_points (t : Fin cfg0.N) : t.val < 32 := lt_of_lt_of_eq t.isLt (by decide +kernel)

/-- The place in the summed axis, the row and the column of an element of a block. -/
def depth (t : Fin cfg0.N) (k : Fin 2048) : Fin 4096 := ⟨2048 * (t.val % 2) + k.val, by omega⟩
def row (t : Fin cfg0.N) (a : Fin 1024) : Fin 8192 := ⟨1024 * (t.val / 4) + a.val, by have := lt_points t; omega⟩
def column (t : Fin cfg0.N) (b : Fin 1024) : Fin 2048 := ⟨1024 * (t.val / 2 % 2) + b.val, by omega⟩

theorem iblk_0 (t : Fin cfg0.N) (k : Fin 2048) (a : Fin 1024) :
    iblk m c 0 t (ix2 k a) = m ((c : Thread nD τ).loc main_arg0) (ix2 (depth t k) (row t a)) := by
  rw [← V_main_arg0 m c]
  blk_ext [iblk, depth, row, index_0 t]
theorem iblk_1 (t : Fin cfg0.N) (k : Fin 2048) (b : Fin 1024) :
    iblk m c 1 t (ix2 k b) = m ((c : Thread nD τ).loc main_arg1) (ix2 (depth t k) (column t b)) := by
  rw [← V_main_arg1 m c]
  blk_ext [iblk, depth, column, index_1 t]

/-- The point before. -/
def before (t : Fin cfg0.N) : Fin cfg0.N := ⟨t.val - 1, Nat.lt_of_le_of_lt (Nat.sub_le _ _) t.isLt⟩

theorem row_before (t : Fin cfg0.N) (h : t.val % 2 = 1) (a : Fin 1024) : row (before t) a = row t a := by
  apply Fin.ext
  simp only [row, before]
  omega
theorem column_before (t : Fin cfg0.N) (h : t.val % 2 = 1) (b : Fin 1024) : column (before t) b = column t b := by
  apply Fin.ext
  simp only [column, before]
  omega
theorem depth_before (t : Fin cfg0.N) (h : t.val % 2 = 1) (k : Fin 2048) : depth (before t) k = ⟨2048 * 0 + k.val, by omega⟩ := by
  apply Fin.ext
  simp only [depth, before]
  omega
theorem depth_last (t : Fin cfg0.N) (h : t.val % 2 = 1) (k : Fin 2048) : depth t k = ⟨2048 * 1 + k.val, by omega⟩ := by
  apply Fin.ext
  simp only [depth]
  omega

/-- What the second step of a block leaves in the result's buffer. -/
theorem left (t : Fin cfg0.N) (h : t.val % 2 = 1) :
    (outsAt0 m c t.val t.isLt).1 = k0_pay4 (iblk m c 0 t) (iblk m c 1 t) (k0_pay2 (iblk m c 0 (before t)) (iblk m c 1 (before t))) := by
  have e := congrArg Prod.snd (outsAt0_A m c (before t) (by simp only [before]; omega) (by simp only [before]; omega))
  dsimp only at e
  rw [sout_A] at e
  rw [outsAt0_B m c t (by omega) h]
  dsimp only
  rw [out_B]
  exact congrArg (k0_pay4 _ _) e

/-! ## The reference and the result -/

theorem reference_at (x0 : FVec Ideal S4096x8192 .bf16) (x1 : FVec Ideal S4096x2048 .bf16) (i : Fin 8192) (j : Fin 2048) :
    val_main_v5 (F := Ideal) x0 x1 (ix2 i j) = ∑ k : Fin 4096, x0 (ix2 k i) * x1 (ix2 k j) := by
  rw [val_main_v5_apply, val_main_v4_apply]
  exact Finset.sum_congr rfl fun k _ => (mul_comm _ _).trans (congrArg₂ (· * ·) (congrArg x0 (eq_ix2 _)) (congrArg x1 (eq_ix2 _)))

theorem point (t : Fin cfg0.N) (h : t.val % 2 = 1) (a b : Fin 1024) :
    k0_pay4 (iblk m c 0 t) (iblk m c 1 t) (k0_pay2 (iblk m c 0 (before t)) (iblk m c 1 (before t))) (ix2 a b)
      = val_main_v5 (F := Ideal) (m ((c : Thread nD τ).loc main_arg0)) (m ((c : Thread nD τ).loc main_arg1)) (ix2 (row t a) (column t b)) := by
  rw [last_at, first_at, reference_at, sum_two]
  refine congrArg₂ (· + ·) (Finset.sum_congr rfl fun k _ => ?_) (Finset.sum_congr rfl fun k _ => ?_)
  · rw [iblk_0 m c (before t) k a, iblk_1 m c (before t) k b, row_before t h a, column_before t h b, depth_before t h k]
  · rw [iblk_0 m c t k a, iblk_1 m c t k b, depth_last t h k]

theorem emb_2 (t : Fin cfg0.N) (a b : Fin 1024) : (win0_2.blk t).view.emb (ix2 a b) = ix2 (row t a) (column t b) := by
  blk_ext [row, column, index_2 t]

theorem array : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  blk_simp
  rw [after0_2, left m c t h]
  exact (congrArg _ (eq_ix2 y)).trans ((point m c t h (y 0) (y 1)).trans
    (congrArg _ ((emb_2 t (y 0) (y 1)).symm.trans (congrArg _ (eq_ix2 y).symm))))

/-! ## The claims -/

theorem frame_kernel : Cert.quiescent_Ff2Dw (hFf2Dw := Cert.Ff2Dw.Gen.facts) :=
  fun m ρ _ => by
    refine cast ?_ (Cert.Ff2DwIdeal.Gen.frame (F := Bits) m ρ)
    sl_kernel_rfl

theorem frame_ideal : Cert.quiescent_Ff2DwIdeal (hFf2DwIdeal := Cert.Ff2DwIdeal.Gen.facts) := fun m ρ _ => Cert.Ff2DwIdeal.Gen.frame m ρ

theorem frame_reference : Cert.quiescent_Ff2DwRefIdeal (hFf2DwRefIdeal := Cert.Ff2DwRefIdeal.Gen.facts) :=
  fun m ρ _ => (θ_run _ _ _).mono (fun r h => ⟨fun c => (h c).2, sem_eq_zero_of_no_sems (by decide) r.2⟩) (Cert.Ff2DwRefIdeal.Value.run m ρ)

theorem algebraic : Cert.algebraic_Ff2DwIdeal_Ff2DwRefIdeal (hFf2DwIdeal := Cert.Ff2DwIdeal.Gen.facts) (hFf2DwRefIdeal := Cert.Ff2DwRefIdeal.Gen.facts) := by
  intro m ρ m' ρ' _ ha
  refine ⟨_, (θ_run _ _ _).mono (fun _ h c => ⟨(h c).1.trans (array m c), (h c).2⟩) (run_blocks m ρ),
    (θ_run _ _ _).mono (fun _ h c => ⟨(h c).1.trans ?_, (h c).2⟩) (Cert.Ff2DwRefIdeal.Value.run m' ρ')⟩
  rw [(ha c).1, (ha c).2]
  rfl

end Hgrn.Ff2Dw

end
-- ==== Proof.Ff1Dx.lean ====
/- The first feed-forward product's input gradient: the kernel's sum over four shards is the reference's product. -/
module

public import Idealize.ShloMosaic.Lib.Pipeline.ValueKit
public import proofs.«01_k».proof.Defs
public import proofs.«01_k».proof.Proof.Gen.Ff1Dx
public import proofs.«01_k».proof.Proof.Gen.Ff1DxIdeal.Value
public import proofs.«01_k».proof.Proof.Gen.Ff1DxRefIdeal.Read
public import proofs.«01_k».proof.Proof.Product

@[expose] public section

set_option maxRecDepth 16384

noncomputable section

namespace Hgrn.Ff1Dx

open Idealize.ShloMosaic Idealize.ShloMosaic.TcCoe Idealize.ShloMosaic.Tactic Idealize.SL.Sem Cert.Ff1DxIdeal Cert.Ff1DxIdeal.Gen Cert.Ff1DxIdeal.Value
open Cert.Ff1DxRefIdeal.Read

variable (m : (ℓ : Loc nD τ sig) → Buf (Elt Ideal) ℓ) (c : Dev nD)

/-! ## The case values -/

/-- The first step of a block's sum leaves the product of the two blocks in the carried buffer. -/
theorem sout_A (c : Dev nD) (i : grid0.Coords) (a0 : Memref sig .tc .vmem S1024x2048 .bf16) (h0 : a0.IsWhole) (a1 : Memref sig .tc .vmem S1x1024x2048 .bf16) (h1 : a1.IsWhole)
    (a2 : Memref sig .tc .vmem S1024x1024 .f32) (h2 : a2.IsWhole) (a3 : Memref sig .tc .vmem S1024x1024 .f32) (h3 : a3.IsWhole)
    (g0 : cond0_0 i) (g1 : ¬cond0_1 i) (g2 : ¬cond0_2 i) (x0 : Vec Ideal S1024x2048 .bf16) (x1 : Vec Ideal S1x1024x2048 .bf16) :
    sout0_A_0 c i a0 h0 a1 h1 a2 h2 a3 h3 g0 g1 g2 x0 x1 = k0_pay2 x0 x1 := by
  unfold sout0_A_0
  rw [View.read_writes_eq_canon _ _ _ (scover0_A_0 c i a0 h0 a1 h1 a2 h2 a3 h3 g0 g1 g2 x0 x1)]
  unfold kernelRun0_A
  dsimp only
  rw [View.canon_unit_zero zero_pair]
  simp only [View.readAt_eq_ld, h0.read_unread, h1.read_unread, View.ld_unit_zero (S := S1024x2048) zero_pair, View.ld_unit_zero (S := S1x1024x2048) zero_triple]

/-- The second and the third step add their products. -/
theorem sout_B (c : Dev nD) (i : grid0.Coords) (a0 : Memref sig .tc .vmem S1024x2048 .bf16) (h0 : a0.IsWhole) (a1 : Memref sig .tc .vmem S1x1024x2048 .bf16) (h1 : a1.IsWhole)
    (a2 : Memref sig .tc .vmem S1024x1024 .f32) (h2 : a2.IsWhole) (a3 : Memref sig .tc .vmem S1024x1024 .f32) (h3 : a3.IsWhole)
    (g0 : ¬cond0_0 i) (g1 : cond0_1 i) (g2 : ¬cond0_2 i) (x0 : Vec Ideal S1024x2048 .bf16) (x1 : Vec Ideal S1x1024x2048 .bf16) (xs : Vec Ideal S1024x1024 .f32) :
    sout0_B_0 c i a0 h0 a1 h1 a2 h2 a3 h3 g0 g1 g2 x0 x1 xs = k0_pay3 x0 x1 xs := by
  unfold sout0_B_0
  rw [View.read_writes_eq_canon _ _ _ (scover0_B_0 c i a0 h0 a1 h1 a2 h2 a3 h3 g0 g1 g2 x0 x1 xs)]
  unfold kernelRun0_B
  dsimp only
  rw [View.canon_unit_zero zero_pair]
  simp only [View.readAt_eq_ld, h0.read_unread, h1.read_unread, h3.read_unread, View.ld_unit_zero (S := S1024x2048) zero_pair, View.ld_unit_zero (S := S1x1024x2048) zero_triple, View.ld_unit_zero (S := S1024x1024) zero_pair]

/-- The fourth step adds its product and writes the block. -/
theorem out_C (c : Dev nD) (i : grid0.Coords) (a0 : Memref sig .tc .vmem S1024x2048 .bf16) (h0 : a0.IsWhole) (a1 : Memref sig .tc .vmem S1x1024x2048 .bf16) (h1 : a1.IsWhole)
    (a2 : Memref sig .tc .vmem S1024x1024 .f32) (h2 : a2.IsWhole) (a3 : Memref sig .tc .vmem S1024x1024 .f32) (h3 : a3.IsWhole)
    (g0 : ¬cond0_0 i) (g1 : ¬cond0_1 i) (g2 : cond0_2 i) (x0 : Vec Ideal S1024x2048 .bf16) (x1 : Vec Ideal S1x1024x2048 .bf16) (xs : Vec Ideal S1024x1024 .f32) :
    out0_C_2 c i a0 h0 a1 h1 a2 h2 a3 h3 g0 g1 g2 x0 x1 xs = k0_pay4 x0 x1 xs := by
  unfold out0_C_2
  rw [View.read_writes_eq_canon _ _ _ (cover0_C_2 c i a0 h0 a1 h1 a2 h2 a3 h3 g0 g1 g2 x0 x1 xs)]
  unfold kernelRun0_C
  dsimp only
  rw [View.canon_unit_zero zero_pair]
  simp only [View.readAt_eq_ld, h0.read_unread, h1.read_unread, h3.read_unread, View.ld_unit_zero (S := S1024x2048) zero_pair, View.ld_unit_zero (S := S1x1024x2048) zero_triple, View.ld_unit_zero (S := S1024x1024) zero_pair]

/-- One step's product, at an element of its block. -/
def step_sum (x0 : Vec Ideal S1024x2048 .bf16) (x1 : Vec Ideal S1x1024x2048 .bf16) (a b : Fin 1024) : EReal :=
  ∑ k : Fin 2048, x0 (ix2 a k) * x1 (ix3 0 b k)

theorem first_at (x0 : Vec Ideal S1024x2048 .bf16) (x1 : Vec Ideal S1x1024x2048 .bf16) (a b : Fin 1024) :
    k0_pay2 x0 x1 (ix2 a b) = step_sum x0 x1 a b := by
  unfold step_sum
  pointwise [k0_pay2, k0_pay1]

theorem next_at (x0 : Vec Ideal S1024x2048 .bf16) (x1 : Vec Ideal S1x1024x2048 .bf16) (xs : Vec Ideal S1024x1024 .f32) (a b : Fin 1024) :
    k0_pay3 x0 x1 xs (ix2 a b) = xs (ix2 a b) + step_sum x0 x1 a b := by
  unfold step_sum
  pointwise [k0_pay3, k0_pay1]

theorem last_at (x0 : Vec Ideal S1024x2048 .bf16) (x1 : Vec Ideal S1x1024x2048 .bf16) (xs : Vec Ideal S1024x1024 .f32) (a b : Fin 1024) :
    k0_pay4 x0 x1 xs (ix2 a b) = xs (ix2 a b) + step_sum x0 x1 a b := by

  unfold step_sum
  pointwise [k0_pay4, k0_pay1]

/-! ## The blocks -/

theorem index_0 : ∀ t : Fin cfg0.N, win0_0.index t = ![t.val / 8, t.val % 4] :=
  (by decide +kernel : ∀ t : Fin grid0.N, win0_0.index t = ![t.val / 8, t.val % 4])
theorem index_1 : ∀ t : Fin cfg0.N, win0_1.index t = ![t.val % 4, t.val / 4 % 2, 0] :=
  (by decide +kernel : ∀ t : Fin grid0.N, win0_1.index t = ![t.val % 4, t.val / 4 % 2, 0])
theorem index_2 : ∀ t : Fin cfg0.N, win0_2.index t = ![t.val / 8, t.val / 4 % 2] :=
  (by decide +kernel : ∀ t : Fin grid0.N, win0_2.index t = ![t.val / 8, t.val / 4 % 2])

theorem lt_points (t : Fin cfg0.N) : t.val < 32 := lt_of_lt_of_eq t.isLt (by decide +kernel)

/-- The place in the summed axis, the row and the column of an element of a block. -/
def depth (t : Fin cfg0.N) (k : Fin 2048) : Fin 8192 := ⟨2048 * (t.val % 4) + k.val, by omega⟩
def row (t : Fin cfg0.N) (a : Fin 1024) : Fin 4096 := ⟨1024 * (t.val / 8) + a.val, by have := lt_points t; omega⟩
def column (t : Fin cfg0.N) (b : Fin 1024) : Fin 2048 := ⟨1024 * (t.val / 4 % 2) + b.val, by omega⟩

theorem iblk_0 (t : Fin cfg0.N) (a : Fin 1024) (k : Fin 2048) :
    iblk m c 0 t (ix2 a k) = m ((c : Thread nD τ).loc main_arg0) (ix2 (row t a) (depth t k)) := by
  rw [← V_main_arg0 m c]
  blk_ext [iblk, depth, row, index_0 t]

/-- The shard a block is taken of. -/
def shard (t : Fin cfg0.N) : Fin 4 := ⟨t.val % 4, by omega⟩

theorem iblk_1 (t : Fin cfg0.N) (b : Fin 1024) (k : Fin 2048) :
    iblk m c 1 t (ix3 0 b k) = m ((c : Thread nD τ).loc main_arg1) (ix3 (shard t) (column t b) k) := by
  rw [← V_main_arg1 m c]
  blk_ext [iblk, shard, column, index_1 t]
theorem shard_at (t : Fin cfg0.N) (s : ℕ) (hs : s < 4) (h : t.val % 4 = s) : shard t = ⟨s, hs⟩ := Fin.ext h

theorem row_at (t t' : Fin cfg0.N) (h : t.val / 4 = t'.val / 4) (a : Fin 1024) : row t a = row t' a := by
  apply Fin.ext
  simp only [row]
  omega
theorem column_at (t t' : Fin cfg0.N) (h : t.val / 4 = t'.val / 4) (b : Fin 1024) : column t b = column t' b := by
  apply Fin.ext
  simp only [column]
  omega
theorem depth_at (t : Fin cfg0.N) (s : ℕ) (hs : s < 4) (h : t.val % 4 = s) (k : Fin 2048) : depth t k = ⟨2048 * s + k.val, by omega⟩ := by
  apply Fin.ext
  simp only [depth]
  omega

/-- One block of the whole sum, at an element of the two arrays. -/
def array_sum (x0 : FVec Ideal S4096x8192 .bf16) (x1 : FVec Ideal S4x2048x2048 .bf16) (s : ℕ) (hs : s < 4) (i : Fin 4096) (j : Fin 2048) : EReal :=
  ∑ k : Fin 2048, x0 (ix2 i ⟨2048 * s + k.val, by omega⟩) * x1 (ix3 ⟨s, hs⟩ j k)

/-- One step's product, read from the two arrays. -/
theorem step_at (t t' : Fin cfg0.N) (s : ℕ) (hs : s < 4) (h : t.val % 4 = s) (h' : t.val / 4 = t'.val / 4) (a b : Fin 1024) :
    step_sum (iblk m c 0 t) (iblk m c 1 t) a b
      = array_sum (m ((c : Thread nD τ).loc main_arg0)) (m ((c : Thread nD τ).loc main_arg1)) s hs (row t' a) (column t' b) := by
  unfold step_sum array_sum
  refine Finset.sum_congr rfl fun k _ => ?_
  rw [iblk_0 m c t a k, iblk_1 m c t b k, row_at t t' h' a, column_at t t' h' b, depth_at t s hs h k, shard_at t s hs h]

/-- The point before. -/
def before (t : Fin cfg0.N) : Fin cfg0.N := ⟨t.val - 1, Nat.lt_of_le_of_lt (Nat.sub_le _ _) t.isLt⟩

theorem scratch_A (t : Fin cfg0.N) (h : t.val % 4 = 0) : (outsAt0 m c t.val t.isLt).2 = k0_pay2 (iblk m c 0 t) (iblk m c 1 t) := by
  rw [outsAt0_A m c t h (by omega) (by omega)]
  dsimp only
  rw [sout_A]
theorem scratch_B (t : Fin cfg0.N) (h : 1 ≤ t.val % 4 ∧ t.val % 4 ≤ 2) :
    (outsAt0 m c t.val t.isLt).2 = k0_pay3 (iblk m c 0 t) (iblk m c 1 t) (outsAt0 m c (before t).val (before t).isLt).2 := by
  rw [outsAt0_B m c t (by omega) h (by omega)]
  dsimp only
  rw [sout_B]
  rfl

/-- What the fourth step of a block leaves in the result's buffer. -/
theorem left (t : Fin cfg0.N) (h : t.val % 4 = 3) :
    (outsAt0 m c t.val t.isLt).1 = k0_pay4 (iblk m c 0 t) (iblk m c 1 t)
      (k0_pay3 (iblk m c 0 (before t)) (iblk m c 1 (before t))
        (k0_pay3 (iblk m c 0 (before (before t))) (iblk m c 1 (before (before t)))
          (k0_pay2 (iblk m c 0 (before (before (before t)))) (iblk m c 1 (before (before (before t)))))) ) := by
  rw [← scratch_A m c (before (before (before t))) (by simp only [before]; omega),
    ← scratch_B m c (before (before t)) (by simp only [before]; omega), ← scratch_B m c (before t) (by simp only [before]; omega),
    outsAt0_C m c t (by omega) (by omega) h]
  dsimp only
  rw [out_C]
  rfl

/-! ## The reference and the result -/

theorem shards_at (x1 : FVec Ideal S4x2048x2048 .bf16) (s : ℕ) (hs : s < 4) (j k : Fin 2048) :
    val_main_v10 (F := Ideal) x1 (ix2 j ⟨2048 * s + k.val, by omega⟩) = x1 (ix3 ⟨s, hs⟩ j k) := by
  unfold val_main_v10 val_main_v9 val_main_v8 val_main_v7 val_main_v6 val_main_v5 val_main_v4 val_main_v3 val_main_v2 val_main_v1
  pointwise
  interval_cases s
  · rw [dif_pos (by omega)]
    exact congrArg (fun z : Fin 2048 => x1 (ix3 0 j z)) (Fin.ext (by dsimp only; omega))
  · rw [dif_neg (by omega), dif_pos (by omega)]
    exact congrArg (fun z : Fin 2048 => x1 (ix3 1 j z)) (Fin.ext (by dsimp only; omega))
  · rw [dif_neg (by omega), dif_neg (by omega), dif_pos (by omega)]
    exact congrArg (fun z : Fin 2048 => x1 (ix3 2 j z)) (Fin.ext (by dsimp only; omega))
  · rw [dif_neg (by omega), dif_neg (by omega), dif_neg (by omega)]
    exact congrArg (fun z : Fin 2048 => x1 (ix3 3 j z)) (Fin.ext (by dsimp only; omega))

theorem product_at (x0 : FVec Ideal S4096x8192 .bf16) (x1 : FVec Ideal S4x2048x2048 .bf16) (i : Fin 4096) (j : Fin 2048) :
    val_main_v13 (F := Ideal) x0 x1 (ix2 i j)
      = ((array_sum x0 x1 0 (by omega) i j + array_sum x0 x1 1 (by omega) i j) + array_sum x0 x1 2 (by omega) i j) + array_sum x0 x1 3 (by omega) i j := by
  rw [val_main_v13_apply, sum_four]
  unfold array_sum
  refine congrArg₂ (· + ·) (congrArg₂ (· + ·) (congrArg₂ (· + ·) ?_ ?_) ?_) ?_
  all_goals refine Finset.sum_congr rfl fun k _ => congrArg₂ (· * ·) (congrArg x0 (eq_ix2 _)) ((congrArg _ (eq_ix2 _)).trans (shards_at x1 _ (by omega) j k))

theorem point (t : Fin cfg0.N) (h : t.val % 4 = 3) (a b : Fin 1024) :
    k0_pay4 (iblk m c 0 t) (iblk m c 1 t)
      (k0_pay3 (iblk m c 0 (before t)) (iblk m c 1 (before t))
        (k0_pay3 (iblk m c 0 (before (before t))) (iblk m c 1 (before (before t)))
          (k0_pay2 (iblk m c 0 (before (before (before t)))) (iblk m c 1 (before (before (before t)))))) ) (ix2 a b)
      = val_main_v13 (F := Ideal) (m ((c : Thread nD τ).loc main_arg0)) (m ((c : Thread nD τ).loc main_arg1)) (ix2 (row t a) (column t b)) := by
  rw [last_at, next_at, next_at, first_at, step_at m c (before (before (before t))) t 0 (by omega) (by simp only [before]; omega) (by simp only [before]; omega) a b,
    step_at m c (before (before t)) t 1 (by omega) (by simp only [before]; omega) (by simp only [before]; omega) a b,
    step_at m c (before t) t 2 (by omega) (by simp only [before]; omega) (by simp only [before]; omega) a b,
    step_at m c t t 3 (by omega) h rfl a b, product_at]

theorem emb_2 (t : Fin cfg0.N) (a b : Fin 1024) : (win0_2.blk t).view.emb (ix2 a b) = ix2 (row t a) (column t b) := by
  blk_ext [row, column, index_2 t]

theorem array : (dats m 0 c).arrAt 2 cfg0.N = val_main_v13 (F := Ideal) (m ((c : Thread nD τ).loc main_arg0)) (m ((c : Thread nD τ).loc main_arg1)) := by
  refine (dats m 0 c).arrAt_eq_of_covers 2 _ (by decide +kernel) fun t hf y => ?_
  have h : t.val % 4 = 3 := (flush0_2 t).mp hf
  blk_simp
  rw [after0_2, left m c t h]
  exact (congrArg _ (eq_ix2 y)).trans ((point m c t h (y 0) (y 1)).trans
    (congrArg _ ((emb_2 t (y 0) (y 1)).symm.trans (congrArg _ (eq_ix2 y).symm))))

/-! ## The claims -/

theorem frame_kernel : Cert.quiescent_Ff1Dx (hFf1Dx := Cert.Ff1Dx.Gen.facts) :=
  fun m ρ _ => by
    refine cast ?_ (Cert.Ff1DxIdeal.Gen.frame (F := Bits) m ρ)
    sl_kernel_rfl

theorem frame_ideal : Cert.quiescent_Ff1DxIdeal (hFf1DxIdeal := Cert.Ff1DxIdeal.Gen.facts) := fun m ρ _ => Cert.Ff1DxIdeal.Gen.frame m ρ

theorem frame_reference : Cert.quiescent_Ff1DxRefIdeal (hFf1DxRefIdeal := Cert.Ff1DxRefIdeal.Gen.facts) :=
  fun m ρ _ => (θ_run _ _ _).mono (fun r h => ⟨fun c => (h c).2, sem_eq_zero_of_no_sems (by decide) r.2⟩) (Cert.Ff1DxRefIdeal.Value.run m ρ)

theorem algebraic : Cert.algebraic_Ff1DxIdeal_Ff1DxRefIdeal (hFf1DxIdeal := Cert.Ff1DxIdeal.Gen.facts) (hFf1DxRefIdeal := Cert.Ff1DxRefIdeal.Gen.facts) := by
  intro m ρ m' ρ' _ ha
  refine ⟨_, (θ_run _ _ _).mono (fun _ h c => ⟨(h c).1.trans (array m c), (h c).2⟩) (run_blocks m ρ),
    (θ_run _ _ _).mono (fun _ h c => ⟨(h c).1.trans ?_, (h c).2⟩) (Cert.Ff1DxRefIdeal.Value.run m' ρ')⟩
  rw [(ha c).1, (ha c).2]
  rfl

end Hgrn.Ff1Dx

end
-- ==== Proof.Ff1Dw.lean ====
/- The first feed-forward weight's gradient, written as four shards: the kernel's sum over two blocks of tokens is the reference's product. -/
module

public import Idealize.ShloMosaic.Lib.Pipeline.ValueKit
public import proofs.«01_k».proof.Defs
public import proofs.«01_k».proof.Proof.Gen.Ff1Dw
public import proofs.«01_k».proof.Proof.Gen.Ff1DwIdeal.Value
public import proofs.«01_k».proof.Proof.Gen.Ff1DwRefIdeal.Read
public import proofs.«01_k».proof.Proof.Product

@[expose] public section

set_option maxRecDepth 16384

noncomputable section

namespace Hgrn.Ff1Dw

open Idealize.ShloMosaic Idealize.ShloMosaic.TcCoe Idealize.ShloMosaic.Tactic Idealize.SL.Sem Cert.Ff1DwIdeal Cert.Ff1DwIdeal.Gen Cert.Ff1DwIdeal.Value
open Cert.Ff1DwRefIdeal.Read

variable (m : (ℓ : Loc nD τ sig) → Buf (Elt Ideal) ℓ) (c : Dev nD)

/-! ## The case values -/

/-- The first step of a block's sum leaves the product of the two blocks in the carried buffer. -/
theorem sout_A (c : Dev nD) (i : grid0.Coords) (a0 : Memref sig .tc .vmem S2048x1024 .bf16) (h0 : a0.IsWhole) (a1 : Memref sig .tc .vmem S2048x1024 .bf16) (h1 : a1.IsWhole)
    (a2 : Memref sig .tc .vmem S1x1024x1024 .f32) (h2 : a2.IsWhole) (a3 : Memref sig .tc .vmem S1024x1024 .f32) (h3 : a3.IsWhole)
    (g0 : cond0_0 i) (g1 : ¬cond0_1 i) (g2 : ¬cond0_2 i) (x0 x1 : Vec Ideal S2048x1024 .bf16) :
    sout0_A_0 c i a0 h0 a1 h1 a2 h2 a3 h3 g0 g1 g2 x0 x1 = k0_pay2 x0 x1 := by
  unfold sout0_A_0
  rw [View.read_writes_eq_canon _ _ _ (scover0_A_0 c i a0 h0 a1 h1 a2 h2 a3 h3 g0 g1 g2 x0 x1)]
  unfold kernelRun0_A
  dsimp only
  rw [View.canon_unit_zero zero_pair]
  simp only [View.readAt_eq_ld, h0.read_unread, h1.read_unread, View.ld_unit_zero (S := S2048x1024) zero_pair]

/-- The second step adds its product and writes the block. -/
theorem out_B (c : Dev nD) (i : grid0.Coords) (a0 : Memref sig .tc .vmem S2048x1024 .bf16) (h0 : a0.IsWhole) (a1 : Memref sig .tc .vmem S2048x1024 .bf16) (h1 : a1.IsWhole)
    (a2 : Memref sig .tc .vmem S1x1024x1024 .f32) (h2 : a2.IsWhole) (a3 : Memref sig .tc .vmem S1024x1024 .f32) (h3 : a3.IsWhole)
    (g0 : ¬cond0_0 i) (g1 : ¬cond0_1 i) (g2 : cond0_2 i) (x0 x1 : Vec Ideal S2048x1024 .bf16) (xs : Vec Ideal S1024x1024 .f32) :
    out0_B_2 c i a0 h0 a1 h1 a2 h2 a3 h3 g0 g1 g2 x0 x1 xs = k0_pay4 x0 x1 xs := by
  unfold out0_B_2
  rw [View.read_writes_eq_canon _ _ _ (cover0_B_2 c i a0 h0 a1 h1 a2 h2 a3 h3 g0 g1 g2 x0 x1 xs)]
  unfold kernelRun0_B
  dsimp only
  rw [View.canon_unit_zero zero_triple]
  simp only [View.readAt_eq_ld, h0.read_unread, h1.read_unread, h3.read_unread, View.ld_unit_zero (S := S2048x1024) zero_pair,
    View.ld_unit_zero (S := S1024x1024) zero_pair]

theorem first_at (x0 x1 : Vec Ideal S2048x1024 .bf16) (a b : Fin 1024) :
    k0_pay2 x0 x1 (ix2 a b) = ∑ k : Fin 2048, x0 (ix2 k a) * x1 (ix2 k b) := by
  pointwise [k0_pay2, k0_pay1]

theorem last_at (x0 x1 : Vec Ideal S2048x1024 .bf16) (xs : Vec Ideal S1024x1024 .f32) (a b : Fin 1024) :
    k0_pay4 x0 x1 xs (ix3 0 a b) = xs (ix2 a b) + ∑ k : Fin 2048, x0 (ix2 k a) * x1 (ix2 k b) := by
  pointwise [k0_pay4, k0_pay1]

/-! ## The blocks -/

theorem index_0 : ∀ t : Fin cfg0.N, win0_0.index t = ![t.val % 2, t.val / 16] :=
  (by decide +kernel : ∀ t : Fin grid0.N, win0_0.index t = ![t.val % 2, t.val / 16])
theorem index_1 : ∀ t : Fin cfg0.N, win0_1.index t = ![t.val % 2, t.val / 2 % 8] :=
  (by decide +kernel : ∀ t : Fin grid0.N, win0_1.index t = ![t.val % 2, t.val / 2 % 8])
theorem index_2 : ∀ t : Fin cfg0.N, win0_2.index t = ![t.val / 2 % 8 / 2, t.val / 16, t.val / 2 % 8 % 2] :=
  (by decide +kernel : ∀ t : Fin grid0.N, win0_2.index t = ![t.val / 2 % 8 / 2, t.val / 16, t.val / 2 % 8 % 2])

theorem lt_points (t : Fin cfg0.N) : t.val < 32 := lt_of_lt_of_eq t.isLt (by decide +kernel)

/-- The place in the summed axis, the row and the column of an element of a block. -/
def depth (t : Fin cfg0.N) (k : Fin 2048) : Fin 4096 := ⟨2048 * (t.val % 2) + k.val, by omega⟩
def row (t : Fin cfg0.N) (a : Fin 1024) : Fin 2048 := ⟨1024 * (t.val / 16) + a.val, by have := lt_points t; omega⟩
def column (t : Fin cfg0.N) (b : Fin 1024) : Fin 8192 := ⟨1024 * (t.val / 2 % 8) + b.val, by omega⟩

theorem iblk_0 (t : Fin cfg0.N) (k : Fin 2048) (a : Fin 1024) :
    iblk m c 0 t (ix2 k a) = m ((c : Thread nD τ).loc main_arg0) (ix2 (depth t k) (row t a)) := by
  rw [← V_main_arg0 m c]
  blk_ext [iblk, depth, row, index_0 t]
theorem iblk_1 (t : Fin cfg0.N) (k : Fin 2048) (b : Fin 1024) :
    iblk m c 1 t (ix2 k b) = m ((c : Thread nD τ).loc main_arg1) (ix2 (depth t k) (column t b)) := by
  rw [← V_main_arg1 m c]
  blk_ext [iblk, depth, column, index_1 t]

/-- The point before. -/
def before (t : Fin cfg0.N) : Fin cfg0.N := ⟨t.val - 1, Nat.lt_of_le_of_lt (Nat.sub_le _ _) t.isLt⟩

theorem row_before (t : Fin cfg0.N) (h : t.val % 2 = 1) (a : Fin 1024) : row (before t) a = row t a := by
  apply Fin.ext
  simp only [row, before]
  omega
theorem column_before (t : Fin cfg0.N) (h : t.val % 2 = 1) (b : Fin 1024) : column (before t) b = column t b := by
  apply Fin.ext
  simp only [column, before]
  omega
theorem depth_before (t : Fin cfg0.N) (h : t.val % 2 = 1) (k : Fin 2048) : depth (before t) k = ⟨2048 * 0 + k.val, by omega⟩ := by
  apply Fin.ext
  simp only [depth, before]
  omega
theorem depth_last (t : Fin cfg0.N) (h : t.val % 2 = 1) (k : Fin 2048) : depth t k = ⟨2048 * 1 + k.val, by omega⟩ := by
  apply Fin.ext
  simp only [depth]
  omega

/-- What the second step of a block leaves in the result's buffer. -/
theorem left (t : Fin cfg0.N) (h : t.val % 2 = 1) :
    (outsAt0 m c t.val t.isLt).1 = k0_pay4 (iblk m c 0 t) (iblk m c 1 t) (k0_pay2 (iblk m c 0 (before t)) (iblk m c 1 (before t))) := by
  have e := congrArg Prod.snd (outsAt0_A m c (before t) (by simp only [before]; omega) (by simp only [before]; omega))
  dsimp only at e
  rw [sout_A] at e
  rw [outsAt0_B m c t (by omega) h]
  dsimp only
  rw [out_B]
  exact congrArg (k0_pay4 _ _) e

/-! ## The reference and the result -/

theorem product_at (x0 : FVec Ideal S4096x2048 .bf16) (x1 : FVec Ideal S4096x8192 .bf16) (i : Fin 2048) (j : Fin 8192) :
    val_main_v14 (F := Ideal) x0 x1 (ix2 i j) = ∑ k : Fin 4096, x0 (ix2 k i) * x1 (ix2 k j) := by
  rw [val_main_v14_apply, val_main_v13_apply]
  exact Finset.sum_congr rfl fun k _ => (mul_comm _ _).trans (congrArg₂ (· * ·) (congrArg x0 (eq_ix2 _)) (congrArg x1 (eq_ix2 _)))

theorem split_at (x0 : FVec Ideal S4096x2048 .bf16) (x1 : FVec Ideal S4096x8192 .bf16) (s : Fin 4) (i : Fin 2048) (j : Fin 2048) :
    val_main_v29 (F := Ideal) x0 x1 (ix3 s i j) = val_main_v14 (F := Ideal) x0 x1 (ix2 i ⟨2048 * s.val + j.val, by omega⟩) := by
  unfold val_main_v29 val_main_v28 val_main_v27 val_main_v26 val_main_v25 val_main_v24 val_main_v23 val_main_v22 val_main_v21 val_main_v20 val_main_v19
    val_main_v18 val_main_v17 val_main_v16 val_main_v15 val_main_cst_0 val_main_cst_1 val_main_cst_2 val_main_cst_3
  generalize val_main_v14 (F := Ideal) x0 x1 = y
  pointwise
  fin_vals s with hs
  all_goals simp [hs]

theorem reference_at (x0 : FVec Ideal S4096x2048 .bf16) (x1 : FVec Ideal S4096x8192 .bf16) (s : Fin 4) (i : Fin 2048) (j : Fin 2048) :
    val_main_v29 (F := Ideal) x0 x1 (ix3 s i j) = ∑ k : Fin 4096, x0 (ix2 k i) * x1 (ix2 k ⟨2048 * s.val + j.val, by omega⟩) :=
  (split_at x0 x1 s i j).trans (product_at x0 x1 i _)

/-- The shard and the column within it of a block's column. -/
def shard (t : Fin cfg0.N) : Fin 4 := ⟨t.val / 2 % 8 / 2, by omega⟩
def within (t : Fin cfg0.N) (b : Fin 1024) : Fin 2048 := ⟨1024 * (t.val / 2 % 8 % 2) + b.val, by omega⟩

theorem shard_within (t : Fin cfg0.N) (b : Fin 1024) : column t b = ⟨2048 * (shard t).val + (within t b).val, by omega⟩ := by
  apply Fin.ext
  simp only [column, shard, within]
  omega

theorem point (t : Fin cfg0.N) (h : t.val % 2 = 1) (a b : Fin 1024) :
    k0_pay4 (iblk m c 0 t) (iblk m c 1 t) (k0_pay2 (iblk m c 0 (before t)) (iblk m c 1 (before t))) (ix3 0 a b)
      = val_main_v29 (F := Ideal) (m ((c : Thread nD τ).loc main_arg0)) (m ((c : Thread nD τ).loc main_arg1)) (ix3 (shard t) (row t a) (within t b)) := by
  rw [last_at, first_at, reference_at, sum_two, ← shard_within]
  refine congrArg₂ (· + ·) (Finset.sum_congr rfl fun k _ => ?_) (Finset.sum_congr rfl fun k _ => ?_)
  · rw [iblk_0 m c (before t) k a, iblk_1 m c (before t) k b, row_before t h a, column_before t h b, depth_before t h k]
  · rw [iblk_0 m c t k a, iblk_1 m c t k b, depth_last t h k]

theorem emb_2 (t : Fin cfg0.N) (a b : Fin 1024) : (win0_2.blk t).view.emb (ix3 0 a b) = ix3 (shard t) (row t a) (within t b) := by
  blk_ext [shard, row, within, index_2 t]

theorem unit_first (y : S1x1024x1024.Idx) : y = ix3 0 (y 1) (y 2) := by
  funext a
  match a with
  | ⟨0, _⟩ => exact Subsingleton.elim (α := Fin 1) _ _
  | ⟨1, _⟩ => rfl
  | ⟨2, _⟩ => rfl

theorem array : (dats m 0 c).arrAt 2 cfg0.N = val_main_v29 (F := Ideal) (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  blk_simp
  rw [after0_2, left m c t h]
  exact (congrArg _ (unit_first y)).trans ((point m c t h (y 1) (y 2)).trans
    (congrArg _ ((emb_2 t (y 1) (y 2)).symm.trans (congrArg _ (unit_first y).symm))))

/-! ## The claims -/

theorem frame_kernel : Cert.quiescent_Ff1Dw (hFf1Dw := Cert.Ff1Dw.Gen.facts) :=
  fun m ρ _ => by
    refine cast ?_ (Cert.Ff1DwIdeal.Gen.frame (F := Bits) m ρ)
    sl_kernel_rfl

theorem frame_ideal : Cert.quiescent_Ff1DwIdeal (hFf1DwIdeal := Cert.Ff1DwIdeal.Gen.facts) := fun m ρ _ => Cert.Ff1DwIdeal.Gen.frame m ρ

theorem frame_reference : Cert.quiescent_Ff1DwRefIdeal (hFf1DwRefIdeal := Cert.Ff1DwRefIdeal.Gen.facts) :=
  fun m ρ _ => (θ_run _ _ _).mono (fun r h => ⟨fun c => (h c).2, sem_eq_zero_of_no_sems (by decide) r.2⟩) (Cert.Ff1DwRefIdeal.Value.run m ρ)

theorem algebraic : Cert.algebraic_Ff1DwIdeal_Ff1DwRefIdeal (hFf1DwIdeal := Cert.Ff1DwIdeal.Gen.facts) (hFf1DwRefIdeal := Cert.Ff1DwRefIdeal.Gen.facts) := by
  intro m ρ m' ρ' _ ha
  refine ⟨_, (θ_run _ _ _).mono (fun _ h c => ⟨(h c).1.trans (array m c), (h c).2⟩) (run_blocks m ρ),
    (θ_run _ _ _).mono (fun _ h c => ⟨(h c).1.trans ?_, (h c).2⟩) (Cert.Ff1DwRefIdeal.Value.run m' ρ')⟩
  rw [(ha c).1, (ha c).2]
  rfl

end Hgrn.Ff1Dw

end
-- ==== Proof.ProjDx.lean ====
/- The input projection's input gradient: the kernel's sum over four shards, with the further gradient added, is the reference's. -/
module

public import Idealize.ShloMosaic.Lib.Pipeline.ValueKit
public import proofs.«01_k».proof.Defs
public import proofs.«01_k».proof.Proof.Gen.ProjDx
public import proofs.«01_k».proof.Proof.Gen.ProjDxIdeal.Value
public import proofs.«01_k».proof.Proof.Gen.ProjDxRefIdeal.Read
public import proofs.«01_k».proof.Proof.Product

@[expose] public section

set_option maxRecDepth 16384

noncomputable section

namespace Hgrn.ProjDx

open Idealize.ShloMosaic Idealize.ShloMosaic.TcCoe Idealize.ShloMosaic.Tactic Idealize.SL.Sem Cert.ProjDxIdeal Cert.ProjDxIdeal.Gen Cert.ProjDxIdeal.Value
open Cert.ProjDxRefIdeal.Read

variable (m : (ℓ : Loc nD τ sig) → Buf (Elt Ideal) ℓ) (c : Dev nD)

/-! ## The case values -/

/-- The first step of a block's sum leaves the product of the two blocks in the carried buffer. -/
theorem sout_A (c : Dev nD) (i : grid0.Coords) (a0 : Memref sig .tc .vmem S1024x2048 .bf16) (h0 : a0.IsWhole) (a1 : Memref sig .tc .vmem S1x1024x2048 .bf16) (h1 : a1.IsWhole)
    (a2 : Memref sig .tc .vmem S1024x1024 .f32) (h2 : a2.IsWhole) (a3 : Memref sig .tc .vmem S1024x1024 .f32) (h3 : a3.IsWhole)
    (a4 : Memref sig .tc .vmem S1024x1024 .f32) (h4 : a4.IsWhole)
    (g0 : cond0_0 i) (g1 : ¬cond0_1 i) (g2 : ¬cond0_2 i) (x0 : Vec Ideal S1024x2048 .bf16) (x1 : Vec Ideal S1x1024x2048 .bf16) (x2 : Vec Ideal S1024x1024 .f32) :
    sout0_A_0 c i a0 h0 a1 h1 a2 h2 a3 h3 a4 h4 g0 g1 g2 x0 x1 x2 = k0_pay2 x0 x1 := by
  unfold sout0_A_0
  rw [View.read_writes_eq_canon _ _ _ (scover0_A_0 c i a0 h0 a1 h1 a2 h2 a3 h3 a4 h4 g0 g1 g2 x0 x1 x2)]
  unfold kernelRun0_A
  dsimp only
  rw [View.canon_unit_zero zero_pair]
  simp only [View.readAt_eq_ld, h0.read_unread, h1.read_unread, View.ld_unit_zero (S := S1024x2048) zero_pair, View.ld_unit_zero (S := S1x1024x2048) zero_triple]

/-- The second and the third step add their products. -/
theorem sout_B (c : Dev nD) (i : grid0.Coords) (a0 : Memref sig .tc .vmem S1024x2048 .bf16) (h0 : a0.IsWhole) (a1 : Memref sig .tc .vmem S1x1024x2048 .bf16) (h1 : a1.IsWhole)
    (a2 : Memref sig .tc .vmem S1024x1024 .f32) (h2 : a2.IsWhole) (a3 : Memref sig .tc .vmem S1024x1024 .f32) (h3 : a3.IsWhole)
    (a4 : Memref sig .tc .vmem S1024x1024 .f32) (h4 : a4.IsWhole)
    (g0 : ¬cond0_0 i) (g1 : cond0_1 i) (g2 : ¬cond0_2 i) (x0 : Vec Ideal S1024x2048 .bf16) (x1 : Vec Ideal S1x1024x2048 .bf16) (x2 : Vec Ideal S1024x1024 .f32) (xs : Vec Ideal S1024x1024 .f32) :
    sout0_B_0 c i a0 h0 a1 h1 a2 h2 a3 h3 a4 h4 g0 g1 g2 x0 x1 x2 xs = k0_pay3 x0 x1 xs := by
  unfold sout0_B_0
  rw [View.read_writes_eq_canon _ _ _ (scover0_B_0 c i a0 h0 a1 h1 a2 h2 a3 h3 a4 h4 g0 g1 g2 x0 x1 x2 xs)]
  unfold kernelRun0_B
  dsimp only
  rw [View.canon_unit_zero zero_pair]
  simp only [View.readAt_eq_ld, h0.read_unread, h1.read_unread, h4.read_unread, View.ld_unit_zero (S := S1024x2048) zero_pair, View.ld_unit_zero (S := S1x1024x2048) zero_triple, View.ld_unit_zero (S := S1024x1024) zero_pair]

/-- The fourth step adds its product and writes the block. -/
theorem out_C (c : Dev nD) (i : grid0.Coords) (a0 : Memref sig .tc .vmem S1024x2048 .bf16) (h0 : a0.IsWhole) (a1 : Memref sig .tc .vmem S1x1024x2048 .bf16) (h1 : a1.IsWhole)
    (a2 : Memref sig .tc .vmem S1024x1024 .f32) (h2 : a2.IsWhole) (a3 : Memref sig .tc .vmem S1024x1024 .f32) (h3 : a3.IsWhole)
    (a4 : Memref sig .tc .vmem S1024x1024 .f32) (h4 : a4.IsWhole)
    (g0 : ¬cond0_0 i) (g1 : ¬cond0_1 i) (g2 : cond0_2 i) (x0 : Vec Ideal S1024x2048 .bf16) (x1 : Vec Ideal S1x1024x2048 .bf16) (x2 : Vec Ideal S1024x1024 .f32) (xs : Vec Ideal S1024x1024 .f32) :
    out0_C_3 c i a0 h0 a1 h1 a2 h2 a3 h3 a4 h4 g0 g1 g2 x0 x1 x2 xs = k0_pay4 x0 x1 xs x2 := by
  unfold out0_C_3
  rw [View.read_writes_eq_canon _ _ _ (cover0_C_3 c i a0 h0 a1 h1 a2 h2 a3 h3 a4 h4 g0 g1 g2 x0 x1 x2 xs)]
  unfold kernelRun0_C
  dsimp only
  rw [View.canon_unit_zero zero_pair]
  simp only [View.readAt_eq_ld, h0.read_unread, h1.read_unread, h2.read_unread, h4.read_unread, View.ld_unit_zero (S := S1024x2048) zero_pair, View.ld_unit_zero (S := S1x1024x2048) zero_triple, View.ld_unit_zero (S := S1024x1024) zero_pair]

/-- One step's product, at an element of its block. -/
def step_sum (x0 : Vec Ideal S1024x2048 .bf16) (x1 : Vec Ideal S1x1024x2048 .bf16) (a b : Fin 1024) : EReal :=
  ∑ k : Fin 2048, x0 (ix2 a k) * x1 (ix3 0 b k)

theorem first_at (x0 : Vec Ideal S1024x2048 .bf16) (x1 : Vec Ideal S1x1024x2048 .bf16) (a b : Fin 1024) :
    k0_pay2 x0 x1 (ix2 a b) = step_sum x0 x1 a b := by
  unfold step_sum
  pointwise [k0_pay2, k0_pay1]

theorem next_at (x0 : Vec Ideal S1024x2048 .bf16) (x1 : Vec Ideal S1x1024x2048 .bf16) (xs : Vec Ideal S1024x1024 .f32) (a b : Fin 1024) :
    k0_pay3 x0 x1 xs (ix2 a b) = xs (ix2 a b) + step_sum x0 x1 a b := by
  unfold step_sum
  pointwise [k0_pay3, k0_pay1]

theorem last_at (x0 : Vec Ideal S1024x2048 .bf16) (x1 : Vec Ideal S1x1024x2048 .bf16) (xs : Vec Ideal S1024x1024 .f32) (x2 : Vec Ideal S1024x1024 .f32) (a b : Fin 1024) :
    k0_pay4 x0 x1 xs x2 (ix2 a b) = (xs (ix2 a b) + step_sum x0 x1 a b) + x2 (ix2 a b) := by

  unfold step_sum
  pointwise [k0_pay4, k0_pay1]

/-! ## The blocks -/

theorem index_0 : ∀ t : Fin cfg0.N, win0_0.index t = ![t.val / 8, t.val % 4] :=
  (by decide +kernel : ∀ t : Fin grid0.N, win0_0.index t = ![t.val / 8, t.val % 4])
theorem index_1 : ∀ t : Fin cfg0.N, win0_1.index t = ![t.val % 4, t.val / 4 % 2, 0] :=
  (by decide +kernel : ∀ t : Fin grid0.N, win0_1.index t = ![t.val % 4, t.val / 4 % 2, 0])
theorem index_2 : ∀ t : Fin cfg0.N, win0_2.index t = ![t.val / 8, t.val / 4 % 2] :=
  (by decide +kernel : ∀ t : Fin grid0.N, win0_2.index t = ![t.val / 8, t.val / 4 % 2])
theorem index_3 : ∀ t : Fin cfg0.N, win0_3.index t = ![t.val / 8, t.val / 4 % 2] :=
  (by decide +kernel : ∀ t : Fin grid0.N, win0_3.index t = ![t.val / 8, t.val / 4 % 2])

theorem lt_points (t : Fin cfg0.N) : t.val < 32 := lt_of_lt_of_eq t.isLt (by decide +kernel)

/-- The place in the summed axis, the row and the column of an element of a block. -/
def depth (t : Fin cfg0.N) (k : Fin 2048) : Fin 8192 := ⟨2048 * (t.val % 4) + k.val, by omega⟩
def row (t : Fin cfg0.N) (a : Fin 1024) : Fin 4096 := ⟨1024 * (t.val / 8) + a.val, by have := lt_points t; omega⟩
def column (t : Fin cfg0.N) (b : Fin 1024) : Fin 2048 := ⟨1024 * (t.val / 4 % 2) + b.val, by omega⟩

theorem iblk_0 (t : Fin cfg0.N) (a : Fin 1024) (k : Fin 2048) :
    iblk m c 0 t (ix2 a k) = m ((c : Thread nD τ).loc main_arg0) (ix2 (row t a) (depth t k)) := by
  rw [← V_main_arg0 m c]
  blk_ext [iblk, depth, row, index_0 t]

/-- The shard a block is taken of. -/
def shard (t : Fin cfg0.N) : Fin 4 := ⟨t.val % 4, by omega⟩

theorem iblk_1 (t : Fin cfg0.N) (b : Fin 1024) (k : Fin 2048) :
    iblk m c 1 t (ix3 0 b k) = m ((c : Thread nD τ).loc main_arg1) (ix3 (shard t) (column t b) k) := by
  rw [← V_main_arg1 m c]
  blk_ext [iblk, shard, column, index_1 t]
theorem shard_at (t : Fin cfg0.N) (s : ℕ) (hs : s < 4) (h : t.val % 4 = s) : shard t = ⟨s, hs⟩ := Fin.ext h

theorem iblk_2 (t : Fin cfg0.N) (a b : Fin 1024) :
    iblk m c 2 t (ix2 a b) = m ((c : Thread nD τ).loc main_arg2) (ix2 (row t a) (column t b)) := by
  rw [← V_main_arg2 m c]
  blk_ext [iblk, row, column, index_2 t]

theorem row_at (t t' : Fin cfg0.N) (h : t.val / 4 = t'.val / 4) (a : Fin 1024) : row t a = row t' a := by
  apply Fin.ext
  simp only [row]
  omega
theorem column_at (t t' : Fin cfg0.N) (h : t.val / 4 = t'.val / 4) (b : Fin 1024) : column t b = column t' b := by
  apply Fin.ext
  simp only [column]
  omega
theorem depth_at (t : Fin cfg0.N) (s : ℕ) (hs : s < 4) (h : t.val % 4 = s) (k : Fin 2048) : depth t k = ⟨2048 * s + k.val, by omega⟩ := by
  apply Fin.ext
  simp only [depth]
  omega

/-- One block of the whole sum, at an element of the two arrays. -/
def array_sum (x0 : FVec Ideal S4096x8192 .bf16) (x1 : FVec Ideal S4x2048x2048 .bf16) (s : ℕ) (hs : s < 4) (i : Fin 4096) (j : Fin 2048) : EReal :=
  ∑ k : Fin 2048, x0 (ix2 i ⟨2048 * s + k.val, by omega⟩) * x1 (ix3 ⟨s, hs⟩ j k)

/-- One step's product, read from the two arrays. -/
theorem step_at (t t' : Fin cfg0.N) (s : ℕ) (hs : s < 4) (h : t.val % 4 = s) (h' : t.val / 4 = t'.val / 4) (a b : Fin 1024) :
    step_sum (iblk m c 0 t) (iblk m c 1 t) a b
      = array_sum (m ((c : Thread nD τ).loc main_arg0)) (m ((c : Thread nD τ).loc main_arg1)) s hs (row t' a) (column t' b) := by
  unfold step_sum array_sum
  refine Finset.sum_congr rfl fun k _ => ?_
  rw [iblk_0 m c t a k, iblk_1 m c t b k, row_at t t' h' a, column_at t t' h' b, depth_at t s hs h k, shard_at t s hs h]

/-- The point before. -/
def before (t : Fin cfg0.N) : Fin cfg0.N := ⟨t.val - 1, Nat.lt_of_le_of_lt (Nat.sub_le _ _) t.isLt⟩

theorem scratch_A (t : Fin cfg0.N) (h : t.val % 4 = 0) : (outsAt0 m c t.val t.isLt).2 = k0_pay2 (iblk m c 0 t) (iblk m c 1 t) := by
  rw [outsAt0_A m c t h (by omega) (by omega)]
  dsimp only
  rw [sout_A]
theorem scratch_B (t : Fin cfg0.N) (h : 1 ≤ t.val % 4 ∧ t.val % 4 ≤ 2) :
    (outsAt0 m c t.val t.isLt).2 = k0_pay3 (iblk m c 0 t) (iblk m c 1 t) (outsAt0 m c (before t).val (before t).isLt).2 := by
  rw [outsAt0_B m c t (by omega) h (by omega)]
  dsimp only
  rw [sout_B]
  rfl

/-- What the fourth step of a block leaves in the result's buffer. -/
theorem left (t : Fin cfg0.N) (h : t.val % 4 = 3) :
    (outsAt0 m c t.val t.isLt).1 = k0_pay4 (iblk m c 0 t) (iblk m c 1 t)
      (k0_pay3 (iblk m c 0 (before t)) (iblk m c 1 (before t))
        (k0_pay3 (iblk m c 0 (before (before t))) (iblk m c 1 (before (before t)))
          (k0_pay2 (iblk m c 0 (before (before (before t)))) (iblk m c 1 (before (before (before t)))))) ) (iblk m c 2 t) := by
  rw [← scratch_A m c (before (before (before t))) (by simp only [before]; omega),
    ← scratch_B m c (before (before t)) (by simp only [before]; omega), ← scratch_B m c (before t) (by simp only [before]; omega),
    outsAt0_C m c t (by omega) (by omega) h]
  dsimp only
  rw [out_C]
  rfl

/-! ## The reference and the result -/

theorem shards_at (x1 : FVec Ideal S4x2048x2048 .bf16) (s : ℕ) (hs : s < 4) (j k : Fin 2048) :
    val_main_v10 (F := Ideal) x1 (ix2 j ⟨2048 * s + k.val, by omega⟩) = x1 (ix3 ⟨s, hs⟩ j k) := by
  unfold val_main_v10 val_main_v9 val_main_v8 val_main_v7 val_main_v6 val_main_v5 val_main_v4 val_main_v3 val_main_v2 val_main_v1
  pointwise
  interval_cases s
  · rw [dif_pos (by omega)]
    exact congrArg (fun z : Fin 2048 => x1 (ix3 0 j z)) (Fin.ext (by dsimp only; omega))
  · rw [dif_neg (by omega), dif_pos (by omega)]
    exact congrArg (fun z : Fin 2048 => x1 (ix3 1 j z)) (Fin.ext (by dsimp only; omega))
  · rw [dif_neg (by omega), dif_neg (by omega), dif_pos (by omega)]
    exact congrArg (fun z : Fin 2048 => x1 (ix3 2 j z)) (Fin.ext (by dsimp only; omega))
  · rw [dif_neg (by omega), dif_neg (by omega), dif_neg (by omega)]
    exact congrArg (fun z : Fin 2048 => x1 (ix3 3 j z)) (Fin.ext (by dsimp only; omega))

theorem product_at (x0 : FVec Ideal S4096x8192 .bf16) (x1 : FVec Ideal S4x2048x2048 .bf16) (i : Fin 4096) (j : Fin 2048) :
    val_main_v13 (F := Ideal) x0 x1 (ix2 i j)
      = ((array_sum x0 x1 0 (by omega) i j + array_sum x0 x1 1 (by omega) i j) + array_sum x0 x1 2 (by omega) i j) + array_sum x0 x1 3 (by omega) i j := by
  rw [val_main_v13_apply, sum_four]
  unfold array_sum
  refine congrArg₂ (· + ·) (congrArg₂ (· + ·) (congrArg₂ (· + ·) ?_ ?_) ?_) ?_
  all_goals refine Finset.sum_congr rfl fun k _ => congrArg₂ (· * ·) (congrArg x0 (eq_ix2 _)) ((congrArg _ (eq_ix2 _)).trans (shards_at x1 _ (by omega) j k))

theorem point (t : Fin cfg0.N) (h : t.val % 4 = 3) (a b : Fin 1024) :
    k0_pay4 (iblk m c 0 t) (iblk m c 1 t)
      (k0_pay3 (iblk m c 0 (before t)) (iblk m c 1 (before t))
        (k0_pay3 (iblk m c 0 (before (before t))) (iblk m c 1 (before (before t)))
          (k0_pay2 (iblk m c 0 (before (before (before t)))) (iblk m c 1 (before (before (before t)))))) ) (iblk m c 2 t) (ix2 a b)
      = val_main_v14 (F := Ideal) (m ((c : Thread nD τ).loc main_arg0)) (m ((c : Thread nD τ).loc main_arg1)) (m ((c : Thread nD τ).loc main_arg2)) (ix2 (row t a) (column t b)) := by
  rw [last_at, next_at, next_at, first_at, step_at m c (before (before (before t))) t 0 (by omega) (by simp only [before]; omega) (by simp only [before]; omega) a b,
    step_at m c (before (before t)) t 1 (by omega) (by simp only [before]; omega) (by simp only [before]; omega) a b,
    step_at m c (before t) t 2 (by omega) (by simp only [before]; omega) (by simp only [before]; omega) a b,
    step_at m c t t 3 (by omega) h rfl a b, val_main_v14_apply, product_at, iblk_2 m c t a b]
  rfl

theorem emb_3 (t : Fin cfg0.N) (a b : Fin 1024) : (win0_3.blk t).view.emb (ix2 a b) = ix2 (row t a) (column t b) := by
  blk_ext [row, column, index_3 t]

theorem array : (dats m 0 c).arrAt 3 cfg0.N = val_main_v14 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h : t.val % 4 = 3 := (flush0_3 t).mp hf
  blk_simp
  rw [after0_3, left m c t h]
  exact (congrArg _ (eq_ix2 y)).trans ((point m c t h (y 0) (y 1)).trans
    (congrArg _ ((emb_3 t (y 0) (y 1)).symm.trans (congrArg _ (eq_ix2 y).symm))))

/-! ## The claims -/

theorem frame_kernel : Cert.quiescent_ProjDx (hProjDx := Cert.ProjDx.Gen.facts) :=
  fun m ρ _ => by
    refine cast ?_ (Cert.ProjDxIdeal.Gen.frame (F := Bits) m ρ)
    sl_kernel_rfl

theorem frame_ideal : Cert.quiescent_ProjDxIdeal (hProjDxIdeal := Cert.ProjDxIdeal.Gen.facts) := fun m ρ _ => Cert.ProjDxIdeal.Gen.frame m ρ

theorem frame_reference : Cert.quiescent_ProjDxRefIdeal (hProjDxRefIdeal := Cert.ProjDxRefIdeal.Gen.facts) :=
  fun m ρ _ => (θ_run _ _ _).mono (fun r h => ⟨fun c => (h c).2, sem_eq_zero_of_no_sems (by decide) r.2⟩) (Cert.ProjDxRefIdeal.Value.run m ρ)

theorem algebraic : Cert.algebraic_ProjDxIdeal_ProjDxRefIdeal (hProjDxIdeal := Cert.ProjDxIdeal.Gen.facts) (hProjDxRefIdeal := Cert.ProjDxRefIdeal.Gen.facts) := by
  intro m ρ m' ρ' _ ha
  refine ⟨_, (θ_run _ _ _).mono (fun _ h c => ⟨(h c).1.trans (array m c), (h c).2⟩) (run_blocks m ρ),
    (θ_run _ _ _).mono (fun _ h c => ⟨(h c).1.trans ?_, (h c).2⟩) (Cert.ProjDxRefIdeal.Value.run m' ρ')⟩
  rw [(ha c).1, (ha c).2.1, (ha c).2.2]
  rfl

end Hgrn.ProjDx

end
-- ==== Proof.OutDx.lean ====
/- The output projection's input gradient: the kernel's blocked product is the reference's product. -/
module

public import Idealize.ShloMosaic.Lib.Pipeline.ValueKit
public import proofs.«01_k».proof.Defs
public import proofs.«01_k».proof.Proof.Gen.OutDx
public import proofs.«01_k».proof.Proof.Gen.OutDxIdeal.Value
public import proofs.«01_k».proof.Proof.Gen.OutDxRefIdeal.Read
public import proofs.«01_k».proof.Proof.Product

@[expose] public section

set_option maxRecDepth 16384

noncomputable section

namespace Hgrn.OutDx

open Idealize.ShloMosaic Idealize.ShloMosaic.TcCoe Idealize.ShloMosaic.Tactic Idealize.SL.Sem Cert.OutDxIdeal Cert.OutDxIdeal.Gen Cert.OutDxIdeal.Value
open Cert.OutDxRefIdeal.Read

variable (m : (ℓ : Loc nD τ sig) → Buf (Elt Ideal) ℓ) (c : Dev nD)

theorem index_0 : ∀ t : Fin cfg0.N, win0_0.index t = ![t.val / 2, 0] := (by decide +kernel : ∀ t : Fin grid0.N, win0_0.index t = ![t.val / 2, 0])
theorem index_1 : ∀ t : Fin cfg0.N, win0_1.index t = ![t.val % 2, 0] := (by decide +kernel : ∀ t : Fin grid0.N, win0_1.index t = ![t.val % 2, 0])
theorem index_2 : ∀ t : Fin cfg0.N, win0_2.index t = ![t.val / 2, t.val % 2] := (by decide +kernel : ∀ t : Fin grid0.N, win0_2.index t = ![t.val / 2, t.val % 2])

theorem lt_points (t : Fin cfg0.N) : t.val < 8 := lt_of_lt_of_eq t.isLt (by decide +kernel)

/-- The output's row and column of a block's row `a` and column `b`. -/
def row (t : Fin cfg0.N) (a : Fin 1024) : Fin 4096 := ⟨1024 * (t.val / 2) + a.val, by have := lt_points t; omega⟩
def column (t : Fin cfg0.N) (b : Fin 1024) : Fin 2048 := ⟨1024 * (t.val % 2) + b.val, by omega⟩

theorem iblk_0 (t : Fin cfg0.N) (a : Fin 1024) (k : Fin 2048) :
    iblk m c 0 t (ix2 a k) = m ((c : Thread nD τ).loc main_arg0) (ix2 (row t a) k) := by
  rw [← V_main_arg0 m c]
  blk_ext [iblk, row, index_0 t]

theorem iblk_1 (t : Fin cfg0.N) (b : Fin 1024) (k : Fin 2048) :
    iblk m c 1 t (ix2 b k) = m ((c : Thread nD τ).loc main_arg1) (ix2 (column t b) k) := by
  rw [← V_main_arg1 m c]
  blk_ext [iblk, column, index_1 t]

theorem emb_2 (t : Fin cfg0.N) (a b : Fin 1024) : (win0_2.blk t).view.emb (ix2 a b) = ix2 (row t a) (column t b) := by
  blk_ext [row, column, index_2 t]

theorem block_product (x0 x1 : Vec Ideal S1024x2048 .bf16) (a b : Fin 1024) :
    out0_2 x0 x1 (ix2 a b) = ∑ k : Fin 2048, x0 (ix2 a k) * x1 (ix2 b k) := by
  unfold out0_2
  rw [View.canon_unit_zero zero_pair]
  simp only [View.ld_unit_zero (S := S1024x2048) zero_pair]
  pointwise [k0_pay1]

theorem reference_at (x0 : FVec Ideal S4096x2048 .bf16) (x1 : FVec Ideal S2048x2048 .bf16) (i : Fin 4096) (j : Fin 2048) :
    val_main_v4 (F := Ideal) x0 x1 (ix2 i j) = ∑ k : Fin 2048, x0 (ix2 i k) * x1 (ix2 j k) := by
  rw [val_main_v4_apply]
  exact Finset.sum_congr rfl fun k _ => congrArg₂ (· * ·) (congrArg x0 (eq_ix2 _)) (congrArg x1 (eq_ix2 _))

theorem point (t : Fin cfg0.N) (a b : Fin 1024) : out0_2 (iblk m c 0 t) (iblk m c 1 t) (ix2 a b)
    = val_main_v4 (F := Ideal) (m ((c : Thread nD τ).loc main_arg0)) (m ((c : Thread nD τ).loc main_arg1)) (ix2 (row t a) (column t b)) := by
  rw [block_product, reference_at]
  exact Finset.sum_congr rfl fun k _ => congrArg₂ (· * ·) (iblk_0 m c t a k) (iblk_1 m c t b k)

/-- The whole output of the kernel. -/
theorem array : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  exact (congrArg _ (eq_ix2 y)).trans ((point m c t (y 0) (y 1)).trans
    (congrArg _ ((emb_2 t (y 0) (y 1)).symm.trans (congrArg _ (eq_ix2 y).symm))))

theorem frame_kernel : Cert.quiescent_OutDx (hOutDx := Cert.OutDx.Gen.facts) :=
  fun m ρ _ => by
    refine cast ?_ (Cert.OutDxIdeal.Gen.frame (F := Bits) m ρ)
    sl_kernel_rfl

theorem frame_ideal : Cert.quiescent_OutDxIdeal (hOutDxIdeal := Cert.OutDxIdeal.Gen.facts) := fun m ρ _ => Cert.OutDxIdeal.Gen.frame m ρ

theorem frame_reference : Cert.quiescent_OutDxRefIdeal (hOutDxRefIdeal := Cert.OutDxRefIdeal.Gen.facts) :=
  fun m ρ _ => (θ_run _ _ _).mono (fun r h => ⟨fun c => (h c).2, sem_eq_zero_of_no_sems (by decide) r.2⟩) (Cert.OutDxRefIdeal.Value.run m ρ)

/-- From memories that agree on the arguments, both programs end with the same result. -/
theorem algebraic : Cert.algebraic_OutDxIdeal_OutDxRefIdeal (hOutDxIdeal := Cert.OutDxIdeal.Gen.facts) (hOutDxRefIdeal := Cert.OutDxRefIdeal.Gen.facts) := by
  intro m ρ m' ρ' _ ha
  refine ⟨_, (θ_run _ _ _).mono (fun _ h c => ⟨(h c).1.trans (array m c), (h c).2⟩) (run_blocks m ρ),
    (θ_run _ _ _).mono (fun _ h c => ⟨(h c).1.trans ?_, (h c).2⟩) (Cert.OutDxRefIdeal.Value.run m' ρ')⟩
  rw [(ha c).1, (ha c).2]
  rfl

end Hgrn.OutDx

end
-- ==== Proof.OutDw.lean ====
/- The output projection's weight gradient: the kernel's sum over two blocks of tokens is the reference's product. -/
module

public import Idealize.ShloMosaic.Lib.Pipeline.ValueKit
public import proofs.«01_k».proof.Defs
public import proofs.«01_k».proof.Proof.Gen.OutDw
public import proofs.«01_k».proof.Proof.Gen.OutDwIdeal.Value
public import proofs.«01_k».proof.Proof.Gen.OutDwRefIdeal.Read
public import proofs.«01_k».proof.Proof.Product

@[expose] public section

set_option maxRecDepth 16384

noncomputable section

namespace Hgrn.OutDw

open Idealize.ShloMosaic Idealize.ShloMosaic.TcCoe Idealize.ShloMosaic.Tactic Idealize.SL.Sem Cert.OutDwIdeal Cert.OutDwIdeal.Gen Cert.OutDwIdeal.Value
open Cert.OutDwRefIdeal.Read

variable (m : (ℓ : Loc nD τ sig) → Buf (Elt Ideal) ℓ) (c : Dev nD)

/-! ## The case values -/

/-- The first step of a block's sum leaves the product of the two blocks in the carried buffer. -/
theorem sout_A (c : Dev nD) (i : grid0.Coords) (a0 : Memref sig .tc .vmem S2048x1024 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (g0 : cond0_0 i) (g1 : ¬cond0_1 i) (g2 : ¬cond0_2 i) (x0 x1 : Vec Ideal S2048x1024 .bf16) :
    sout0_A_0 c i a0 h0 a1 h1 a2 h2 a3 h3 g0 g1 g2 x0 x1 = k0_pay2 x0 x1 := by
  unfold sout0_A_0
  rw [View.read_writes_eq_canon _ _ _ (scover0_A_0 c i a0 h0 a1 h1 a2 h2 a3 h3 g0 g1 g2 x0 x1)]
  unfold kernelRun0_A
  dsimp only
  rw [View.canon_unit_zero zero_pair]
  simp only [View.readAt_eq_ld, h0.read_unread, h1.read_unread, View.ld_unit_zero (S := S2048x1024) zero_pair]

/-- The second step adds its product and writes the block. -/
theorem out_B (c : Dev nD) (i : grid0.Coords) (a0 : Memref sig .tc .vmem S2048x1024 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (g0 : ¬cond0_0 i) (g1 : ¬cond0_1 i) (g2 : cond0_2 i) (x0 x1 : Vec Ideal S2048x1024 .bf16) (xs : Vec Ideal S1024x1024 .f32) :
    out0_B_2 c i a0 h0 a1 h1 a2 h2 a3 h3 g0 g1 g2 x0 x1 xs = k0_pay4 x0 x1 xs := by
  unfold out0_B_2
  rw [View.read_writes_eq_canon _ _ _ (cover0_B_2 c i a0 h0 a1 h1 a2 h2 a3 h3 g0 g1 g2 x0 x1 xs)]
  unfold kernelRun0_B
  dsimp only
  rw [View.canon_unit_zero zero_pair]
  simp only [View.readAt_eq_ld, h0.read_unread, h1.read_unread, h3.read_unread, View.ld_unit_zero (S := S2048x1024) zero_pair,
    View.ld_unit_zero (S := S1024x1024) zero_pair]

theorem first_at (x0 x1 : Vec Ideal S2048x1024 .bf16) (a b : Fin 1024) :
    k0_pay2 x0 x1 (ix2 a b) = ∑ k : Fin 2048, x0 (ix2 k a) * x1 (ix2 k b) := by
  pointwise [k0_pay2, k0_pay1]

theorem last_at (x0 x1 : Vec Ideal S2048x1024 .bf16) (xs : Vec Ideal S1024x1024 .f32) (a b : Fin 1024) :
    k0_pay4 x0 x1 xs (ix2 a b) = xs (ix2 a b) + ∑ k : Fin 2048, x0 (ix2 k a) * x1 (ix2 k b) := by
  pointwise [k0_pay4, k0_pay1]

/-! ## The blocks -/

theorem index_0 : ∀ t : Fin cfg0.N, win0_0.index t = ![t.val % 2, t.val / 4] :=
  (by decide +kernel : ∀ t : Fin grid0.N, win0_0.index t = ![t.val % 2, t.val / 4])
theorem index_1 : ∀ t : Fin cfg0.N, win0_1.index t = ![t.val % 2, t.val / 2 % 2] :=
  (by decide +kernel : ∀ t : Fin grid0.N, win0_1.index t = ![t.val % 2, t.val / 2 % 2])
theorem index_2 : ∀ t : Fin cfg0.N, win0_2.index t = ![t.val / 4, t.val / 2 % 2] :=
  (by decide +kernel : ∀ t : Fin grid0.N, win0_2.index t = ![t.val / 4, t.val / 2 % 2])

theorem lt_points (t : Fin cfg0.N) : t.val < 8 := lt_of_lt_of_eq t.isLt (by decide +kernel)

/-- The place in the summed axis, the row and the column of an element of a block. -/
def depth (t : Fin cfg0.N) (k : Fin 2048) : Fin 4096 := ⟨2048 * (t.val % 2) + k.val, by omega⟩
def row (t : Fin cfg0.N) (a : Fin 1024) : Fin 2048 := ⟨1024 * (t.val / 4) + a.val, by have := lt_points t; omega⟩
def column (t : Fin cfg0.N) (b : Fin 1024) : Fin 2048 := ⟨1024 * (t.val / 2 % 2) + b.val, by omega⟩

theorem iblk_0 (t : Fin cfg0.N) (k : Fin 2048) (a : Fin 1024) :
    iblk m c 0 t (ix2 k a) = m ((c : Thread nD τ).loc main_arg0) (ix2 (depth t k) (row t a)) := by
  rw [← V_main_arg0 m c]
  blk_ext [iblk, depth, row, index_0 t]
theorem iblk_1 (t : Fin cfg0.N) (k : Fin 2048) (b : Fin 1024) :
    iblk m c 1 t (ix2 k b) = m ((c : Thread nD τ).loc main_arg1) (ix2 (depth t k) (column t b)) := by
  rw [← V_main_arg1 m c]
  blk_ext [iblk, depth, column, index_1 t]

/-- The point before. -/
def before (t : Fin cfg0.N) : Fin cfg0.N := ⟨t.val - 1, Nat.lt_of_le_of_lt (Nat.sub_le _ _) t.isLt⟩

theorem row_before (t : Fin cfg0.N) (h : t.val % 2 = 1) (a : Fin 1024) : row (before t) a = row t a := by
  apply Fin.ext
  simp only [row, before]
  omega
theorem column_before (t : Fin cfg0.N) (h : t.val % 2 = 1) (b : Fin 1024) : column (before t) b = column t b := by
  apply Fin.ext
  simp only [column, before]
  omega
theorem depth_before (t : Fin cfg0.N) (h : t.val % 2 = 1) (k : Fin 2048) : depth (before t) k = ⟨2048 * 0 + k.val, by omega⟩ := by
  apply Fin.ext
  simp only [depth, before]
  omega
theorem depth_last (t : Fin cfg0.N) (h : t.val % 2 = 1) (k : Fin 2048) : depth t k = ⟨2048 * 1 + k.val, by omega⟩ := by
  apply Fin.ext
  simp only [depth]
  omega

/-- What the second step of a block leaves in the result's buffer. -/
theorem left (t : Fin cfg0.N) (h : t.val % 2 = 1) :
    (outsAt0 m c t.val t.isLt).1 = k0_pay4 (iblk m c 0 t) (iblk m c 1 t) (k0_pay2 (iblk m c 0 (before t)) (iblk m c 1 (before t))) := by
  have e := congrArg Prod.snd (outsAt0_A m c (before t) (by simp only [before]; omega) (by simp only [before]; omega))
  dsimp only at e
  rw [sout_A] at e
  rw [outsAt0_B m c t (by omega) h]
  dsimp only
  rw [out_B]
  exact congrArg (k0_pay4 _ _) e

/-! ## The reference and the result -/

theorem reference_at (x0 : FVec Ideal S4096x2048 .bf16) (x1 : FVec Ideal S4096x2048 .bf16) (i : Fin 2048) (j : Fin 2048) :
    val_main_v5 (F := Ideal) x0 x1 (ix2 i j) = ∑ k : Fin 4096, x0 (ix2 k i) * x1 (ix2 k j) := by
  rw [val_main_v5_apply, val_main_v4_apply]
  exact Finset.sum_congr rfl fun k _ => (mul_comm _ _).trans (congrArg₂ (· * ·) (congrArg x0 (eq_ix2 _)) (congrArg x1 (eq_ix2 _)))

theorem point (t : Fin cfg0.N) (h : t.val % 2 = 1) (a b : Fin 1024) :
    k0_pay4 (iblk m c 0 t) (iblk m c 1 t) (k0_pay2 (iblk m c 0 (before t)) (iblk m c 1 (before t))) (ix2 a b)
      = val_main_v5 (F := Ideal) (m ((c : Thread nD τ).loc main_arg0)) (m ((c : Thread nD τ).loc main_arg1)) (ix2 (row t a) (column t b)) := by
  rw [last_at, first_at, reference_at, sum_two]
  refine congrArg₂ (· + ·) (Finset.sum_congr rfl fun k _ => ?_) (Finset.sum_congr rfl fun k _ => ?_)
  · rw [iblk_0 m c (before t) k a, iblk_1 m c (before t) k b, row_before t h a, column_before t h b, depth_before t h k]
  · rw [iblk_0 m c t k a, iblk_1 m c t k b, depth_last t h k]

theorem emb_2 (t : Fin cfg0.N) (a b : Fin 1024) : (win0_2.blk t).view.emb (ix2 a b) = ix2 (row t a) (column t b) := by
  blk_ext [row, column, index_2 t]

theorem array : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  blk_simp
  rw [after0_2, left m c t h]
  exact (congrArg _ (eq_ix2 y)).trans ((point m c t h (y 0) (y 1)).trans
    (congrArg _ ((emb_2 t (y 0) (y 1)).symm.trans (congrArg _ (eq_ix2 y).symm))))

/-! ## The claims -/

theorem frame_kernel : Cert.quiescent_OutDw (hOutDw := Cert.OutDw.Gen.facts) :=
  fun m ρ _ => by
    refine cast ?_ (Cert.OutDwIdeal.Gen.frame (F := Bits) m ρ)
    sl_kernel_rfl

theorem frame_ideal : Cert.quiescent_OutDwIdeal (hOutDwIdeal := Cert.OutDwIdeal.Gen.facts) := fun m ρ _ => Cert.OutDwIdeal.Gen.frame m ρ

theorem frame_reference : Cert.quiescent_OutDwRefIdeal (hOutDwRefIdeal := Cert.OutDwRefIdeal.Gen.facts) :=
  fun m ρ _ => (θ_run _ _ _).mono (fun r h => ⟨fun c => (h c).2, sem_eq_zero_of_no_sems (by decide) r.2⟩) (Cert.OutDwRefIdeal.Value.run m ρ)

theorem algebraic : Cert.algebraic_OutDwIdeal_OutDwRefIdeal (hOutDwIdeal := Cert.OutDwIdeal.Gen.facts) (hOutDwRefIdeal := Cert.OutDwRefIdeal.Gen.facts) := by
  intro m ρ m' ρ' _ ha
  refine ⟨_, (θ_run _ _ _).mono (fun _ h c => ⟨(h c).1.trans (array m c), (h c).2⟩) (run_blocks m ρ),
    (θ_run _ _ _).mono (fun _ h c => ⟨(h c).1.trans ?_, (h c).2⟩) (Cert.OutDwRefIdeal.Value.run m' ρ')⟩
  rw [(ha c).1, (ha c).2]
  rfl

end Hgrn.OutDw

end
-- ==== Proof.Ff1.lean ====
/- The first feed-forward product and its squared rectifier: the kernel's blocked product by four shards is the reference's. -/
module

public import Idealize.ShloMosaic.Lib.Pipeline.ValueKit
public import proofs.«01_k».proof.Defs
public import proofs.«01_k».proof.Proof.Gen.Ff1
public import proofs.«01_k».proof.Proof.Gen.Ff1Ideal.Value
public import proofs.«01_k».proof.Proof.Gen.Ff1RefIdeal.Read
public import proofs.«01_k».proof.Proof.Product

@[expose] public section

set_option maxRecDepth 16384

noncomputable section

namespace Hgrn.Ff1

open Idealize.ShloMosaic Idealize.ShloMosaic.TcCoe Idealize.ShloMosaic.Tactic Idealize.SL.Sem Cert.Ff1Ideal Cert.Ff1Ideal.Gen Cert.Ff1Ideal.Value
open Cert.Ff1RefIdeal.Read

variable (m : (ℓ : Loc nD τ sig) → Buf (Elt Ideal) ℓ) (c : Dev nD)

theorem product_block (x0 : Vec Ideal S1024x2048 .bf16) (x1 : Vec Ideal S1x2048x1024 .bf16) (a b : Fin 1024) :
    out0_2 x0 x1 (ix2 a b) = ∑ k : Fin 2048, x0 (ix2 a k) * x1 (ix3 0 k b) := by
  unfold out0_2
  rw [View.canon_unit_zero zero_pair]
  simp only [View.ld_unit_zero (S := S1024x2048) zero_pair, View.ld_unit_zero (S := S1x2048x1024) zero_triple]
  pointwise [k0_pay1]

/-- The squared rectifier. -/
def squared (x : EReal) : EReal := max x 0 * max x 0

theorem squared_block (x0 : Vec Ideal S1024x2048 .bf16) (x1 : Vec Ideal S1x2048x1024 .bf16) (a b : Fin 1024) :
    out0_3 x0 x1 (ix2 a b) = squared (∑ k : Fin 2048, x0 (ix2 a k) * x1 (ix3 0 k b)) := by
  unfold out0_3 squared
  rw [View.canon_unit_zero zero_pair]
  simp only [View.ld_unit_zero (S := S1024x2048) zero_pair, View.ld_unit_zero (S := S1x2048x1024) zero_triple]
  pointwise [k0_pay2, k0_pay1]

/-! ## The reference -/

theorem shards_at (x1 : FVec Ideal S4x2048x2048 .bf16) (s : ℕ) (hs : s < 4) (j k : Fin 2048) :
    val_main_v10 (F := Ideal) x1 (ix2 j ⟨2048 * s + k.val, by omega⟩) = x1 (ix3 ⟨s, hs⟩ j k) := by
  unfold val_main_v10 val_main_v9 val_main_v8 val_main_v7 val_main_v6 val_main_v5 val_main_v4 val_main_v3 val_main_v2 val_main_v1
  pointwise
  interval_cases s
  · rw [dif_pos (by omega)]
    exact congrArg (fun z : Fin 2048 => x1 (ix3 0 j z)) (Fin.ext (by dsimp only; omega))
  · rw [dif_neg (by omega), dif_pos (by omega)]
    exact congrArg (fun z : Fin 2048 => x1 (ix3 1 j z)) (Fin.ext (by dsimp only; omega))
  · rw [dif_neg (by omega), dif_neg (by omega), dif_pos (by omega)]
    exact congrArg (fun z : Fin 2048 => x1 (ix3 2 j z)) (Fin.ext (by dsimp only; omega))
  · rw [dif_neg (by omega), dif_neg (by omega), dif_neg (by omega)]
    exact congrArg (fun z : Fin 2048 => x1 (ix3 3 j z)) (Fin.ext (by dsimp only; omega))

theorem product_at (x0 : FVec Ideal S4096x2048 .bf16) (x1 : FVec Ideal S4x2048x2048 .bf16) (i : Fin 4096) (s : ℕ) (hs : s < 4) (j : Fin 2048) :
    val_main_v11 (F := Ideal) x0 x1 (ix2 i ⟨2048 * s + j.val, by omega⟩) = ∑ k : Fin 2048, x0 (ix2 i k) * x1 (ix3 ⟨s, hs⟩ k j) := by
  rw [val_main_v11_apply]
  exact Finset.sum_congr rfl fun k _ => congrArg₂ (· * ·) (congrArg x0 (eq_ix2 _)) ((congrArg _ (eq_ix2 _)).trans (shards_at x1 s hs k j))

theorem squared_at (x0 : FVec Ideal S4096x2048 .bf16) (x1 : FVec Ideal S4x2048x2048 .bf16) (i : S4096x8192.Idx) :
    val_main_v14 (F := Ideal) x0 x1 i = squared (val_main_v11 (F := Ideal) x0 x1 i) := by
  rw [val_main_v14_apply, val_main_v13_apply, val_main_v12_apply, val_main_call0_v0_apply, val_main_call0_cst_apply]
  generalize val_main_v11 (F := Ideal) x0 x1 i = s
  unfold squared
  pointwise

/-! ## The blocks -/

theorem index_0 : ∀ t : Fin cfg0.N, win0_0.index t = ![t.val / 8, 0] :=
  (by decide +kernel : ∀ t : Fin grid0.N, win0_0.index t = ![t.val / 8, 0])
theorem index_1 : ∀ t : Fin cfg0.N, win0_1.index t = ![t.val % 8 / 2, 0, t.val % 8 % 2] :=
  (by decide +kernel : ∀ t : Fin grid0.N, win0_1.index t = ![t.val % 8 / 2, 0, t.val % 8 % 2])
theorem index_2 : ∀ t : Fin cfg0.N, win0_2.index t = ![t.val / 8, t.val % 8] :=
  (by decide +kernel : ∀ t : Fin grid0.N, win0_2.index t = ![t.val / 8, t.val % 8])
theorem index_3 : ∀ t : Fin cfg0.N, win0_3.index t = ![t.val / 8, t.val % 8] :=
  (by decide +kernel : ∀ t : Fin grid0.N, win0_3.index t = ![t.val / 8, t.val % 8])

theorem lt_points (t : Fin cfg0.N) : t.val < 32 := lt_of_lt_of_eq t.isLt (by decide +kernel)

/-- The row and the column of an element of a block. -/
def row (t : Fin cfg0.N) (a : Fin 1024) : Fin 4096 := ⟨1024 * (t.val / 8) + a.val, by have := lt_points t; omega⟩
def column (t : Fin cfg0.N) (b : Fin 1024) : Fin 8192 := ⟨1024 * (t.val % 8) + b.val, by omega⟩

theorem iblk_0 (t : Fin cfg0.N) (a : Fin 1024) (k : Fin 2048) :
    iblk m c 0 t (ix2 a k) = m ((c : Thread nD τ).loc main_arg0) (ix2 (row t a) k) := by
  rw [← V_main_arg0 m c]
  blk_ext [iblk, row, index_0 t]

/-- The shard and the column within it of a block's column. -/
def shard (t : Fin cfg0.N) : Fin 4 := ⟨t.val % 8 / 2, by omega⟩
def within (t : Fin cfg0.N) (b : Fin 1024) : Fin 2048 := ⟨1024 * (t.val % 8 % 2) + b.val, by omega⟩

theorem shard_within (t : Fin cfg0.N) (b : Fin 1024) : column t b = ⟨2048 * (shard t).val + (within t b).val, by omega⟩ := by
  apply Fin.ext
  simp only [column, shard, within]
  omega

theorem iblk_1 (t : Fin cfg0.N) (k : Fin 2048) (b : Fin 1024) :
    iblk m c 1 t (ix3 0 k b) = m ((c : Thread nD τ).loc main_arg1) (ix3 (shard t) k (within t b)) := by
  rw [← V_main_arg1 m c]
  blk_ext [iblk, shard, within, index_1 t]

theorem point_2 (t : Fin cfg0.N) (a b : Fin 1024) :
    out0_2 (iblk m c 0 t) (iblk m c 1 t) (ix2 a b) = val_main_v11 (F := Ideal) (m ((c : Thread nD τ).loc main_arg0)) (m ((c : Thread nD τ).loc main_arg1)) (ix2 (row t a) (column t b)) := by
  rw [product_block, shard_within, product_at _ _ _ _ (shard t).isLt]
  exact Finset.sum_congr rfl fun k _ => congrArg₂ (· * ·) (iblk_0 m c t a k) (iblk_1 m c t k b)

theorem point_3 (t : Fin cfg0.N) (a b : Fin 1024) :
    out0_3 (iblk m c 0 t) (iblk m c 1 t) (ix2 a b) = val_main_v14 (F := Ideal) (m ((c : Thread nD τ).loc main_arg0)) (m ((c : Thread nD τ).loc main_arg1)) (ix2 (row t a) (column t b)) := by
  rw [squared_block, squared_at, ← point_2 m c t a b, product_block]

theorem emb_2 (t : Fin cfg0.N) (a b : Fin 1024) : (win0_2.blk t).view.emb (ix2 a b) = ix2 (row t a) (column t b) := by
  blk_ext [row, column, index_2 t]

theorem array_2 : (dats m 0 c).arrAt 2 cfg0.N = val_main_v11 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  exact (congrArg _ (eq_ix2 y)).trans ((point_2 m c t (y 0) (y 1)).trans
    (congrArg _ ((emb_2 t (y 0) (y 1)).symm.trans (congrArg _ (eq_ix2 y).symm))))

theorem emb_3 (t : Fin cfg0.N) (a b : Fin 1024) : (win0_3.blk t).view.emb (ix2 a b) = ix2 (row t a) (column t b) := by
  blk_ext [row, column, index_3 t]

theorem array_3 : (dats m 0 c).arrAt 3 cfg0.N = val_main_v14 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  exact (congrArg _ (eq_ix2 y)).trans ((point_3 m c t (y 0) (y 1)).trans
    (congrArg _ ((emb_3 t (y 0) (y 1)).symm.trans (congrArg _ (eq_ix2 y).symm))))

/-! ## The claims -/

theorem frame_kernel : Cert.quiescent_Ff1 (hFf1 := Cert.Ff1.Gen.facts) :=
  fun m ρ _ => by
    refine cast ?_ (Cert.Ff1Ideal.Gen.frame (F := Bits) m ρ)
    sl_kernel_rfl

theorem frame_ideal : Cert.quiescent_Ff1Ideal (hFf1Ideal := Cert.Ff1Ideal.Gen.facts) := fun m ρ _ => Cert.Ff1Ideal.Gen.frame m ρ

theorem frame_reference : Cert.quiescent_Ff1RefIdeal (hFf1RefIdeal := Cert.Ff1RefIdeal.Gen.facts) :=
  fun m ρ _ => (θ_run _ _ _).mono (fun r h => ⟨fun c => (h c).2.2, sem_eq_zero_of_no_sems (by decide) r.2⟩) (Cert.Ff1RefIdeal.Value.run m ρ)

theorem algebraic : Cert.algebraic_Ff1Ideal_Ff1RefIdeal (hFf1Ideal := Cert.Ff1Ideal.Gen.facts) (hFf1RefIdeal := Cert.Ff1RefIdeal.Gen.facts) := by
  intro m ρ m' ρ' _ ha
  refine ⟨_, _, (θ_run _ _ _).mono (fun _ h c => ⟨(h c).1.trans (array_2 m c), (h c).2.1.trans (array_3 m c), (h c).2.2⟩) (run_blocks m ρ),
    (θ_run _ _ _).mono (fun _ h c => ⟨(h c).1.trans ?_, (h c).2.1.trans ?_, (h c).2.2⟩) (Cert.Ff1RefIdeal.Value.run m' ρ')⟩
  · rw [(ha c).1, (ha c).2]
    rfl
  · rw [(ha c).1, (ha c).2]
    rfl

end Hgrn.Ff1

end
-- ==== Proof.Ff2.lean ====
/- The second feed-forward product and the residual: the kernel's sum over four blocks is the reference's product. -/
module

public import Idealize.ShloMosaic.Lib.Pipeline.ValueKit
public import proofs.«01_k».proof.Defs
public import proofs.«01_k».proof.Proof.Gen.Ff2
public import proofs.«01_k».proof.Proof.Gen.Ff2Ideal.Value
public import proofs.«01_k».proof.Proof.Gen.Ff2RefIdeal.Read
public import proofs.«01_k».proof.Proof.Product

@[expose] public section

set_option maxRecDepth 16384

noncomputable section

namespace Hgrn.Ff2

open Idealize.ShloMosaic Idealize.ShloMosaic.TcCoe Idealize.ShloMosaic.Tactic Idealize.SL.Sem Cert.Ff2Ideal Cert.Ff2Ideal.Gen Cert.Ff2Ideal.Value
open Cert.Ff2RefIdeal.Read

variable (m : (ℓ : Loc nD τ sig) → Buf (Elt Ideal) ℓ) (c : Dev nD)

/-! ## The case values -/

/-- The first step of a block's sum leaves the product of the two blocks in the carried buffer. -/
theorem sout_A (c : Dev nD) (i : grid0.Coords) (a0 : Memref sig .tc .vmem S1024x2048 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (a4 : Memref sig .tc .vmem S1024x1024 .f32) (h4 : a4.IsWhole)
    (g0 : cond0_0 i) (g1 : ¬cond0_1 i) (g2 : ¬cond0_2 i) (x0 : Vec Ideal S1024x2048 .bf16) (x1 : Vec Ideal S2048x1024 .bf16) (x2 : Vec Ideal S1024x1024 .f32) :
    sout0_A_0 c i a0 h0 a1 h1 a2 h2 a3 h3 a4 h4 g0 g1 g2 x0 x1 x2 = k0_pay2 x0 x1 := by
  unfold sout0_A_0
  rw [View.read_writes_eq_canon _ _ _ (scover0_A_0 c i a0 h0 a1 h1 a2 h2 a3 h3 a4 h4 g0 g1 g2 x0 x1 x2)]
  unfold kernelRun0_A
  dsimp only
  rw [View.canon_unit_zero zero_pair]
  simp only [View.readAt_eq_ld, h0.read_unread, h1.read_unread, View.ld_unit_zero (S := S1024x2048) zero_pair, View.ld_unit_zero (S := S2048x1024) zero_pair]

/-- The second and the third step add their products. -/
theorem sout_B (c : Dev nD) (i : grid0.Coords) (a0 : Memref sig .tc .vmem S1024x2048 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (a4 : Memref sig .tc .vmem S1024x1024 .f32) (h4 : a4.IsWhole)
    (g0 : ¬cond0_0 i) (g1 : cond0_1 i) (g2 : ¬cond0_2 i) (x0 : Vec Ideal S1024x2048 .bf16) (x1 : Vec Ideal S2048x1024 .bf16) (x2 : Vec Ideal S1024x1024 .f32) (xs : Vec Ideal S1024x1024 .f32) :
    sout0_B_0 c i a0 h0 a1 h1 a2 h2 a3 h3 a4 h4 g0 g1 g2 x0 x1 x2 xs = k0_pay3 x0 x1 xs := by
  unfold sout0_B_0
  rw [View.read_writes_eq_canon _ _ _ (scover0_B_0 c i a0 h0 a1 h1 a2 h2 a3 h3 a4 h4 g0 g1 g2 x0 x1 x2 xs)]
  unfold kernelRun0_B
  dsimp only
  rw [View.canon_unit_zero zero_pair]
  simp only [View.readAt_eq_ld, h0.read_unread, h1.read_unread, h4.read_unread, View.ld_unit_zero (S := S1024x2048) zero_pair, View.ld_unit_zero (S := S2048x1024) zero_pair, View.ld_unit_zero (S := S1024x1024) zero_pair]

/-- The fourth step adds its product and writes the block. -/
theorem out_C (c : Dev nD) (i : grid0.Coords) (a0 : Memref sig .tc .vmem S1024x2048 .bf16) (h0 : a0.IsWhole) (a1 : Memref sig .tc .vmem S2048x1024 .bf16) (h1 : a1.IsWhole)
    (a2 : Memref sig .tc .vmem S1024x1024 .f32) (h2 : a2.IsWhole) (a3 : Memref sig .tc .vmem S1024x1024 .f32) (h3 : a3.IsWhole)
    (a4 : Memref sig .tc .vmem S1024x1024 .f32) (h4 : a4.IsWhole)
    (g0 : ¬cond0_0 i) (g1 : ¬cond0_1 i) (g2 : cond0_2 i) (x0 : Vec Ideal S1024x2048 .bf16) (x1 : Vec Ideal S2048x1024 .bf16) (x2 : Vec Ideal S1024x1024 .f32) (xs : Vec Ideal S1024x1024 .f32) :
    out0_C_3 c i a0 h0 a1 h1 a2 h2 a3 h3 a4 h4 g0 g1 g2 x0 x1 x2 xs = k0_pay4 x0 x1 xs x2 := by
  unfold out0_C_3
  rw [View.read_writes_eq_canon _ _ _ (cover0_C_3 c i a0 h0 a1 h1 a2 h2 a3 h3 a4 h4 g0 g1 g2 x0 x1 x2 xs)]
  unfold kernelRun0_C
  dsimp only
  rw [View.canon_unit_zero zero_pair]
  simp only [View.readAt_eq_ld, h0.read_unread, h1.read_unread, h2.read_unread, h4.read_unread, View.ld_unit_zero (S := S1024x2048) zero_pair, View.ld_unit_zero (S := S2048x1024) zero_pair, View.ld_unit_zero (S := S1024x1024) zero_pair]

/-- One step's product, at an element of its block. -/
def step_sum (x0 : Vec Ideal S1024x2048 .bf16) (x1 : Vec Ideal S2048x1024 .bf16) (a b : Fin 1024) : EReal :=
  ∑ k : Fin 2048, x0 (ix2 a k) * x1 (ix2 k b)

theorem first_at (x0 : Vec Ideal S1024x2048 .bf16) (x1 : Vec Ideal S2048x1024 .bf16) (a b : Fin 1024) :
    k0_pay2 x0 x1 (ix2 a b) = step_sum x0 x1 a b := by
  unfold step_sum
  pointwise [k0_pay2, k0_pay1]

theorem next_at (x0 : Vec Ideal S1024x2048 .bf16) (x1 : Vec Ideal S2048x1024 .bf16) (xs : Vec Ideal S1024x1024 .f32) (a b : Fin 1024) :
    k0_pay3 x0 x1 xs (ix2 a b) = xs (ix2 a b) + step_sum x0 x1 a b := by
  unfold step_sum
  pointwise [k0_pay3, k0_pay1]

theorem last_at (x0 : Vec Ideal S1024x2048 .bf16) (x1 : Vec Ideal S2048x1024 .bf16) (xs : Vec Ideal S1024x1024 .f32) (x2 : Vec Ideal S1024x1024 .f32) (a b : Fin 1024) :
    k0_pay4 x0 x1 xs x2 (ix2 a b) = x2 (ix2 a b) + (xs (ix2 a b) + step_sum x0 x1 a b) := by
  rw [add_comm (x2 (ix2 a b))]
  unfold step_sum
  pointwise [k0_pay4, k0_pay1]

/-! ## The blocks -/

theorem index_0 : ∀ t : Fin cfg0.N, win0_0.index t = ![t.val / 8, t.val % 4] :=
  (by decide +kernel : ∀ t : Fin grid0.N, win0_0.index t = ![t.val / 8, t.val % 4])
theorem index_1 : ∀ t : Fin cfg0.N, win0_1.index t = ![t.val % 4, t.val / 4 % 2] :=
  (by decide +kernel : ∀ t : Fin grid0.N, win0_1.index t = ![t.val % 4, t.val / 4 % 2])
theorem index_2 : ∀ t : Fin cfg0.N, win0_2.index t = ![t.val / 8, t.val / 4 % 2] :=
  (by decide +kernel : ∀ t : Fin grid0.N, win0_2.index t = ![t.val / 8, t.val / 4 % 2])
theorem index_3 : ∀ t : Fin cfg0.N, win0_3.index t = ![t.val / 8, t.val / 4 % 2] :=
  (by decide +kernel : ∀ t : Fin grid0.N, win0_3.index t = ![t.val / 8, t.val / 4 % 2])

theorem lt_points (t : Fin cfg0.N) : t.val < 32 := lt_of_lt_of_eq t.isLt (by decide +kernel)

/-- The place in the summed axis, the row and the column of an element of a block. -/
def depth (t : Fin cfg0.N) (k : Fin 2048) : Fin 8192 := ⟨2048 * (t.val % 4) + k.val, by omega⟩
def row (t : Fin cfg0.N) (a : Fin 1024) : Fin 4096 := ⟨1024 * (t.val / 8) + a.val, by have := lt_points t; omega⟩
def column (t : Fin cfg0.N) (b : Fin 1024) : Fin 2048 := ⟨1024 * (t.val / 4 % 2) + b.val, by omega⟩

theorem iblk_0 (t : Fin cfg0.N) (a : Fin 1024) (k : Fin 2048) :
    iblk m c 0 t (ix2 a k) = m ((c : Thread nD τ).loc main_arg0) (ix2 (row t a) (depth t k)) := by
  rw [← V_main_arg0 m c]
  blk_ext [iblk, depth, row, index_0 t]

theorem iblk_1 (t : Fin cfg0.N) (b : Fin 1024) (k : Fin 2048) :
    iblk m c 1 t (ix2 k b) = m ((c : Thread nD τ).loc main_arg1) (ix2 (depth t k) (column t b)) := by
  rw [← V_main_arg1 m c]
  blk_ext [iblk, depth, column, index_1 t]

theorem iblk_2 (t : Fin cfg0.N) (a b : Fin 1024) :
    iblk m c 2 t (ix2 a b) = m ((c : Thread nD τ).loc main_arg2) (ix2 (row t a) (column t b)) := by
  rw [← V_main_arg2 m c]
  blk_ext [iblk, row, column, index_2 t]

theorem row_at (t t' : Fin cfg0.N) (h : t.val / 4 = t'.val / 4) (a : Fin 1024) : row t a = row t' a := by
  apply Fin.ext
  simp only [row]
  omega
theorem column_at (t t' : Fin cfg0.N) (h : t.val / 4 = t'.val / 4) (b : Fin 1024) : column t b = column t' b := by
  apply Fin.ext
  simp only [column]
  omega
theorem depth_at (t : Fin cfg0.N) (s : ℕ) (hs : s < 4) (h : t.val % 4 = s) (k : Fin 2048) : depth t k = ⟨2048 * s + k.val, by omega⟩ := by
  apply Fin.ext
  simp only [depth]
  omega

/-- One block of the whole sum, at an element of the two arrays. -/
def array_sum (x0 : FVec Ideal S4096x8192 .bf16) (x1 : FVec Ideal S8192x2048 .bf16) (s : ℕ) (hs : s < 4) (i : Fin 4096) (j : Fin 2048) : EReal :=
  ∑ k : Fin 2048, x0 (ix2 i ⟨2048 * s + k.val, by omega⟩) * x1 (ix2 ⟨2048 * s + k.val, by omega⟩ j)

/-- One step's product, read from the two arrays. -/
theorem step_at (t t' : Fin cfg0.N) (s : ℕ) (hs : s < 4) (h : t.val % 4 = s) (h' : t.val / 4 = t'.val / 4) (a b : Fin 1024) :
    step_sum (iblk m c 0 t) (iblk m c 1 t) a b
      = array_sum (m ((c : Thread nD τ).loc main_arg0)) (m ((c : Thread nD τ).loc main_arg1)) s hs (row t' a) (column t' b) := by
  unfold step_sum array_sum
  refine Finset.sum_congr rfl fun k _ => ?_
  rw [iblk_0 m c t a k, iblk_1 m c t b k, row_at t t' h' a, column_at t t' h' b, depth_at t s hs h k]

/-- The point before. -/
def before (t : Fin cfg0.N) : Fin cfg0.N := ⟨t.val - 1, Nat.lt_of_le_of_lt (Nat.sub_le _ _) t.isLt⟩

theorem scratch_A (t : Fin cfg0.N) (h : t.val % 4 = 0) : (outsAt0 m c t.val t.isLt).2 = k0_pay2 (iblk m c 0 t) (iblk m c 1 t) := by
  rw [outsAt0_A m c t h (by omega) (by omega)]
  dsimp only
  rw [sout_A]
theorem scratch_B (t : Fin cfg0.N) (h : 1 ≤ t.val % 4 ∧ t.val % 4 ≤ 2) :
    (outsAt0 m c t.val t.isLt).2 = k0_pay3 (iblk m c 0 t) (iblk m c 1 t) (outsAt0 m c (before t).val (before t).isLt).2 := by
  rw [outsAt0_B m c t (by omega) h (by omega)]
  dsimp only
  rw [sout_B]
  rfl

/-- What the fourth step of a block leaves in the result's buffer. -/
theorem left (t : Fin cfg0.N) (h : t.val % 4 = 3) :
    (outsAt0 m c t.val t.isLt).1 = k0_pay4 (iblk m c 0 t) (iblk m c 1 t)
      (k0_pay3 (iblk m c 0 (before t)) (iblk m c 1 (before t))
        (k0_pay3 (iblk m c 0 (before (before t))) (iblk m c 1 (before (before t)))
          (k0_pay2 (iblk m c 0 (before (before (before t)))) (iblk m c 1 (before (before (before t)))))) ) (iblk m c 2 t) := by
  rw [← scratch_A m c (before (before (before t))) (by simp only [before]; omega),
    ← scratch_B m c (before (before t)) (by simp only [before]; omega), ← scratch_B m c (before t) (by simp only [before]; omega),
    outsAt0_C m c t (by omega) (by omega) h]
  dsimp only
  rw [out_C]
  rfl

/-! ## The reference and the result -/

theorem product_at (x0 : FVec Ideal S4096x8192 .bf16) (x1 : FVec Ideal S8192x2048 .bf16) (i : Fin 4096) (j : Fin 2048) :
    val_main_v2 (F := Ideal) x0 x1 (ix2 i j)
      = ((array_sum x0 x1 0 (by omega) i j + array_sum x0 x1 1 (by omega) i j) + array_sum x0 x1 2 (by omega) i j) + array_sum x0 x1 3 (by omega) i j := by
  rw [val_main_v2_apply, sum_four]
  unfold array_sum
  refine congrArg₂ (· + ·) (congrArg₂ (· + ·) (congrArg₂ (· + ·) ?_ ?_) ?_) ?_
  all_goals exact Finset.sum_congr rfl fun k _ => congrArg₂ (· * ·) (congrArg x0 (eq_ix2 _)) (congrArg x1 (eq_ix2 _))

theorem point (t : Fin cfg0.N) (h : t.val % 4 = 3) (a b : Fin 1024) :
    k0_pay4 (iblk m c 0 t) (iblk m c 1 t)
      (k0_pay3 (iblk m c 0 (before t)) (iblk m c 1 (before t))
        (k0_pay3 (iblk m c 0 (before (before t))) (iblk m c 1 (before (before t)))
          (k0_pay2 (iblk m c 0 (before (before (before t)))) (iblk m c 1 (before (before (before t)))))) ) (iblk m c 2 t) (ix2 a b)
      = val_main_v3 (F := Ideal) (m ((c : Thread nD τ).loc main_arg0)) (m ((c : Thread nD τ).loc main_arg1)) (m ((c : Thread nD τ).loc main_arg2)) (ix2 (row t a) (column t b)) := by
  rw [last_at, next_at, next_at, first_at, step_at m c (before (before (before t))) t 0 (by omega) (by simp only [before]; omega) (by simp only [before]; omega) a b,
    step_at m c (before (before t)) t 1 (by omega) (by simp only [before]; omega) (by simp only [before]; omega) a b,
    step_at m c (before t) t 2 (by omega) (by simp only [before]; omega) (by simp only [before]; omega) a b,
    step_at m c t t 3 (by omega) h rfl a b, val_main_v3_apply, product_at, iblk_2 m c t a b]
  rfl

theorem emb_3 (t : Fin cfg0.N) (a b : Fin 1024) : (win0_3.blk t).view.emb (ix2 a b) = ix2 (row t a) (column t b) := by
  blk_ext [row, column, index_3 t]

theorem array : (dats m 0 c).arrAt 3 cfg0.N = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h : t.val % 4 = 3 := (flush0_3 t).mp hf
  blk_simp
  rw [after0_3, left m c t h]
  exact (congrArg _ (eq_ix2 y)).trans ((point m c t h (y 0) (y 1)).trans
    (congrArg _ ((emb_3 t (y 0) (y 1)).symm.trans (congrArg _ (eq_ix2 y).symm))))

/-! ## The claims -/

theorem frame_kernel : Cert.quiescent_Ff2 (hFf2 := Cert.Ff2.Gen.facts) :=
  fun m ρ _ => by
    refine cast ?_ (Cert.Ff2Ideal.Gen.frame (F := Bits) m ρ)
    sl_kernel_rfl

theorem frame_ideal : Cert.quiescent_Ff2Ideal (hFf2Ideal := Cert.Ff2Ideal.Gen.facts) := fun m ρ _ => Cert.Ff2Ideal.Gen.frame m ρ

theorem frame_reference : Cert.quiescent_Ff2RefIdeal (hFf2RefIdeal := Cert.Ff2RefIdeal.Gen.facts) :=
  fun m ρ _ => (θ_run _ _ _).mono (fun r h => ⟨fun c => (h c).2, sem_eq_zero_of_no_sems (by decide) r.2⟩) (Cert.Ff2RefIdeal.Value.run m ρ)

theorem algebraic : Cert.algebraic_Ff2Ideal_Ff2RefIdeal (hFf2Ideal := Cert.Ff2Ideal.Gen.facts) (hFf2RefIdeal := Cert.Ff2RefIdeal.Gen.facts) := by
  intro m ρ m' ρ' _ ha
  refine ⟨_, (θ_run _ _ _).mono (fun _ h c => ⟨(h c).1.trans (array m c), (h c).2⟩) (run_blocks m ρ),
    (θ_run _ _ _).mono (fun _ h c => ⟨(h c).1.trans ?_, (h c).2⟩) (Cert.Ff2RefIdeal.Value.run m' ρ')⟩
  rw [(ha c).1, (ha c).2.1, (ha c).2.2]
  rfl

end Hgrn.Ff2

end
-- ==== Proof.Row.lean ====
/- The normalisation of one row by its root mean square over the extended reals, and its gradient. -/
module

public import Idealize.ShloMosaic.Lib.Pointwise
public import Idealize.ShloMosaic.Lib.Tactic
public import Idealize.ShloMosaic.PureOps

@[expose] public section

noncomputable section

namespace Hgrn.Row

open Finset Idealize.ShloMosaic

/-- The mean square of a row with the small constant added. -/
def square (x : Fin 2048 → EReal) : EReal := Ideal.div (∑ k, x k * x k) (Ideal.ofBits FTy.f32 1157627904#32) + Ideal.ofBits FTy.f32 897988541#32

/-- One over the root of the mean square. -/
def inverse (x : Fin 2048 → EReal) : EReal := Ideal.rsqrt (square x)

end Hgrn.Row

end
-- ==== Proof.OutProj.lean ====
/- The output projection with the residual added and the normalised copy of the sum: the kernel's blocks of rows are the reference's rows. -/
module

public import Idealize.ShloMosaic.Lib.Pipeline.ValueKit
public import proofs.«01_k».proof.Defs
public import proofs.«01_k».proof.Proof.Gen.OutProj
public import proofs.«01_k».proof.Proof.Gen.OutProjIdeal.Value
public import proofs.«01_k».proof.Proof.Gen.OutProjRefIdeal.Read
public import proofs.«01_k».proof.Proof.Product
public import proofs.«01_k».proof.Proof.Row

@[expose] public section

set_option maxRecDepth 16384

noncomputable section

namespace Hgrn.OutProj

open Idealize.ShloMosaic Idealize.ShloMosaic.TcCoe Idealize.ShloMosaic.Tactic Idealize.SL.Sem Cert.OutProjIdeal Cert.OutProjIdeal.Gen Cert.OutProjIdeal.Value
open Cert.OutProjRefIdeal.Read

variable (m : (ℓ : Loc nD τ sig) → Buf (Elt Ideal) ℓ) (c : Dev nD)

/-! ## The kernel's block -/

theorem sum_block (x0 : Vec Ideal S512x2048 .bf16) (x1 : Vec Ideal S2048x2048 .bf16) (x2 : Vec Ideal S512x2048 .f32) (a : Fin 512) (b : Fin 2048) :
    k0_pay1 x0 x1 x2 (ix2 a b) = x2 (ix2 a b) + ∑ k : Fin 2048, x0 (ix2 a k) * x1 (ix2 k b) := by
  rw [add_comm]
  pointwise [k0_pay1]

theorem sum_at (x0 : Vec Ideal S512x2048 .bf16) (x1 : Vec Ideal S2048x2048 .bf16) (x2 : Vec Ideal S512x2048 .f32) (x3 : Vec Ideal S1x2048 .f32) (a : Fin 512) (b : Fin 2048) :
    out0_4 x0 x1 x2 x3 (ix2 a b) = x2 (ix2 a b) + ∑ k : Fin 2048, x0 (ix2 a k) * x1 (ix2 k b) := by
  unfold out0_4
  rw [View.canon_unit_zero zero_pair]
  simp only [View.ld_unit_zero (S := S512x2048) zero_pair, View.ld_unit_zero (S := S2048x2048) zero_pair]
  exact sum_block x0 x1 x2 a b

theorem normalised_at (x0 : Vec Ideal S512x2048 .bf16) (x1 : Vec Ideal S2048x2048 .bf16) (x2 : Vec Ideal S512x2048 .f32) (x3 : Vec Ideal S1x2048 .f32) (a : Fin 512) (b : Fin 2048) :
    out0_5 x0 x1 x2 x3 (ix2 a b) = out0_4 x0 x1 x2 x3 (ix2 a b) * Row.inverse (fun k => out0_4 x0 x1 x2 x3 (ix2 a k)) * x3 (ix2 0 b) := by
  unfold out0_5 out0_4
  rw [View.canon_unit_zero zero_pair, View.canon_unit_zero zero_pair]
  simp only [View.ld_unit_zero (S := S512x2048) zero_pair, View.ld_unit_zero (S := S2048x2048) zero_pair, View.ld_unit_zero (S := S1x2048) zero_pair]
  unfold Row.inverse Row.square k0_pay2
  generalize k0_pay1 x0 x1 x2 = y
  pointwise

/-! ## The reference -/

theorem reference_sum (x0 : FVec Ideal S4096x2048 .bf16) (x1 : FVec Ideal S2048x2048 .bf16) (x2 : FVec Ideal S4096x2048 .f32) (i : Fin 4096) (j : Fin 2048) :
    val_main_v3 (F := Ideal) x0 x1 x2 (ix2 i j) = x2 (ix2 i j) + ∑ k : Fin 2048, x0 (ix2 i k) * x1 (ix2 k j) := by
  rw [val_main_v3_apply, val_main_v2_apply]
  exact congrArg (x2 (ix2 i j) + ·) (Finset.sum_congr rfl fun k _ => congrArg₂ (· * ·) (congrArg x0 (eq_ix2 _)) (congrArg x1 (eq_ix2 _)))

theorem reference_normalised (x0 : FVec Ideal S4096x2048 .bf16) (x1 : FVec Ideal S2048x2048 .bf16) (x2 : FVec Ideal S4096x2048 .f32) (x3 : FVec Ideal S2048 .f32) (i : Fin 4096) (j : Fin 2048) :
    val_main_v17 (F := Ideal) x0 x1 x2 x3 (ix2 i j)
      = val_main_v3 (F := Ideal) x0 x1 x2 (ix2 i j) * Row.inverse (fun k => val_main_v3 (F := Ideal) x0 x1 x2 (ix2 i k)) * x3 (ix1 j) := by
  unfold Row.inverse Row.square val_main_v17 val_main_v16 val_main_v15 val_main_v14 val_main_v13 val_main_v12 val_main_v11 val_main_v10 val_main_v9 val_main_v8 val_main_v7 val_main_v6
    val_main_v5 val_main_v4 val_main_cst val_main_cst_0 val_main_cst_1
  generalize val_main_v3 (F := Ideal) x0 x1 x2 = y
  pointwise

/-! ## The blocks -/

theorem weight_held : V m c main_v0 = shapeCast S1x2048 (m ((c : Thread nD τ).loc main_arg3)) shapeCasts_S2048_S1x2048 := by
  sl_kernel_rfl

theorem weight_at (j : Fin 2048) : V m c main_v0 (ix2 0 j) = (m ((c : Thread nD τ).loc main_arg3)) (ix1 j) := by
  rw [weight_held]
  pointwise

theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![t.val, 0] := (by decide +kernel : ∀ t : Fin grid0.N, win0_2.index t = ![t.val, 0])
theorem index_3 : ∀ t : Fin cfg0.N, win0_3.index t = ![0, 0] := (by decide +kernel : ∀ t : Fin grid0.N, win0_3.index t = ![0, 0])
theorem index_4 : ∀ t : Fin cfg0.N, win0_4.index t = ![t.val, 0] := (by decide +kernel : ∀ t : Fin grid0.N, win0_4.index t = ![t.val, 0])
theorem index_5 : ∀ t : Fin cfg0.N, win0_5.index t = ![t.val, 0] := (by decide +kernel : ∀ t : Fin grid0.N, win0_5.index t = ![t.val, 0])

theorem lt_points (t : Fin cfg0.N) : t.val < 8 := lt_of_lt_of_eq t.isLt (by decide +kernel)

/-- The row of an element of a block. -/
def row (t : Fin cfg0.N) (a : Fin 512) : Fin 4096 := ⟨512 * t.val + a.val, by have := lt_points t; omega⟩

theorem iblk_0 (t : Fin cfg0.N) (a : Fin 512) (k : Fin 2048) : iblk m c 0 t (ix2 a k) = (m ((c : Thread nD τ).loc main_arg0)) (ix2 (row t a) k) := by
  rw [← V_main_arg0 m c]
  blk_ext [iblk, row, index_0 t]

theorem iblk_1 (t : Fin cfg0.N) (k b : Fin 2048) : iblk m c 1 t (ix2 k b) = (m ((c : Thread nD τ).loc main_arg1)) (ix2 k b) := by
  rw [← V_main_arg1 m c]
  blk_ext [iblk, index_1 t]

theorem iblk_2 (t : Fin cfg0.N) (a : Fin 512) (b : Fin 2048) : iblk m c 2 t (ix2 a b) = (m ((c : Thread nD τ).loc main_arg2)) (ix2 (row t a) b) := by
  rw [← V_main_arg2 m c]
  blk_ext [iblk, row, index_2 t]

theorem iblk_3 (t : Fin cfg0.N) (b : Fin 2048) : iblk m c 3 t (ix2 0 b) = (m ((c : Thread nD τ).loc main_arg3)) (ix1 b) := by
  rw [← weight_at m c]
  blk_ext [iblk, index_3 t]

theorem point_4 (t : Fin cfg0.N) (a : Fin 512) (b : Fin 2048) : out0_4 (iblk m c 0 t) (iblk m c 1 t) (iblk m c 2 t) (iblk m c 3 t) (ix2 a b)
    = val_main_v3 (F := Ideal) (m ((c : Thread nD τ).loc main_arg0)) (m ((c : Thread nD τ).loc main_arg1)) (m ((c : Thread nD τ).loc main_arg2)) (ix2 (row t a) b) := by
  rw [sum_at, reference_sum, iblk_2]
  exact congrArg₂ (fun x y : EReal => x + y) rfl (Finset.sum_congr rfl fun k _ => congrArg₂ (· * ·) (iblk_0 m c t a k) (iblk_1 m c t k b))

theorem point_5 (t : Fin cfg0.N) (a : Fin 512) (b : Fin 2048) : out0_5 (iblk m c 0 t) (iblk m c 1 t) (iblk m c 2 t) (iblk m c 3 t) (ix2 a b)
    = val_main_v17 (F := Ideal) (m ((c : Thread nD τ).loc main_arg0)) (m ((c : Thread nD τ).loc main_arg1)) (m ((c : Thread nD τ).loc main_arg2)) (m ((c : Thread nD τ).loc main_arg3)) (ix2 (row t a) b) := by
  rw [normalised_at, reference_normalised, iblk_3, point_4, funext fun k => point_4 m c t a k]

theorem emb_4 (t : Fin cfg0.N) (a : Fin 512) (b : Fin 2048) : (win0_4.blk t).view.emb (ix2 a b) = ix2 (row t a) b := by
  blk_ext [row, index_4 t]

theorem array_4 : (dats m 0 c).arrAt 4 cfg0.N = val_main_v3 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  exact (congrArg _ (eq_ix2 y)).trans ((point_4 m c t (y 0) (y 1)).trans
    (congrArg _ ((emb_4 t (y 0) (y 1)).symm.trans (congrArg _ (eq_ix2 y).symm))))

theorem emb_5 (t : Fin cfg0.N) (a : Fin 512) (b : Fin 2048) : (win0_5.blk t).view.emb (ix2 a b) = ix2 (row t a) b := by
  blk_ext [row, index_5 t]

theorem array_5 : (dats m 0 c).arrAt 5 cfg0.N = val_main_v17 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  exact (congrArg _ (eq_ix2 y)).trans ((point_5 m c t (y 0) (y 1)).trans
    (congrArg _ ((emb_5 t (y 0) (y 1)).symm.trans (congrArg _ (eq_ix2 y).symm))))

/-! ## The claims -/

theorem frame_kernel : Cert.quiescent_OutProj (hOutProj := Cert.OutProj.Gen.facts) :=
  fun m ρ _ => by
    refine cast ?_ (Cert.OutProjIdeal.Gen.frame (F := Bits) m ρ)
    sl_kernel_rfl

theorem frame_ideal : Cert.quiescent_OutProjIdeal (hOutProjIdeal := Cert.OutProjIdeal.Gen.facts) := fun m ρ _ => Cert.OutProjIdeal.Gen.frame m ρ

theorem frame_reference : Cert.quiescent_OutProjRefIdeal (hOutProjRefIdeal := Cert.OutProjRefIdeal.Gen.facts) :=
  fun m ρ _ => (θ_run _ _ _).mono (fun r h => ⟨fun c => (h c).2.2, sem_eq_zero_of_no_sems (by decide) r.2⟩) (Cert.OutProjRefIdeal.Value.run m ρ)

/-- From memories that agree on the arguments, both programs end with the same results. -/
theorem algebraic : Cert.algebraic_OutProjIdeal_OutProjRefIdeal (hOutProjIdeal := Cert.OutProjIdeal.Gen.facts) (hOutProjRefIdeal := Cert.OutProjRefIdeal.Gen.facts) := by
  intro m ρ m' ρ' _ ha
  refine ⟨_, _, (θ_run _ _ _).mono (fun _ h c => ⟨(h c).1.trans (array_4 m c), (h c).2.1.trans (array_5 m c), (h c).2.2⟩) (run_blocks m ρ),
    (θ_run _ _ _).mono (fun _ h c => ⟨(h c).1.trans ?_, (h c).2.1.trans ?_, (h c).2.2⟩) (Cert.OutProjRefIdeal.Value.run m' ρ')⟩
  · rw [(ha c).1, (ha c).2.1, (ha c).2.2.1]
    rfl
  · rw [(ha c).1, (ha c).2.1, (ha c).2.2.1, (ha c).2.2.2]
    rfl

end Hgrn.OutProj

end
-- ==== Proof.Norm.lean ====
/- The normalisation by the root mean square, row by row: the kernel's blocks of rows are the reference's rows. -/
module

public import Idealize.ShloMosaic.Lib.Pipeline.ValueKit
public import proofs.«01_k».proof.Defs
public import proofs.«01_k».proof.Proof.Gen.Norm
public import proofs.«01_k».proof.Proof.Gen.NormIdeal.Value
public import proofs.«01_k».proof.Proof.Gen.NormRefIdeal.Read
public import proofs.«01_k».proof.Proof.Product
public import proofs.«01_k».proof.Proof.Row

@[expose] public section

set_option maxRecDepth 16384

noncomputable section

namespace Hgrn.Norm

open Idealize.ShloMosaic Idealize.ShloMosaic.TcCoe Idealize.ShloMosaic.Tactic Idealize.SL.Sem Cert.NormIdeal Cert.NormIdeal.Gen Cert.NormIdeal.Value
open Cert.NormRefIdeal.Read

variable (m : (ℓ : Loc nD τ sig) → Buf (Elt Ideal) ℓ) (c : Dev nD)

theorem block_at (x0 : Vec Ideal S256x2048 .f32) (x1 : Vec Ideal S1x2048 .f32) (a : Fin 256) (b : Fin 2048) :
    out0_2 x0 x1 (ix2 a b) = x0 (ix2 a b) * Row.inverse (fun k => x0 (ix2 a k)) * x1 (ix2 0 b) := by
  unfold out0_2
  rw [View.canon_unit_zero zero_pair]
  simp only [View.ld_unit_zero (S := S256x2048) zero_pair, View.ld_unit_zero (S := S1x2048) zero_pair]
  unfold Row.inverse Row.square
  pointwise [k0_pay1]

theorem reference_at (x0 : FVec Ideal S4096x2048 .f32) (x1 : FVec Ideal S2048 .f32) (i : Fin 4096) (j : Fin 2048) :
    val_main_v13 (F := Ideal) x0 x1 (ix2 i j) = x0 (ix2 i j) * Row.inverse (fun k => x0 (ix2 i k)) * x1 (ix1 j) := by
  unfold Row.inverse Row.square val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise

theorem weight_held : V m c main_v0 = shapeCast S1x2048 (m ((c : Thread nD τ).loc main_arg1)) shapeCasts_S2048_S1x2048 := by
  sl_kernel_rfl

theorem weight_at (j : Fin 2048) : V m c main_v0 (ix2 0 j) = m ((c : Thread nD τ).loc main_arg1) (ix1 j) := by
  rw [weight_held]
  pointwise

theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![t.val, 0] := (by decide +kernel : ∀ t : Fin grid0.N, win0_2.index t = ![t.val, 0])

theorem lt_points (t : Fin cfg0.N) : t.val < 16 := lt_of_lt_of_eq t.isLt (by decide +kernel)

/-- The row of an element of a block. -/
def row (t : Fin cfg0.N) (a : Fin 256) : Fin 4096 := ⟨256 * t.val + a.val, by have := lt_points t; omega⟩

theorem iblk_0 (t : Fin cfg0.N) (a : Fin 256) (b : Fin 2048) :
    iblk m c 0 t (ix2 a b) = m ((c : Thread nD τ).loc main_arg0) (ix2 (row t a) b) := by
  rw [← V_main_arg0 m c]
  blk_ext [iblk, row, index_0 t]

theorem iblk_1 (t : Fin cfg0.N) (b : Fin 2048) :
    iblk m c 1 t (ix2 0 b) = m ((c : Thread nD τ).loc main_arg1) (ix1 b) := by
  rw [← weight_at m c]
  blk_ext [iblk, index_1 t]

theorem emb_2 (t : Fin cfg0.N) (a : Fin 256) (b : Fin 2048) : (win0_2.blk t).view.emb (ix2 a b) = ix2 (row t a) b := by
  blk_ext [row, index_2 t]

theorem point (t : Fin cfg0.N) (a : Fin 256) (b : Fin 2048) : out0_2 (iblk m c 0 t) (iblk m c 1 t) (ix2 a b)
    = val_main_v13 (F := Ideal) (m ((c : Thread nD τ).loc main_arg0)) (m ((c : Thread nD τ).loc main_arg1)) (ix2 (row t a) b) := by
  rw [block_at, reference_at, iblk_0, iblk_1, funext fun k => iblk_0 m c t a k]

/-- The whole output of the kernel. -/
theorem array : (dats m 0 c).arrAt 2 cfg0.N
    = val_main_v13 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  exact (congrArg _ (eq_ix2 y)).trans ((point m c t (y 0) (y 1)).trans
    (congrArg _ ((emb_2 t (y 0) (y 1)).symm.trans (congrArg _ (eq_ix2 y).symm))))

/-! ## The claims -/

theorem frame_kernel : Cert.quiescent_Norm (hNorm := Cert.Norm.Gen.facts) :=
  fun m ρ _ => by
    refine cast ?_ (Cert.NormIdeal.Gen.frame (F := Bits) m ρ)
    sl_kernel_rfl

theorem frame_ideal : Cert.quiescent_NormIdeal (hNormIdeal := Cert.NormIdeal.Gen.facts) := fun m ρ _ => Cert.NormIdeal.Gen.frame m ρ

theorem frame_reference : Cert.quiescent_NormRefIdeal (hNormRefIdeal := Cert.NormRefIdeal.Gen.facts) :=
  fun m ρ _ => (θ_run _ _ _).mono (fun r h => ⟨fun c => (h c).2, sem_eq_zero_of_no_sems (by decide) r.2⟩) (Cert.NormRefIdeal.Value.run m ρ)

/-- From memories that agree on the arguments, both programs end with the same result. -/
theorem algebraic : Cert.algebraic_NormIdeal_NormRefIdeal (hNormIdeal := Cert.NormIdeal.Gen.facts) (hNormRefIdeal := Cert.NormRefIdeal.Gen.facts) := by
  intro m ρ m' ρ' _ ha
  refine ⟨_, (θ_run _ _ _).mono (fun _ h c => ⟨(h c).1.trans (array m c), (h c).2⟩) (run_blocks m ρ),
    (θ_run _ _ _).mono (fun _ h c => ⟨(h c).1.trans ?_, (h c).2⟩) (Cert.NormRefIdeal.Value.run m' ρ')⟩
  rw [(ha c).1, (ha c).2]
  rfl

end Hgrn.Norm

end
-- ==== Proof.Ab.lean ====
/- The projection of the decay and the write strength: the kernel's blocked product is the reference's. -/
module

public import Idealize.ShloMosaic.Lib.Pipeline.ValueKit
public import proofs.«01_k».proof.Defs
public import proofs.«01_k».proof.Proof.Gen.Ab
public import proofs.«01_k».proof.Proof.Gen.AbIdeal.Value
public import proofs.«01_k».proof.Proof.Gen.AbRefIdeal.Read
public import proofs.«01_k».proof.Proof.Product

@[expose] public section

set_option maxRecDepth 16384

noncomputable section

namespace Hgrn.Ab

open Idealize.ShloMosaic Idealize.ShloMosaic.TcCoe Idealize.ShloMosaic.Tactic Idealize.SL.Sem Cert.AbIdeal Cert.AbIdeal.Gen Cert.AbIdeal.Value
open Cert.AbRefIdeal.Read

variable (m : (ℓ : Loc nD τ sig) → Buf (Elt Ideal) ℓ) (c : Dev nD)

theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![t.val, 0] := (by decide +kernel : ∀ t : Fin grid0.N, win0_2.index t = ![t.val, 0])

theorem lt_points (t : Fin cfg0.N) : t.val < 4 := lt_of_lt_of_eq t.isLt (by decide +kernel)

/-- The output's row of a block's row `a`. -/
def row (t : Fin cfg0.N) (a : Fin 1024) : Fin 4096 := ⟨1024 * t.val + a.val, by have := lt_points t; omega⟩

theorem iblk_0 (t : Fin cfg0.N) (a : Fin 1024) (k : Fin 2048) :
    iblk m c 0 t (ix2 a k) = m ((c : Thread nD τ).loc main_arg0) (ix2 (row t a) k) := by
  rw [← V_main_arg0 m c]
  blk_ext [iblk, row, index_0 t]

theorem iblk_1 (t : Fin cfg0.N) (k : Fin 2048) (b : Fin 256) :
    iblk m c 1 t (ix2 k b) = m ((c : Thread nD τ).loc main_arg1) (ix2 k b) := by
  rw [← V_main_arg1 m c]
  blk_ext [iblk, index_1 t]

theorem emb_2 (t : Fin cfg0.N) (a : Fin 1024) (b : Fin 256) : (win0_2.blk t).view.emb (ix2 a b) = ix2 (row t a) b := by
  blk_ext [row, index_2 t]

theorem block_product (x0 : Vec Ideal S1024x2048 .bf16) (x1 : Vec Ideal S2048x256 .bf16) (a : Fin 1024) (b : Fin 256) :
    out0_2 x0 x1 (ix2 a b) = ∑ k : Fin 2048, x0 (ix2 a k) * x1 (ix2 k b) := by
  unfold out0_2
  rw [View.canon_unit_zero zero_pair]
  simp only [View.ld_unit_zero (S := S1024x2048) zero_pair, View.ld_unit_zero (S := S2048x256) zero_pair]
  pointwise [k0_pay1]

theorem reference_at (x0 : FVec Ideal S4096x2048 .bf16) (x1 : FVec Ideal S2048x256 .bf16) (i : Fin 4096) (j : Fin 256) :
    val_main_v2 (F := Ideal) x0 x1 (ix2 i j) = ∑ k : Fin 2048, x0 (ix2 i k) * x1 (ix2 k j) := by
  rw [val_main_v2_apply]
  exact Finset.sum_congr rfl fun k _ => congrArg₂ (· * ·) (congrArg x0 (eq_ix2 _)) (congrArg x1 (eq_ix2 _))

theorem point (t : Fin cfg0.N) (a : Fin 1024) (b : Fin 256) : out0_2 (iblk m c 0 t) (iblk m c 1 t) (ix2 a b)
    = val_main_v2 (F := Ideal) (m ((c : Thread nD τ).loc main_arg0)) (m ((c : Thread nD τ).loc main_arg1)) (ix2 (row t a) b) := by
  rw [block_product, reference_at]
  exact Finset.sum_congr rfl fun k _ => congrArg₂ (· * ·) (iblk_0 m c t a k) (iblk_1 m c t k b)

/-- The whole output of the kernel. -/
theorem array : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  exact (congrArg _ (eq_ix2 y)).trans ((point m c t (y 0) (y 1)).trans
    (congrArg _ ((emb_2 t (y 0) (y 1)).symm.trans (congrArg _ (eq_ix2 y).symm))))

theorem frame_kernel : Cert.quiescent_Ab (hAb := Cert.Ab.Gen.facts) :=
  fun m ρ _ => by
    refine cast ?_ (Cert.AbIdeal.Gen.frame (F := Bits) m ρ)
    sl_kernel_rfl

theorem frame_ideal : Cert.quiescent_AbIdeal (hAbIdeal := Cert.AbIdeal.Gen.facts) := fun m ρ _ => Cert.AbIdeal.Gen.frame m ρ

theorem frame_reference : Cert.quiescent_AbRefIdeal (hAbRefIdeal := Cert.AbRefIdeal.Gen.facts) :=
  fun m ρ _ => (θ_run _ _ _).mono (fun r h => ⟨fun c => (h c).2, sem_eq_zero_of_no_sems (by decide) r.2⟩) (Cert.AbRefIdeal.Value.run m ρ)

/-- From memories that agree on the arguments, both programs end with the same result. -/
theorem algebraic : Cert.algebraic_AbIdeal_AbRefIdeal (hAbIdeal := Cert.AbIdeal.Gen.facts) (hAbRefIdeal := Cert.AbRefIdeal.Gen.facts) := by
  intro m ρ m' ρ' _ ha
  refine ⟨_, (θ_run _ _ _).mono (fun _ h c => ⟨(h c).1.trans (array m c), (h c).2⟩) (run_blocks m ρ),
    (θ_run _ _ _).mono (fun _ h c => ⟨(h c).1.trans ?_, (h c).2⟩) (Cert.AbRefIdeal.Value.run m' ρ')⟩
  rw [(ha c).1, (ha c).2]
  rfl

end Hgrn.Ab

end
-- ==== Proof.AbDx.lean ====
/- The gradient of the input of the projection of the decay and the write strength: the kernel's blocked product is the reference's. -/
module

public import Idealize.ShloMosaic.Lib.Pipeline.ValueKit
public import proofs.«01_k».proof.Defs
public import proofs.«01_k».proof.Proof.Gen.AbDx
public import proofs.«01_k».proof.Proof.Gen.AbDxIdeal.Value
public import proofs.«01_k».proof.Proof.Gen.AbDxRefIdeal.Read
public import proofs.«01_k».proof.Proof.Product

@[expose] public section

set_option maxRecDepth 16384

noncomputable section

namespace Hgrn.AbDx

open Idealize.ShloMosaic Idealize.ShloMosaic.TcCoe Idealize.ShloMosaic.Tactic Idealize.SL.Sem Cert.AbDxIdeal Cert.AbDxIdeal.Gen Cert.AbDxIdeal.Value
open Cert.AbDxRefIdeal.Read

variable (m : (ℓ : Loc nD τ sig) → Buf (Elt Ideal) ℓ) (c : Dev nD)

theorem index_0 : ∀ t : Fin cfg0.N, win0_0.index t = ![t.val / 2, 0] := (by decide +kernel : ∀ t : Fin grid0.N, win0_0.index t = ![t.val / 2, 0])
theorem index_1 : ∀ t : Fin cfg0.N, win0_1.index t = ![t.val % 2, 0] := (by decide +kernel : ∀ t : Fin grid0.N, win0_1.index t = ![t.val % 2, 0])
theorem index_2 : ∀ t : Fin cfg0.N, win0_2.index t = ![t.val / 2, t.val % 2] := (by decide +kernel : ∀ t : Fin grid0.N, win0_2.index t = ![t.val / 2, t.val % 2])

theorem lt_points (t : Fin cfg0.N) : t.val < 8 := lt_of_lt_of_eq t.isLt (by decide +kernel)

/-- The output's row and column of a block's row `a` and column `b`. -/
def row (t : Fin cfg0.N) (a : Fin 1024) : Fin 4096 := ⟨1024 * (t.val / 2) + a.val, by have := lt_points t; omega⟩
def column (t : Fin cfg0.N) (b : Fin 1024) : Fin 2048 := ⟨1024 * (t.val % 2) + b.val, by omega⟩

theorem iblk_0 (t : Fin cfg0.N) (a : Fin 1024) (k : Fin 256) :
    iblk m c 0 t (ix2 a k) = m ((c : Thread nD τ).loc main_arg0) (ix2 (row t a) k) := by
  rw [← V_main_arg0 m c]
  blk_ext [iblk, row, index_0 t]

theorem iblk_1 (t : Fin cfg0.N) (b : Fin 1024) (k : Fin 256) :
    iblk m c 1 t (ix2 b k) = m ((c : Thread nD τ).loc main_arg1) (ix2 (column t b) k) := by
  rw [← V_main_arg1 m c]
  blk_ext [iblk, column, index_1 t]

theorem emb_2 (t : Fin cfg0.N) (a b : Fin 1024) : (win0_2.blk t).view.emb (ix2 a b) = ix2 (row t a) (column t b) := by
  blk_ext [row, column, index_2 t]

theorem block_product (x0 x1 : Vec Ideal S1024x256 .bf16) (a b : Fin 1024) :
    out0_2 x0 x1 (ix2 a b) = ∑ k : Fin 256, x0 (ix2 a k) * x1 (ix2 b k) := by
  unfold out0_2
  rw [View.canon_unit_zero zero_pair]
  simp only [View.ld_unit_zero (S := S1024x256) zero_pair]
  pointwise [k0_pay1]

theorem reference_at (x0 : FVec Ideal S4096x256 .bf16) (x1 : FVec Ideal S2048x256 .bf16) (i : Fin 4096) (j : Fin 2048) :
    val_main_v4 (F := Ideal) x0 x1 (ix2 i j) = ∑ k : Fin 256, x0 (ix2 i k) * x1 (ix2 j k) := by
  rw [val_main_v4_apply]
  exact Finset.sum_congr rfl fun k _ => congrArg₂ (· * ·) (congrArg x0 (eq_ix2 _)) (congrArg x1 (eq_ix2 _))

theorem point (t : Fin cfg0.N) (a b : Fin 1024) : out0_2 (iblk m c 0 t) (iblk m c 1 t) (ix2 a b)
    = val_main_v4 (F := Ideal) (m ((c : Thread nD τ).loc main_arg0)) (m ((c : Thread nD τ).loc main_arg1)) (ix2 (row t a) (column t b)) := by
  rw [block_product, reference_at]
  exact Finset.sum_congr rfl fun k _ => congrArg₂ (· * ·) (iblk_0 m c t a k) (iblk_1 m c t b k)

/-- The whole output of the kernel. -/
theorem array : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  exact (congrArg _ (eq_ix2 y)).trans ((point m c t (y 0) (y 1)).trans
    (congrArg _ ((emb_2 t (y 0) (y 1)).symm.trans (congrArg _ (eq_ix2 y).symm))))

theorem frame_kernel : Cert.quiescent_AbDx (hAbDx := Cert.AbDx.Gen.facts) :=
  fun m ρ _ => by
    refine cast ?_ (Cert.AbDxIdeal.Gen.frame (F := Bits) m ρ)
    sl_kernel_rfl

theorem frame_ideal : Cert.quiescent_AbDxIdeal (hAbDxIdeal := Cert.AbDxIdeal.Gen.facts) := fun m ρ _ => Cert.AbDxIdeal.Gen.frame m ρ

theorem frame_reference : Cert.quiescent_AbDxRefIdeal (hAbDxRefIdeal := Cert.AbDxRefIdeal.Gen.facts) :=
  fun m ρ _ => (θ_run _ _ _).mono (fun r h => ⟨fun c => (h c).2, sem_eq_zero_of_no_sems (by decide) r.2⟩) (Cert.AbDxRefIdeal.Value.run m ρ)

/-- From memories that agree on the arguments, both programs end with the same result. -/
theorem algebraic : Cert.algebraic_AbDxIdeal_AbDxRefIdeal (hAbDxIdeal := Cert.AbDxIdeal.Gen.facts) (hAbDxRefIdeal := Cert.AbDxRefIdeal.Gen.facts) := by
  intro m ρ m' ρ' _ ha
  refine ⟨_, (θ_run _ _ _).mono (fun _ h c => ⟨(h c).1.trans (array m c), (h c).2⟩) (run_blocks m ρ),
    (θ_run _ _ _).mono (fun _ h c => ⟨(h c).1.trans ?_, (h c).2⟩) (Cert.AbDxRefIdeal.Value.run m' ρ')⟩
  rw [(ha c).1, (ha c).2]
  rfl

end Hgrn.AbDx

end
-- ==== Proof.AbDw.lean ====
/- The weight gradient of the projection of the decay and the write strength: the kernel's sum over two blocks of tokens is the reference's product. -/
module

public import Idealize.ShloMosaic.Lib.Pipeline.ValueKit
public import proofs.«01_k».proof.Defs
public import proofs.«01_k».proof.Proof.Gen.AbDw
public import proofs.«01_k».proof.Proof.Gen.AbDwIdeal.Value
public import proofs.«01_k».proof.Proof.Gen.AbDwRefIdeal.Read
public import proofs.«01_k».proof.Proof.Product

@[expose] public section

set_option maxRecDepth 16384

noncomputable section

namespace Hgrn.AbDw

open Idealize.ShloMosaic Idealize.ShloMosaic.TcCoe Idealize.ShloMosaic.Tactic Idealize.SL.Sem Cert.AbDwIdeal Cert.AbDwIdeal.Gen Cert.AbDwIdeal.Value
open Cert.AbDwRefIdeal.Read

variable (m : (ℓ : Loc nD τ sig) → Buf (Elt Ideal) ℓ) (c : Dev nD)

/-! ## The case values -/

/-- The first step of a block's sum leaves the product of the two blocks in the carried buffer. -/
theorem sout_A (c : Dev nD) (i : grid0.Coords) (a0 : Memref sig .tc .vmem S2048x1024 .bf16) (h0 : a0.IsWhole) (a1 : Memref sig .tc .vmem S2048x256 .bf16) (h1 : a1.IsWhole)
    (a2 : Memref sig .tc .vmem S1024x256 .f32) (h2 : a2.IsWhole) (a3 : Memref sig .tc .vmem S1024x256 .f32) (h3 : a3.IsWhole)
    (g0 : cond0_0 i) (g1 : ¬cond0_1 i) (g2 : ¬cond0_2 i) (x0 : Vec Ideal S2048x1024 .bf16) (x1 : Vec Ideal S2048x256 .bf16) :
    sout0_A_0 c i a0 h0 a1 h1 a2 h2 a3 h3 g0 g1 g2 x0 x1 = k0_pay2 x0 x1 := by
  unfold sout0_A_0
  rw [View.read_writes_eq_canon _ _ _ (scover0_A_0 c i a0 h0 a1 h1 a2 h2 a3 h3 g0 g1 g2 x0 x1)]
  unfold kernelRun0_A
  dsimp only
  rw [View.canon_unit_zero zero_pair]
  simp only [View.readAt_eq_ld, h0.read_unread, h1.read_unread, View.ld_unit_zero (S := S2048x1024) zero_pair, View.ld_unit_zero (S := S2048x256) zero_pair]

/-- The second step adds its product and writes the block. -/
theorem out_B (c : Dev nD) (i : grid0.Coords) (a0 : Memref sig .tc .vmem S2048x1024 .bf16) (h0 : a0.IsWhole) (a1 : Memref sig .tc .vmem S2048x256 .bf16) (h1 : a1.IsWhole)
    (a2 : Memref sig .tc .vmem S1024x256 .f32) (h2 : a2.IsWhole) (a3 : Memref sig .tc .vmem S1024x256 .f32) (h3 : a3.IsWhole)
    (g0 : ¬cond0_0 i) (g1 : ¬cond0_1 i) (g2 : cond0_2 i) (x0 : Vec Ideal S2048x1024 .bf16) (x1 : Vec Ideal S2048x256 .bf16) (xs : Vec Ideal S1024x256 .f32) :
    out0_B_2 c i a0 h0 a1 h1 a2 h2 a3 h3 g0 g1 g2 x0 x1 xs = k0_pay4 x0 x1 xs := by
  unfold out0_B_2
  rw [View.read_writes_eq_canon _ _ _ (cover0_B_2 c i a0 h0 a1 h1 a2 h2 a3 h3 g0 g1 g2 x0 x1 xs)]
  unfold kernelRun0_B
  dsimp only
  rw [View.canon_unit_zero zero_pair]
  simp only [View.readAt_eq_ld, h0.read_unread, h1.read_unread, h3.read_unread, View.ld_unit_zero (S := S2048x1024) zero_pair, View.ld_unit_zero (S := S2048x256) zero_pair,
    View.ld_unit_zero (S := S1024x256) zero_pair]

theorem first_at (x0 : Vec Ideal S2048x1024 .bf16) (x1 : Vec Ideal S2048x256 .bf16) (a : Fin 1024) (b : Fin 256) :
    k0_pay2 x0 x1 (ix2 a b) = ∑ k : Fin 2048, x0 (ix2 k a) * x1 (ix2 k b) := by
  pointwise [k0_pay2, k0_pay1]

theorem last_at (x0 : Vec Ideal S2048x1024 .bf16) (x1 : Vec Ideal S2048x256 .bf16) (xs : Vec Ideal S1024x256 .f32) (a : Fin 1024) (b : Fin 256) :
    k0_pay4 x0 x1 xs (ix2 a b) = xs (ix2 a b) + ∑ k : Fin 2048, x0 (ix2 k a) * x1 (ix2 k b) := by
  pointwise [k0_pay4, k0_pay1]

/-! ## The blocks -/

theorem index_0 : ∀ t : Fin cfg0.N, win0_0.index t = ![t.val % 2, t.val / 2] :=
  (by decide +kernel : ∀ t : Fin grid0.N, win0_0.index t = ![t.val % 2, t.val / 2])
theorem index_1 : ∀ t : Fin cfg0.N, win0_1.index t = ![t.val % 2, 0] :=
  (by decide +kernel : ∀ t : Fin grid0.N, win0_1.index t = ![t.val % 2, 0])
theorem index_2 : ∀ t : Fin cfg0.N, win0_2.index t = ![t.val / 2, 0] :=
  (by decide +kernel : ∀ t : Fin grid0.N, win0_2.index t = ![t.val / 2, 0])

theorem lt_points (t : Fin cfg0.N) : t.val < 4 := lt_of_lt_of_eq t.isLt (by decide +kernel)

/-- The place in the summed axis and the row of an element of a block. -/
def depth (t : Fin cfg0.N) (k : Fin 2048) : Fin 4096 := ⟨2048 * (t.val % 2) + k.val, by omega⟩
def row (t : Fin cfg0.N) (a : Fin 1024) : Fin 2048 := ⟨1024 * (t.val / 2) + a.val, by have := lt_points t; omega⟩

theorem iblk_0 (t : Fin cfg0.N) (k : Fin 2048) (a : Fin 1024) :
    iblk m c 0 t (ix2 k a) = m ((c : Thread nD τ).loc main_arg0) (ix2 (depth t k) (row t a)) := by
  rw [← V_main_arg0 m c]
  blk_ext [iblk, depth, row, index_0 t]
theorem iblk_1 (t : Fin cfg0.N) (k : Fin 2048) (b : Fin 256) :
    iblk m c 1 t (ix2 k b) = m ((c : Thread nD τ).loc main_arg1) (ix2 (depth t k) b) := by
  rw [← V_main_arg1 m c]
  blk_ext [iblk, depth, index_1 t]

/-- The point before. -/
def before (t : Fin cfg0.N) : Fin cfg0.N := ⟨t.val - 1, Nat.lt_of_le_of_lt (Nat.sub_le _ _) t.isLt⟩

theorem row_before (t : Fin cfg0.N) (h : t.val % 2 = 1) (a : Fin 1024) : row (before t) a = row t a := by
  apply Fin.ext
  simp only [row, before]
  omega
theorem depth_before (t : Fin cfg0.N) (h : t.val % 2 = 1) (k : Fin 2048) : depth (before t) k = ⟨2048 * 0 + k.val, by omega⟩ := by
  apply Fin.ext
  simp only [depth, before]
  omega
theorem depth_last (t : Fin cfg0.N) (h : t.val % 2 = 1) (k : Fin 2048) : depth t k = ⟨2048 * 1 + k.val, by omega⟩ := by
  apply Fin.ext
  simp only [depth]
  omega

/-- What the second step of a block leaves in the result's buffer. -/
theorem left (t : Fin cfg0.N) (h : t.val % 2 = 1) :
    (outsAt0 m c t.val t.isLt).1 = k0_pay4 (iblk m c 0 t) (iblk m c 1 t) (k0_pay2 (iblk m c 0 (before t)) (iblk m c 1 (before t))) := by
  have e := congrArg Prod.snd (outsAt0_A m c (before t) (by simp only [before]; omega) (by simp only [before]; omega))
  dsimp only at e
  rw [sout_A] at e
  rw [outsAt0_B m c t (by omega) h]
  dsimp only
  rw [out_B]
  exact congrArg (k0_pay4 _ _) e

/-! ## The reference and the result -/

theorem reference_at (x0 : FVec Ideal S4096x2048 .bf16) (x1 : FVec Ideal S4096x256 .bf16) (i : Fin 2048) (j : Fin 256) :
    val_main_v5 (F := Ideal) x0 x1 (ix2 i j) = ∑ k : Fin 4096, x0 (ix2 k i) * x1 (ix2 k j) := by
  rw [val_main_v5_apply, val_main_v4_apply]
  exact Finset.sum_congr rfl fun k _ => (mul_comm _ _).trans (congrArg₂ (· * ·) (congrArg x0 (eq_ix2 _)) (congrArg x1 (eq_ix2 _)))

theorem point (t : Fin cfg0.N) (h : t.val % 2 = 1) (a : Fin 1024) (b : Fin 256) :
    k0_pay4 (iblk m c 0 t) (iblk m c 1 t) (k0_pay2 (iblk m c 0 (before t)) (iblk m c 1 (before t))) (ix2 a b)
      = val_main_v5 (F := Ideal) (m ((c : Thread nD τ).loc main_arg0)) (m ((c : Thread nD τ).loc main_arg1)) (ix2 (row t a) b) := by
  rw [last_at, first_at, reference_at, sum_two]
  refine congrArg₂ (· + ·) (Finset.sum_congr rfl fun k _ => ?_) (Finset.sum_congr rfl fun k _ => ?_)
  · rw [iblk_0 m c (before t) k a, iblk_1 m c (before t) k b, row_before t h a, depth_before t h k]
  · rw [iblk_0 m c t k a, iblk_1 m c t k b, depth_last t h k]

theorem emb_2 (t : Fin cfg0.N) (a : Fin 1024) (b : Fin 256) : (win0_2.blk t).view.emb (ix2 a b) = ix2 (row t a) b := by
  blk_ext [row, index_2 t]

theorem array : (dats m 0 c).arrAt 2 cfg0.N = val_main_v5 (F := Ideal) (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  blk_simp
  rw [after0_2, left m c t h]
  exact (congrArg _ (eq_ix2 y)).trans ((point m c t h (y 0) (y 1)).trans
    (congrArg _ ((emb_2 t (y 0) (y 1)).symm.trans (congrArg _ (eq_ix2 y).symm))))

/-! ## The claims -/

theorem frame_kernel : Cert.quiescent_AbDw (hAbDw := Cert.AbDw.Gen.facts) :=
  fun m ρ _ => by
    refine cast ?_ (Cert.AbDwIdeal.Gen.frame (F := Bits) m ρ)
    sl_kernel_rfl

theorem frame_ideal : Cert.quiescent_AbDwIdeal (hAbDwIdeal := Cert.AbDwIdeal.Gen.facts) := fun m ρ _ => Cert.AbDwIdeal.Gen.frame m ρ

theorem frame_reference : Cert.quiescent_AbDwRefIdeal (hAbDwRefIdeal := Cert.AbDwRefIdeal.Gen.facts) :=
  fun m ρ _ => (θ_run _ _ _).mono (fun r h => ⟨fun c => (h c).2, sem_eq_zero_of_no_sems (by decide) r.2⟩) (Cert.AbDwRefIdeal.Value.run m ρ)

theorem algebraic : Cert.algebraic_AbDwIdeal_AbDwRefIdeal (hAbDwIdeal := Cert.AbDwIdeal.Gen.facts) (hAbDwRefIdeal := Cert.AbDwRefIdeal.Gen.facts) := by
  intro m ρ m' ρ' _ ha
  refine ⟨_, (θ_run _ _ _).mono (fun _ h c => ⟨(h c).1.trans (array m c), (h c).2⟩) (run_blocks m ρ),
    (θ_run _ _ _).mono (fun _ h c => ⟨(h c).1.trans ?_, (h c).2⟩) (Cert.AbDwRefIdeal.Value.run m' ρ')⟩
  rw [(ha c).1, (ha c).2]
  rfl

end Hgrn.AbDw

end
-- ==== Proof.InDw.lean ====
/- The joint input projection's weight gradient, written as four shards: the kernel's sum over two blocks of tokens is the reference's product. -/
module

public import Idealize.ShloMosaic.Lib.Pipeline.ValueKit
public import proofs.«01_k».proof.Defs
public import proofs.«01_k».proof.Proof.Gen.InDw
public import proofs.«01_k».proof.Proof.Gen.InDwIdeal.Value
public import proofs.«01_k».proof.Proof.Gen.InDwRefIdeal.Read
public import proofs.«01_k».proof.Proof.Product

@[expose] public section

set_option maxRecDepth 16384

noncomputable section

namespace Hgrn.InDw

open Idealize.ShloMosaic Idealize.ShloMosaic.TcCoe Idealize.ShloMosaic.Tactic Idealize.SL.Sem Cert.InDwIdeal Cert.InDwIdeal.Gen Cert.InDwIdeal.Value
open Cert.InDwRefIdeal.Read

variable (m : (ℓ : Loc nD τ sig) → Buf (Elt Ideal) ℓ) (c : Dev nD)

/-! ## The case values -/

/-- The first step of a block's sum leaves the product of the two blocks in the carried buffer. -/
theorem sout_A (c : Dev nD) (i : grid0.Coords) (a0 : Memref sig .tc .vmem S2048x1024 .bf16) (h0 : a0.IsWhole) (a1 : Memref sig .tc .vmem S2048x1024 .bf16) (h1 : a1.IsWhole)
    (a2 : Memref sig .tc .vmem S1x1024x1024 .f32) (h2 : a2.IsWhole) (a3 : Memref sig .tc .vmem S1024x1024 .f32) (h3 : a3.IsWhole)
    (g0 : cond0_0 i) (g1 : ¬cond0_1 i) (g2 : ¬cond0_2 i) (x0 x1 : Vec Ideal S2048x1024 .bf16) :
    sout0_A_0 c i a0 h0 a1 h1 a2 h2 a3 h3 g0 g1 g2 x0 x1 = k0_pay2 x0 x1 := by
  unfold sout0_A_0
  rw [View.read_writes_eq_canon _ _ _ (scover0_A_0 c i a0 h0 a1 h1 a2 h2 a3 h3 g0 g1 g2 x0 x1)]
  unfold kernelRun0_A
  dsimp only
  rw [View.canon_unit_zero zero_pair]
  simp only [View.readAt_eq_ld, h0.read_unread, h1.read_unread, View.ld_unit_zero (S := S2048x1024) zero_pair]

/-- The second step adds its product and writes the block. -/
theorem out_B (c : Dev nD) (i : grid0.Coords) (a0 : Memref sig .tc .vmem S2048x1024 .bf16) (h0 : a0.IsWhole) (a1 : Memref sig .tc .vmem S2048x1024 .bf16) (h1 : a1.IsWhole)
    (a2 : Memref sig .tc .vmem S1x1024x1024 .f32) (h2 : a2.IsWhole) (a3 : Memref sig .tc .vmem S1024x1024 .f32) (h3 : a3.IsWhole)
    (g0 : ¬cond0_0 i) (g1 : ¬cond0_1 i) (g2 : cond0_2 i) (x0 x1 : Vec Ideal S2048x1024 .bf16) (xs : Vec Ideal S1024x1024 .f32) :
    out0_B_2 c i a0 h0 a1 h1 a2 h2 a3 h3 g0 g1 g2 x0 x1 xs = k0_pay4 x0 x1 xs := by
  unfold out0_B_2
  rw [View.read_writes_eq_canon _ _ _ (cover0_B_2 c i a0 h0 a1 h1 a2 h2 a3 h3 g0 g1 g2 x0 x1 xs)]
  unfold kernelRun0_B
  dsimp only
  rw [View.canon_unit_zero zero_triple]
  simp only [View.readAt_eq_ld, h0.read_unread, h1.read_unread, h3.read_unread, View.ld_unit_zero (S := S2048x1024) zero_pair,
    View.ld_unit_zero (S := S1024x1024) zero_pair]

theorem first_at (x0 x1 : Vec Ideal S2048x1024 .bf16) (a b : Fin 1024) :
    k0_pay2 x0 x1 (ix2 a b) = ∑ k : Fin 2048, x0 (ix2 k a) * x1 (ix2 k b) := by
  pointwise [k0_pay2, k0_pay1]

theorem last_at (x0 x1 : Vec Ideal S2048x1024 .bf16) (xs : Vec Ideal S1024x1024 .f32) (a b : Fin 1024) :
    k0_pay4 x0 x1 xs (ix3 0 a b) = xs (ix2 a b) + ∑ k : Fin 2048, x0 (ix2 k a) * x1 (ix2 k b) := by
  pointwise [k0_pay4, k0_pay1]

/-! ## The blocks -/

theorem index_0 : ∀ t : Fin cfg0.N, win0_0.index t = ![t.val % 2, t.val / 16] :=
  (by decide +kernel : ∀ t : Fin grid0.N, win0_0.index t = ![t.val % 2, t.val / 16])
theorem index_1 : ∀ t : Fin cfg0.N, win0_1.index t = ![t.val % 2, t.val / 2 % 8] :=
  (by decide +kernel : ∀ t : Fin grid0.N, win0_1.index t = ![t.val % 2, t.val / 2 % 8])
theorem index_2 : ∀ t : Fin cfg0.N, win0_2.index t = ![t.val / 2 % 8 / 2, t.val / 16, t.val / 2 % 8 % 2] :=
  (by decide +kernel : ∀ t : Fin grid0.N, win0_2.index t = ![t.val / 2 % 8 / 2, t.val / 16, t.val / 2 % 8 % 2])

theorem lt_points (t : Fin cfg0.N) : t.val < 32 := lt_of_lt_of_eq t.isLt (by decide +kernel)

/-- The place in the summed axis, the row and the column of an element of a block. -/
def depth (t : Fin cfg0.N) (k : Fin 2048) : Fin 4096 := ⟨2048 * (t.val % 2) + k.val, by omega⟩
def row (t : Fin cfg0.N) (a : Fin 1024) : Fin 2048 := ⟨1024 * (t.val / 16) + a.val, by have := lt_points t; omega⟩
def column (t : Fin cfg0.N) (b : Fin 1024) : Fin 8192 := ⟨1024 * (t.val / 2 % 8) + b.val, by omega⟩

theorem iblk_0 (t : Fin cfg0.N) (k : Fin 2048) (a : Fin 1024) :
    iblk m c 0 t (ix2 k a) = m ((c : Thread nD τ).loc main_arg0) (ix2 (depth t k) (row t a)) := by
  rw [← V_main_arg0 m c]
  blk_ext [iblk, depth, row, index_0 t]
theorem iblk_1 (t : Fin cfg0.N) (k : Fin 2048) (b : Fin 1024) :
    iblk m c 1 t (ix2 k b) = m ((c : Thread nD τ).loc main_arg1) (ix2 (depth t k) (column t b)) := by
  rw [← V_main_arg1 m c]
  blk_ext [iblk, depth, column, index_1 t]

/-- The point before. -/
def before (t : Fin cfg0.N) : Fin cfg0.N := ⟨t.val - 1, Nat.lt_of_le_of_lt (Nat.sub_le _ _) t.isLt⟩

theorem row_before (t : Fin cfg0.N) (h : t.val % 2 = 1) (a : Fin 1024) : row (before t) a = row t a := by
  apply Fin.ext
  simp only [row, before]
  omega
theorem column_before (t : Fin cfg0.N) (h : t.val % 2 = 1) (b : Fin 1024) : column (before t) b = column t b := by
  apply Fin.ext
  simp only [column, before]
  omega
theorem depth_before (t : Fin cfg0.N) (h : t.val % 2 = 1) (k : Fin 2048) : depth (before t) k = ⟨2048 * 0 + k.val, by omega⟩ := by
  apply Fin.ext
  simp only [depth, before]
  omega
theorem depth_last (t : Fin cfg0.N) (h : t.val % 2 = 1) (k : Fin 2048) : depth t k = ⟨2048 * 1 + k.val, by omega⟩ := by
  apply Fin.ext
  simp only [depth]
  omega

/-- What the second step of a block leaves in the result's buffer. -/
theorem left (t : Fin cfg0.N) (h : t.val % 2 = 1) :
    (outsAt0 m c t.val t.isLt).1 = k0_pay4 (iblk m c 0 t) (iblk m c 1 t) (k0_pay2 (iblk m c 0 (before t)) (iblk m c 1 (before t))) := by
  have e := congrArg Prod.snd (outsAt0_A m c (before t) (by simp only [before]; omega) (by simp only [before]; omega))
  dsimp only at e
  rw [sout_A] at e
  rw [outsAt0_B m c t (by omega) h]
  dsimp only
  rw [out_B]
  exact congrArg (k0_pay4 _ _) e

/-! ## The reference and the result -/

theorem product_at (x0 : FVec Ideal S4096x2048 .bf16) (x1 : FVec Ideal S4096x8192 .bf16) (i : Fin 2048) (j : Fin 8192) :
    val_main_v14 (F := Ideal) x0 x1 (ix2 i j) = ∑ k : Fin 4096, x0 (ix2 k i) * x1 (ix2 k j) := by
  rw [val_main_v14_apply, val_main_v13_apply]
  exact Finset.sum_congr rfl fun k _ => (mul_comm _ _).trans (congrArg₂ (· * ·) (congrArg x0 (eq_ix2 _)) (congrArg x1 (eq_ix2 _)))

theorem split_at (x0 : FVec Ideal S4096x2048 .bf16) (x1 : FVec Ideal S4096x8192 .bf16) (s : Fin 4) (i : Fin 2048) (j : Fin 2048) :
    val_main_v29 (F := Ideal) x0 x1 (ix3 s i j) = val_main_v14 (F := Ideal) x0 x1 (ix2 i ⟨2048 * s.val + j.val, by omega⟩) := by
  unfold val_main_v29 val_main_v28 val_main_v27 val_main_v26 val_main_v25 val_main_v24 val_main_v23 val_main_v22 val_main_v21 val_main_v20 val_main_v19
    val_main_v18 val_main_v17 val_main_v16 val_main_v15 val_main_cst_0 val_main_cst_1 val_main_cst_2 val_main_cst_3
  generalize val_main_v14 (F := Ideal) x0 x1 = y
  pointwise
  fin_vals s with hs
  all_goals simp [hs]

theorem reference_at (x0 : FVec Ideal S4096x2048 .bf16) (x1 : FVec Ideal S4096x8192 .bf16) (s : Fin 4) (i : Fin 2048) (j : Fin 2048) :
    val_main_v29 (F := Ideal) x0 x1 (ix3 s i j) = ∑ k : Fin 4096, x0 (ix2 k i) * x1 (ix2 k ⟨2048 * s.val + j.val, by omega⟩) :=
  (split_at x0 x1 s i j).trans (product_at x0 x1 i _)

/-- The shard and the column within it of a block's column. -/
def shard (t : Fin cfg0.N) : Fin 4 := ⟨t.val / 2 % 8 / 2, by omega⟩
def within (t : Fin cfg0.N) (b : Fin 1024) : Fin 2048 := ⟨1024 * (t.val / 2 % 8 % 2) + b.val, by omega⟩

theorem shard_within (t : Fin cfg0.N) (b : Fin 1024) : column t b = ⟨2048 * (shard t).val + (within t b).val, by omega⟩ := by
  apply Fin.ext
  simp only [column, shard, within]
  omega

theorem point (t : Fin cfg0.N) (h : t.val % 2 = 1) (a b : Fin 1024) :
    k0_pay4 (iblk m c 0 t) (iblk m c 1 t) (k0_pay2 (iblk m c 0 (before t)) (iblk m c 1 (before t))) (ix3 0 a b)
      = val_main_v29 (F := Ideal) (m ((c : Thread nD τ).loc main_arg0)) (m ((c : Thread nD τ).loc main_arg1)) (ix3 (shard t) (row t a) (within t b)) := by
  rw [last_at, first_at, reference_at, sum_two, ← shard_within]
  refine congrArg₂ (· + ·) (Finset.sum_congr rfl fun k _ => ?_) (Finset.sum_congr rfl fun k _ => ?_)
  · rw [iblk_0 m c (before t) k a, iblk_1 m c (before t) k b, row_before t h a, column_before t h b, depth_before t h k]
  · rw [iblk_0 m c t k a, iblk_1 m c t k b, depth_last t h k]

theorem emb_2 (t : Fin cfg0.N) (a b : Fin 1024) : (win0_2.blk t).view.emb (ix3 0 a b) = ix3 (shard t) (row t a) (within t b) := by
  blk_ext [shard, row, within, index_2 t]

theorem unit_first (y : S1x1024x1024.Idx) : y = ix3 0 (y 1) (y 2) := by
  funext a
  match a with
  | ⟨0, _⟩ => exact Subsingleton.elim (α := Fin 1) _ _
  | ⟨1, _⟩ => rfl
  | ⟨2, _⟩ => rfl

theorem array : (dats m 0 c).arrAt 2 cfg0.N = val_main_v29 (F := Ideal) (m ((c : Thread nD τ).loc main_arg0)) (m ((c : Thread nD τ).loc main_arg1)) := by
  refine (dats m 0 c).arrAt_eq_of_covers 2 _ (by decide +kernel) fun t hf y => ?_
  have h : t.val % 2 = 1 := (flush0_2 t).mp hf
  blk_simp
  rw [after0_2, left m c t h]
  exact (congrArg _ (unit_first y)).trans ((point m c t h (y 1) (y 2)).trans
    (congrArg _ ((emb_2 t (y 1) (y 2)).symm.trans (congrArg _ (unit_first y).symm))))

/-! ## The claims -/

theorem frame_kernel : Cert.quiescent_InDw (hInDw := Cert.InDw.Gen.facts) :=
  fun m ρ _ => by
    refine cast ?_ (Cert.InDwIdeal.Gen.frame (F := Bits) m ρ)
    sl_kernel_rfl

theorem frame_ideal : Cert.quiescent_InDwIdeal (hInDwIdeal := Cert.InDwIdeal.Gen.facts) := fun m ρ _ => Cert.InDwIdeal.Gen.frame m ρ

theorem frame_reference : Cert.quiescent_InDwRefIdeal (hInDwRefIdeal := Cert.InDwRefIdeal.Gen.facts) :=
  fun m ρ _ => (θ_run _ _ _).mono (fun r h => ⟨fun c => (h c).2, sem_eq_zero_of_no_sems (by decide) r.2⟩) (Cert.InDwRefIdeal.Value.run m ρ)

theorem algebraic : Cert.algebraic_InDwIdeal_InDwRefIdeal (hInDwIdeal := Cert.InDwIdeal.Gen.facts) (hInDwRefIdeal := Cert.InDwRefIdeal.Gen.facts) := by
  intro m ρ m' ρ' _ ha
  refine ⟨_, (θ_run _ _ _).mono (fun _ h c => ⟨(h c).1.trans (array m c), (h c).2⟩) (run_blocks m ρ),
    (θ_run _ _ _).mono (fun _ h c => ⟨(h c).1.trans ?_, (h c).2⟩) (Cert.InDwRefIdeal.Value.run m' ρ')⟩
  rw [(ha c).1, (ha c).2]
  rfl

end Hgrn.InDw

end
-- ==== Proof.RowGradient.lean ====
/- The gradient of the normalisation of one row over the extended reals: the form with the mean of the products and the form with the derivative of the
   inverse root are one, whatever the row, infinite entries included. -/
module

public import Idealize.ShloMosaic.Lib.Pointwise
public import Idealize.ShloMosaic.Lib.Tactic
public import Idealize.ShloMosaic.PureOps
public import proofs.«01_k».proof.Proof.Row

@[expose] public section

noncomputable section

namespace Hgrn.Row

open Finset Idealize.ShloMosaic

/-! ## The constants -/

theorem word_2048 : (Ideal.ofBits FTy.f32 1157627904#32 : EReal) = ((2048 : ℝ) : EReal) := by
  simp [Ideal.ofBits, Ideal.ieee, -EReal.coe_mul]
  norm_num

theorem word_half : (Ideal.ofBits FTy.f32 3204448256#32 : EReal) = ((-(1 / 2) : ℝ) : EReal) := by
  simp [Ideal.ofBits, Ideal.ieee, -EReal.coe_mul]
  norm_num

theorem word_small : ∃ e : ℝ, 0 < e ∧ (Ideal.ofBits FTy.f32 897988541#32 : EReal) = (e : EReal) := by
  refine ⟨_, ?_, by simp [Ideal.ofBits, Ideal.ieee, -EReal.coe_mul]; rfl⟩
  norm_num

/-! ## Nonnegative real factors -/

theorem coe_mul_add (r : ℝ) (h : 0 ≤ r) (y z : EReal) : (r : EReal) * (y + z) = (r : EReal) * y + (r : EReal) * z :=
  EReal.left_distrib_of_nonneg_of_ne_top (by exact_mod_cast h) (EReal.coe_ne_top r) y z

theorem coe_mul_sum {n : ℕ} (r : ℝ) (h : 0 ≤ r) (f : Fin n → EReal) : ∑ k, (r : EReal) * f k = (r : EReal) * ∑ k, f k := by
  induction n with
  | zero => simp
  | succ n ih => rw [Fin.sum_univ_succ, Fin.sum_univ_succ, ih, coe_mul_add r h]

theorem add_self (y : EReal) : y + y = ((2 : ℝ) : EReal) * y := by
  have h : ((2 : ℝ) : EReal) = 1 + 1 := by norm_cast
  rw [h, EReal.right_distrib_of_nonneg zero_le_one zero_le_one, one_mul]

theorem sum_nonneg {n : ℕ} (f : Fin n → EReal) (h : ∀ k, 0 ≤ f k) : 0 ≤ ∑ k, f k := Finset.sum_nonneg fun k _ => h k

theorem mul_self_nonneg (x : EReal) : 0 ≤ x * x := by
  rcases le_total 0 x with h | h
  · exact EReal.mul_nonneg_iff.mpr (.inl ⟨h, h⟩)
  · exact EReal.mul_nonneg_iff.mpr (.inr ⟨h, h⟩)

/-! ## The mean square and its inverse root -/

/-- The mean square is infinite, or a positive real. -/
theorem square_cases (x : Fin 2048 → EReal) : square x = ⊤ ∨ ∃ v : ℝ, 0 < v ∧ square x = (v : EReal) := by
  obtain ⟨e, he, hw⟩ := word_small
  have hs : 0 ≤ ∑ k, x k * x k := sum_nonneg _ fun k => mul_self_nonneg (x k)
  unfold square
  rw [hw, word_2048, Ideal.div_coe (by norm_num)]
  generalize ∑ k, x k * x k = s at hs
  induction s using EReal.rec with
  | bot => exact absurd hs (by simp)
  | top => exact Or.inl (by rw [EReal.top_mul_coe_of_pos (by norm_num), EReal.top_add_coe])
  | coe s =>
    have : 0 ≤ s := by exact_mod_cast hs
    exact Or.inr ⟨s * (1 / 2048) + e, by positivity, by norm_cast⟩

/-! ## The gradient -/

/-- The gradient as the mean of the products gives it. -/
def direct (x d : Fin 2048 → EReal) (i : Fin 2048) : EReal :=
  inverse x * (d i - x i * inverse x * Ideal.div (∑ k, d k * (x k * inverse x)) (Ideal.ofBits FTy.f32 1157627904#32))

/-- The gradient of the mean square's part. -/
def inner (x d : Fin 2048 → EReal) : EReal :=
  Ideal.div ((∑ k, x k * d k) * (Ideal.ofBits FTy.f32 3204448256#32 * Ideal.div (inverse x) (square x))) (Ideal.ofBits FTy.f32 1157627904#32)

/-- The gradient by the rules of differentiation, one after another. -/
def derived (x d : Fin 2048 → EReal) (i : Fin 2048) : EReal := d i * inverse x + x i * inner x d + inner x d * x i

theorem direct_eq (x d : Fin 2048 → EReal) (i : Fin 2048) : direct x d i = derived x d i := by
  unfold derived inner direct inverse
  rw [word_2048, word_half]
  rcases square_cases x with h | ⟨v, hv, h⟩
  · rw [h, Ideal.rsqrt_top]
    simp [Ideal.div]
  · have hr : Ideal.rsqrt (v : EReal) = (((Real.sqrt v)⁻¹ : ℝ) : EReal) := by
      rw [Ideal.rsqrt_coe, if_neg (not_lt.mpr hv.le), if_neg hv.ne']
    have hp : 0 ≤ (Real.sqrt v)⁻¹ := by positivity
    have hq : (Real.sqrt v)⁻¹ * (Real.sqrt v)⁻¹ = 1 / v := by
      rw [← mul_inv, Real.mul_self_sqrt hv.le, one_div]
    rw [h, hr]
    generalize (Real.sqrt v)⁻¹ = r at hp hq
    have hs : ∑ k, d k * (x k * (r : EReal)) = (r : EReal) * ∑ k, x k * d k := by
      rw [← coe_mul_sum r hp]
      exact Finset.sum_congr rfl fun k _ => by rw [mul_comm (r : EReal), mul_comm (x k) (d k), mul_assoc]
    rw [hs, Ideal.div_coe (by norm_num : (2048 : ℝ) ≠ 0), Ideal.div_coe (by norm_num : (2048 : ℝ) ≠ 0), Ideal.div_coe hv.ne']
    generalize ∑ k, x k * d k = s
    generalize x i = a
    generalize d i = b
    rw [sub_eq_add_neg, coe_mul_add r hp, add_assoc, mul_comm b, mul_comm _ a, add_self]
    refine congrArg ((r : EReal) * b + ·) ?_
    have e₁ : (r : EReal) * -(a * (r : EReal) * ((r : EReal) * s * ((1 / 2048 : ℝ) : EReal)))
        = ((-(r * r * r * (1 / 2048)) : ℝ) : EReal) * (a * s) := by
      rw [EReal.coe_neg, EReal.neg_mul, mul_neg]
      refine congrArg Neg.neg ?_
      rw [EReal.coe_mul, EReal.coe_mul, EReal.coe_mul]
      ac_rfl
    have e₂ : ((2 : ℝ) : EReal) * (a * (s * (((-(1 / 2) : ℝ) : EReal) * ((r : EReal) * ((1 / v : ℝ) : EReal))) * ((1 / 2048 : ℝ) : EReal)))
        = ((2 * (-(1 / 2)) * (r * (1 / v)) * (1 / 2048) : ℝ) : EReal) * (a * s) := by
      rw [EReal.coe_mul, EReal.coe_mul, EReal.coe_mul, EReal.coe_mul r]
      ac_rfl
    rw [e₁, e₂, ← hq]
    refine congrArg (fun y : ℝ => (y : EReal) * (a * s)) ?_
    ring

end Hgrn.Row

end
-- ==== Proof.LossHead.lean ====
/- The loss and its gradient through the last normalisation: the kernel's blocks of rows are the reference's rows, and
   what is gathered block by block, the loss and the weight's gradient, is the reference's sum over all the rows. -/
module

public import Idealize.ShloMosaic.Lib.Pipeline.ValueKit
public import proofs.«01_k».proof.Defs
public import proofs.«01_k».proof.Proof.Gen.LossHead
public import proofs.«01_k».proof.Proof.Gen.LossHeadIdeal.Value
public import proofs.«01_k».proof.Proof.Gen.LossHeadRefIdeal.Read
public import proofs.«01_k».proof.Proof.Product
public import proofs.«01_k».proof.Proof.RowGradient

@[expose] public section

set_option maxRecDepth 16384

noncomputable section

namespace Hgrn.LossHead

open Idealize.ShloMosaic Idealize.ShloMosaic.TcCoe Idealize.ShloMosaic.Tactic Idealize.SL.Sem Cert.LossHeadIdeal Cert.LossHeadIdeal.Gen Cert.LossHeadIdeal.Value
open Cert.LossHeadRefIdeal.Read

variable (m : (ℓ : Loc nD τ sig) → Buf (Elt Ideal) ℓ) (c : Dev nD)

/-! ## What a point leaves -/

theorem left_4 (t : Fin cfg0.N) : (outsAt0 m c t.val t.isLt).2.1 = k0_pay8 (F := Ideal) (iblk m c 0 t) (iblk m c 1 t) (iblk m c 2 t) := by
  by_cases h : t.val % 16 = 0
  · rw [outsAt0_A m c t h]
    frame_out
  · rw [outsAt0_B m c t h]
    frame_out

theorem left_5 (t : Fin cfg0.N) : (outsAt0 m c t.val t.isLt).2.2.1 = k0_pay9 (F := Ideal) (iblk m c 0 t) (iblk m c 1 t) (iblk m c 2 t) := by
  by_cases h : t.val % 16 = 0
  · rw [outsAt0_A m c t h]
    frame_out
  · rw [outsAt0_B m c t h]
    frame_out

theorem left_3_first (t : Fin cfg0.N) (h : t.val % 16 = 0) :
    (outsAt0 m c t.val t.isLt).1 = k0_pay2 (F := Ideal) (k0_pay6 (iblk m c 0 t) (iblk m c 1 t) (iblk m c 2 t)) (k0_pay11 (F := Ideal)) := by
  rw [outsAt0_A m c t h]
  frame_out

theorem left_3_next (t : Fin cfg0.N) (h : ¬t.val % 16 = 0) :
    (outsAt0 m c t.val t.isLt).1 = k0_pay2 (F := Ideal) (k0_pay6 (iblk m c 0 t) (iblk m c 1 t) (iblk m c 2 t))
      (outsAt0 m c (t.val - 1) (Nat.lt_of_le_of_lt (Nat.sub_le _ _) t.isLt)).1 := by
  rw [outsAt0_B m c t h]
  frame_out

theorem left_6_first (t : Fin cfg0.N) (h : t.val % 16 = 0) :
    (outsAt0 m c t.val t.isLt).2.2.2 = k0_pay1 (F := Ideal) (k0_pay5 (iblk m c 0 t)) (k0_pay7 (iblk m c 0 t) (iblk m c 1 t) (iblk m c 2 t)) (k0_pay10 (F := Ideal)) := by
  rw [outsAt0_A m c t h]
  frame_out

theorem left_6_next (t : Fin cfg0.N) (h : ¬t.val % 16 = 0) :
    (outsAt0 m c t.val t.isLt).2.2.2 = k0_pay1 (F := Ideal) (k0_pay5 (iblk m c 0 t)) (k0_pay7 (iblk m c 0 t) (iblk m c 1 t) (iblk m c 2 t))
      (outsAt0 m c (t.val - 1) (Nat.lt_of_le_of_lt (Nat.sub_le _ _) t.isLt)).2.2.2 := by
  rw [outsAt0_B m c t h]
  frame_out

/-! ## A row -/

/-- The distance of the normalised row from the target's. -/
def distance (x w y : Fin 2048 → EReal) (k : Fin 2048) : EReal := x k * Row.inverse x * w k - y k

/-- Its share of the gradient, as one constant times it. -/
def slope (x w y : Fin 2048 → EReal) (k : Fin 2048) : EReal := distance x w y k * Ideal.ofBits FTy.f32 973078528#32

theorem word_slope : (Ideal.ofBits FTy.f32 973078528#32 : EReal) = ((1 / 2048 : ℝ) : EReal) := by
  simp [Ideal.ofBits, Ideal.ieee, -EReal.coe_mul]
  norm_num

theorem word_loss : (Ideal.ofBits FTy.f32 964689920#32 : EReal) = ((1 / 4096 : ℝ) : EReal) := by
  simp [Ideal.ofBits, Ideal.ieee, -EReal.coe_mul]
  norm_num

theorem word_one : (Ideal.ofBits FTy.f32 1065353216#32 : EReal) = ((1 : ℝ) : EReal) := by
  simp [Ideal.ofBits, Ideal.ieee, -EReal.coe_mul]
  norm_num

theorem word_two : (Ideal.ofBits FTy.f32 1073741824#32 : EReal) = ((2 : ℝ) : EReal) := by
  simp [Ideal.ofBits, Ideal.ieee, -EReal.coe_mul]
  norm_num

theorem word_plus_half : (Ideal.ofBits FTy.f32 1056964608#32 : EReal) = ((1 / 2 : ℝ) : EReal) := by
  simp [Ideal.ofBits, Ideal.ieee, -EReal.coe_mul]
  norm_num

/-- The reference's two factors are the kernel's one. -/
theorem slope_eq (e : EReal) :
    Ideal.div (Ideal.ofBits FTy.f32 1056964608#32 * Ideal.ofBits FTy.f32 1065353216#32) (Ideal.ofBits FTy.f32 1157627904#32)
      * (Ideal.ofBits FTy.f32 1073741824#32 * e) = e * Ideal.ofBits FTy.f32 973078528#32 := by
  rw [word_plus_half, word_one, Row.word_2048, word_two, word_slope, Ideal.div_coe (by norm_num), ← EReal.coe_mul, ← EReal.coe_mul,
    ← mul_assoc, ← EReal.coe_mul, mul_comm]
  norm_num

/-! ## The elements of a block -/

theorem rows_at (x0 : Vec Ideal S256x2048 .f32) (x1 : Vec Ideal S1x2048 .f32) (x2 : Vec Ideal S256x2048 .f32) (a : Fin 256) (b : Fin 2048) :
    k0_pay8 (F := Ideal) x0 x1 x2 (ix2 a b)
      = Row.direct (fun k => x0 (ix2 a k)) (fun k => slope (fun k => x0 (ix2 a k)) (fun k => x1 (ix2 0 k)) (fun k => x2 (ix2 a k)) k * x1 (ix2 0 k)) b := by
  unfold Row.direct slope distance Row.inverse Row.square
  pointwise [k0_pay8, k0_pay7, k0_pay6, k0_pay5, k0_pay4, k0_pay3]

theorem copy_at (x0 : Vec Ideal S256x2048 .f32) (x1 : Vec Ideal S1x2048 .f32) (x2 : Vec Ideal S256x2048 .f32) (a : Fin 256) (b : Fin 2048) :
    k0_pay9 (F := Ideal) x0 x1 x2 (ix2 a b) = k0_pay8 (F := Ideal) x0 x1 x2 (ix2 a b) := by
  pointwise [k0_pay9]

/-- What a block of rows adds to the weight's gradient. -/
def addition (x0 : Vec Ideal S256x2048 .f32) (x1 : Vec Ideal S1x2048 .f32) (x2 : Vec Ideal S256x2048 .f32) (b : Fin 2048) : EReal :=
  ∑ a : Fin 256, slope (fun k => x0 (ix2 a k)) (fun k => x1 (ix2 0 k)) (fun k => x2 (ix2 a k)) b * (x0 (ix2 a b) * Row.inverse (fun k => x0 (ix2 a k)))

theorem added_at (x0 : Vec Ideal S256x2048 .f32) (x1 : Vec Ideal S1x2048 .f32) (x2 : Vec Ideal S256x2048 .f32) (x6 : Vec Ideal S1x2048 .f32) (b : Fin 2048) :
    k0_pay1 (F := Ideal) (k0_pay5 x0) (k0_pay7 x0 x1 x2) x6 (ix2 0 b) = x6 (ix2 0 b) + addition x0 x1 x2 b := by
  unfold addition slope distance Row.inverse Row.square
  pointwise [k0_pay1, k0_pay7, k0_pay6, k0_pay5, k0_pay4, k0_pay3]

theorem zero_at (b : Fin 2048) : k0_pay10 (F := Ideal) (ix2 0 b) = 0 := by
  pointwise [k0_pay10]

/-- What a block of rows adds to the loss, before the constant. -/
def squares (x0 : Vec Ideal S256x2048 .f32) (x1 : Vec Ideal S1x2048 .f32) (x2 : Vec Ideal S256x2048 .f32) : EReal :=
  ∑ a : Fin 256, ∑ k : Fin 2048, distance (fun k => x0 (ix2 a k)) (fun k => x1 (ix2 0 k)) (fun k => x2 (ix2 a k)) k
    * distance (fun k => x0 (ix2 a k)) (fun k => x1 (ix2 0 k)) (fun k => x2 (ix2 a k)) k

theorem lost_at (x0 : Vec Ideal S256x2048 .f32) (x1 : Vec Ideal S1x2048 .f32) (x2 : Vec Ideal S256x2048 .f32) (x3 : Vec Ideal S1x128 .f32) (b : Fin 128) :
    k0_pay2 (F := Ideal) (k0_pay6 x0 x1 x2) x3 (ix2 0 b) = x3 (ix2 0 b) + Ideal.ofBits FTy.f32 964689920#32 * squares x0 x1 x2 := by
  unfold squares distance Row.inverse Row.square
  pointwise [k0_pay2, k0_pay6, k0_pay5, k0_pay4, k0_pay3]

theorem nothing_at (b : Fin 128) : k0_pay11 (F := Ideal) (ix2 0 b) = 0 := by
  pointwise [k0_pay11]

/-! ## The reference's elements -/

theorem distance_at (x0 : FVec Ideal S4096x2048 .f32) (x1 : FVec Ideal S2048 .f32) (x2 : FVec Ideal S4096x2048 .f32) (i : Fin 4096) (j : Fin 2048) :
    val_main_v16 (F := Ideal) x0 x1 x2 (ix2 i j) = distance (fun k => x0 (ix2 i k)) (fun k => x1 (ix1 k)) (fun k => x2 (ix2 i k)) j := by
  unfold distance Row.inverse Row.square val_main_v16 val_main_v15 val_main_v14 val_main_v13 val_main_v12 val_main_v11 val_main_v7 val_main_v6 val_main_v5 val_main_v4 val_main_v3 val_main_v2 val_main_v1 val_main_v0 val_main_cst val_main_cst_0 val_main_cst_1
  pointwise

theorem slope_at (x0 : FVec Ideal S4096x2048 .f32) (x1 : FVec Ideal S2048 .f32) (x2 : FVec Ideal S4096x2048 .f32) (i : Fin 4096) (j : Fin 2048) :
    val_main_v30 (F := Ideal) x0 x1 x2 (ix2 i j) = slope (fun k => x0 (ix2 i k)) (fun k => x1 (ix1 k)) (fun k => x2 (ix2 i k)) j := by
  unfold slope
  rw [← slope_eq, ← distance_at]
  generalize hd : val_main_v16 (F := Ideal) x0 x1 x2 = d
  unfold val_main_v30 val_main_v29 val_main_v28 val_main_v27 val_main_v26 val_main_v25 val_main_v19 val_main_v18 val_main_cst_10 val_main_cst_3 val_main_cst_8 val_main_cst_9
  rw [hd]
  pointwise

theorem reference_at (x0 : FVec Ideal S4096x2048 .f32) (x1 : FVec Ideal S2048 .f32) (x2 : FVec Ideal S4096x2048 .f32) (i : Fin 4096) (j : Fin 2048) :
    val_main_v50 (F := Ideal) x0 x1 x2 (ix2 i j)
      = Row.derived (fun k => x0 (ix2 i k)) (fun k => slope (fun k => x0 (ix2 i k)) (fun k => x1 (ix1 k)) (fun k => x2 (ix2 i k)) k * x1 (ix1 k)) j := by
  rw [funext fun k => congrArg (fun q : EReal => q * x1 (ix1 k)) (slope_at x0 x1 x2 i k).symm]
  generalize hd : val_main_v30 (F := Ideal) x0 x1 x2 = d
  unfold Row.derived Row.inner Row.inverse Row.square val_main_v50 val_main_v49 val_main_v48 val_main_v47 val_main_v46 val_main_v45 val_main_v44 val_main_v43 val_main_v42 val_main_v41 val_main_v40 val_main_v39 val_main_v38 val_main_v37 val_main_v35
  rw [hd]
  unfold val_main_v34 val_main_v13 val_main_v10 val_main_v9 val_main_v8 val_main_v7 val_main_v6 val_main_v5 val_main_v4 val_main_v3 val_main_v2 val_main_v1 val_main_v0 val_main_cst val_main_cst_0 val_main_cst_1 val_main_cst_13 val_main_cst_14 val_main_cst_15 val_main_cst_2
  pointwise
  simp only [Fin.sum_univ_one]

theorem reference_copy_at (x0 : FVec Ideal S4096x2048 .f32) (x1 : FVec Ideal S2048 .f32) (x2 : FVec Ideal S4096x2048 .f32) (i : Fin 4096) (j : Fin 2048) :
    val_main_v52 (F := Ideal) x0 x1 x2 (ix2 i j) = val_main_v50 (F := Ideal) x0 x1 x2 (ix2 i j) := by
  unfold val_main_v52
  pointwise

/-- The weight's gradient, one term for each row. -/
def term (x0 : FVec Ideal S4096x2048 .f32) (x1 : FVec Ideal S2048 .f32) (x2 : FVec Ideal S4096x2048 .f32) (j : Fin 2048) (i : Fin 4096) : EReal :=
  slope (fun k => x0 (ix2 i k)) (fun k => x1 (ix1 k)) (fun k => x2 (ix2 i k)) j * (x0 (ix2 i j) * Row.inverse (fun k => x0 (ix2 i k)))

theorem reference_weight_at (x0 : FVec Ideal S4096x2048 .f32) (x1 : FVec Ideal S2048 .f32) (x2 : FVec Ideal S4096x2048 .f32) (j : Fin 2048) :
    val_main_v53 (F := Ideal) x0 x1 x2 (ix2 0 j) = ∑ i, term x0 x1 x2 j i := by
  have e : ∑ i, term x0 x1 x2 j i = ∑ i : Fin 4096, (x0 (ix2 i j) * Row.inverse (fun k => x0 (ix2 i k))) * val_main_v30 (F := Ideal) x0 x1 x2 (ix2 i j) :=
    Finset.sum_congr rfl fun i _ => (mul_comm _ _).trans (congrArg (fun q : EReal => _ * q) (slope_at x0 x1 x2 i j).symm)
  rw [e]
  generalize hd : val_main_v30 (F := Ideal) x0 x1 x2 = d
  unfold Row.inverse Row.square val_main_v53 val_main_v36 val_main_v33 val_main_v32 val_main_v31
  rw [hd]
  unfold val_main_cst_11 val_main_cst_12 val_main_v12 val_main_v11 val_main_v7 val_main_v6 val_main_v5 val_main_v4 val_main_v3 val_main_v2 val_main_v1 val_main_v0 val_main_cst val_main_cst_0 val_main_cst_1
  pointwise
  simp only [Fin.sum_univ_one]

/-- The loss, one term for each row. -/
def error (x0 : FVec Ideal S4096x2048 .f32) (x1 : FVec Ideal S2048 .f32) (x2 : FVec Ideal S4096x2048 .f32) (i : Fin 4096) : EReal :=
  ∑ k : Fin 2048, distance (fun k => x0 (ix2 i k)) (fun k => x1 (ix1 k)) (fun k => x2 (ix2 i k)) k
    * distance (fun k => x0 (ix2 i k)) (fun k => x1 (ix1 k)) (fun k => x2 (ix2 i k)) k

theorem reference_mean_at (x0 : FVec Ideal S4096x2048 .f32) (x1 : FVec Ideal S2048 .f32) (x2 : FVec Ideal S4096x2048 .f32) (b : Fin 128) :
    val_main_v51 (F := Ideal) x0 x1 x2 (ix2 0 b)
      = Ideal.ofBits FTy.f32 1056964608#32 * ∑ i, Ideal.div (error x0 x1 x2 i) (Ideal.ofBits FTy.f32 1157627904#32) := by
  have e : ∀ i, error x0 x1 x2 i = ∑ k, val_main_v16 (F := Ideal) x0 x1 x2 (ix2 i k) * val_main_v16 (F := Ideal) x0 x1 x2 (ix2 i k) :=
    fun i => Finset.sum_congr rfl fun k _ => by rw [distance_at]
  rw [Finset.sum_congr rfl fun i _ => congrArg (fun q : EReal => Ideal.div q _) (e i)]
  generalize hd : val_main_v16 (F := Ideal) x0 x1 x2 = d
  unfold val_main_v51 val_main_v24 val_main_v23 val_main_v22 val_main_v20 val_main_v17
  rw [hd]
  unfold val_main_v21 val_main_cst_7 val_main_cst_6 val_main_cst_5 val_main_cst_4
  pointwise

theorem reference_loss_at (x0 : FVec Ideal S4096x2048 .f32) (x1 : FVec Ideal S2048 .f32) (x2 : FVec Ideal S4096x2048 .f32) (b : Fin 128) :
    val_main_v51 (F := Ideal) x0 x1 x2 (ix2 0 b) = ∑ i, Ideal.ofBits FTy.f32 964689920#32 * error x0 x1 x2 i := by
  rw [reference_mean_at, word_loss, word_plus_half, ← Row.coe_mul_sum _ (by norm_num), Row.word_2048]
  refine Finset.sum_congr rfl fun i _ => ?_
  rw [Ideal.div_coe (by norm_num), mul_comm (error x0 x1 x2 i), ← mul_assoc, ← EReal.coe_mul]
  norm_num

/-! ## The blocks -/

theorem weight_held : V m c main_v0 = shapeCast S1x2048 (m ((c : Thread nD τ).loc main_arg1)) shapeCasts_S2048_S1x2048 := by
  sl_kernel_rfl

theorem weight_at (j : Fin 2048) : V m c main_v0 (ix2 0 j) = m ((c : Thread nD τ).loc main_arg1) (ix1 j) := by
  rw [weight_held]
  pointwise

theorem index_0 : ∀ t : Fin cfg0.N, win0_0.index t = ![t.val, 0] := (by decide +kernel : ∀ t : Fin grid0.N, win0_0.index t = ![t.val, 0])
theorem index_2 : ∀ t : Fin cfg0.N, win0_2.index t = ![t.val, 0] := (by decide +kernel : ∀ t : Fin grid0.N, win0_2.index t = ![t.val, 0])
theorem index_4 : ∀ t : Fin cfg0.N, win0_4.index t = ![t.val, 0] := (by decide +kernel : ∀ t : Fin grid0.N, win0_4.index t = ![t.val, 0])
theorem index_5 : ∀ t : Fin cfg0.N, win0_5.index t = ![t.val, 0] := (by decide +kernel : ∀ t : Fin grid0.N, win0_5.index t = ![t.val, 0])
theorem index_1 : ∀ t : Fin cfg0.N, win0_1.index t = ![0, 0] := (by decide +kernel : ∀ t : Fin grid0.N, win0_1.index t = ![0, 0])
theorem index_3 : ∀ t : Fin cfg0.N, win0_3.index t = ![0, 0] := (by decide +kernel : ∀ t : Fin grid0.N, win0_3.index t = ![0, 0])
theorem index_6 : ∀ t : Fin cfg0.N, win0_6.index t = ![0, 0] := (by decide +kernel : ∀ t : Fin grid0.N, win0_6.index t = ![0, 0])

theorem lt_points (t : Fin cfg0.N) : t.val < 16 := lt_of_lt_of_eq t.isLt (by decide +kernel)

/-- The row of an element of a block. -/
def row (t : Fin cfg0.N) (a : Fin 256) : Fin 4096 := ⟨256 * t.val + a.val, by have := lt_points t; omega⟩

theorem iblk_0 (t : Fin cfg0.N) (a : Fin 256) (b : Fin 2048) :
    iblk m c 0 t (ix2 a b) = m ((c : Thread nD τ).loc main_arg0) (ix2 (row t a) b) := by
  rw [← V_main_arg0 m c]
  blk_ext [iblk, row, index_0 t]

theorem iblk_2 (t : Fin cfg0.N) (a : Fin 256) (b : Fin 2048) :
    iblk m c 2 t (ix2 a b) = m ((c : Thread nD τ).loc main_arg2) (ix2 (row t a) b) := by
  rw [← V_main_arg2 m c]
  blk_ext [iblk, row, index_2 t]

theorem iblk_1 (t : Fin cfg0.N) (b : Fin 2048) :
    iblk m c 1 t (ix2 0 b) = m ((c : Thread nD τ).loc main_arg1) (ix1 b) := by
  rw [← weight_at m c]
  blk_ext [iblk, index_1 t]

theorem emb_4 (t : Fin cfg0.N) (a : Fin 256) (b : Fin 2048) : (win0_4.blk t).view.emb (ix2 a b) = ix2 (row t a) b := by
  blk_ext [row, index_4 t]

theorem emb_5 (t : Fin cfg0.N) (a : Fin 256) (b : Fin 2048) : (win0_5.blk t).view.emb (ix2 a b) = ix2 (row t a) b := by
  blk_ext [row, index_5 t]

theorem emb_3 (t : Fin cfg0.N) (b : Fin 128) : (win0_3.blk t).view.emb (ix2 0 b) = ix2 0 b := by
  blk_ext [index_3 t]

theorem emb_6 (t : Fin cfg0.N) (b : Fin 2048) : (win0_6.blk t).view.emb (ix2 0 b) = ix2 0 b := by
  blk_ext [index_6 t]

/-! ## The gradient of the rows -/

theorem point (t : Fin cfg0.N) (a : Fin 256) (b : Fin 2048) :
    k0_pay8 (F := Ideal) (iblk m c 0 t) (iblk m c 1 t) (iblk m c 2 t) (ix2 a b) = val_main_v50 (F := Ideal) (m ((c : Thread nD τ).loc main_arg0)) (m ((c : Thread nD τ).loc main_arg1)) (m ((c : Thread nD τ).loc main_arg2)) (ix2 (row t a) b) := by
  rw [rows_at, reference_at, Row.direct_eq, funext fun k => iblk_0 m c t a k, funext fun k => iblk_1 m c t k, funext fun k => iblk_2 m c t a k,
    funext fun k => congrArg (fun q : EReal => _ * q) (iblk_1 m c t k)]

theorem array_4 : (dats m 0 c).arrAt 4 cfg0.N = val_main_v50 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, left_4]
  exact (congrArg _ (eq_ix2 y)).trans ((point m c t (y 0) (y 1)).trans
    (congrArg _ ((emb_4 t (y 0) (y 1)).symm.trans (congrArg _ (eq_ix2 y).symm))))

theorem point_copy (t : Fin cfg0.N) (a : Fin 256) (b : Fin 2048) :
    k0_pay9 (F := Ideal) (iblk m c 0 t) (iblk m c 1 t) (iblk m c 2 t) (ix2 a b) = val_main_v52 (F := Ideal) (m ((c : Thread nD τ).loc main_arg0)) (m ((c : Thread nD τ).loc main_arg1)) (m ((c : Thread nD τ).loc main_arg2)) (ix2 (row t a) b) :=
  (copy_at _ _ _ a b).trans ((point m c t a b).trans (reference_copy_at _ _ _ (row t a) b).symm)

theorem array_5 : (dats m 0 c).arrAt 5 cfg0.N = val_main_v52 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, left_5]
  exact (congrArg _ (eq_ix2 y)).trans ((point_copy m c t (y 0) (y 1)).trans
    (congrArg _ ((emb_5 t (y 0) (y 1)).symm.trans (congrArg _ (eq_ix2 y).symm))))

/-! ## The gradient of the weight -/

/-- What the rows of one block give. -/
def share (b : Fin 2048) (s : Fin 16) : EReal :=
  ∑ a : Fin 256, term (m ((c : Thread nD τ).loc main_arg0)) (m ((c : Thread nD τ).loc main_arg1)) (m ((c : Thread nD τ).loc main_arg2)) b ⟨256 * s.val + a.val, by omega⟩

theorem share_at (t : Fin cfg0.N) (s : Fin 16) (hs : s.val = t.val) (b : Fin 2048) :
    addition (iblk m c 0 t) (iblk m c 1 t) (iblk m c 2 t) b = share m c b s := by
  refine Finset.sum_congr rfl fun a _ => ?_
  have hr : (⟨256 * s.val + a.val, by omega⟩ : Fin 4096) = row t a := Fin.ext (by show 256 * s.val + a.val = 256 * t.val + a.val; rw [hs])
  rw [iblk_0, funext fun k => iblk_0 m c t a k, funext fun k => iblk_1 m c t k, funext fun k => iblk_2 m c t a k, hr]
  rfl

/-- After point `n` the buffer holds the sum over the blocks up to that one. -/
theorem gathered (b : Fin 2048) : ∀ (n : ℕ) (hn : n < cfg0.N) (h16 : n + 1 ≤ 16),
    (outsAt0 m c n hn).2.2.2 (ix2 0 b) = ∑ s : Fin (n + 1), share m c b (Fin.castLE h16 s)
  | 0, hn, h16 => by
      refine (congrFun (left_6_first m c ⟨0, hn⟩ rfl) (ix2 0 b)).trans ?_
      rw [added_at, zero_at, zero_add, Fin.sum_univ_one]
      exact share_at m c ⟨0, hn⟩ _ rfl b
  | n + 1, hn, h16 => by
      refine (congrFun (left_6_next m c ⟨n + 1, hn⟩ (by show ¬(n + 1) % 16 = 0; omega)) (ix2 0 b)).trans ?_
      rw [added_at, Fin.sum_univ_castSucc]
      exact congrArg₂ (fun x y : EReal => x + y) (gathered b n (Nat.lt_of_succ_lt hn) (Nat.le_of_succ_le h16)) (share_at m c ⟨n + 1, hn⟩ _ rfl b)

theorem gathered_all (b : Fin 2048) (t : Fin cfg0.N) (h : t.val = 15) :
    (outsAt0 m c t.val t.isLt).2.2.2 (ix2 0 b) = val_main_v53 (F := Ideal) (m ((c : Thread nD τ).loc main_arg0)) (m ((c : Thread nD τ).loc main_arg1)) (m ((c : Thread nD τ).loc main_arg2)) (ix2 0 b) := by
  obtain ⟨n, hn⟩ := t
  obtain rfl : n = 15 := h
  rw [reference_weight_at, sum_blocks 16 256 4096 (by norm_num)]
  exact gathered m c b 15 hn le_rfl

theorem array_6 : (dats m 0 c).arrAt 6 cfg0.N = val_main_v53 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  have ht : t.val = 15 := by have := (flush0_6 t).mp hf; have := lt_points t; omega
  have hy : y = ix2 0 (y 1) := (eq_ix2 y).trans (congrArg (fun q => ix2 q (y 1)) (Fin.ext (by have : (y 0).val < 1 := (y 0).isLt; show (y 0).val = 0; omega)))
  exact (congrArg _ hy).trans ((gathered_all m c (y 1) t ht).trans
    (congrArg _ ((emb_6 t (y 1)).symm.trans (congrArg _ hy.symm))))

/-! ## The loss -/

/-- What the rows of one block add to it. -/
def loss (s : Fin 16) : EReal :=
  ∑ a : Fin 256, Ideal.ofBits FTy.f32 964689920#32 * error (m ((c : Thread nD τ).loc main_arg0)) (m ((c : Thread nD τ).loc main_arg1)) (m ((c : Thread nD τ).loc main_arg2)) ⟨256 * s.val + a.val, by omega⟩

theorem loss_at (t : Fin cfg0.N) (s : Fin 16) (hs : s.val = t.val) :
    Ideal.ofBits FTy.f32 964689920#32 * squares (iblk m c 0 t) (iblk m c 1 t) (iblk m c 2 t) = loss m c s := by
  unfold loss squares
  rw [word_loss, ← Row.coe_mul_sum _ (by norm_num)]
  refine Finset.sum_congr rfl fun a _ => congrArg (fun q : EReal => _ * q) ?_
  have hr : (⟨256 * s.val + a.val, by omega⟩ : Fin 4096) = row t a := Fin.ext (by show 256 * s.val + a.val = 256 * t.val + a.val; rw [hs])
  rw [funext fun k => iblk_0 m c t a k, funext fun k => iblk_1 m c t k, funext fun k => iblk_2 m c t a k, hr]
  rfl

/-- After point `n` the buffer holds the loss of the blocks up to that one. -/
theorem lost (b : Fin 128) : ∀ (n : ℕ) (hn : n < cfg0.N) (h16 : n + 1 ≤ 16),
    (outsAt0 m c n hn).1 (ix2 0 b) = ∑ s : Fin (n + 1), loss m c (Fin.castLE h16 s)
  | 0, hn, h16 => by
      refine (congrFun (left_3_first m c ⟨0, hn⟩ rfl) (ix2 0 b)).trans ?_
      rw [lost_at, nothing_at, zero_add, Fin.sum_univ_one]
      exact loss_at m c ⟨0, hn⟩ _ rfl
  | n + 1, hn, h16 => by
      refine (congrFun (left_3_next m c ⟨n + 1, hn⟩ (by show ¬(n + 1) % 16 = 0; omega)) (ix2 0 b)).trans ?_
      rw [lost_at, Fin.sum_univ_castSucc]
      exact congrArg₂ (fun x y : EReal => x + y) (lost b n (Nat.lt_of_succ_lt hn) (Nat.le_of_succ_le h16)) (loss_at m c ⟨n + 1, hn⟩ _ rfl)

theorem lost_all (b : Fin 128) (t : Fin cfg0.N) (h : t.val = 15) :
    (outsAt0 m c t.val t.isLt).1 (ix2 0 b) = val_main_v51 (F := Ideal) (m ((c : Thread nD τ).loc main_arg0)) (m ((c : Thread nD τ).loc main_arg1)) (m ((c : Thread nD τ).loc main_arg2)) (ix2 0 b) := by
  obtain ⟨n, hn⟩ := t
  obtain rfl : n = 15 := h
  rw [reference_loss_at, sum_blocks 16 256 4096 (by norm_num)]
  exact lost m c b 15 hn le_rfl

theorem array_3 : (dats m 0 c).arrAt 3 cfg0.N = val_main_v51 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  have ht : t.val = 15 := by have := (flush0_3 t).mp hf; have := lt_points t; omega
  have hy : y = ix2 0 (y 1) := (eq_ix2 y).trans (congrArg (fun q => ix2 q (y 1)) (Fin.ext (by have : (y 0).val < 1 := (y 0).isLt; show (y 0).val = 0; omega)))
  exact (congrArg _ hy).trans ((lost_all m c (y 1) t ht).trans
    (congrArg _ ((emb_3 t (y 1)).symm.trans (congrArg _ hy.symm))))

/-! ## The claims -/

theorem frame_kernel : Cert.quiescent_LossHead (hLossHead := Cert.LossHead.Gen.facts) :=
  fun m ρ _ => by
    refine cast ?_ (Cert.LossHeadIdeal.Gen.frame (F := Bits) m ρ)
    sl_kernel_rfl

theorem frame_ideal : Cert.quiescent_LossHeadIdeal (hLossHeadIdeal := Cert.LossHeadIdeal.Gen.facts) := fun m ρ _ => Cert.LossHeadIdeal.Gen.frame m ρ

theorem frame_reference : Cert.quiescent_LossHeadRefIdeal (hLossHeadRefIdeal := Cert.LossHeadRefIdeal.Gen.facts) :=
  fun m ρ _ => (θ_run _ _ _).mono (fun r h => ⟨fun c => (h c).2.2.2.2, sem_eq_zero_of_no_sems (by decide) r.2⟩) (Cert.LossHeadRefIdeal.Value.run m ρ)

/-- From memories that agree on the arguments, both programs end with the same results. -/
theorem algebraic : Cert.algebraic_LossHeadIdeal_LossHeadRefIdeal (hLossHeadIdeal := Cert.LossHeadIdeal.Gen.facts) (hLossHeadRefIdeal := Cert.LossHeadRefIdeal.Gen.facts) := by
  intro m ρ m' ρ' _ ha
  refine ⟨_, _, _, _, (θ_run _ _ _).mono (fun _ h c => ⟨(h c).1.trans (array_3 m c), (h c).2.1.trans (array_4 m c), (h c).2.2.1.trans (array_5 m c), (h c).2.2.2.1.trans (array_6 m c), (h c).2.2.2.2⟩) (run_blocks m ρ),
    (θ_run _ _ _).mono (fun _ h c => ⟨(h c).1.trans ?_, (h c).2.1.trans ?_, (h c).2.2.1.trans ?_, (h c).2.2.2.1.trans ?_, (h c).2.2.2.2⟩) (Cert.LossHeadRefIdeal.Value.run m' ρ')⟩
  · rw [(ha c).1, (ha c).2.1, (ha c).2.2]
    rfl
  · unfold Cert.LossHeadRefIdeal.Value.res_main_v50
    rw [(ha c).1, (ha c).2.1, (ha c).2.2]
    rfl
  · unfold Cert.LossHeadRefIdeal.Value.res_main_v52
    rw [(ha c).1, (ha c).2.1, (ha c).2.2]
    rfl
  · rw [(ha c).1, (ha c).2.1, (ha c).2.2]
    rfl

end Hgrn.LossHead

end
-- ==== Proof.NormGrad.lean ====
/- The gradient of the normalisation by the root mean square: the kernel's blocks of rows are the reference's rows, and
   the weight's gradient, gathered block by block, is the reference's sum over all the rows. -/
module

public import Idealize.ShloMosaic.Lib.Pipeline.ValueKit
public import proofs.«01_k».proof.Defs
public import proofs.«01_k».proof.Proof.Gen.NormGrad
public import proofs.«01_k».proof.Proof.Gen.NormGradIdeal.Value
public import proofs.«01_k».proof.Proof.Gen.NormGradRefIdeal.Read
public import proofs.«01_k».proof.Proof.Product
public import proofs.«01_k».proof.Proof.RowGradient

@[expose] public section

set_option maxRecDepth 16384

noncomputable section

namespace Hgrn.NormGrad

open Idealize.ShloMosaic Idealize.ShloMosaic.TcCoe Idealize.ShloMosaic.Tactic Idealize.SL.Sem Cert.NormGradIdeal Cert.NormGradIdeal.Gen Cert.NormGradIdeal.Value
open Cert.NormGradRefIdeal.Read

variable (m : (ℓ : Loc nD τ sig) → Buf (Elt Ideal) ℓ) (c : Dev nD)

/-! ## What a point leaves -/

theorem left_4 (t : Fin cfg0.N) :
    (outsAt0 m c t.val t.isLt).1 = k0_pay4 (F := Ideal) (iblk m c 1 t) (iblk m c 0 t) (iblk m c 2 t) (iblk m c 3 t) := by
  by_cases h : t.val % 16 = 0
  · rw [outsAt0_A m c t h]
    frame_out
  · rw [outsAt0_B m c t h]
    frame_out

theorem left_5 (t : Fin cfg0.N) :
    (outsAt0 m c t.val t.isLt).2.1 = k0_pay5 (F := Ideal) (iblk m c 1 t) (iblk m c 0 t) (iblk m c 2 t) (iblk m c 3 t) := by
  by_cases h : t.val % 16 = 0
  · rw [outsAt0_A m c t h]
    frame_out
  · rw [outsAt0_B m c t h]
    frame_out

theorem left_6_first (t : Fin cfg0.N) (h : t.val % 16 = 0) :
    (outsAt0 m c t.val t.isLt).2.2 = k0_pay1 (F := Ideal) (iblk m c 0 t) (k0_pay3 (iblk m c 1 t)) (k0_pay6 (F := Ideal)) := by
  rw [outsAt0_A m c t h]
  frame_out

theorem left_6_next (t : Fin cfg0.N) (h : ¬t.val % 16 = 0) :
    (outsAt0 m c t.val t.isLt).2.2 = k0_pay1 (F := Ideal) (iblk m c 0 t) (k0_pay3 (iblk m c 1 t))
      (outsAt0 m c (t.val - 1) (Nat.lt_of_le_of_lt (Nat.sub_le _ _) t.isLt)).2.2 := by
  rw [outsAt0_B m c t h]
  frame_out

/-! ## The elements of a block -/

theorem rows_at (x0 x1 : Vec Ideal S256x2048 .f32) (x2 : Vec Ideal S1x2048 .f32) (x3 : Vec Ideal S256x2048 .f32) (a : Fin 256) (b : Fin 2048) :
    k0_pay4 (F := Ideal) x1 x0 x2 x3 (ix2 a b)
      = x3 (ix2 a b) + Row.direct (fun k => x1 (ix2 a k)) (fun k => x0 (ix2 a k) * x2 (ix2 0 k)) b := by
  unfold Row.direct Row.inverse Row.square
  pointwise [k0_pay4, k0_pay3, k0_pay2]

theorem copy_at (x0 x1 : Vec Ideal S256x2048 .f32) (x2 : Vec Ideal S1x2048 .f32) (x3 : Vec Ideal S256x2048 .f32) (a : Fin 256) (b : Fin 2048) :
    k0_pay5 (F := Ideal) x1 x0 x2 x3 (ix2 a b) = k0_pay4 (F := Ideal) x1 x0 x2 x3 (ix2 a b) := by
  pointwise [k0_pay5]

/-- What a block of rows adds to the weight's gradient. -/
def addition (x0 x1 : Vec Ideal S256x2048 .f32) (b : Fin 2048) : EReal :=
  ∑ a : Fin 256, x0 (ix2 a b) * (x1 (ix2 a b) * Row.inverse (fun k => x1 (ix2 a k)))

theorem added_at (x0 x1 : Vec Ideal S256x2048 .f32) (x6 : Vec Ideal S1x2048 .f32) (b : Fin 2048) :
    k0_pay1 (F := Ideal) x0 (k0_pay3 x1) x6 (ix2 0 b)
      = x6 (ix2 0 b) + addition x0 x1 b := by
  unfold addition Row.inverse Row.square
  pointwise [k0_pay1, k0_pay3, k0_pay2]

theorem zero_at (b : Fin 2048) : k0_pay6 (F := Ideal) (ix2 0 b) = 0 := by
  pointwise [k0_pay6]

/-! ## The reference's elements -/

theorem reference_at (x0 x1 : FVec Ideal S4096x2048 .f32) (x2 : FVec Ideal S2048 .f32) (x3 : FVec Ideal S4096x2048 .f32) (i : Fin 4096) (j : Fin 2048) :
    val_main_v36 (F := Ideal) x0 x1 x2 x3 (ix2 i j)
      = x3 (ix2 i j) + Row.derived (fun k => x1 (ix2 i k)) (fun k => x0 (ix2 i k) * x2 (ix1 k)) j := by
  unfold Row.derived Row.inner Row.inverse Row.square val_main_v36 val_main_v35 val_main_v34 val_main_v33 val_main_v32 val_main_v31 val_main_v30 val_main_v29 val_main_v28 val_main_v27 val_main_v26 val_main_v25 val_main_v24 val_main_v23 val_main_v22 val_main_v20 val_main_v19 val_main_v13 val_main_v10 val_main_v9 val_main_v8 val_main_v7 val_main_v6 val_main_v5 val_main_v4 val_main_v3 val_main_v2 val_main_v1 val_main_v0 val_main_cst val_main_cst_0 val_main_cst_1 val_main_cst_2 val_main_cst_5 val_main_cst_6 val_main_cst_7
  pointwise
  simp only [Fin.sum_univ_one]

theorem reference_copy_at (x0 x1 : FVec Ideal S4096x2048 .f32) (x2 : FVec Ideal S2048 .f32) (x3 : FVec Ideal S4096x2048 .f32) (i : Fin 4096) (j : Fin 2048) :
    val_main_v37 (F := Ideal) x0 x1 x2 x3 (ix2 i j) = val_main_v36 (F := Ideal) x0 x1 x2 x3 (ix2 i j) := by
  unfold val_main_v37
  pointwise

/-- The weight's gradient, one term for each row. -/
def term (x0 x1 : FVec Ideal S4096x2048 .f32) (j : Fin 2048) (i : Fin 4096) : EReal :=
  x0 (ix2 i j) * (x1 (ix2 i j) * Row.inverse (fun k => x1 (ix2 i k)))

theorem reference_weight_at (x0 x1 : FVec Ideal S4096x2048 .f32) (j : Fin 2048) :
    val_main_v38 (F := Ideal) x0 x1 (ix2 0 j) = ∑ i, term x0 x1 j i := by
  have e : ∑ i, term x0 x1 j i = ∑ i : Fin 4096, (x1 (ix2 i j) * Row.inverse (fun k => x1 (ix2 i k))) * x0 (ix2 i j) :=
    Finset.sum_congr rfl fun i _ => mul_comm _ _
  rw [e]
  unfold Row.inverse Row.square val_main_v38 val_main_v21 val_main_v18 val_main_v17 val_main_v16 val_main_v12 val_main_v11 val_main_v7 val_main_v6 val_main_v5 val_main_v4 val_main_v3 val_main_v2 val_main_v1 val_main_v0 val_main_cst val_main_cst_0 val_main_cst_1 val_main_cst_3 val_main_cst_4
  pointwise
  simp only [Fin.sum_univ_one]

/-! ## The blocks -/

theorem weight_held : V m c main_v0 = shapeCast S1x2048 (m ((c : Thread nD τ).loc main_arg2)) shapeCasts_S2048_S1x2048 := by
  sl_kernel_rfl

theorem weight_at (j : Fin 2048) : V m c main_v0 (ix2 0 j) = m ((c : Thread nD τ).loc main_arg2) (ix1 j) := by
  rw [weight_held]
  pointwise

theorem index_0 : ∀ t : Fin cfg0.N, win0_0.index t = ![t.val, 0] := (by decide +kernel : ∀ t : Fin grid0.N, win0_0.index t = ![t.val, 0])
theorem index_1 : ∀ t : Fin cfg0.N, win0_1.index t = ![t.val, 0] := (by decide +kernel : ∀ t : Fin grid0.N, win0_1.index t = ![t.val, 0])
theorem index_3 : ∀ t : Fin cfg0.N, win0_3.index t = ![t.val, 0] := (by decide +kernel : ∀ t : Fin grid0.N, win0_3.index t = ![t.val, 0])
theorem index_4 : ∀ t : Fin cfg0.N, win0_4.index t = ![t.val, 0] := (by decide +kernel : ∀ t : Fin grid0.N, win0_4.index t = ![t.val, 0])
theorem index_5 : ∀ t : Fin cfg0.N, win0_5.index t = ![t.val, 0] := (by decide +kernel : ∀ t : Fin grid0.N, win0_5.index t = ![t.val, 0])
theorem index_2 : ∀ t : Fin cfg0.N, win0_2.index t = ![0, 0] := (by decide +kernel : ∀ t : Fin grid0.N, win0_2.index t = ![0, 0])
theorem index_6 : ∀ t : Fin cfg0.N, win0_6.index t = ![0, 0] := (by decide +kernel : ∀ t : Fin grid0.N, win0_6.index t = ![0, 0])

theorem lt_points (t : Fin cfg0.N) : t.val < 16 := lt_of_lt_of_eq t.isLt (by decide +kernel)

/-- The row of an element of a block. -/
def row (t : Fin cfg0.N) (a : Fin 256) : Fin 4096 := ⟨256 * t.val + a.val, by have := lt_points t; omega⟩

theorem iblk_0 (t : Fin cfg0.N) (a : Fin 256) (b : Fin 2048) :
    iblk m c 0 t (ix2 a b) = m ((c : Thread nD τ).loc main_arg0) (ix2 (row t a) b) := by
  rw [← V_main_arg0 m c]
  blk_ext [iblk, row, index_0 t]

theorem iblk_1 (t : Fin cfg0.N) (a : Fin 256) (b : Fin 2048) :
    iblk m c 1 t (ix2 a b) = m ((c : Thread nD τ).loc main_arg1) (ix2 (row t a) b) := by
  rw [← V_main_arg1 m c]
  blk_ext [iblk, row, index_1 t]

theorem iblk_3 (t : Fin cfg0.N) (a : Fin 256) (b : Fin 2048) :
    iblk m c 3 t (ix2 a b) = m ((c : Thread nD τ).loc main_arg3) (ix2 (row t a) b) := by
  rw [← V_main_arg3 m c]
  blk_ext [iblk, row, index_3 t]

theorem iblk_2 (t : Fin cfg0.N) (b : Fin 2048) :
    iblk m c 2 t (ix2 0 b) = m ((c : Thread nD τ).loc main_arg2) (ix1 b) := by
  rw [← weight_at m c]
  blk_ext [iblk, index_2 t]

theorem emb_4 (t : Fin cfg0.N) (a : Fin 256) (b : Fin 2048) : (win0_4.blk t).view.emb (ix2 a b) = ix2 (row t a) b := by
  blk_ext [row, index_4 t]

theorem emb_5 (t : Fin cfg0.N) (a : Fin 256) (b : Fin 2048) : (win0_5.blk t).view.emb (ix2 a b) = ix2 (row t a) b := by
  blk_ext [row, index_5 t]

theorem emb_6 (t : Fin cfg0.N) (b : Fin 2048) : (win0_6.blk t).view.emb (ix2 0 b) = ix2 0 b := by
  blk_ext [index_6 t]

/-! ## The gradient of the rows -/

theorem point (t : Fin cfg0.N) (a : Fin 256) (b : Fin 2048) :
    k0_pay4 (F := Ideal) (iblk m c 1 t) (iblk m c 0 t) (iblk m c 2 t) (iblk m c 3 t) (ix2 a b)
    = val_main_v36 (F := Ideal) (m ((c : Thread nD τ).loc main_arg0)) (m ((c : Thread nD τ).loc main_arg1)) (m ((c : Thread nD τ).loc main_arg2)) (m ((c : Thread nD τ).loc main_arg3)) (ix2 (row t a) b) := by
  rw [rows_at, reference_at, iblk_3, Row.direct_eq, funext fun k => iblk_1 m c t a k,
    funext fun k => congrArg₂ (fun x y : EReal => x * y) (iblk_0 m c t a k) (iblk_2 m c t k)]

theorem array_4 : (dats m 0 c).arrAt 4 cfg0.N = val_main_v36 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, left_4]
  exact (congrArg _ (eq_ix2 y)).trans ((point m c t (y 0) (y 1)).trans
    (congrArg _ ((emb_4 t (y 0) (y 1)).symm.trans (congrArg _ (eq_ix2 y).symm))))

theorem point_copy (t : Fin cfg0.N) (a : Fin 256) (b : Fin 2048) :
    k0_pay5 (F := Ideal) (iblk m c 1 t) (iblk m c 0 t) (iblk m c 2 t) (iblk m c 3 t) (ix2 a b)
    = val_main_v37 (F := Ideal) (m ((c : Thread nD τ).loc main_arg0)) (m ((c : Thread nD τ).loc main_arg1)) (m ((c : Thread nD τ).loc main_arg2)) (m ((c : Thread nD τ).loc main_arg3)) (ix2 (row t a) b) :=
  (copy_at _ _ _ _ a b).trans ((point m c t a b).trans (reference_copy_at _ _ _ _ (row t a) b).symm)

theorem array_5 : (dats m 0 c).arrAt 5 cfg0.N = val_main_v37 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, left_5]
  exact (congrArg _ (eq_ix2 y)).trans ((point_copy m c t (y 0) (y 1)).trans
    (congrArg _ ((emb_5 t (y 0) (y 1)).symm.trans (congrArg _ (eq_ix2 y).symm))))

/-! ## The gradient of the weight -/

/-- What the rows of one block give. -/
def share (b : Fin 2048) (s : Fin 16) : EReal :=
  ∑ a : Fin 256, term (m ((c : Thread nD τ).loc main_arg0)) (m ((c : Thread nD τ).loc main_arg1)) b ⟨256 * s.val + a.val, by omega⟩

theorem share_at (t : Fin cfg0.N) (s : Fin 16) (hs : s.val = t.val) (b : Fin 2048) :
    addition (iblk m c 0 t) (iblk m c 1 t) b = share m c b s := by
  refine Finset.sum_congr rfl fun a _ => ?_
  have hr : (⟨256 * s.val + a.val, by omega⟩ : Fin 4096) = row t a := Fin.ext (by show 256 * s.val + a.val = 256 * t.val + a.val; rw [hs])
  rw [iblk_0, iblk_1, funext fun k => iblk_1 m c t a k, hr]
  rfl

/-- After point `t` the buffer holds the sum over the blocks up to that one. -/
theorem gathered (b : Fin 2048) : ∀ (n : ℕ) (hn : n < cfg0.N) (h16 : n + 1 ≤ 16),
    (outsAt0 m c n hn).2.2 (ix2 0 b) = ∑ s : Fin (n + 1), share m c b (Fin.castLE h16 s)
  | 0, hn, h16 => by
      refine (congrFun (left_6_first m c ⟨0, hn⟩ rfl) (ix2 0 b)).trans ?_
      rw [added_at, zero_at, zero_add, Fin.sum_univ_one]
      exact share_at m c ⟨0, hn⟩ _ rfl b
  | n + 1, hn, h16 => by
      refine (congrFun (left_6_next m c ⟨n + 1, hn⟩ (by show ¬(n + 1) % 16 = 0; omega)) (ix2 0 b)).trans ?_
      rw [added_at, Fin.sum_univ_castSucc]
      exact congrArg₂ (fun x y : EReal => x + y) (gathered b n (Nat.lt_of_succ_lt hn) (Nat.le_of_succ_le h16)) (share_at m c ⟨n + 1, hn⟩ _ rfl b)

theorem gathered_all (b : Fin 2048) (t : Fin cfg0.N) (h : t.val = 15) :
    (outsAt0 m c t.val t.isLt).2.2 (ix2 0 b) = val_main_v38 (F := Ideal) (m ((c : Thread nD τ).loc main_arg0)) (m ((c : Thread nD τ).loc main_arg1)) (ix2 0 b) := by
  obtain ⟨n, hn⟩ := t
  obtain rfl : n = 15 := h
  rw [reference_weight_at, sum_blocks 16 256 4096 (by norm_num)]
  exact gathered m c b 15 hn le_rfl

theorem array_6 : (dats m 0 c).arrAt 6 cfg0.N = val_main_v38 (F := Ideal) (m ((c : Thread nD τ).loc main_arg0)) (m ((c : Thread nD τ).loc main_arg1)) := by
  refine (dats m 0 c).arrAt_eq_of_covers 6 _ (by decide +kernel) fun t hf y => ?_
  blk_simp
  rw [after0_6]
  have ht : t.val = 15 := by have := (flush0_6 t).mp hf; have := lt_points t; omega
  have hy : y = ix2 0 (y 1) := (eq_ix2 y).trans (congrArg (fun q => ix2 q (y 1)) (Fin.ext (by have : (y 0).val < 1 := (y 0).isLt; show (y 0).val = 0; omega)))
  exact (congrArg _ hy).trans ((gathered_all m c (y 1) t ht).trans
    (congrArg _ ((emb_6 t (y 1)).symm.trans (congrArg _ hy.symm))))

/-! ## The claims -/

theorem frame_kernel : Cert.quiescent_NormGrad (hNormGrad := Cert.NormGrad.Gen.facts) :=
  fun m ρ _ => by
    refine cast ?_ (Cert.NormGradIdeal.Gen.frame (F := Bits) m ρ)
    sl_kernel_rfl

theorem frame_ideal : Cert.quiescent_NormGradIdeal (hNormGradIdeal := Cert.NormGradIdeal.Gen.facts) := fun m ρ _ => Cert.NormGradIdeal.Gen.frame m ρ

theorem frame_reference : Cert.quiescent_NormGradRefIdeal (hNormGradRefIdeal := Cert.NormGradRefIdeal.Gen.facts) :=
  fun m ρ _ => (θ_run _ _ _).mono (fun r h => ⟨fun c => (h c).2.2.2, sem_eq_zero_of_no_sems (by decide) r.2⟩) (Cert.NormGradRefIdeal.Value.run m ρ)

/-- From memories that agree on the arguments, both programs end with the same results. -/
theorem algebraic : Cert.algebraic_NormGradIdeal_NormGradRefIdeal (hNormGradIdeal := Cert.NormGradIdeal.Gen.facts) (hNormGradRefIdeal := Cert.NormGradRefIdeal.Gen.facts) := by
  intro m ρ m' ρ' _ ha
  refine ⟨_, _, _, (θ_run _ _ _).mono (fun _ h c => ⟨(h c).1.trans (array_4 m c), (h c).2.1.trans (array_5 m c), (h c).2.2.1.trans (array_6 m c), (h c).2.2.2⟩) (run_blocks m ρ),
    (θ_run _ _ _).mono (fun _ h c => ⟨(h c).1.trans ?_, (h c).2.1.trans ?_, (h c).2.2.1.trans ?_, (h c).2.2.2⟩) (Cert.NormGradRefIdeal.Value.run m' ρ')⟩
  · rw [(ha c).1, (ha c).2.1, (ha c).2.2.1, (ha c).2.2.2]
    rfl
  · rw [(ha c).1, (ha c).2.1, (ha c).2.2.1, (ha c).2.2.2]
    rfl
  · rw [(ha c).1, (ha c).2.1]
    rfl

end Hgrn.NormGrad

end
-- ==== Proof.Softplus.lean ====
/- The softplus of a real number and its derivative, as the kernel and as the reference compute them. -/
module

public import proofs.«01_k».proof.Proof.Bound

@[expose] public section

noncomputable section

namespace Hgrn.Soft

open Idealize.ShloMosaic Idealize.ShloMosaic.Tactic

/-- The softplus over the real numbers. -/
def soft (x : ℝ) : ℝ := max x 0 + Real.log (1 + Real.exp (-|x|))

/-- The logistic function over the real numbers. -/
def gate (x : ℝ) : ℝ := 1 / (1 + Real.exp (-x))

theorem coe_max (x y : ℝ) : max (x : EReal) (y : EReal) = ((max x y : ℝ) : EReal) := (EReal.coe_strictMono.monotone.map_max).symm

theorem absf_coe (x : ℝ) : (FloatOps.absf (F := Ideal) (φ := .f32) (x : EReal) : EReal) = ((|x| : ℝ) : EReal) := by
  rw [Ideal.absf_def, ← EReal.coe_neg]
  exact coe_max x (-x)

theorem small_coe (x : ℝ) : Ideal.exp (0 - (FloatOps.absf (F := Ideal) (φ := .f32) (x : EReal) : EReal)) = ((Real.exp (-|x|) : ℝ) : EReal) := by
  rw [absf_coe, zero_sub, ← EReal.coe_neg, Ideal.exp_coe]

theorem log_one_add (e : ℝ) (he : 0 < e) : Ideal.log (1 + (e : EReal)) = ((Real.log (1 + e) : ℝ) : EReal) := by
  rw [← EReal.coe_one, ← EReal.coe_add, Ideal.log_coe, if_neg (by linarith)]

/-- The kernel's softplus, which guards the logarithm near one. -/
theorem kernel_soft (x : ℝ) :
    max (x : EReal) 0 + (if 1 + Ideal.exp (0 - (FloatOps.absf (F := Ideal) (φ := .f32) (x : EReal) : EReal)) = 1
        then Ideal.exp (0 - (FloatOps.absf (F := Ideal) (φ := .f32) (x : EReal) : EReal))
        else Ideal.log (1 + Ideal.exp (0 - (FloatOps.absf (F := Ideal) (φ := .f32) (x : EReal) : EReal)))
          * Ideal.div (Ideal.exp (0 - (FloatOps.absf (F := Ideal) (φ := .f32) (x : EReal) : EReal)))
            (if 1 + Ideal.exp (0 - (FloatOps.absf (F := Ideal) (φ := .f32) (x : EReal) : EReal)) = 1 then 1
              else 1 + Ideal.exp (0 - (FloatOps.absf (F := Ideal) (φ := .f32) (x : EReal) : EReal)) - 1)) = ((soft x : ℝ) : EReal) := by
  rw [small_coe]
  have he := Real.exp_pos (-|x|)
  generalize hg : Real.exp (-|x|) = e at *
  have h1 : ¬ (1 : EReal) + (e : EReal) = 1 := by
    rw [← EReal.coe_one, ← EReal.coe_add, EReal.coe_eq_coe_iff]
    linarith
  have h2 : (1 : EReal) + (e : EReal) - 1 = (e : EReal) := by
    rw [← EReal.coe_one, ← EReal.coe_add, ← EReal.coe_sub]
    congr 1
    ring
  rw [if_neg h1, if_neg h1, h2, Ideal.div_coe he.ne', ← EReal.coe_mul, mul_one_div_cancel he.ne', EReal.coe_one, mul_one, log_one_add e he,
    ← EReal.coe_zero, coe_max, ← EReal.coe_add, soft, hg]

/-- The reference's. -/
theorem reference_soft (x : ℝ) :
    max (x : EReal) 0 + Ideal.log1p (Ideal.exp (-(FloatOps.absf (F := Ideal) (φ := .f32) (x : EReal) : EReal))) = ((soft x : ℝ) : EReal) := by
  rw [Ideal.log1p, ← zero_sub, small_coe, log_one_add _ (Real.exp_pos _), ← EReal.coe_zero, coe_max, ← EReal.coe_add, soft]

theorem one_add_pos (x : ℝ) : 0 < 1 + Real.exp x := add_pos one_pos (Real.exp_pos x)

theorem kernel_gate (x : ℝ) : Ideal.div 1 (1 + Ideal.exp (0 - (x : EReal))) = ((gate x : ℝ) : EReal) := by
  rw [zero_sub, ← EReal.coe_neg, Ideal.exp_coe, ← EReal.coe_one, ← EReal.coe_add, Ideal.div_coe (one_add_pos (-x)).ne', ← EReal.coe_mul, one_mul, gate]

theorem exp_sub_soft (x : ℝ) : Real.exp (x - soft x) = gate x := by
  have h := one_add_pos (-|x|)
  rw [soft, gate, ← sub_sub, Real.exp_sub, Real.exp_log h]
  rcases le_total 0 x with hx | hx
  · rw [max_eq_left hx, abs_of_nonneg hx, sub_self, Real.exp_zero]
  · rw [max_eq_right hx, abs_of_nonpos hx, sub_zero, neg_neg, div_eq_div_iff (one_add_pos x).ne' (one_add_pos (-x)).ne', mul_add, ← Real.exp_add]
    simp [add_comm]

/-- The derivative, as the reference has it. -/
theorem reference_gate (x : ℝ) : Ideal.exp ((x : EReal) - ((soft x : ℝ) : EReal)) = ((gate x : ℝ) : EReal) := by
  rw [← EReal.coe_sub, Ideal.exp_coe, exp_sub_soft]

theorem coe_sum {n : ℕ} (f : Fin n → ℝ) : ∑ i, (f i : EReal) = ((∑ i, f i : ℝ) : EReal) := by
  induction n with
  | zero => simp
  | succ n ih => rw [Fin.sum_univ_succ, Fin.sum_univ_succ, ih, EReal.coe_add]

theorem exists_real (x : Ideal .f32) (h : x = ((EReal.toReal x : ℝ) : EReal)) : ∃ r : ℝ, x = (r : EReal) := ⟨_, h⟩

end Hgrn.Soft

end
-- ==== Proof.GdnGatesGrad.lean ====
/- The gradient through the gates of the first recurrence: where the entries are real numbers the kernel's softplus and its derivative are
   the reference's, and what is gathered block by block is the reference's sum over all the rows. -/
module

public import Idealize.ShloMosaic.Lib.Pipeline.ValueKit
public import proofs.«01_k».proof.Defs
public import proofs.«01_k».proof.Proof.Gen.GdnGatesGrad
public import proofs.«01_k».proof.Proof.Gen.GdnGatesGradIdeal.Value
public import proofs.«01_k».proof.Proof.Gen.GdnGatesGradRefIdeal.Read
public import proofs.«01_k».proof.Proof.Product
public import proofs.«01_k».proof.Proof.Softplus
public import proofs.«01_k».proof.Proof.Gen.Pre_gates_finite

@[expose] public section

set_option maxRecDepth 16384

noncomputable section

namespace Hgrn.GdnGatesGrad

open Idealize.ShloMosaic Idealize.ShloMosaic.TcCoe Idealize.ShloMosaic.Tactic Idealize.SL.Sem Cert.GdnGatesGradIdeal Cert.GdnGatesGradIdeal.Gen Cert.GdnGatesGradIdeal.Value
open Cert.GdnGatesGradRefIdeal.Read

variable (m : (ℓ : Loc nD τ sig) → Buf (Elt Ideal) ℓ) (c : Dev nD)

/-! ## What a point leaves -/

/-- The first half of a block's columns. -/
def low (x : Vec Ideal S512x256 .f32) : Vec Ideal S512x128 .f32 := View.ld x (Rect.unit (s := S512x256) ![0, 0] S512x128.size inb_S512x256_S512x128_0_0)

/-- The second half. -/
def high (x : Vec Ideal S512x256 .f32) : Vec Ideal S512x128 .f32 := View.ld x (Rect.unit (s := S512x256) ![0, 128] S512x128.size inb_S512x256_S512x128_0_128)

theorem low_at (x : Vec Ideal S512x256 .f32) (a : Fin 512) (b : Fin 128) : low x (ix2 a b) = x (ix2 a ⟨b.val, by omega⟩) := by
  unfold low
  pointwise

theorem high_at (x : Vec Ideal S512x256 .f32) (a : Fin 512) (b : Fin 128) : high x (ix2 a b) = x (ix2 a ⟨128 + b.val, by omega⟩) := by
  unfold high
  pointwise

theorem left_6_first (t : Fin cfg0.N) (h : t.val % 8 = 0) :
    (outsAt0 m c t.val t.isLt).2.1 = k0_pay10 (k0_pay3 (low (iblk m c 0 t)) (iblk m c 2 t)) (k0_pay4 (iblk m c 1 t)) (iblk m c 3 t) (k0_pay1 (F := Ideal)) := by
  rw [outsAt0_A m c t h]
  frame_out
  rfl

theorem left_6_next (t : Fin cfg0.N) (h : ¬t.val % 8 = 0) :
    (outsAt0 m c t.val t.isLt).2.1 = k0_pay10 (k0_pay3 (low (iblk m c 0 t)) (iblk m c 2 t)) (k0_pay4 (iblk m c 1 t)) (iblk m c 3 t)
      (outsAt0 m c (t.val - 1) (Nat.lt_of_le_of_lt (Nat.sub_le _ _) t.isLt)).2.1 := by
  rw [outsAt0_B m c t h]
  frame_out
  rfl

theorem left_7_first (t : Fin cfg0.N) (h : t.val % 8 = 0) :
    (outsAt0 m c t.val t.isLt).2.2 = k0_pay11 (k0_pay5 (low (iblk m c 0 t)) (iblk m c 2 t) (iblk m c 1 t) (iblk m c 3 t)) (k0_pay2 (F := Ideal)) := by
  rw [outsAt0_A m c t h]
  frame_out
  rfl

theorem left_7_next (t : Fin cfg0.N) (h : ¬t.val % 8 = 0) :
    (outsAt0 m c t.val t.isLt).2.2 = k0_pay11 (k0_pay5 (low (iblk m c 0 t)) (iblk m c 2 t) (iblk m c 1 t) (iblk m c 3 t))
      (outsAt0 m c (t.val - 1) (Nat.lt_of_le_of_lt (Nat.sub_le _ _) t.isLt)).2.2 := by
  rw [outsAt0_B m c t h]
  frame_out
  rfl

/-! ## The elements of a block -/

section block
variable (x0 : Vec Ideal S512x128 .f32) (x2 x1 : Vec Ideal S1x128 .f32) (x3 x4 : Vec Ideal S512x128 .f32) (b : Fin 128) (u d : Fin 512 → ℝ) (w r : ℝ)
  (h0 : ∀ a, x0 (ix2 a b) = (u a : EReal)) (h2 : x2 (ix2 0 b) = (w : EReal)) (h1 : x1 (ix2 0 b) = (r : EReal)) (h3 : ∀ a, x3 (ix2 a b) = (d a : EReal))
include h0 h2 h1 h3

theorem step_at (a : Fin 512) : k0_pay5 (F := Ideal) x0 x2 x1 x3 (ix2 a b) = ((d a * -Real.exp r * Soft.gate (u a + w) : ℝ) : EReal) := by
  pointwise [k0_pay5, k0_pay4, k0_pay3]
  rw [h0, h1, h2, h3, ← EReal.coe_add, Soft.kernel_gate, Ideal.exp_coe, zero_sub, ← EReal.coe_neg, ← EReal.coe_mul, ← EReal.coe_mul]

theorem first_at (a : Fin 512) : k0_pay7 (F := Ideal) x0 x2 x1 x3 (ix2 a b) = ((d a * -Real.exp r * Soft.gate (u a + w) : ℝ) : EReal) := by
  rw [← step_at x0 x2 x1 x3 b u d w r h0 h2 h1 h3]
  pointwise [k0_pay7]

theorem logs_at (x6 : Vec Ideal S1x128 .f32) : k0_pay10 (F := Ideal) (k0_pay3 x0 x2) (k0_pay4 x1) x3 x6 (ix2 0 b)
    = x6 (ix2 0 b) + ∑ a, ((d a * -Real.exp r * Soft.soft (u a + w) : ℝ) : EReal) := by
  pointwise [k0_pay10, k0_pay4, k0_pay3]
  refine congrArg (fun q : EReal => _ + q) (Finset.sum_congr rfl fun a _ => ?_)
  rw [h0, h1, h2, h3, ← EReal.coe_add, Soft.kernel_soft, Ideal.exp_coe, zero_sub, ← EReal.coe_neg, ← EReal.coe_mul, ← EReal.coe_mul]

theorem biases_at (x7 : Vec Ideal S1x128 .f32) : k0_pay11 (F := Ideal) (k0_pay5 x0 x2 x1 x3) x7 (ix2 0 b)
    = x7 (ix2 0 b) + ∑ a, ((d a * -Real.exp r * Soft.gate (u a + w) : ℝ) : EReal) := by
  rw [Finset.sum_congr rfl fun a _ => (step_at x0 x2 x1 x3 b u d w r h0 h2 h1 h3 a).symm]
  generalize k0_pay5 (F := Ideal) x0 x2 x1 x3 = p
  pointwise [k0_pay11]

end block

theorem second_at (x0 x4 : Vec Ideal S512x128 .f32) (a : Fin 512) (b : Fin 128) : k0_pay9 (F := Ideal) (k0_pay6 (F := Ideal) x0) (k0_pay8 x0 x4) (ix2 a b)
    = x4 (ix2 a b) * Ideal.div 1 (1 + Ideal.exp (0 - x0 (ix2 a b))) * (1 - Ideal.div 1 (1 + Ideal.exp (0 - x0 (ix2 a b)))) := by
  pointwise [k0_pay9, k0_pay8, k0_pay6]

theorem zero_6_at (b : Fin 128) : k0_pay1 (F := Ideal) (ix2 0 b) = 0 := by
  pointwise [k0_pay1]

theorem zero_7_at (b : Fin 128) : k0_pay2 (F := Ideal) (ix2 0 b) = 0 := by
  pointwise [k0_pay2]

/-! ## The reference's elements -/

/-- The entries the gates read are real numbers. -/
structure Held (x0 : FVec Ideal S4096x256 .f32) (x1 x2 : FVec Ideal S1x128 .f32) (x3 : FVec Ideal S4096x128 .f32)
    (u : Fin 4096 → Fin 128 → ℝ) (r w : Fin 128 → ℝ) (d : Fin 4096 → Fin 128 → ℝ) : Prop where
  ab : ∀ i (j : Fin 128), x0 (ix2 i ⟨j.val, by omega⟩) = (u i j : EReal)
  rate : ∀ j, x1 (ix2 0 j) = (r j : EReal)
  bias : ∀ j, x2 (ix2 0 j) = (w j : EReal)
  dg : ∀ i j, x3 (ix2 i j) = (d i j : EReal)

section reference
variable {x0 : FVec Ideal S4096x256 .f32} {x1 x2 : FVec Ideal S1x128 .f32} {x3 : FVec Ideal S4096x128 .f32} (x4 : FVec Ideal S4096x128 .f32)
  {u : Fin 4096 → Fin 128 → ℝ} {r w : Fin 128 → ℝ} {d : Fin 4096 → Fin 128 → ℝ} (H : Held x0 x1 x2 x3 u r w d)
include H

theorem soft_at (i : Fin 4096) (j : Fin 128) : val_main_v6_0 (F := Ideal) x0 x2 (ix2 i j) = ((Soft.soft (u i j + w j) : ℝ) : EReal) := by
  unfold val_main_v6_0 val_main_call0_v11 val_main_call0_v10 val_main_call0_v9 val_main_call0_v8 val_main_call0_v7 val_main_call0_v6 val_main_call0_v5 val_main_call0_v4 val_main_call0_v3 val_main_call0_v2 val_main_call0_v1 val_main_call0_v0 val_main_v5 val_main_v4 val_main_v0 val_main_call0_cst
  pointwise
  rw [H.ab, H.bias, ← EReal.coe_add, Soft.reference_soft]
  simp

theorem gate_at (i : Fin 4096) (j : Fin 128) : val_main_v6_1 (F := Ideal) x0 x2 (ix2 i j) = ((Soft.gate (u i j + w j) : ℝ) : EReal) := by
  have hs := soft_at H i j
  generalize hd : val_main_v6_0 (F := Ideal) x0 x2 = s at hs
  unfold val_main_v6_1 val_main_call0_v21 val_main_call0_v20 val_main_call0_v19 val_main_call0_v18 val_main_call0_v17 val_main_call0_v16 val_main_call0_v15 val_main_call0_v14 val_main_call0_v13
  rw [hd]
  unfold val_main_v5 val_main_v4 val_main_v0 val_main_call0_cst_0 val_main_call0_cst_1 val_main_call0_cst_2 val_main_call0_cst_3
  pointwise
  rw [hs, H.ab, H.bias, ← EReal.coe_add, high_word, if_neg (EReal.coe_ne_top _), if_neg (EReal.coe_ne_top _), Soft.reference_gate]

theorem row_at (i : Fin 4096) (j : Fin 128) : val_main_v24 (F := Ideal) x0 x1 x2 x3 (ix2 i j) = ((d i j * -Real.exp (r j) * Soft.gate (u i j + w j) : ℝ) : EReal) := by
  have hs := gate_at H i j
  generalize hd : val_main_v6_1 (F := Ideal) x0 x2 = s at hs
  unfold val_main_v24
  rw [hd]
  unfold val_main_v20 val_main_v19 val_main_v3 val_main_v2
  pointwise
  rw [hs, H.rate, H.dg, Ideal.exp_coe, ← EReal.coe_neg, ← EReal.coe_mul, ← EReal.coe_mul, mul_comm (d i j)]

theorem bias_at (j : Fin 128) : val_main_v26 (F := Ideal) x0 x1 x2 x3 (ix2 0 j) = ∑ i, ((d i j * -Real.exp (r j) * Soft.gate (u i j + w j) : ℝ) : EReal) := by
  rw [Finset.sum_congr rfl fun i _ => (row_at H i j).symm]
  generalize hd : val_main_v24 (F := Ideal) x0 x1 x2 x3 = s
  unfold val_main_v26 val_main_v25
  rw [hd]
  unfold val_main_cst_3
  pointwise

theorem rate_at (j : Fin 128) : val_main_v28 (F := Ideal) x0 x1 x2 x3 (ix2 0 j) = ∑ i, ((d i j * -Real.exp (r j) * Soft.soft (u i j + w j) : ℝ) : EReal) := by
  have hs := fun i => soft_at H i j
  generalize hd : val_main_v6_0 (F := Ideal) x0 x2 = s at hs
  unfold val_main_v28 val_main_v27 val_main_v23 val_main_v22 val_main_v21
  rw [hd]
  unfold val_main_v2 val_main_cst_2
  pointwise
  rw [Finset.sum_congr rfl fun i _ => show x3 (ix2 i j) * s (ix2 i j) = ((d i j * Soft.soft (u i j + w j) : ℝ) : EReal) by rw [hs, H.dg, EReal.coe_mul],
    H.rate, Ideal.exp_coe, Soft.coe_sum, Soft.coe_sum, ← EReal.coe_neg, ← EReal.coe_mul, ← Finset.sum_neg_distrib, Finset.sum_mul]
  exact congrArg _ (Finset.sum_congr rfl fun i _ => by ring)

theorem reference_first (i : Fin 4096) (j : Fin 128) : val_main_v30 (F := Ideal) x0 x1 x2 x3 x4 (ix2 i ⟨j.val, by omega⟩)
    = ((d i j * -Real.exp (r j) * Soft.gate (u i j + w j) : ℝ) : EReal) := by
  rw [← row_at H]
  generalize hd : val_main_v24 (F := Ideal) x0 x1 x2 x3 = s
  unfold val_main_v30 val_main_v29
  rw [hd]
  generalize val_main_v18 (F := Ideal) x0 x4 = s'
  pointwise

end reference

theorem reference_second (x0 : FVec Ideal S4096x256 .f32) (x1 x2 : FVec Ideal S1x128 .f32) (x3 x4 : FVec Ideal S4096x128 .f32) (i : Fin 4096) (j : Fin 128) :
    val_main_v30 (F := Ideal) x0 x1 x2 x3 x4 (ix2 i ⟨128 + j.val, by omega⟩)
      = x4 (ix2 i j) * Ideal.div 1 (1 + Ideal.exp (0 - x0 (ix2 i ⟨128 + j.val, by omega⟩)))
        * (1 - Ideal.div 1 (1 + Ideal.exp (0 - x0 (ix2 i ⟨128 + j.val, by omega⟩)))) := by
  have e : val_main_v18 (F := Ideal) x0 x4 (ix2 i j) = x4 (ix2 i j) * Ideal.div 1 (1 + Ideal.exp (0 - x0 (ix2 i ⟨128 + j.val, by omega⟩)))
        * (1 - Ideal.div 1 (1 + Ideal.exp (0 - x0 (ix2 i ⟨128 + j.val, by omega⟩)))) := by
    rw [zero_sub, mul_assoc]
    unfold val_main_v18 val_main_v17 val_main_v16 val_main_v15 val_main_v14 val_main_v13 val_main_v12 val_main_v11 val_main_v10 val_main_v9 val_main_v1 val_main_cst val_main_cst_0 val_main_cst_1
    pointwise
  rw [← e]
  unfold val_main_v30 val_main_v29
  generalize val_main_v18 (F := Ideal) x0 x4 = s'
  generalize val_main_v24 (F := Ideal) x0 x1 x2 x3 = s
  pointwise

/-! ## The blocks -/

theorem index_0 : ∀ t : Fin cfg0.N, win0_0.index t = ![t.val, 0] := (by decide +kernel : ∀ t : Fin grid0.N, win0_0.index t = ![t.val, 0])
theorem index_1 : ∀ t : Fin cfg0.N, win0_1.index t = ![0, 0] := (by decide +kernel : ∀ t : Fin grid0.N, win0_1.index t = ![0, 0])
theorem index_2 : ∀ t : Fin cfg0.N, win0_2.index t = ![0, 0] := (by decide +kernel : ∀ t : Fin grid0.N, win0_2.index t = ![0, 0])
theorem index_3 : ∀ t : Fin cfg0.N, win0_3.index t = ![t.val, 0] := (by decide +kernel : ∀ t : Fin grid0.N, win0_3.index t = ![t.val, 0])
theorem index_4 : ∀ t : Fin cfg0.N, win0_4.index t = ![t.val, 0] := (by decide +kernel : ∀ t : Fin grid0.N, win0_4.index t = ![t.val, 0])
theorem index_5 : ∀ t : Fin cfg0.N, win0_5.index t = ![t.val, 0] := (by decide +kernel : ∀ t : Fin grid0.N, win0_5.index t = ![t.val, 0])
theorem index_6 : ∀ t : Fin cfg0.N, win0_6.index t = ![0, 0] := (by decide +kernel : ∀ t : Fin grid0.N, win0_6.index t = ![0, 0])
theorem index_7 : ∀ t : Fin cfg0.N, win0_7.index t = ![0, 0] := (by decide +kernel : ∀ t : Fin grid0.N, win0_7.index t = ![0, 0])

theorem lt_points (t : Fin cfg0.N) : t.val < 8 := lt_of_lt_of_eq t.isLt (by decide +kernel)

/-- The row of an element of a block. -/
def row (t : Fin cfg0.N) (a : Fin 512) : Fin 4096 := ⟨512 * t.val + a.val, by have := lt_points t; omega⟩

theorem iblk_0 (t : Fin cfg0.N) (a : Fin 512) (b : Fin 256) : iblk m c 0 t (ix2 a b) = (m ((c : Thread nD τ).loc main_arg0)) (ix2 (row t a) b) := by
  rw [← V_main_arg0 m c]
  blk_ext [iblk, row, index_0 t]

theorem iblk_1 (t : Fin cfg0.N) (b : Fin 128) : iblk m c 1 t (ix2 0 b) = (m ((c : Thread nD τ).loc main_arg1)) (ix2 0 b) := by
  rw [← V_main_arg1 m c]
  blk_ext [iblk, index_1 t]

theorem iblk_2 (t : Fin cfg0.N) (b : Fin 128) : iblk m c 2 t (ix2 0 b) = (m ((c : Thread nD τ).loc main_arg2)) (ix2 0 b) := by
  rw [← V_main_arg2 m c]
  blk_ext [iblk, index_2 t]

theorem iblk_3 (t : Fin cfg0.N) (a : Fin 512) (b : Fin 128) : iblk m c 3 t (ix2 a b) = (m ((c : Thread nD τ).loc main_arg3)) (ix2 (row t a) b) := by
  rw [← V_main_arg3 m c]
  blk_ext [iblk, row, index_3 t]

theorem iblk_4 (t : Fin cfg0.N) (a : Fin 512) (b : Fin 128) : iblk m c 4 t (ix2 a b) = (m ((c : Thread nD τ).loc main_arg4)) (ix2 (row t a) b) := by
  rw [← V_main_arg4 m c]
  blk_ext [iblk, row, index_4 t]

theorem emb_5 (t : Fin cfg0.N) (a : Fin 512) (b : Fin 256) : (win0_5.blk t).view.emb (ix2 a b) = ix2 (row t a) b := by
  blk_ext [row, index_5 t]

theorem emb_6 (t : Fin cfg0.N) (b : Fin 128) : (win0_6.blk t).view.emb (ix2 0 b) = ix2 0 b := by
  blk_ext [index_6 t]

theorem emb_7 (t : Fin cfg0.N) (b : Fin 128) : (win0_7.blk t).view.emb (ix2 0 b) = ix2 0 b := by
  blk_ext [index_7 t]

section held
variable {u : Fin 4096 → Fin 128 → ℝ} {r w : Fin 128 → ℝ} {d : Fin 4096 → Fin 128 → ℝ}
  (H : Held (m ((c : Thread nD τ).loc main_arg0)) (m ((c : Thread nD τ).loc main_arg1)) (m ((c : Thread nD τ).loc main_arg2)) (m ((c : Thread nD τ).loc main_arg3)) u r w d)
include H

theorem low_held (t : Fin cfg0.N) (b : Fin 128) (a : Fin 512) : low (iblk m c 0 t) (ix2 a b) = (u (row t a) b : EReal) :=
  (low_at _ a b).trans ((iblk_0 m c t a _).trans (H.ab _ b))

theorem bias_held (t : Fin cfg0.N) (b : Fin 128) : iblk m c 2 t (ix2 0 b) = (w b : EReal) := (iblk_2 m c t b).trans (H.bias b)

theorem rate_held (t : Fin cfg0.N) (b : Fin 128) : iblk m c 1 t (ix2 0 b) = (r b : EReal) := (iblk_1 m c t b).trans (H.rate b)

theorem dg_held (t : Fin cfg0.N) (b : Fin 128) (a : Fin 512) : iblk m c 3 t (ix2 a b) = (d (row t a) b : EReal) := (iblk_3 m c t a b).trans (H.dg _ b)

/-! ## The gradient of the product's columns -/

theorem point_first (t : Fin cfg0.N) (a : Fin 512) (b : Fin 128) : k0_pay7 (F := Ideal) (low (iblk m c 0 t)) (iblk m c 2 t) (iblk m c 1 t) (iblk m c 3 t) (ix2 a b)
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t a) ⟨b.val, by omega⟩) :=
  (first_at _ _ _ _ b _ _ _ _ (low_held m c H t b) (bias_held m c H t b) (rate_held m c H t b) (dg_held m c H t b) a).trans (reference_first _ H (row t a) b).symm

omit H in
theorem point_second (t : Fin cfg0.N) (a : Fin 512) (b : Fin 128) : k0_pay9 (F := Ideal) (k0_pay6 (F := Ideal) (high (iblk m c 0 t))) (k0_pay8 (high (iblk m c 0 t)) (iblk m c 4 t)) (ix2 a b)
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t a) ⟨128 + b.val, by omega⟩) := by
  rw [second_at, reference_second, high_at, iblk_0, iblk_4]

theorem point_5 (t : Fin cfg0.N) (y : S512x256.Idx) : (outsAt0 m c t.val t.isLt).1 y
    = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t (y 0)) (y 1)) := by
  by_cases h : t.val % 8 = 0
  · rw [outsAt0_A m c t h]
    frame_out
    canon_tiles x
    case piece0 => exact (congrArg _ (eq_ix2 x)).trans ((point_second m c t (x 0) (x 1)).trans (congrArg _ (congrArg₂ ix2 (congrArg _ (Fin.ext h0.symm)) (Fin.ext h1.symm))))
    case piece1 => exact (congrArg _ (eq_ix2 x)).trans ((point_first m c H t (x 0) (x 1)).trans (congrArg _ (congrArg₂ ix2 (congrArg _ (Fin.ext h0.symm)) (Fin.ext h1.symm))))
  · rw [outsAt0_B m c t h]
    frame_out
    canon_tiles x
    case piece0 => exact (congrArg _ (eq_ix2 x)).trans ((point_second m c t (x 0) (x 1)).trans (congrArg _ (congrArg₂ ix2 (congrArg _ (Fin.ext h0.symm)) (Fin.ext h1.symm))))
    case piece1 => exact (congrArg _ (eq_ix2 x)).trans ((point_first m c H t (x 0) (x 1)).trans (congrArg _ (congrArg₂ ix2 (congrArg _ (Fin.ext h0.symm)) (Fin.ext h1.symm))))

theorem array_5 : (dats m 0 c).arrAt 5 cfg0.N = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  exact (point_5 m c H t y).trans (congrArg _ ((emb_5 t (y 0) (y 1)).symm.trans (congrArg _ (eq_ix2 y).symm)))

/-! ## The gradient of the rates -/

omit H in
/-- What the rows of one block give. -/
def rates (u : Fin 4096 → Fin 128 → ℝ) (r w : Fin 128 → ℝ) (d : Fin 4096 → Fin 128 → ℝ) (b : Fin 128) (s : Fin 8) : EReal :=
  ∑ a : Fin 512, ((d ⟨512 * s.val + a.val, by omega⟩ b * -Real.exp (r b) * Soft.soft (u ⟨512 * s.val + a.val, by omega⟩ b + w b) : ℝ) : EReal)

theorem rates_first (b : Fin 128) (t : Fin cfg0.N) (h : t.val % 8 = 0) (s : Fin 8) (hs : s.val = t.val) :
    (outsAt0 m c t.val t.isLt).2.1 (ix2 0 b) = rates u r w d b s := by
  have hr : ∀ a : Fin 512, (⟨512 * s.val + a.val, by omega⟩ : Fin 4096) = row t a := fun a => Fin.ext (by show 512 * s.val + a.val = 512 * t.val + a.val; rw [hs])
  rw [left_6_first m c t h, logs_at _ _ _ _ b _ _ _ _ (low_held m c H t b) (bias_held m c H t b) (rate_held m c H t b) (dg_held m c H t b), zero_6_at, zero_add]
  exact Finset.sum_congr rfl fun a _ => by rw [hr a]

theorem rates_next (b : Fin 128) (t : Fin cfg0.N) (h : ¬t.val % 8 = 0) (s : Fin 8) (hs : s.val = t.val) :
    (outsAt0 m c t.val t.isLt).2.1 (ix2 0 b) = (outsAt0 m c (t.val - 1) (Nat.lt_of_le_of_lt (Nat.sub_le _ _) t.isLt)).2.1 (ix2 0 b) + rates u r w d b s := by
  have hr : ∀ a : Fin 512, (⟨512 * s.val + a.val, by omega⟩ : Fin 4096) = row t a := fun a => Fin.ext (by show 512 * s.val + a.val = 512 * t.val + a.val; rw [hs])
  rw [left_6_next m c t h, logs_at _ _ _ _ b _ _ _ _ (low_held m c H t b) (bias_held m c H t b) (rate_held m c H t b) (dg_held m c H t b)]
  exact congrArg (fun q : EReal => _ + q) (Finset.sum_congr rfl fun a _ => by rw [hr a])

/-- After point `n` the buffer holds the sum over the blocks up to that one. -/
theorem rates_gathered (b : Fin 128) : ∀ (n : ℕ) (hn : n < cfg0.N) (h8 : n + 1 ≤ 8),
    (outsAt0 m c n hn).2.1 (ix2 0 b) = ∑ s : Fin (n + 1), rates u r w d b (Fin.castLE h8 s)
  | 0, hn, h8 => by
      rw [Fin.sum_univ_one]
      exact rates_first m c H b ⟨0, hn⟩ rfl _ rfl
  | n + 1, hn, h8 => by
      rw [Fin.sum_univ_castSucc]
      exact (rates_next m c H b ⟨n + 1, hn⟩ (by show ¬(n + 1) % 8 = 0; omega) (Fin.castLE h8 (Fin.last (n + 1))) rfl).trans
        (congrArg (fun q : EReal => q + _) (rates_gathered b n (Nat.lt_of_succ_lt hn) (Nat.le_of_succ_le h8)))

theorem rates_all (b : Fin 128) (t : Fin cfg0.N) (h : t.val = 7) :
    (outsAt0 m c t.val t.isLt).2.1 (ix2 0 b) = val_main_v28 (F := Ideal) (m ((c : Thread nD τ).loc main_arg0)) (m ((c : Thread nD τ).loc main_arg1)) (m ((c : Thread nD τ).loc main_arg2)) (m ((c : Thread nD τ).loc main_arg3)) (ix2 0 b) := by
  obtain ⟨n, hn⟩ := t
  obtain rfl : n = 7 := h
  rw [rate_at H, sum_blocks 8 512 4096 (by norm_num)]
  exact rates_gathered m c H b 7 hn le_rfl

theorem array_6 : (dats m 0 c).arrAt 6 cfg0.N = val_main_v28 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  have ht : t.val = 7 := by have := (flush0_6 t).mp hf; have := lt_points t; omega
  have hy : y = ix2 0 (y 1) := (eq_ix2 y).trans (congrArg (fun q => ix2 q (y 1)) (Fin.ext (by have : (y 0).val < 1 := (y 0).isLt; show (y 0).val = 0; omega)))
  exact (congrArg _ hy).trans ((rates_all m c H (y 1) t ht).trans
    (congrArg _ ((emb_6 t (y 1)).symm.trans (congrArg _ hy.symm))))

/-! ## The gradient of the biases -/

omit H in
/-- What the rows of one block give. -/
def biases (u : Fin 4096 → Fin 128 → ℝ) (r w : Fin 128 → ℝ) (d : Fin 4096 → Fin 128 → ℝ) (b : Fin 128) (s : Fin 8) : EReal :=
  ∑ a : Fin 512, ((d ⟨512 * s.val + a.val, by omega⟩ b * -Real.exp (r b) * Soft.gate (u ⟨512 * s.val + a.val, by omega⟩ b + w b) : ℝ) : EReal)

theorem biases_first (b : Fin 128) (t : Fin cfg0.N) (h : t.val % 8 = 0) (s : Fin 8) (hs : s.val = t.val) :
    (outsAt0 m c t.val t.isLt).2.2 (ix2 0 b) = biases u r w d b s := by
  have hr : ∀ a : Fin 512, (⟨512 * s.val + a.val, by omega⟩ : Fin 4096) = row t a := fun a => Fin.ext (by show 512 * s.val + a.val = 512 * t.val + a.val; rw [hs])
  rw [left_7_first m c t h, biases_at _ _ _ _ b _ _ _ _ (low_held m c H t b) (bias_held m c H t b) (rate_held m c H t b) (dg_held m c H t b), zero_7_at, zero_add]
  exact Finset.sum_congr rfl fun a _ => by rw [hr a]

theorem biases_next (b : Fin 128) (t : Fin cfg0.N) (h : ¬t.val % 8 = 0) (s : Fin 8) (hs : s.val = t.val) :
    (outsAt0 m c t.val t.isLt).2.2 (ix2 0 b) = (outsAt0 m c (t.val - 1) (Nat.lt_of_le_of_lt (Nat.sub_le _ _) t.isLt)).2.2 (ix2 0 b) + biases u r w d b s := by
  have hr : ∀ a : Fin 512, (⟨512 * s.val + a.val, by omega⟩ : Fin 4096) = row t a := fun a => Fin.ext (by show 512 * s.val + a.val = 512 * t.val + a.val; rw [hs])
  rw [left_7_next m c t h, biases_at _ _ _ _ b _ _ _ _ (low_held m c H t b) (bias_held m c H t b) (rate_held m c H t b) (dg_held m c H t b)]
  exact congrArg (fun q : EReal => _ + q) (Finset.sum_congr rfl fun a _ => by rw [hr a])

/-- After point `n` the buffer holds the sum over the blocks up to that one. -/
theorem biases_gathered (b : Fin 128) : ∀ (n : ℕ) (hn : n < cfg0.N) (h8 : n + 1 ≤ 8),
    (outsAt0 m c n hn).2.2 (ix2 0 b) = ∑ s : Fin (n + 1), biases u r w d b (Fin.castLE h8 s)
  | 0, hn, h8 => by
      rw [Fin.sum_univ_one]
      exact biases_first m c H b ⟨0, hn⟩ rfl _ rfl
  | n + 1, hn, h8 => by
      rw [Fin.sum_univ_castSucc]
      exact (biases_next m c H b ⟨n + 1, hn⟩ (by show ¬(n + 1) % 8 = 0; omega) (Fin.castLE h8 (Fin.last (n + 1))) rfl).trans
        (congrArg (fun q : EReal => q + _) (biases_gathered b n (Nat.lt_of_succ_lt hn) (Nat.le_of_succ_le h8)))

theorem biases_all (b : Fin 128) (t : Fin cfg0.N) (h : t.val = 7) :
    (outsAt0 m c t.val t.isLt).2.2 (ix2 0 b) = val_main_v26 (F := Ideal) (m ((c : Thread nD τ).loc main_arg0)) (m ((c : Thread nD τ).loc main_arg1)) (m ((c : Thread nD τ).loc main_arg2)) (m ((c : Thread nD τ).loc main_arg3)) (ix2 0 b) := by
  obtain ⟨n, hn⟩ := t
  obtain rfl : n = 7 := h
  rw [bias_at H, sum_blocks 8 512 4096 (by norm_num)]
  exact biases_gathered m c H b 7 hn le_rfl

theorem array_7 : (dats m 0 c).arrAt 7 cfg0.N = val_main_v26 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  have ht : t.val = 7 := by have := (flush0_7 t).mp hf; have := lt_points t; omega
  have hy : y = ix2 0 (y 1) := (eq_ix2 y).trans (congrArg (fun q => ix2 q (y 1)) (Fin.ext (by have : (y 0).val < 1 := (y 0).isLt; show (y 0).val = 0; omega)))
  exact (congrArg _ hy).trans ((biases_all m c H (y 1) t ht).trans
    (congrArg _ ((emb_7 t (y 1)).symm.trans (congrArg _ hy.symm))))

end held

/-! ## What the precondition says -/

theorem held_of_finite {x0 : FVec Ideal S4096x256 .f32} {x1 x2 : FVec Ideal S1x128 .f32} {x3 x4 : FVec Ideal S4096x128 .f32}
    (H : letI := Cert.Pre_gates_finite.Gen.facts
      (Cert.Pre_gates_finite.fn x0 x1 x2 x3 x4).1 = (fun _ => 1#1)
      ∧ (Cert.Pre_gates_finite.fn x0 x1 x2 x3 x4).2.1 = (fun _ => 1#1)
      ∧ (Cert.Pre_gates_finite.fn x0 x1 x2 x3 x4).2.2.1 = (fun _ => 1#1)
      ∧ (Cert.Pre_gates_finite.fn x0 x1 x2 x3 x4).2.2.2 = (fun _ => 1#1)) :
    ∃ u r w d, Held x0 x1 x2 x3 u r w d := by
  letI := Cert.Pre_gates_finite.Gen.facts
  obtain ⟨ha, hr, hw, hd⟩ := H
  refine ⟨fun i j => (x0 (ix2 i ⟨j.val, by omega⟩) : EReal).toReal, fun j => (x1 (ix2 0 j) : EReal).toReal, fun j => (x2 (ix2 0 j) : EReal).toReal,
    fun i j => (x3 (ix2 i j) : EReal).toReal, ⟨fun i j => ?_, fun j => ?_, fun j => ?_, fun i j => ?_⟩⟩
  · have e := congrFun ha (ix2 i j)
    rw [Cert.Pre_gates_finite.fn] at e
    pointwise at e
    exact real_of_word _ e
  · have e := congrFun hr (ix2 0 j)
    rw [Cert.Pre_gates_finite.fn] at e
    pointwise at e
    exact real_of_word _ e
  · have e := congrFun hw (ix2 0 j)
    rw [Cert.Pre_gates_finite.fn] at e
    pointwise at e
    exact real_of_word _ e
  · have e := congrFun hd (ix2 i j)
    rw [Cert.Pre_gates_finite.fn] at e
    pointwise at e
    exact real_of_word _ e

/-! ## The claims -/

theorem frame_kernel : Cert.quiescent_GdnGatesGrad (hGdnGatesGrad := Cert.GdnGatesGrad.Gen.facts) :=
  fun m ρ _ => by
    refine cast ?_ (Cert.GdnGatesGradIdeal.Gen.frame (F := Bits) m ρ)
    sl_kernel_rfl

theorem frame_ideal : Cert.quiescent_GdnGatesGradIdeal (hGdnGatesGradIdeal := Cert.GdnGatesGradIdeal.Gen.facts) := fun m ρ _ => Cert.GdnGatesGradIdeal.Gen.frame m ρ

theorem frame_ideal_pre : Cert.quiescent_GdnGatesGradIdeal_pre_gates_finite (hGdnGatesGradIdeal := Cert.GdnGatesGradIdeal.Gen.facts)
    (hPre_gates_finite := Cert.Pre_gates_finite.Gen.facts) := fun m ρ _ => Cert.GdnGatesGradIdeal.Gen.frame m ρ

theorem frame_reference : Cert.quiescent_GdnGatesGradRefIdeal (hGdnGatesGradRefIdeal := Cert.GdnGatesGradRefIdeal.Gen.facts) :=
  fun m ρ _ => (θ_run _ _ _).mono (fun r h => ⟨fun c => (h c).2.2.2, sem_eq_zero_of_no_sems (by decide) r.2⟩) (Cert.GdnGatesGradRefIdeal.Value.run m ρ)

theorem frame_reference_pre : Cert.quiescent_GdnGatesGradRefIdeal_pre_gates_finite (hGdnGatesGradRefIdeal := Cert.GdnGatesGradRefIdeal.Gen.facts)
    (hPre_gates_finite := Cert.Pre_gates_finite.Gen.facts) :=
  fun m ρ _ => (θ_run _ _ _).mono (fun r h => ⟨fun c => (h c).2.2.2, sem_eq_zero_of_no_sems (by decide) r.2⟩) (Cert.GdnGatesGradRefIdeal.Value.run m ρ)

/-- From memories that agree on the arguments and hold real numbers in the entries the gates read, both programs end with the same results. -/
theorem algebraic : Cert.algebraic_GdnGatesGradIdeal_GdnGatesGradRefIdeal_pre_gates_finite (hGdnGatesGradIdeal := Cert.GdnGatesGradIdeal.Gen.facts)
    (hGdnGatesGradRefIdeal := Cert.GdnGatesGradRefIdeal.Gen.facts) (hPre_gates_finite := Cert.Pre_gates_finite.Gen.facts) := by
  intro m ρ m' ρ' hp ha
  choose u r w d H using fun c => held_of_finite (hp c)
  refine ⟨_, _, _, (θ_run _ _ _).mono (fun _ h c => ⟨(h c).1.trans (array_5 m c (H c)), (h c).2.1.trans (array_6 m c (H c)), (h c).2.2.1.trans (array_7 m c (H c)), (h c).2.2.2⟩) (run_blocks m ρ),
    (θ_run _ _ _).mono (fun _ h c => ⟨(h c).1.trans ?_, (h c).2.1.trans ?_, (h c).2.2.1.trans ?_, (h c).2.2.2⟩) (Cert.GdnGatesGradRefIdeal.Value.run m' ρ')⟩
  · unfold Cert.GdnGatesGradRefIdeal.Value.res_main_v30
    rw [(ha c).1, (ha c).2.1, (ha c).2.2.1, (ha c).2.2.2.1, (ha c).2.2.2.2]
    rfl
  · rw [(ha c).1, (ha c).2.1, (ha c).2.2.1, (ha c).2.2.2.1]
    rfl
  · unfold Cert.GdnGatesGradRefIdeal.Value.res_main_v26
    rw [(ha c).1, (ha c).2.1, (ha c).2.2.1, (ha c).2.2.2.1]
    rfl

end Hgrn.GdnGatesGrad

end
-- ==== Proof.HgrnPrepGrad.lean ====
/- The gradient through the gates of the second recurrence: where the cotangents and the table of the bounds are real numbers, the kernel's
   derivatives are the reference's, and what is gathered block by block for the table is the reference's sum over all the rows. -/
module

public import Idealize.ShloMosaic.Lib.Pipeline.ValueKit
public import Idealize.ShloMosaic.Lib.Pipeline.ReadBack
public import proofs.«01_k».proof.Defs
public import proofs.«01_k».proof.Proof.Gen.HgrnPrepGrad
public import proofs.«01_k».proof.Proof.Gen.HgrnPrepGradIdeal.Value
public import proofs.«01_k».proof.Proof.Gen.HgrnPrepGradRefIdeal.Read
public import proofs.«01_k».proof.Proof.Product
public import proofs.«01_k».proof.Proof.Softplus
public import proofs.«01_k».proof.Proof.Gen.Pre_prep_finite

@[expose] public section

set_option maxRecDepth 16384

noncomputable section

namespace Hgrn.HgrnPrepGrad

open Idealize.ShloMosaic Idealize.ShloMosaic.TcCoe Idealize.ShloMosaic.Tactic Idealize.SL.Sem Cert.HgrnPrepGradIdeal Cert.HgrnPrepGradIdeal.Gen Cert.HgrnPrepGradIdeal.Value
open Cert.HgrnPrepGradRefIdeal.Read

variable (m : (ℓ : Loc nD τ sig) → Buf (Elt Ideal) ℓ) (c : Dev nD)

/-! ## The logistic function of an extended real -/

/-- The logistic function, a real number at every extended real. -/
def sig01 (x : EReal) : ℝ := (Ideal.div 1 (1 + Ideal.exp (-x))).toReal

theorem sig01_top : Ideal.div 1 (1 + Ideal.exp (-(⊤ : EReal))) = ((1 : ℝ) : EReal) := by
  rw [EReal.neg_top, Ideal.exp_bot, add_zero, ← EReal.coe_one, Ideal.div_coe one_ne_zero, ← EReal.coe_mul, div_one, one_mul]

theorem sig01_bot : Ideal.div 1 (1 + Ideal.exp (-(⊥ : EReal))) = ((0 : ℝ) : EReal) := by
  rw [EReal.neg_bot, Ideal.exp_top, ← EReal.coe_one, EReal.coe_add_top]
  simp [Ideal.div]

theorem sig01_real (r : ℝ) : Ideal.div 1 (1 + Ideal.exp (-(r : EReal))) = ((Soft.gate r : ℝ) : EReal) := by
  rw [← zero_sub, Soft.kernel_gate]

theorem coe_sig01 (x : EReal) : Ideal.div 1 (1 + Ideal.exp (-x)) = ((sig01 x : ℝ) : EReal) := by
  induction x with
  | bot => rw [sig01, sig01_bot, EReal.toReal_coe]
  | top => rw [sig01, sig01_top, EReal.toReal_coe]
  | coe r => rw [sig01, sig01_real, EReal.toReal_coe]

theorem gate_pos (r : ℝ) : 0 < Soft.gate r := div_pos one_pos (Soft.one_add_pos (-r))

theorem gate_lt_one (r : ℝ) : Soft.gate r < 1 := by
  rw [Soft.gate, div_lt_one (Soft.one_add_pos (-r))]
  linarith [Real.exp_pos (-r)]

theorem gate_neg (r : ℝ) : Soft.gate (-r) = 1 - Soft.gate r := by
  have h := Real.exp_pos r
  have h' := Real.exp_pos (-r)
  have e : Real.exp r * Real.exp (-r) = 1 := by rw [← Real.exp_add, add_neg_cancel, Real.exp_zero]
  rw [Soft.gate, Soft.gate, neg_neg]
  field_simp
  linarith

theorem sig01_nonneg (x : EReal) : 0 ≤ sig01 x := by
  induction x with
  | bot => rw [sig01, sig01_bot, EReal.toReal_coe]
  | top => rw [sig01, sig01_top, EReal.toReal_coe]; norm_num
  | coe r => rw [sig01, sig01_real, EReal.toReal_coe]; exact (gate_pos r).le

theorem sig01_neg (x : EReal) : sig01 (-x) = 1 - sig01 x := by
  induction x with
  | bot => rw [EReal.neg_bot, sig01, sig01, sig01_bot, sig01_top, EReal.toReal_coe, EReal.toReal_coe, sub_zero]
  | top => rw [EReal.neg_top, sig01, sig01, sig01_bot, sig01_top, EReal.toReal_coe, EReal.toReal_coe, sub_self]
  | coe r => rw [← EReal.coe_neg, sig01, sig01, sig01_real, sig01_real, EReal.toReal_coe, EReal.toReal_coe, gate_neg]

/-- The derivative of `x` times its logistic function, times a real number, as the kernel and as the reference have it. -/
theorem swish_slope (x : EReal) (d : ℝ) : (d : EReal) * (((sig01 x : ℝ) : EReal) * (1 + x * (1 - ((sig01 x : ℝ) : EReal))))
    = (d : EReal) * ((sig01 x : ℝ) : EReal) + x * (d : EReal) * (((sig01 x : ℝ) : EReal) * (1 - ((sig01 x : ℝ) : EReal))) := by
  induction x with
  | bot =>
    rw [sig01, sig01_bot, EReal.toReal_coe, EReal.coe_zero, zero_mul, zero_mul, mul_zero, mul_zero, add_zero]
  | top =>
    have e : (1 : EReal) - ((1 : ℝ) : EReal) = 0 := by rw [← EReal.coe_one, ← EReal.coe_sub, sub_self, EReal.coe_zero]
    rw [sig01, sig01_top, EReal.toReal_coe, e, mul_zero, mul_zero, mul_zero, add_zero, add_zero, EReal.coe_one, mul_one, mul_one]
  | coe r =>
    generalize sig01 (r : EReal) = s
    rw [show (1 : EReal) = ((1 : ℝ) : EReal) from rfl]
    simp only [← EReal.coe_sub, ← EReal.coe_mul, ← EReal.coe_add]
    congr 1
    ring

/-- What is left of the state: the bound and the rest, gated. -/
def keep (p s : ℝ) : ℝ := p + (1 - p) * s

theorem keep_pos (a : ℝ) (x : EReal) : keep (Soft.gate a) (sig01 x) ≠ 0 := by
  have h := gate_pos a
  have h' := gate_lt_one a
  have hs := sig01_nonneg x
  exact (add_pos_of_pos_of_nonneg h (mul_nonneg (by linarith) hs)).ne'

/-! ## What a point leaves -/

/-- The first row of the table. -/
def upper (x : Vec Ideal S2x1024 .f32) : Vec Ideal S1x1024 .f32 := View.ld x (Rect.unit (s := S2x1024) ![0, 0] S1x1024.size inb_S2x1024_S1x1024_0_0)

/-- The second row. -/
def lower (x : Vec Ideal S2x1024 .f32) : Vec Ideal S1x1024 .f32 := View.ld x (Rect.unit (s := S2x1024) ![1, 0] S1x1024.size inb_S2x1024_S1x1024_1_0)

theorem upper_at (x : Vec Ideal S2x1024 .f32) (b : Fin 1024) : upper x (ix2 0 b) = x (ix2 0 b) := by
  unfold upper
  pointwise

theorem lower_at (x : Vec Ideal S2x1024 .f32) (b : Fin 1024) : lower x (ix2 0 b) = x (ix2 1 b) := by
  unfold lower
  pointwise

theorem stored_lower (w : Vec Ideal S1x1024 .f32) (L : List (View.Piece (Elt Ideal) S2x1024 .f32)) (b : Fin 1024) :
    View.canon (⟨Rect.unit (s := S2x1024) ![1, 0] S1x1024.size inb_S2x1024_S1x1024_1_0, w⟩ :: L) (ix2 1 b) = w (ix2 0 b) := by
  have e : (ix2 1 b : S2x1024.Idx) = (Rect.unit (s := S2x1024) ![1, 0] S1x1024.size inb_S2x1024_S1x1024_1_0).emb (ix2 0 b) := by
    blk_ext
  exact (congrArg _ e).trans (View.canon_cons_emb (Rect.unit (s := S2x1024) ![1, 0] S1x1024.size inb_S2x1024_S1x1024_1_0) w L (ix2 0 b))

theorem stored_upper (w w' : Vec Ideal S1x1024 .f32) (L : List (View.Piece (Elt Ideal) S2x1024 .f32)) (b : Fin 1024) :
    View.canon (⟨Rect.unit (s := S2x1024) ![1, 0] S1x1024.size inb_S2x1024_S1x1024_1_0, w'⟩
      :: ⟨Rect.unit (s := S2x1024) ![0, 0] S1x1024.size inb_S2x1024_S1x1024_0_0, w⟩ :: L) (ix2 0 b) = w (ix2 0 b) := by
  have e : (ix2 0 b : S2x1024.Idx) = (Rect.unit (s := S2x1024) ![0, 0] S1x1024.size inb_S2x1024_S1x1024_0_0).emb (ix2 0 b) := by
    blk_ext
  refine (View.canon_cons_of_not_mem _ _ fun hm => ?_).trans ((congrArg _ e).trans (View.canon_cons_emb (Rect.unit (s := S2x1024) ![0, 0] S1x1024.size inb_S2x1024_S1x1024_0_0) w L (ix2 0 b)))
  obtain ⟨x, hx⟩ := LoadRect.exists_idx_of_mem (Rect.unit (s := S2x1024) ![1, 0] S1x1024.size inb_S2x1024_S1x1024_1_0).toLoadRect hm
  have h0 := congrArg (fun q : S2x1024.Idx => (q 0).val) hx
  have h1 : 1 + 1 * (x 0).val = 0 := h0
  omega

/-- The step of the table that a block gives. -/
def gain (t : Fin cfg0.N) : FVec Ideal S512x1024 .f32 := k0_pay5 (upper (iblk m c 2 t)) (lower (iblk m c 2 t)) (iblk m c 1 t) (iblk m c 5 t) (iblk m c 4 t)

theorem left_6 (t : Fin cfg0.N) : (outsAt0 m c t.val t.isLt).1 = k0_pay7 (iblk m c 3 t) (iblk m c 0 t) (k0_pay6 (F := Ideal)) := by
  by_cases h : t.val % 8 = 0
  · rw [outsAt0_A m c t h]
    frame_out
  · rw [outsAt0_B m c t h]
    frame_out

theorem left_7 (t : Fin cfg0.N) : (outsAt0 m c t.val t.isLt).2.1 = k0_pay8 (k0_pay3 (upper (iblk m c 2 t)) (lower (iblk m c 2 t))) (k0_pay4 (iblk m c 1 t)) (gain m c t) := by
  by_cases h : t.val % 8 = 0
  · rw [outsAt0_A m c t h]
    frame_out
    rfl
  · rw [outsAt0_B m c t h]
    frame_out
    rfl

theorem left_8_upper_first (t : Fin cfg0.N) (h : t.val % 8 = 0) (b : Fin 1024) : (outsAt0 m c t.val t.isLt).2.2 (ix2 0 b)
    = k0_pay10 (k0_pay3 (upper (iblk m c 2 t)) (lower (iblk m c 2 t))) (k0_pay4 (iblk m c 1 t)) (gain m c t) (upper (k0_pay2 (F := Ideal))) (ix2 0 b) := by
  rw [outsAt0_A m c t h]
  frame_out
  refine (stored_upper _ _ _ b).trans ?_
  rw [View.readCov_fill _ _ _ _ _ (by decide)]
  rfl

theorem left_8_lower_first (t : Fin cfg0.N) (h : t.val % 8 = 0) (b : Fin 1024) : (outsAt0 m c t.val t.isLt).2.2 (ix2 1 b)
    = k0_pay1 (k0_pay9 (k0_pay3 (upper (iblk m c 2 t)) (lower (iblk m c 2 t))) (k0_pay4 (iblk m c 1 t)) (gain m c t)) (lower (k0_pay2 (F := Ideal))) (ix2 0 b) := by
  rw [outsAt0_A m c t h]
  frame_out
  refine (stored_lower _ _ b).trans ?_
  rw [View.readCov_skip _ _ _ _ _ (by decide), View.readCov_fill _ _ _ _ _ (by decide)]
  rfl

theorem left_8_upper_next (t : Fin cfg0.N) (h : ¬t.val % 8 = 0) (b : Fin 1024) : (outsAt0 m c t.val t.isLt).2.2 (ix2 0 b)
    = k0_pay10 (k0_pay3 (upper (iblk m c 2 t)) (lower (iblk m c 2 t))) (k0_pay4 (iblk m c 1 t)) (gain m c t)
      (upper (outsAt0 m c (t.val - 1) (Nat.lt_of_le_of_lt (Nat.sub_le _ _) t.isLt)).2.2) (ix2 0 b) := by
  rw [outsAt0_B m c t h]
  frame_out
  exact stored_upper _ _ _ b

theorem left_8_lower_next (t : Fin cfg0.N) (h : ¬t.val % 8 = 0) (b : Fin 1024) : (outsAt0 m c t.val t.isLt).2.2 (ix2 1 b)
    = k0_pay1 (k0_pay9 (k0_pay3 (upper (iblk m c 2 t)) (lower (iblk m c 2 t))) (k0_pay4 (iblk m c 1 t)) (gain m c t))
      (lower (outsAt0 m c (t.val - 1) (Nat.lt_of_le_of_lt (Nat.sub_le _ _) t.isLt)).2.2) (ix2 0 b) := by
  rw [outsAt0_B m c t h]
  frame_out
  exact stored_lower _ _ b

/-! ## The elements of a block -/

section block
variable (u v : Vec Ideal S1x1024 .f32) (f e k : Vec Ideal S512x1024 .f32) (b : Fin 1024) (y z : ℝ) (δ κ : Fin 512 → ℝ)
  (hu : u (ix2 0 b) = (y : EReal)) (hv : v (ix2 0 b) = (z : EReal)) (he : ∀ a, e (ix2 a b) = (δ a : EReal)) (hk : ∀ a, k (ix2 a b) = (κ a : EReal))

include hu hv in
theorem share_at : k0_pay3 (F := Ideal) u v (ix2 0 b) = ((Soft.gate (y - z) : ℝ) : EReal) := by
  pointwise [k0_pay3]
  rw [hu, hv, ← EReal.coe_sub, Soft.kernel_gate]

theorem gate_at (a : Fin 512) : k0_pay4 (F := Ideal) f (ix2 a b) = ((sig01 (f (ix2 a b)) : ℝ) : EReal) := by
  rw [← coe_sig01, ← zero_sub]
  pointwise [k0_pay4]

include hu hv he hk in
theorem gain_at (a : Fin 512) : k0_pay5 (F := Ideal) u v f e k (ix2 a b)
    = ((δ a * (1 / keep (Soft.gate (y - z)) (sig01 (f (ix2 a b)))) - κ a : ℝ) : EReal) := by
  have h3 := share_at u v b y z hu hv
  have h4 := gate_at f b a
  have hp := keep_pos (y - z) (f (ix2 a b))
  generalize h3' : k0_pay3 (F := Ideal) u v = p at h3
  generalize h4' : k0_pay4 (F := Ideal) f = s at h4
  unfold k0_pay5
  rw [h3', h4']
  pointwise
  rw [h3, h4, he, hk, show (1 : EReal) = ((1 : ℝ) : EReal) from rfl, ← EReal.coe_sub, ← EReal.coe_mul, ← EReal.coe_add]
  rw [show Soft.gate (y - z) + (1 - Soft.gate (y - z)) * sig01 (f (ix2 a b)) = keep (Soft.gate (y - z)) (sig01 (f (ix2 a b))) from rfl]
  rw [Ideal.div_coe hp, ← EReal.coe_mul, ← EReal.coe_sub]

end block

section pieces
variable (p : FVec Ideal S1x1024 .f32) (s g : FVec Ideal S512x1024 .f32) (b : Fin 1024) (P : ℝ) (S G : Fin 512 → ℝ)
  (hp : p (ix2 0 b) = (P : EReal)) (hs : ∀ a, s (ix2 a b) = (S a : EReal)) (hg : ∀ a, g (ix2 a b) = (G a : EReal))
include hp hs hg

theorem slope_at (a : Fin 512) : k0_pay8 (F := Ideal) p s g (ix2 a b) = ((S a * (1 - S a) * (1 - P) * G a : ℝ) : EReal) := by
  pointwise [k0_pay8]
  rw [hp, hs, hg, show (1 : EReal) = ((1 : ℝ) : EReal) from rfl]
  simp only [← EReal.coe_sub, ← EReal.coe_mul]

theorem table_at : k0_pay9 (F := Ideal) p s g (ix2 0 b) = ((∑ a, (1 - S a) * G a * (P * (1 - P)) : ℝ) : EReal) := by
  pointwise [k0_pay9]
  rw [Finset.sum_congr rfl fun a _ => show (1 - s (ix2 a b)) * g (ix2 a b) = (((1 - S a) * G a : ℝ) : EReal) by
      rw [hs, hg, show (1 : EReal) = ((1 : ℝ) : EReal) from rfl, ← EReal.coe_sub, ← EReal.coe_mul],
    hp, show (1 : EReal) = ((1 : ℝ) : EReal) from rfl, Soft.coe_sum, ← EReal.coe_sub, ← EReal.coe_mul, ← EReal.coe_mul, Finset.sum_mul]

theorem upper_step (x : Vec Ideal S1x1024 .f32) : k0_pay10 (F := Ideal) p s g x (ix2 0 b) = x (ix2 0 b) + ((∑ a, (1 - S a) * G a * (P * (1 - P)) : ℝ) : EReal) := by
  rw [← table_at p s g b P S G hp hs hg]
  unfold k0_pay10
  generalize k0_pay9 (F := Ideal) p s g = q
  pointwise

theorem lower_step (x : Vec Ideal S1x1024 .f32) : k0_pay1 (F := Ideal) (k0_pay9 (F := Ideal) p s g) x (ix2 0 b)
    = x (ix2 0 b) + ((∑ a, -((1 - S a) * G a * (P * (1 - P))) : ℝ) : EReal) := by
  rw [Finset.sum_neg_distrib, EReal.coe_neg, ← table_at p s g b P S G hp hs hg, ← zero_sub]
  generalize k0_pay9 (F := Ideal) p s g = q
  pointwise [k0_pay1]

end pieces

theorem swish_at (d x : Vec Ideal S512x1024 .f32) (a : Fin 512) (b : Fin 1024) : k0_pay7 (F := Ideal) d x (k0_pay6 (F := Ideal)) (ix2 a b)
    = d (ix2 a b) * (((sig01 (x (ix2 a b)) : ℝ) : EReal) * (1 + x (ix2 a b) * (1 - ((sig01 (x (ix2 a b)) : ℝ) : EReal)))) := by
  rw [← coe_sig01, ← zero_sub]
  pointwise [k0_pay7, k0_pay6]

theorem zero_at (r : Fin 2) (b : Fin 1024) : k0_pay2 (F := Ideal) (ix2 r b) = 0 := by
  pointwise [k0_pay2]

/-! ## The reference's elements -/

/-- The table of the bounds and the cotangents are real numbers. -/
structure Held (x1 : FVec Ideal S2x1024 .f32) (x2 x3 x4 : FVec Ideal S4096x1024 .f32) (l : Fin 2 → Fin 1024 → ℝ) (q k d : Fin 4096 → Fin 1024 → ℝ) : Prop where
  table : ∀ r j, x1 (ix2 r j) = (l r j : EReal)
  dq : ∀ i j, x2 (ix2 i j) = (q i j : EReal)
  dk : ∀ i j, x3 (ix2 i j) = (k i j : EReal)
  df : ∀ i j, x4 (ix2 i j) = (d i j : EReal)

theorem low_word : (Ideal.ofBits .f32 0xFF800000#32 : EReal) = ⊥ := by
  simp [Ideal.ofBits, Ideal.ieee, -EReal.coe_mul]

theorem share_real (y z M : ℝ) : Real.exp (y - M) * (1 / (Real.exp (y - M) + Real.exp (z - M))) = Soft.gate (y - z) := by
  have h := Real.exp_pos (y - M)
  have h' := Real.exp_pos (-(y - z))
  rw [show z - M = (y - M) + -(y - z) by ring, Real.exp_add, Soft.gate]
  field_simp

theorem other_real (y z M : ℝ) : Real.exp (z - M) * (1 / (Real.exp (y - M) + Real.exp (z - M))) = 1 - Soft.gate (y - z) := by
  have h := Real.exp_pos (y - M)
  have h' := Real.exp_pos (z - M)
  rw [← share_real y z M]
  field_simp
  ring

theorem exps_pos (y z M : ℝ) : Real.exp (y - M) + Real.exp (z - M) ≠ 0 := (add_pos (Real.exp_pos _) (Real.exp_pos _)).ne'

/-- The bound. -/
def bound (l : Fin 2 → Fin 1024 → ℝ) (j : Fin 1024) : ℝ := Soft.gate (l 0 j - l 1 j)

/-- The gate's logistic function. -/
def open01 (x0 : FVec Ideal S4096x8192 .f32) (i : Fin 4096) (j : Fin 1024) : ℝ := sig01 (x0 (ix2 i ⟨5120 + j.val, by omega⟩))

/-- What the two cotangents give at an element. -/
def pull (x0 : FVec Ideal S4096x8192 .f32) (l : Fin 2 → Fin 1024 → ℝ) (k d : Fin 4096 → Fin 1024 → ℝ) (i : Fin 4096) (j : Fin 1024) : ℝ :=
  d i j * (1 / keep (bound l j) (open01 x0 i j)) - k i j

section reference
variable (x0 : FVec Ideal S4096x8192 .f32) {x1 : FVec Ideal S2x1024 .f32} {x2 x3 x4 : FVec Ideal S4096x1024 .f32}
  {l : Fin 2 → Fin 1024 → ℝ} {q k d : Fin 4096 → Fin 1024 → ℝ} (H : Held x1 x2 x3 x4 l q k d)

theorem open_at (i : Fin 4096) (j : Fin 1024) : val_main_v39 (F := Ideal) x0 (ix2 i j) = ((open01 x0 i j : ℝ) : EReal) := by
  rw [open01, ← coe_sig01]
  unfold val_main_v39 val_main_v38 val_main_v37 val_main_v36 val_main_v35 val_main_v34 val_main_v1 val_main_cst_10 val_main_cst_11
  pointwise

theorem shut_at (i : Fin 4096) (j : Fin 1024) : val_main_v58 (F := Ideal) x0 (ix2 i j) = ((1 - open01 x0 i j : ℝ) : EReal) := by
  rw [open01, ← sig01_neg, ← coe_sig01]
  unfold val_main_v58 val_main_v57 val_main_v56 val_main_v55 val_main_v54 val_main_v53 val_main_v52 val_main_v1 val_main_cst_14 val_main_cst_15
  pointwise

include H

theorem peak_at (j : Fin 1024) : val_main_v9 (F := Ideal) x1 (ix1 j) = ((max (l 0 j) (l 1 j) : ℝ) : EReal) := by
  unfold val_main_v9 val_main_v8 val_main_v2 val_main_cst val_main_cst_1
  pointwise
  rw [low_word, show (Finset.univ : Finset (Fin 2)) = {0, 1} from rfl, Finset.fold_insert (by decide), Finset.fold_singleton, H.table, H.table]
  simp [Soft.coe_max]

theorem exps_at (r : Fin 2) (j : Fin 1024) : val_main_v22 (F := Ideal) x1 (ix2 r j) = ((Real.exp (l r j - max (l 0 j) (l 1 j)) : ℝ) : EReal) := by
  have h := peak_at H j
  generalize hd : val_main_v9 (F := Ideal) x1 = s at h
  unfold val_main_v22 val_main_v21 val_main_v20 val_main_v19
  rw [hd]
  pointwise
  rw [h, H.table, ← EReal.coe_sub, Ideal.exp_coe]

theorem total_at (j : Fin 1024) : val_main_v23 (F := Ideal) x1 (ix1 j)
    = ((Real.exp (l 0 j - max (l 0 j) (l 1 j)) + Real.exp (l 1 j - max (l 0 j) (l 1 j)) : ℝ) : EReal) := by
  have h := exps_at H
  generalize hd : val_main_v22 (F := Ideal) x1 = s at h
  unfold val_main_v23
  rw [hd]
  unfold val_main_cst_7
  pointwise
  rw [Fin.sum_univ_two, h, h, ← EReal.coe_add]

theorem bound_at (j : Fin 1024) : val_main_v31 (F := Ideal) x1 (ix1 j) = ((bound l j : ℝ) : EReal) := by
  have h := exps_at H
  have h' := total_at H j
  generalize hd : val_main_v22 (F := Ideal) x1 = s at h
  generalize hd' : val_main_v23 (F := Ideal) x1 = s' at h'
  unfold val_main_v31 val_main_v30 val_main_v26 val_main_v25 val_main_v24
  rw [hd, hd']
  pointwise
  rw [h, h', Ideal.div_coe (exps_pos _ _ _), ← EReal.coe_mul, share_real, bound]

theorem keep_at (i : Fin 4096) (j : Fin 1024) : val_main_v48 (F := Ideal) x0 x1 (ix2 i j) = ((keep (bound l j) (open01 x0 i j) : ℝ) : EReal) := by
  have h := bound_at H j
  have h' := open_at x0 i j
  generalize hd : val_main_v31 (F := Ideal) x1 = s at h
  generalize hd' : val_main_v39 (F := Ideal) x0 = s' at h'
  unfold val_main_v48 val_main_v47 val_main_v46 val_main_v45 val_main_v44 val_main_v43 val_main_v33 val_main_v32 val_main_cst_9
  rw [hd, hd']
  pointwise
  rw [h, h', show (1 : EReal) = ((1 : ℝ) : EReal) from rfl, ← EReal.coe_sub, ← EReal.coe_mul, ← EReal.coe_add, keep]

theorem ratio_at (i : Fin 4096) (j : Fin 1024) : val_main_v66 (F := Ideal) x0 x1 x4 (ix2 i j) = ((d i j * (1 / keep (bound l j) (open01 x0 i j)) : ℝ) : EReal) := by
  have h := keep_at x0 H i j
  have hk : keep (bound l j) (open01 x0 i j) ≠ 0 := keep_pos _ _
  generalize hd : val_main_v48 (F := Ideal) x0 x1 = s at h
  unfold val_main_v66
  rw [hd]
  pointwise
  rw [h, H.df, Ideal.div_coe hk, ← EReal.coe_mul]

theorem reference_slope (i : Fin 4096) (j : Fin 1024) : val_main_v106 (F := Ideal) x0 x1 x3 x4 (ix2 i j)
    = ((open01 x0 i j * (1 - open01 x0 i j) * (1 - bound l j) * pull x0 l k d i j : ℝ) : EReal) := by
  have h := bound_at H j
  have h1 := open_at x0 i j
  have h2 := shut_at x0 i j
  have h3 := ratio_at x0 H i j
  generalize hd : val_main_v31 (F := Ideal) x1 = s at h
  generalize hd1 : val_main_v39 (F := Ideal) x0 = s1 at h1
  generalize hd2 : val_main_v58 (F := Ideal) x0 = s2 at h2
  generalize hd3 : val_main_v66 (F := Ideal) x0 x1 x4 = s3 at h3
  unfold val_main_v106 val_main_v88 val_main_v87 val_main_v82 val_main_v81 val_main_v74 val_main_v73 val_main_v68 val_main_v67 val_main_v62 val_main_v61 val_main_v60 val_main_v59 val_main_v51 val_main_v50
    val_main_v43 val_main_v42 val_main_v41 val_main_v40 val_main_v33 val_main_v32 val_main_cst_9 val_main_cst_12 val_main_cst_13 val_main_cst_16
  rw [hd, hd1, hd2, hd3]
  pointwise
  rw [h, h1, h2, h3, H.dk, show (1 : EReal) = ((1 : ℝ) : EReal) from rfl]
  simp only [← EReal.coe_sub, ← EReal.coe_mul, ← EReal.coe_neg, ← EReal.coe_add]
  refine congrArg Real.toEReal ?_
  rw [pull]
  ring

theorem sum_at (j : Fin 1024) : val_main_v90 (F := Ideal) x0 x1 x3 x4 (ix1 j) = ((∑ i, (1 - open01 x0 i j) * pull x0 l k d i j : ℝ) : EReal) := by
  have h1 := fun i => open_at x0 i j
  have h2 := fun i => shut_at x0 i j
  have h3 := fun i => ratio_at x0 H i j
  generalize hd1 : val_main_v39 (F := Ideal) x0 = s1 at h1
  generalize hd2 : val_main_v58 (F := Ideal) x0 = s2 at h2
  generalize hd3 : val_main_v66 (F := Ideal) x0 x1 x4 = s3 at h3
  unfold val_main_v90 val_main_v89 val_main_v86 val_main_v85 val_main_v84 val_main_v83 val_main_v80 val_main_v79 val_main_v78 val_main_v77 val_main_v75 val_main_v72 val_main_v71 val_main_v70 val_main_v69
    val_main_cst_17 val_main_cst_18 val_main_cst_19 val_main_cst_20 val_main_cst_21 val_main_cst_22
  rw [hd1, hd2, hd3]
  pointwise
  simp only [Finset.univ_unique, Finset.sum_singleton]
  rw [Finset.sum_congr rfl fun i _ => show x3 (ix2 i j) * s2 (ix2 i j) = ((k i j * (1 - open01 x0 i j) : ℝ) : EReal) by rw [H.dk, h2, EReal.coe_mul],
    Finset.sum_congr rfl fun i _ => show s3 (ix2 i j) * s1 (ix2 i j) = ((d i j * (1 / keep (bound l j) (open01 x0 i j)) * open01 x0 i j : ℝ) : EReal) by rw [h3, h1, ← EReal.coe_mul],
    Finset.sum_congr rfl fun i _ => h3 i, Soft.coe_sum, Soft.coe_sum, Soft.coe_sum]
  simp only [← EReal.coe_neg, ← EReal.coe_add]
  refine congrArg Real.toEReal ?_
  rw [← Finset.sum_neg_distrib, ← Finset.sum_neg_distrib, ← Finset.sum_add_distrib, ← Finset.sum_add_distrib]
  exact Finset.sum_congr rfl fun i _ => by rw [pull]; ring

/-- The softmax's derivative at the table. -/
theorem reference_table (r : Fin 2) (j : Fin 1024) : val_main_v104 (F := Ideal) x0 x1 x3 x4 (ix2 r j)
    = (((if r = 0 then 1 else -1) * ((∑ i, (1 - open01 x0 i j) * pull x0 l k d i j) * (bound l j * (1 - bound l j))) : ℝ) : EReal) := by
  have h := exps_at H
  have h1 := total_at H j
  have h2 := sum_at x0 H j
  have e0 := share_real (l 0 j) (l 1 j) (max (l 0 j) (l 1 j))
  have e1 := other_real (l 0 j) (l 1 j) (max (l 0 j) (l 1 j))
  have ez := exps_pos (l 0 j) (l 1 j) (max (l 0 j) (l 1 j))
  generalize hD : ∑ i, (1 - open01 x0 i j) * pull x0 l k d i j = D at *
  generalize hd : val_main_v22 (F := Ideal) x1 = s at h
  generalize hd1 : val_main_v23 (F := Ideal) x1 = s1 at h1
  generalize hd2 : val_main_v90 (F := Ideal) x0 x1 x3 x4 = s2 at h2
  unfold val_main_v104 val_main_v103 val_main_v102 val_main_v101 val_main_v100 val_main_v99 val_main_v98 val_main_v97 val_main_v96 val_main_v95 val_main_v94 val_main_v93 val_main_v92 val_main_v91
    val_main_v29 val_main_v28 val_main_v27 val_main_v24 val_main_cst_8 val_main_cst_23 val_main_cst_24 val_main_cst_25
  rw [hd, hd1, hd2]
  fin_cases r
  · pointwise
    simp only [Finset.univ_unique, Finset.sum_singleton, zero_mul, add_zero]
    rw [h, h1, h2, show (1 : EReal) = ((1 : ℝ) : EReal) from rfl, ← EReal.coe_mul, Ideal.div_coe ez, Ideal.div_coe (mul_ne_zero ez ez)]
    simp only [← EReal.coe_mul, ← EReal.coe_neg, ← EReal.coe_add]
    refine congrArg Real.toEReal ?_
    rw [bound, ← e0]
    generalize Real.exp (l 0 j - max (l 0 j) (l 1 j)) + Real.exp (l 1 j - max (l 0 j) (l 1 j)) = Z
    ring
  · pointwise
    simp only [Finset.univ_unique, Finset.sum_singleton, zero_mul, add_zero]
    rw [h, h, h1, h2, show (1 : EReal) = ((1 : ℝ) : EReal) from rfl, ← EReal.coe_mul, Ideal.div_coe ez, Ideal.div_coe (mul_ne_zero ez ez), zero_mul, zero_add]
    simp only [← EReal.coe_mul, ← EReal.coe_neg, ← EReal.coe_add]
    refine congrArg Real.toEReal ?_
    rw [bound, ← e1, ← e0]
    generalize Real.exp (l 0 j - max (l 0 j) (l 1 j)) + Real.exp (l 1 j - max (l 0 j) (l 1 j)) = Z
    ring

omit H in
theorem reference_swish (H : Held x1 x2 x3 x4 l q k d) (i : Fin 4096) (j : Fin 1024) : val_main_v105 (F := Ideal) x0 x2 (ix2 i j)
    = x2 (ix2 i j) * (((sig01 (x0 (ix2 i ⟨4096 + j.val, by omega⟩)) : ℝ) : EReal)
      * (1 + x0 (ix2 i ⟨4096 + j.val, by omega⟩) * (1 - ((sig01 (x0 (ix2 i ⟨4096 + j.val, by omega⟩)) : ℝ) : EReal)))) := by
  rw [H.dq, swish_slope, ← H.dq, ← coe_sig01]
  unfold val_main_v105 val_main_v76 val_main_call1_v2 val_main_call1_v1 val_main_call1_v0 val_main_v49_1 val_main_call0_v7 val_main_call0_v6 val_main_v49_2 val_main_call0_v4 val_main_call0_v3
    val_main_call0_v2 val_main_call0_v1 val_main_call0_v0 val_main_v0 val_main_call0_cst val_main_call0_cst_0 val_main_call0_cst_1
  pointwise

end reference

/-! ## The blocks -/

theorem index_0 : ∀ t : Fin cfg0.N, win0_0.index t = ![t.val, 4] := (by decide +kernel : ∀ t : Fin grid0.N, win0_0.index t = ![t.val, 4])
theorem index_1 : ∀ t : Fin cfg0.N, win0_1.index t = ![t.val, 5] := (by decide +kernel : ∀ t : Fin grid0.N, win0_1.index t = ![t.val, 5])
theorem index_2 : ∀ t : Fin cfg0.N, win0_2.index t = ![0, 0] := (by decide +kernel : ∀ t : Fin grid0.N, win0_2.index t = ![0, 0])
theorem index_3 : ∀ t : Fin cfg0.N, win0_3.index t = ![t.val, 0] := (by decide +kernel : ∀ t : Fin grid0.N, win0_3.index t = ![t.val, 0])
theorem index_4 : ∀ t : Fin cfg0.N, win0_4.index t = ![t.val, 0] := (by decide +kernel : ∀ t : Fin grid0.N, win0_4.index t = ![t.val, 0])
theorem index_5 : ∀ t : Fin cfg0.N, win0_5.index t = ![t.val, 0] := (by decide +kernel : ∀ t : Fin grid0.N, win0_5.index t = ![t.val, 0])
theorem index_6 : ∀ t : Fin cfg0.N, win0_6.index t = ![t.val, 0] := (by decide +kernel : ∀ t : Fin grid0.N, win0_6.index t = ![t.val, 0])
theorem index_7 : ∀ t : Fin cfg0.N, win0_7.index t = ![t.val, 0] := (by decide +kernel : ∀ t : Fin grid0.N, win0_7.index t = ![t.val, 0])
theorem index_8 : ∀ t : Fin cfg0.N, win0_8.index t = ![0, 0] := (by decide +kernel : ∀ t : Fin grid0.N, win0_8.index t = ![0, 0])

theorem lt_points (t : Fin cfg0.N) : t.val < 8 := lt_of_lt_of_eq t.isLt (by decide +kernel)

/-- The row of an element of a block. -/
def row (t : Fin cfg0.N) (a : Fin 512) : Fin 4096 := ⟨512 * t.val + a.val, by have := lt_points t; omega⟩

theorem iblk_0 (t : Fin cfg0.N) (a : Fin 512) (b : Fin 1024) : iblk m c 0 t (ix2 a b) = (m ((c : Thread nD τ).loc main_arg0)) (ix2 (row t a) ⟨4096 + b.val, by omega⟩) := by
  rw [← V_main_arg0 m c]
  blk_ext [iblk, row, index_0 t]

theorem iblk_1 (t : Fin cfg0.N) (a : Fin 512) (b : Fin 1024) : iblk m c 1 t (ix2 a b) = (m ((c : Thread nD τ).loc main_arg0)) (ix2 (row t a) ⟨5120 + b.val, by omega⟩) := by
  rw [← V_main_arg0 m c]
  blk_ext [iblk, row, index_1 t]

theorem iblk_2 (t : Fin cfg0.N) (r : Fin 2) (b : Fin 1024) : iblk m c 2 t (ix2 r b) = (m ((c : Thread nD τ).loc main_arg1)) (ix2 r b) := by
  rw [← V_main_arg1 m c]
  blk_ext [iblk, index_2 t]

theorem iblk_3 (t : Fin cfg0.N) (a : Fin 512) (b : Fin 1024) : iblk m c 3 t (ix2 a b) = (m ((c : Thread nD τ).loc main_arg2)) (ix2 (row t a) b) := by
  rw [← V_main_arg2 m c]
  blk_ext [iblk, row, index_3 t]

theorem iblk_4 (t : Fin cfg0.N) (a : Fin 512) (b : Fin 1024) : iblk m c 4 t (ix2 a b) = (m ((c : Thread nD τ).loc main_arg3)) (ix2 (row t a) b) := by
  rw [← V_main_arg3 m c]
  blk_ext [iblk, row, index_4 t]

theorem iblk_5 (t : Fin cfg0.N) (a : Fin 512) (b : Fin 1024) : iblk m c 5 t (ix2 a b) = (m ((c : Thread nD τ).loc main_arg4)) (ix2 (row t a) b) := by
  rw [← V_main_arg4 m c]
  blk_ext [iblk, row, index_5 t]

theorem emb_6 (t : Fin cfg0.N) (a : Fin 512) (b : Fin 1024) : (win0_6.blk t).view.emb (ix2 a b) = ix2 (row t a) b := by
  blk_ext [row, index_6 t]

theorem emb_7 (t : Fin cfg0.N) (a : Fin 512) (b : Fin 1024) : (win0_7.blk t).view.emb (ix2 a b) = ix2 (row t a) b := by
  blk_ext [row, index_7 t]

theorem emb_8 (t : Fin cfg0.N) (r : Fin 2) (b : Fin 1024) : (win0_8.blk t).view.emb (ix2 r b) = ix2 r b := by
  blk_ext [index_8 t]

section held
variable {l : Fin 2 → Fin 1024 → ℝ} {q k d : Fin 4096 → Fin 1024 → ℝ}
  (H : Held (m ((c : Thread nD τ).loc main_arg1)) (m ((c : Thread nD τ).loc main_arg2)) (m ((c : Thread nD τ).loc main_arg3)) (m ((c : Thread nD τ).loc main_arg4)) l q k d)
include H

theorem share_held (t : Fin cfg0.N) (b : Fin 1024) : k0_pay3 (F := Ideal) (upper (iblk m c 2 t)) (lower (iblk m c 2 t)) (ix2 0 b) = ((bound l b : ℝ) : EReal) :=
  share_at _ _ b _ _ ((upper_at _ b).trans ((iblk_2 m c t 0 b).trans (H.table 0 b))) ((lower_at _ b).trans ((iblk_2 m c t 1 b).trans (H.table 1 b)))

omit H in
theorem gate_held (t : Fin cfg0.N) (b : Fin 1024) (a : Fin 512) : k0_pay4 (F := Ideal) (iblk m c 1 t) (ix2 a b) = ((open01 (m ((c : Thread nD τ).loc main_arg0)) (row t a) b : ℝ) : EReal) := by
  rw [gate_at, iblk_1, open01]

theorem gain_held (t : Fin cfg0.N) (b : Fin 1024) (a : Fin 512) : gain m c t (ix2 a b) = ((pull (m ((c : Thread nD τ).loc main_arg0)) l k d (row t a) b : ℝ) : EReal) := by
  refine (gain_at _ _ _ _ _ b _ _ (fun a => d (row t a) b) (fun a => k (row t a) b) ((upper_at _ b).trans ((iblk_2 m c t 0 b).trans (H.table 0 b)))
    ((lower_at _ b).trans ((iblk_2 m c t 1 b).trans (H.table 1 b))) (fun a => (iblk_5 m c t a b).trans (H.df _ b)) (fun a => (iblk_4 m c t a b).trans (H.dk _ b)) a).trans ?_
  rw [iblk_1, pull, open01, bound]

/-! ## The gradients of the queries and of the gates -/

theorem point_6 (t : Fin cfg0.N) (a : Fin 512) (b : Fin 1024) : (outsAt0 m c t.val t.isLt).1 (ix2 a b)
    = val_main_v105 (F := Ideal) (m ((c : Thread nD τ).loc main_arg0)) (m ((c : Thread nD τ).loc main_arg2)) (ix2 (row t a) b) := by
  rw [left_6, swish_at, iblk_0, iblk_3, reference_swish _ H]

theorem array_6 : (dats m 0 c).arrAt 6 cfg0.N = val_main_v105 (F := Ideal) (m ((c : Thread nD τ).loc main_arg0)) (m ((c : Thread nD τ).loc main_arg2)) := by
  refine (dats m 0 c).arrAt_eq_of_covers 6 _ (by decide +kernel) fun t hf y => ?_
  blk_simp
  rw [after0_6]
  exact (congrArg _ (eq_ix2 y)).trans ((point_6 m c H t (y 0) (y 1)).trans (congrArg _ ((emb_6 t (y 0) (y 1)).symm.trans (congrArg _ (eq_ix2 y).symm))))

theorem point_7 (t : Fin cfg0.N) (a : Fin 512) (b : Fin 1024) : (outsAt0 m c t.val t.isLt).2.1 (ix2 a b)
    = val_main_v106 (F := Ideal) (m ((c : Thread nD τ).loc main_arg0)) (m ((c : Thread nD τ).loc main_arg1)) (m ((c : Thread nD τ).loc main_arg3)) (m ((c : Thread nD τ).loc main_arg4)) (ix2 (row t a) b) := by
  rw [left_7, reference_slope _ H]
  exact slope_at _ _ _ b _ (fun a => open01 (m ((c : Thread nD τ).loc main_arg0)) (row t a) b) (fun a => pull (m ((c : Thread nD τ).loc main_arg0)) l k d (row t a) b)
    (share_held m c H t b) (gate_held m c t b) (gain_held m c H t b) a

theorem array_7 : (dats m 0 c).arrAt 7 cfg0.N = val_main_v106 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 7 _ (by decide +kernel) fun t hf y => ?_
  blk_simp
  rw [after0_7]
  exact (congrArg _ (eq_ix2 y)).trans ((point_7 m c H t (y 0) (y 1)).trans (congrArg _ ((emb_7 t (y 0) (y 1)).symm.trans (congrArg _ (eq_ix2 y).symm))))

/-! ## The gradient of the table -/

omit H in
/-- What one row of the batch gives to a row of the table. -/
def part (x0 : FVec Ideal S4096x8192 .f32) (l : Fin 2 → Fin 1024 → ℝ) (k d : Fin 4096 → Fin 1024 → ℝ) (r : Fin 2) (b : Fin 1024) (i : Fin 4096) : ℝ :=
  (if r = 0 then 1 else -1) * ((1 - open01 x0 i b) * pull x0 l k d i b * (bound l b * (1 - bound l b)))

omit H in
/-- What the rows of one block give. -/
def parts (x0 : FVec Ideal S4096x8192 .f32) (l : Fin 2 → Fin 1024 → ℝ) (k d : Fin 4096 → Fin 1024 → ℝ) (r : Fin 2) (b : Fin 1024) (s : Fin 8) : EReal :=
  ∑ a : Fin 512, ((part x0 l k d r b ⟨512 * s.val + a.val, by omega⟩ : ℝ) : EReal)

theorem step_first (r : Fin 2) (b : Fin 1024) (t : Fin cfg0.N) (h : t.val % 8 = 0) :
    (outsAt0 m c t.val t.isLt).2.2 (ix2 r b) = ((∑ a, part (m ((c : Thread nD τ).loc main_arg0)) l k d r b (row t a) : ℝ) : EReal) := by
  fin_cases r
  · refine (left_8_upper_first m c t h b).trans ((upper_step _ _ _ b _ _ _ (share_held m c H t b) (gate_held m c t b) (gain_held m c H t b) _).trans ?_)
    rw [upper_at, zero_at, zero_add]
    exact congrArg Real.toEReal (Finset.sum_congr rfl fun a _ => (one_mul _).symm)
  · refine (left_8_lower_first m c t h b).trans ((lower_step _ _ _ b _ _ _ (share_held m c H t b) (gate_held m c t b) (gain_held m c H t b) _).trans ?_)
    rw [lower_at, zero_at, zero_add]
    exact congrArg Real.toEReal (Finset.sum_congr rfl fun a _ => (neg_one_mul _).symm)

theorem step_next (r : Fin 2) (b : Fin 1024) (t : Fin cfg0.N) (h : ¬t.val % 8 = 0) :
    (outsAt0 m c t.val t.isLt).2.2 (ix2 r b) = (outsAt0 m c (t.val - 1) (Nat.lt_of_le_of_lt (Nat.sub_le _ _) t.isLt)).2.2 (ix2 r b)
      + ((∑ a, part (m ((c : Thread nD τ).loc main_arg0)) l k d r b (row t a) : ℝ) : EReal) := by
  fin_cases r
  · refine (left_8_upper_next m c t h b).trans ((upper_step _ _ _ b _ _ _ (share_held m c H t b) (gate_held m c t b) (gain_held m c H t b) _).trans ?_)
    rw [upper_at]
    exact congrArg (fun p : ℝ => _ + Real.toEReal p) (Finset.sum_congr rfl fun a _ => (one_mul _).symm)
  · refine (left_8_lower_next m c t h b).trans ((lower_step _ _ _ b _ _ _ (share_held m c H t b) (gate_held m c t b) (gain_held m c H t b) _).trans ?_)
    rw [lower_at]
    exact congrArg (fun p : ℝ => _ + Real.toEReal p) (Finset.sum_congr rfl fun a _ => (neg_one_mul _).symm)

omit H in
theorem parts_eq (r : Fin 2) (b : Fin 1024) (t : Fin cfg0.N) (s : Fin 8) (hs : s.val = t.val) :
    ((∑ a, part (m ((c : Thread nD τ).loc main_arg0)) l k d r b (row t a) : ℝ) : EReal) = parts (m ((c : Thread nD τ).loc main_arg0)) l k d r b s := by
  rw [← Soft.coe_sum, parts]
  refine Finset.sum_congr rfl fun a _ => ?_
  have hr : row t a = ⟨512 * s.val + a.val, by omega⟩ := Fin.ext (by show 512 * t.val + a.val = 512 * s.val + a.val; rw [hs])
  rw [hr]

/-- After point `n` the buffer holds the sum over the blocks up to that one. -/
theorem gathered (r : Fin 2) (b : Fin 1024) : ∀ (n : ℕ) (hn : n < cfg0.N) (h8 : n + 1 ≤ 8),
    (outsAt0 m c n hn).2.2 (ix2 r b) = ∑ s : Fin (n + 1), parts (m ((c : Thread nD τ).loc main_arg0)) l k d r b (Fin.castLE h8 s)
  | 0, hn, h8 => by
      rw [Fin.sum_univ_one]
      exact (step_first m c H r b ⟨0, hn⟩ rfl).trans (parts_eq m c r b ⟨0, hn⟩ _ rfl)
  | n + 1, hn, h8 => by
      rw [Fin.sum_univ_castSucc]
      exact (step_next m c H r b ⟨n + 1, hn⟩ (by show ¬(n + 1) % 8 = 0; omega)).trans
        (congrArg₂ (fun p q : EReal => p + q) (gathered r b n (Nat.lt_of_succ_lt hn) (Nat.le_of_succ_le h8)) (parts_eq m c r b ⟨n + 1, hn⟩ (Fin.castLE h8 (Fin.last (n + 1))) rfl))

theorem all_8 (r : Fin 2) (b : Fin 1024) (t : Fin cfg0.N) (h : t.val = 7) : (outsAt0 m c t.val t.isLt).2.2 (ix2 r b)
    = val_main_v104 (F := Ideal) (m ((c : Thread nD τ).loc main_arg0)) (m ((c : Thread nD τ).loc main_arg1)) (m ((c : Thread nD τ).loc main_arg3)) (m ((c : Thread nD τ).loc main_arg4)) (ix2 r b) := by
  obtain ⟨n, hn⟩ := t
  obtain rfl : n = 7 := h
  rw [reference_table _ H, Finset.sum_mul, Finset.mul_sum, ← Soft.coe_sum, sum_blocks 8 512 4096 (by norm_num)]
  exact gathered m c H r b 7 hn le_rfl

theorem array_8 : (dats m 0 c).arrAt 8 cfg0.N = val_main_v104 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 8 _ (by decide +kernel) fun t hf y => ?_
  blk_simp
  rw [after0_8]
  have ht : t.val = 7 := by have := (flush0_8 t).mp hf; have := lt_points t; omega
  exact (congrArg _ (eq_ix2 y)).trans ((all_8 m c H (y 0) (y 1) t ht).trans (congrArg _ ((emb_8 t (y 0) (y 1)).symm.trans (congrArg _ (eq_ix2 y).symm))))

end held

/-! ## What the precondition says -/

theorem held_of_finite {x0 : FVec Ideal S4096x8192 .f32} {x1 : FVec Ideal S2x1024 .f32} {x2 x3 x4 : FVec Ideal S4096x1024 .f32}
    (H : letI := Cert.Pre_prep_finite.Gen.facts
      (Cert.Pre_prep_finite.fn x0 x1 x2 x3 x4).1 = (fun _ => 1#1)
      ∧ (Cert.Pre_prep_finite.fn x0 x1 x2 x3 x4).2.1 = (fun _ => 1#1)
      ∧ (Cert.Pre_prep_finite.fn x0 x1 x2 x3 x4).2.2.1 = (fun _ => 1#1)
      ∧ (Cert.Pre_prep_finite.fn x0 x1 x2 x3 x4).2.2.2 = (fun _ => 1#1)) :
    ∃ l q k d, Held x1 x2 x3 x4 l q k d := by
  letI := Cert.Pre_prep_finite.Gen.facts
  obtain ⟨hl, hq, hk, hd⟩ := H
  refine ⟨fun r j => (x1 (ix2 r j) : EReal).toReal, fun i j => (x2 (ix2 i j) : EReal).toReal, fun i j => (x3 (ix2 i j) : EReal).toReal,
    fun i j => (x4 (ix2 i j) : EReal).toReal, ⟨fun r j => ?_, fun i j => ?_, fun i j => ?_, fun i j => ?_⟩⟩
  · have e := congrFun hl (ix2 r j)
    rw [Cert.Pre_prep_finite.fn] at e
    pointwise at e
    exact real_of_word _ e
  · have e := congrFun hq (ix2 i j)
    rw [Cert.Pre_prep_finite.fn] at e
    pointwise at e
    exact real_of_word _ e
  · have e := congrFun hk (ix2 i j)
    rw [Cert.Pre_prep_finite.fn] at e
    pointwise at e
    exact real_of_word _ e
  · have e := congrFun hd (ix2 i j)
    rw [Cert.Pre_prep_finite.fn] at e
    pointwise at e
    exact real_of_word _ e

/-! ## The claims -/

theorem frame_kernel : Cert.quiescent_HgrnPrepGrad (hHgrnPrepGrad := Cert.HgrnPrepGrad.Gen.facts) :=
  fun m ρ _ => by
    refine cast ?_ (Cert.HgrnPrepGradIdeal.Gen.frame (F := Bits) m ρ)
    sl_kernel_rfl

theorem frame_ideal : Cert.quiescent_HgrnPrepGradIdeal (hHgrnPrepGradIdeal := Cert.HgrnPrepGradIdeal.Gen.facts) := fun m ρ _ => Cert.HgrnPrepGradIdeal.Gen.frame m ρ

theorem frame_ideal_pre : Cert.quiescent_HgrnPrepGradIdeal_pre_prep_finite (hHgrnPrepGradIdeal := Cert.HgrnPrepGradIdeal.Gen.facts)
    (hPre_prep_finite := Cert.Pre_prep_finite.Gen.facts) := fun m ρ _ => Cert.HgrnPrepGradIdeal.Gen.frame m ρ

theorem frame_reference : Cert.quiescent_HgrnPrepGradRefIdeal (hHgrnPrepGradRefIdeal := Cert.HgrnPrepGradRefIdeal.Gen.facts) :=
  fun m ρ _ => (θ_run _ _ _).mono (fun r h => ⟨fun c => (h c).2.2.2, sem_eq_zero_of_no_sems (by decide) r.2⟩) (Cert.HgrnPrepGradRefIdeal.Value.run m ρ)

theorem frame_reference_pre : Cert.quiescent_HgrnPrepGradRefIdeal_pre_prep_finite (hHgrnPrepGradRefIdeal := Cert.HgrnPrepGradRefIdeal.Gen.facts)
    (hPre_prep_finite := Cert.Pre_prep_finite.Gen.facts) :=
  fun m ρ _ => (θ_run _ _ _).mono (fun r h => ⟨fun c => (h c).2.2.2, sem_eq_zero_of_no_sems (by decide) r.2⟩) (Cert.HgrnPrepGradRefIdeal.Value.run m ρ)

/-- From memories that agree on the arguments and hold real numbers in the table and the cotangents, both programs end with the same results. -/
theorem algebraic : Cert.algebraic_HgrnPrepGradIdeal_HgrnPrepGradRefIdeal_pre_prep_finite (hHgrnPrepGradIdeal := Cert.HgrnPrepGradIdeal.Gen.facts)
    (hHgrnPrepGradRefIdeal := Cert.HgrnPrepGradRefIdeal.Gen.facts) (hPre_prep_finite := Cert.Pre_prep_finite.Gen.facts) := by
  intro m ρ m' ρ' hp ha
  choose l q k d H using fun c => held_of_finite (hp c)
  refine ⟨_, _, _, (θ_run _ _ _).mono (fun _ h c => ⟨(h c).1.trans (array_6 m c (H c)), (h c).2.1.trans (array_7 m c (H c)), (h c).2.2.1.trans (array_8 m c (H c)), (h c).2.2.2⟩) (run_blocks m ρ),
    (θ_run _ _ _).mono (fun _ h c => ⟨(h c).1.trans ?_, (h c).2.1.trans ?_, (h c).2.2.1.trans ?_, (h c).2.2.2⟩) (Cert.HgrnPrepGradRefIdeal.Value.run m' ρ')⟩
  · rw [(ha c).1, (ha c).2.2.1]
    rfl
  · unfold Cert.HgrnPrepGradRefIdeal.Value.res_main_v106
    rw [(ha c).1, (ha c).2.1, (ha c).2.2.2.1, (ha c).2.2.2.2]
    rfl
  · unfold Cert.HgrnPrepGradRefIdeal.Value.res_main_v104
    rw [(ha c).1, (ha c).2.1, (ha c).2.2.2.1, (ha c).2.2.2.2]
    rfl

end Hgrn.HgrnPrepGrad

end
-- ==== Proof.Scale.lean ====
/- The two constants of the optimiser's bias correction: the kernel's factors are the reciprocals of the reference's divisors. -/
module

public import proofs.«01_k».proof.Proof.Product

@[expose] public section

noncomputable section

namespace Hgrn.Scale

open Idealize.ShloMosaic Idealize.ShloMosaic.Tactic

/-- The divisor of the first moment, one less the tenth power of the first decay, rounded. -/
theorem rest_m : Ideal.ofBits FTy.f32 0x3F26BD02#32 = ((5463681 / 8388608 : ℝ) : EReal) := by
  simp [Ideal.ofBits, Ideal.ieee, -EReal.coe_mul]
  norm_num

/-- The divisor of the second moment. -/
theorem rest_v : Ideal.ofBits FTy.f32 0x3C231ACC#32 = ((2672307 / 268435456 : ℝ) : EReal) := by
  simp [Ideal.ofBits, Ideal.ieee, -EReal.coe_mul]
  norm_num

/-- Dividing by the first divisor is multiplying by its reciprocal, for infinite arguments too. -/
theorem div_m (x : EReal) : Ideal.div x (Ideal.ofBits FTy.f32 0x3F26BD02#32) = x * ((8388608 / 5463681 : ℝ) : EReal) := by
  rw [rest_m, Ideal.div_coe (by norm_num)]
  norm_num

theorem div_v (x : EReal) : Ideal.div x (Ideal.ofBits FTy.f32 0x3C231ACC#32) = x * ((268435456 / 2672307 : ℝ) : EReal) := by
  rw [rest_v, Ideal.div_coe (by norm_num)]
  norm_num

end Hgrn.Scale

end
-- ==== Proof.AdamSmall.lean ====
/- The optimiser's step of the packed small weights: the kernel's three arrays are the reference's. -/
module

public import Idealize.ShloMosaic.Lib.Pipeline.ValueKit
public import proofs.«01_k».proof.Defs
public import proofs.«01_k».proof.Proof.Gen.AdamSmall.Frame
public import proofs.«01_k».proof.Proof.Gen.AdamSmallIdeal.Value
public import proofs.«01_k».proof.Proof.Gen.AdamSmallRefIdeal.Read
public import proofs.«01_k».proof.Proof.Scale

@[expose] public section

set_option maxRecDepth 16384

noncomputable section

namespace Hgrn.AdamSmall

open Idealize.ShloMosaic Idealize.ShloMosaic.TcCoe Idealize.ShloMosaic.Tactic Idealize.SL.Sem Cert.AdamSmallIdeal Cert.AdamSmallIdeal.Gen Cert.AdamSmallIdeal.Value
open Cert.AdamSmallRefIdeal.Read

theorem scale_m : Named.named (F := Ideal) (φ := .f32) Cert.AdamSmallIdeal.κ "scale_m" 0x3FC48605#32 = ((8388608 / 5463681 : ℝ) : EReal) :=
  IdealRules.named_const.ideal_named_scalar _ _ _ _ rfl

theorem scale_v : Named.named (F := Ideal) (φ := .f32) Cert.AdamSmallIdeal.κ "scale_v" 0x42C8E6D3#32 = ((268435456 / 2672307 : ℝ) : EReal) :=
  IdealRules.named_const.ideal_named_scalar _ _ _ _ rfl

variable (w g p q : FVec Ideal S96x128 .f32)

/-- The new first moment. -/
theorem first : G5 g p = val_main_v4 (F := Ideal) g p := by
  funext i
  rw [val_main_v4_apply, val_main_v1_apply, val_main_v3_apply, val_main_v0_apply, val_main_v2_apply]
  rfl

/-- The new second moment. -/
theorem second : G6 g q = val_main_v10 (F := Ideal) g q := by
  funext i
  rw [val_main_v10_apply, val_main_v6_apply, val_main_v9_apply, val_main_v7_apply, val_main_v5_apply, val_main_v8_apply]
  rfl

/-- The step. -/
theorem step : G4 g p q w = val_main_v23 (F := Ideal) w g p q := by
  funext i
  rw [val_main_v23_apply, val_main_v21_apply, val_main_v18_apply, val_main_v17_apply, val_main_v15_apply, val_main_v14_apply, val_main_v12_apply,
    val_main_v20_apply, val_main_v22_apply, val_main_v19_apply, val_main_v16_apply, val_main_v13_apply, val_main_v11_apply, ← first, ← second,
    val_main_cst_3_apply, val_main_cst_4_apply]
  generalize hx : (G5 (F := Ideal) g p i : EReal) = x
  generalize hy : (G6 (F := Ideal) g q i : EReal) = y
  refine (show G4 (F := Ideal) g p q w i = Ideal.ofBits FTy.f32 0xBA83126F#32 * (Ideal.div (x * Named.named (F := Ideal) (φ := .f32) Cert.AdamSmallIdeal.κ "scale_m" 0x3FC48605#32)
    (Ideal.sqrt (y * Named.named (F := Ideal) (φ := .f32) Cert.AdamSmallIdeal.κ "scale_v" 0x42C8E6D3#32) + Ideal.ofBits FTy.f32 0x322BCC77#32)
      + Ideal.ofBits FTy.f32 0x3C23D70A#32 * w i) from by rw [← hx, ← hy]; rfl).trans ?_
  rw [scale_m, scale_v, ← Scale.div_m, ← Scale.div_v]
  rfl

/-! ## The claims -/

theorem frame_kernel : Cert.quiescent_AdamSmall (hAdamSmall := Cert.AdamSmall.Gen.facts) :=
  fun m ρ _ => Cert.AdamSmall.Gen.frame m ρ

theorem frame_ideal : Cert.quiescent_AdamSmallIdeal (hAdamSmallIdeal := Cert.AdamSmallIdeal.Gen.facts) := fun m ρ _ => Cert.AdamSmallIdeal.Gen.frame m ρ

theorem frame_reference : Cert.quiescent_AdamSmallRefIdeal (hAdamSmallRefIdeal := Cert.AdamSmallRefIdeal.Gen.facts) :=
  fun m ρ _ => (θ_run _ _ _).mono (fun r h => ⟨fun c => (h c).2.2.2, sem_eq_zero_of_no_sems (by decide) r.2⟩) (Cert.AdamSmallRefIdeal.Value.run m ρ)

/-- The two constants read by name stand at the kernel's rounded ones. -/
theorem preserves : Cert.preserves_AdamSmall_AdamSmallIdeal :=
  ⟨IdealRules.named_const.statement Cert.AdamSmallIdeal.κ "scale_m" .f32 0x3FC48605#32 ((8388608 / 5463681 : ℝ) : EReal) rfl,
    IdealRules.named_const.statement Cert.AdamSmallIdeal.κ "scale_v" .f32 0x42C8E6D3#32 ((268435456 / 2672307 : ℝ) : EReal) rfl⟩

/-- From memories that agree on the arguments, both programs end with the same results. -/
theorem algebraic : Cert.algebraic_AdamSmallIdeal_AdamSmallRefIdeal (hAdamSmallIdeal := Cert.AdamSmallIdeal.Gen.facts) (hAdamSmallRefIdeal := Cert.AdamSmallRefIdeal.Gen.facts) := by
  intro m ρ m' ρ' _ ha
  refine ⟨_, _, _, (θ_run _ _ _).mono (fun _ h c => ⟨(h c).1.trans (step _ _ _ _), (h c).2.1.trans (first _ _), (h c).2.2.1.trans (second _ _), (h c).2.2.2⟩)
      (Cert.AdamSmallIdeal.Value.run m ρ),
    (θ_run _ _ _).mono (fun _ h c => ⟨(h c).1.trans ?_, (h c).2.1.trans ?_, (h c).2.2.1.trans ?_, (h c).2.2.2⟩) (Cert.AdamSmallRefIdeal.Value.run m' ρ')⟩
  · rw [(ha c).1, (ha c).2.1, (ha c).2.2.1, (ha c).2.2.2]
    exact val_main_v23_eq _ _ _ _
  · rw [(ha c).2.1, (ha c).2.2.1]
    exact val_main_v4_eq _ _
  · rw [(ha c).2.1, (ha c).2.2.2]
    exact val_main_v10_eq _ _

end Hgrn.AdamSmall

end
-- ==== Proof.AdamIn.lean ====
/- The optimiser's step of the input projection's weight: the kernel's three arrays are the reference's. -/
module

public import Idealize.ShloMosaic.Lib.Pipeline.ValueKit
public import proofs.«01_k».proof.Defs
public import proofs.«01_k».proof.Proof.Gen.AdamIn.Frame
public import proofs.«01_k».proof.Proof.Gen.AdamInIdeal.Value
public import proofs.«01_k».proof.Proof.Gen.AdamInRefIdeal.Read
public import proofs.«01_k».proof.Proof.Scale

@[expose] public section

set_option maxRecDepth 16384

noncomputable section

namespace Hgrn.AdamIn

open Idealize.ShloMosaic Idealize.ShloMosaic.TcCoe Idealize.ShloMosaic.Tactic Idealize.SL.Sem Cert.AdamInIdeal Cert.AdamInIdeal.Gen Cert.AdamInIdeal.Value
open Cert.AdamInRefIdeal.Read

theorem scale_m : Named.named (F := Ideal) (φ := .f32) Cert.AdamInIdeal.κ "scale_m" 0x3FC48605#32 = ((8388608 / 5463681 : ℝ) : EReal) :=
  IdealRules.named_const.ideal_named_scalar _ _ _ _ rfl

theorem scale_v : Named.named (F := Ideal) (φ := .f32) Cert.AdamInIdeal.κ "scale_v" 0x42C8E6D3#32 = ((268435456 / 2672307 : ℝ) : EReal) :=
  IdealRules.named_const.ideal_named_scalar _ _ _ _ rfl

variable (w g p q : FVec Ideal S2052x1x2048 .f32)

/-- The new first moment. -/
theorem first : G5 g p = val_main_v4 (F := Ideal) g p := by
  funext i
  rw [val_main_v4_apply, val_main_v1_apply, val_main_v3_apply, val_main_v0_apply, val_main_v2_apply]
  rfl

/-- The new second moment. -/
theorem second : G6 g q = val_main_v10 (F := Ideal) g q := by
  funext i
  rw [val_main_v10_apply, val_main_v6_apply, val_main_v9_apply, val_main_v7_apply, val_main_v5_apply, val_main_v8_apply]
  rfl

/-- The step. -/
theorem step : G4 w g p q = val_main_v23 (F := Ideal) w g p q := by
  funext i
  rw [val_main_v23_apply, val_main_v21_apply, val_main_v18_apply, val_main_v17_apply, val_main_v15_apply, val_main_v14_apply, val_main_v12_apply,
    val_main_v20_apply, val_main_v22_apply, val_main_v19_apply, val_main_v16_apply, val_main_v13_apply, val_main_v11_apply, ← first, ← second,
    val_main_cst_3_apply, val_main_cst_4_apply]
  generalize hx : (G5 (F := Ideal) g p i : EReal) = x
  generalize hy : (G6 (F := Ideal) g q i : EReal) = y
  refine (show G4 (F := Ideal) w g p q i = Ideal.ofBits FTy.f32 0xBA83126F#32 * (Ideal.div (x * Named.named (F := Ideal) (φ := .f32) Cert.AdamInIdeal.κ "scale_m" 0x3FC48605#32)
    (Ideal.sqrt (y * Named.named (F := Ideal) (φ := .f32) Cert.AdamInIdeal.κ "scale_v" 0x42C8E6D3#32) + Ideal.ofBits FTy.f32 0x322BCC77#32)
      + Ideal.ofBits FTy.f32 0x3C23D70A#32 * w i) from by rw [← hx, ← hy]; rfl).trans ?_
  rw [scale_m, scale_v, ← Scale.div_m, ← Scale.div_v]
  rfl

/-! ## The claims -/

theorem frame_kernel : Cert.quiescent_AdamIn (hAdamIn := Cert.AdamIn.Gen.facts) :=
  fun m ρ _ => Cert.AdamIn.Gen.frame m ρ

theorem frame_ideal : Cert.quiescent_AdamInIdeal (hAdamInIdeal := Cert.AdamInIdeal.Gen.facts) := fun m ρ _ => Cert.AdamInIdeal.Gen.frame m ρ

theorem frame_reference : Cert.quiescent_AdamInRefIdeal (hAdamInRefIdeal := Cert.AdamInRefIdeal.Gen.facts) :=
  fun m ρ _ => (θ_run _ _ _).mono (fun r h => ⟨fun c => (h c).2.2.2, sem_eq_zero_of_no_sems (by decide) r.2⟩) (Cert.AdamInRefIdeal.Value.run m ρ)

/-- The two constants read by name stand at the kernel's rounded ones. -/
theorem preserves : Cert.preserves_AdamIn_AdamInIdeal :=
  ⟨IdealRules.named_const.statement Cert.AdamInIdeal.κ "scale_m" .f32 0x3FC48605#32 ((8388608 / 5463681 : ℝ) : EReal) rfl,
    IdealRules.named_const.statement Cert.AdamInIdeal.κ "scale_v" .f32 0x42C8E6D3#32 ((268435456 / 2672307 : ℝ) : EReal) rfl⟩

/-- From memories that agree on the arguments, both programs end with the same results. -/
theorem algebraic : Cert.algebraic_AdamInIdeal_AdamInRefIdeal (hAdamInIdeal := Cert.AdamInIdeal.Gen.facts) (hAdamInRefIdeal := Cert.AdamInRefIdeal.Gen.facts) := by
  intro m ρ m' ρ' _ ha
  refine ⟨_, _, _, (θ_run _ _ _).mono (fun _ h c => ⟨(h c).1.trans (step _ _ _ _), (h c).2.1.trans (first _ _), (h c).2.2.1.trans (second _ _), (h c).2.2.2⟩)
      (Cert.AdamInIdeal.Value.run m ρ),
    (θ_run _ _ _).mono (fun _ h c => ⟨(h c).1.trans ?_, (h c).2.1.trans ?_, (h c).2.2.1.trans ?_, (h c).2.2.2⟩) (Cert.AdamInRefIdeal.Value.run m' ρ')⟩
  · rw [(ha c).1, (ha c).2.1, (ha c).2.2.1, (ha c).2.2.2]
    exact val_main_v23_eq _ _ _ _
  · rw [(ha c).2.1, (ha c).2.2.1]
    exact val_main_v4_eq _ _
  · rw [(ha c).2.1, (ha c).2.2.2]
    exact val_main_v10_eq _ _

end Hgrn.AdamIn

end
-- ==== Proof.lean ====
/- The certificate: the backward call of the version's gated recurrence against the gradient of the recurrence's closed form, and twenty-one other
   calls of the version, products, norms, the loss and the step of the optimiser, against the lines of the step they compute and their derivatives. The recurrence's call is read in
   Proof/Value.lean, its reference in Proof/RefRead.lean, and Proof/Totals.lean sets them side by side; each other call has a module of its own. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_bounded
public import proofs.«01_k».proof.Proof.Gen.ActGrad
public import proofs.«01_k».proof.Proof.Gen.ActGradIdeal
public import proofs.«01_k».proof.Proof.Gen.ActGradIdeal.Skeleton
public import proofs.«01_k».proof.Proof.Gen.ActGradIdeal.Launch
public import proofs.«01_k».proof.Proof.Gen.ActGradIdeal.Points
public import proofs.«01_k».proof.Proof.Gen.ActGradIdeal.Frame
public import proofs.«01_k».proof.Proof.Gen.ActGradIdeal.Value
public import proofs.«01_k».proof.Proof.Gen.ActGradRefIdeal
public import proofs.«01_k».proof.Proof.Gen.ActGradRefIdeal.Run
public import proofs.«01_k».proof.Proof.Gen.ActGradRefIdeal.Read
public import proofs.«01_k».proof.Proof.Gen.Ff2Dw
public import proofs.«01_k».proof.Proof.Gen.Ff2DwIdeal
public import proofs.«01_k».proof.Proof.Gen.Ff2DwIdeal.Skeleton
public import proofs.«01_k».proof.Proof.Gen.Ff2DwIdeal.Launch
public import proofs.«01_k».proof.Proof.Gen.Ff2DwIdeal.Points
public import proofs.«01_k».proof.Proof.Gen.Ff2DwIdeal.Frame
public import proofs.«01_k».proof.Proof.Gen.Ff2DwIdeal.Value
public import proofs.«01_k».proof.Proof.Gen.Ff2DwRefIdeal
public import proofs.«01_k».proof.Proof.Gen.Ff2DwRefIdeal.Run
public import proofs.«01_k».proof.Proof.Gen.Ff2DwRefIdeal.Read
public import proofs.«01_k».proof.Proof.Gen.Ff1Dx
public import proofs.«01_k».proof.Proof.Gen.Ff1DxIdeal
public import proofs.«01_k».proof.Proof.Gen.Ff1DxIdeal.Skeleton
public import proofs.«01_k».proof.Proof.Gen.Ff1DxIdeal.Launch
public import proofs.«01_k».proof.Proof.Gen.Ff1DxIdeal.Points
public import proofs.«01_k».proof.Proof.Gen.Ff1DxIdeal.Frame
public import proofs.«01_k».proof.Proof.Gen.Ff1DxIdeal.Value
public import proofs.«01_k».proof.Proof.Gen.Ff1DxRefIdeal
public import proofs.«01_k».proof.Proof.Gen.Ff1DxRefIdeal.Run
public import proofs.«01_k».proof.Proof.Gen.Ff1DxRefIdeal.Read
public import proofs.«01_k».proof.Proof.Gen.Ff1Dw
public import proofs.«01_k».proof.Proof.Gen.Ff1DwIdeal
public import proofs.«01_k».proof.Proof.Gen.Ff1DwIdeal.Skeleton
public import proofs.«01_k».proof.Proof.Gen.Ff1DwIdeal.Launch
public import proofs.«01_k».proof.Proof.Gen.Ff1DwIdeal.Points
public import proofs.«01_k».proof.Proof.Gen.Ff1DwIdeal.Frame
public import proofs.«01_k».proof.Proof.Gen.Ff1DwIdeal.Value
public import proofs.«01_k».proof.Proof.Gen.Ff1DwRefIdeal
public import proofs.«01_k».proof.Proof.Gen.Ff1DwRefIdeal.Run
public import proofs.«01_k».proof.Proof.Gen.Ff1DwRefIdeal.Read
public import proofs.«01_k».proof.Proof.Gen.ProjDx
public import proofs.«01_k».proof.Proof.Gen.ProjDxIdeal
public import proofs.«01_k».proof.Proof.Gen.ProjDxIdeal.Skeleton
public import proofs.«01_k».proof.Proof.Gen.ProjDxIdeal.Launch
public import proofs.«01_k».proof.Proof.Gen.ProjDxIdeal.Points
public import proofs.«01_k».proof.Proof.Gen.ProjDxIdeal.Frame
public import proofs.«01_k».proof.Proof.Gen.ProjDxIdeal.Value
public import proofs.«01_k».proof.Proof.Gen.ProjDxRefIdeal
public import proofs.«01_k».proof.Proof.Gen.ProjDxRefIdeal.Run
public import proofs.«01_k».proof.Proof.Gen.ProjDxRefIdeal.Read
public import proofs.«01_k».proof.Proof.Gen.OutDx
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDxRefIdeal.Read
public import proofs.«01_k».proof.Proof.Gen.OutDw
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import proofs.«01_k».proof.Proof.Gen.Ff1
public import proofs.«01_k».proof.Proof.Gen.Ff1Ideal
public import proofs.«01_k».proof.Proof.Gen.Ff1Ideal.Skeleton
public import proofs.«01_k».proof.Proof.Gen.Ff1Ideal.Launch
public import proofs.«01_k».proof.Proof.Gen.Ff1Ideal.Points
public import proofs.«01_k».proof.Proof.Gen.Ff1Ideal.Frame
public import proofs.«01_k».proof.Proof.Gen.Ff1Ideal.Value
public import proofs.«01_k».proof.Proof.Gen.Ff1RefIdeal
public import proofs.«01_k».proof.Proof.Gen.Ff1RefIdeal.Run
public import proofs.«01_k».proof.Proof.Gen.Ff1RefIdeal.Read
public import proofs.«01_k».proof.Proof.Gen.OutProj
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Norm
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Ab
public import proofs.«01_k».proof.Proof.Gen.AbIdeal
public import proofs.«01_k».proof.Proof.Gen.AbIdeal.Skeleton
public import proofs.«01_k».proof.Proof.Gen.AbIdeal.Launch
public import proofs.«01_k».proof.Proof.Gen.AbIdeal.Points
public import proofs.«01_k».proof.Proof.Gen.AbIdeal.Frame
public import proofs.«01_k».proof.Proof.Gen.AbIdeal.Value
public import proofs.«01_k».proof.Proof.Gen.AbRefIdeal
public import proofs.«01_k».proof.Proof.Gen.AbRefIdeal.Run
public import proofs.«01_k».proof.Proof.Gen.AbRefIdeal.Read
public import proofs.«01_k».proof.Proof.Gen.AbDx
public import proofs.«01_k».proof.Proof.Gen.AbDxIdeal
public import proofs.«01_k».proof.Proof.Gen.AbDxIdeal.Skeleton
public import proofs.«01_k».proof.Proof.Gen.AbDxIdeal.Launch
public import proofs.«01_k».proof.Proof.Gen.AbDxIdeal.Points
public import proofs.«01_k».proof.Proof.Gen.AbDxIdeal.Frame
public import proofs.«01_k».proof.Proof.Gen.AbDxIdeal.Value
public import proofs.«01_k».proof.Proof.Gen.AbDxRefIdeal
public import proofs.«01_k».proof.Proof.Gen.AbDxRefIdeal.Run
public import proofs.«01_k».proof.Proof.Gen.AbDxRefIdeal.Read
public import proofs.«01_k».proof.Proof.Gen.AbDw
public import proofs.«01_k».proof.Proof.Gen.AbDwIdeal
public import proofs.«01_k».proof.Proof.Gen.AbDwIdeal.Skeleton
public import proofs.«01_k».proof.Proof.Gen.AbDwIdeal.Launch
public import proofs.«01_k».proof.Proof.Gen.AbDwIdeal.Points
public import proofs.«01_k».proof.Proof.Gen.AbDwIdeal.Frame
public import proofs.«01_k».proof.Proof.Gen.AbDwIdeal.Value
public import proofs.«01_k».proof.Proof.Gen.AbDwRefIdeal
public import proofs.«01_k».proof.Proof.Gen.AbDwRefIdeal.Run
public import proofs.«01_k».proof.Proof.Gen.AbDwRefIdeal.Read
public import proofs.«01_k».proof.Proof.Gen.InDw
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.Gen.InDwRefIdeal.Read
public import proofs.«01_k».proof.Proof.Gen.LossHead
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.Gen.NormGrad
public import proofs.«01_k».proof.Proof.Gen.NormGradIdeal
public import proofs.«01_k».proof.Proof.Gen.NormGradIdeal.Skeleton
public import proofs.«01_k».proof.Proof.Gen.NormGradIdeal.Launch
public import proofs.«01_k».proof.Proof.Gen.NormGradIdeal.Points
public import proofs.«01_k».proof.Proof.Gen.NormGradIdeal.Frame
public import proofs.«01_k».proof.Proof.Gen.NormGradIdeal.Value
public import proofs.«01_k».proof.Proof.Gen.NormGradRefIdeal
public import proofs.«01_k».proof.Proof.Gen.NormGradRefIdeal.Run
public import proofs.«01_k».proof.Proof.Gen.NormGradRefIdeal.Read
public import proofs.«01_k».proof.Proof.Gen.GdnGatesGrad
public import proofs.«01_k».proof.Proof.Gen.GdnGatesGradIdeal
public import proofs.«01_k».proof.Proof.Gen.GdnGatesGradIdeal.Skeleton
public import proofs.«01_k».proof.Proof.Gen.GdnGatesGradIdeal.Launch
public import proofs.«01_k».proof.Proof.Gen.GdnGatesGradIdeal.Points
public import proofs.«01_k».proof.Proof.Gen.GdnGatesGradIdeal.Frame
public import proofs.«01_k».proof.Proof.Gen.GdnGatesGradIdeal.Value
public import proofs.«01_k».proof.Proof.Gen.GdnGatesGradRefIdeal
public import proofs.«01_k».proof.Proof.Gen.GdnGatesGradRefIdeal.Run
public import proofs.«01_k».proof.Proof.Gen.GdnGatesGradRefIdeal.Read
public import proofs.«01_k».proof.Proof.Gen.Pre_gates_finite
public import proofs.«01_k».proof.Proof.Gen.HgrnPrepGrad
public import proofs.«01_k».proof.Proof.Gen.HgrnPrepGradIdeal
public import proofs.«01_k».proof.Proof.Gen.HgrnPrepGradIdeal.Skeleton
public import proofs.«01_k».proof.Proof.Gen.HgrnPrepGradIdeal.Launch
public import proofs.«01_k».proof.Proof.Gen.HgrnPrepGradIdeal.Points
public import proofs.«01_k».proof.Proof.Gen.HgrnPrepGradIdeal.Frame
public import proofs.«01_k».proof.Proof.Gen.HgrnPrepGradIdeal.Value
public import proofs.«01_k».proof.Proof.Gen.HgrnPrepGradRefIdeal
public import proofs.«01_k».proof.Proof.Gen.HgrnPrepGradRefIdeal.Run
public import proofs.«01_k».proof.Proof.Gen.HgrnPrepGradRefIdeal.Read
public import proofs.«01_k».proof.Proof.Gen.Pre_prep_finite
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmall
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamIn
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.Ff2
public import proofs.«01_k».proof.Proof.Gen.Ff2Ideal
public import proofs.«01_k».proof.Proof.Gen.Ff2Ideal.Skeleton
public import proofs.«01_k».proof.Proof.Gen.Ff2Ideal.Launch
public import proofs.«01_k».proof.Proof.Gen.Ff2Ideal.Points
public import proofs.«01_k».proof.Proof.Gen.Ff2Ideal.Frame
public import proofs.«01_k».proof.Proof.Gen.Ff2Ideal.Value
public import proofs.«01_k».proof.Proof.Gen.Ff2RefIdeal
public import proofs.«01_k».proof.Proof.Gen.Ff2RefIdeal.Run
public import proofs.«01_k».proof.Proof.Gen.Ff2RefIdeal.Read
public import proofs.«01_k».proof.Proof.KernelFrame
public import proofs.«01_k».proof.Proof.Totals
public import Idealize.ShloMosaic.Adequacy
public import Idealize.ShloMosaic.Init
public import proofs.«01_k».proof.Proof.ActGrad
public import proofs.«01_k».proof.Proof.Ff2Dw
public import proofs.«01_k».proof.Proof.Ff1Dx
public import proofs.«01_k».proof.Proof.Ff1Dw
public import proofs.«01_k».proof.Proof.ProjDx
public import proofs.«01_k».proof.Proof.OutDx
public import proofs.«01_k».proof.Proof.OutDw
public import proofs.«01_k».proof.Proof.Ff1
public import proofs.«01_k».proof.Proof.Ff2
public import proofs.«01_k».proof.Proof.OutProj
public import proofs.«01_k».proof.Proof.Norm
public import proofs.«01_k».proof.Proof.Ab
public import proofs.«01_k».proof.Proof.AbDx
public import proofs.«01_k».proof.Proof.AbDw
public import proofs.«01_k».proof.Proof.InDw
public import proofs.«01_k».proof.Proof.LossHead
public import proofs.«01_k».proof.Proof.NormGrad
public import proofs.«01_k».proof.Proof.GdnGatesGrad
public import proofs.«01_k».proof.Proof.HgrnPrepGrad
public import proofs.«01_k».proof.Proof.AdamSmall
public import proofs.«01_k».proof.Proof.AdamIn

@[expose] public section

noncomputable section

namespace Cert.Proof

open Idealize.ShloMosaic Idealize.SL.Sem Hgrn

/-- From memories that agree on the arguments, both programs end with the same four results. -/
theorem algebraic : algebraic_KernelIdeal_ReferenceIdeal_pre_bounded (hKernelIdeal := Cert.KernelIdeal.Gen.facts)
    (hReferenceIdeal := Cert.ReferenceIdeal.Gen.facts) (hPre_bounded := Cert.Pre_bounded.Gen.facts) := by
  intro m ρ m' ρ' hp ha
  choose q k v lf g H hl using fun c => holds_of_bounded (hp c)
  exact ⟨_, _, _, _, kernel_run m ρ q k v lf g H hl, reference_run m' ρ' q k v lf g fun c => by
    obtain ⟨a0, a1, a2, a3, a4⟩ := ha c
    rw [a0, a1, a2, a3, a4]
    exact H c⟩

theorem claim : Claim :=
  ⟨Cert.Kernel.Gen.facts, Cert.KernelIdeal.Gen.facts, Cert.ReferenceIdeal.Gen.facts,
    Cert.ActGrad.Gen.facts, Cert.ActGradIdeal.Gen.facts, Cert.ActGradRefIdeal.Gen.facts,
    Cert.Ff2Dw.Gen.facts, Cert.Ff2DwIdeal.Gen.facts, Cert.Ff2DwRefIdeal.Gen.facts,
    Cert.Ff1Dx.Gen.facts, Cert.Ff1DxIdeal.Gen.facts, Cert.Ff1DxRefIdeal.Gen.facts,
    Cert.Ff1Dw.Gen.facts, Cert.Ff1DwIdeal.Gen.facts, Cert.Ff1DwRefIdeal.Gen.facts,
    Cert.ProjDx.Gen.facts, Cert.ProjDxIdeal.Gen.facts, Cert.ProjDxRefIdeal.Gen.facts,
    Cert.OutDx.Gen.facts, Cert.OutDxIdeal.Gen.facts, Cert.OutDxRefIdeal.Gen.facts,
    Cert.OutDw.Gen.facts, Cert.OutDwIdeal.Gen.facts, Cert.OutDwRefIdeal.Gen.facts,
    Cert.Ff1.Gen.facts, Cert.Ff1Ideal.Gen.facts, Cert.Ff1RefIdeal.Gen.facts,
    Cert.Ff2.Gen.facts, Cert.Ff2Ideal.Gen.facts, Cert.Ff2RefIdeal.Gen.facts,
    Cert.OutProj.Gen.facts, Cert.OutProjIdeal.Gen.facts, Cert.OutProjRefIdeal.Gen.facts,
    Cert.Norm.Gen.facts, Cert.NormIdeal.Gen.facts, Cert.NormRefIdeal.Gen.facts,
    Cert.Ab.Gen.facts, Cert.AbIdeal.Gen.facts, Cert.AbRefIdeal.Gen.facts,
    Cert.AbDx.Gen.facts, Cert.AbDxIdeal.Gen.facts, Cert.AbDxRefIdeal.Gen.facts,
    Cert.AbDw.Gen.facts, Cert.AbDwIdeal.Gen.facts, Cert.AbDwRefIdeal.Gen.facts,
    Cert.InDw.Gen.facts, Cert.InDwIdeal.Gen.facts, Cert.InDwRefIdeal.Gen.facts,
    Cert.LossHead.Gen.facts, Cert.LossHeadIdeal.Gen.facts, Cert.LossHeadRefIdeal.Gen.facts,
    Cert.NormGrad.Gen.facts, Cert.NormGradIdeal.Gen.facts, Cert.NormGradRefIdeal.Gen.facts,
    Cert.GdnGatesGrad.Gen.facts, Cert.GdnGatesGradIdeal.Gen.facts, Cert.GdnGatesGradRefIdeal.Gen.facts,
    Cert.HgrnPrepGrad.Gen.facts, Cert.HgrnPrepGradIdeal.Gen.facts, Cert.HgrnPrepGradRefIdeal.Gen.facts,
    Cert.AdamSmall.Gen.facts, Cert.AdamSmallIdeal.Gen.facts, Cert.AdamSmallRefIdeal.Gen.facts,
    Cert.AdamIn.Gen.facts, Cert.AdamInIdeal.Gen.facts, Cert.AdamInRefIdeal.Gen.facts,
    Cert.Pre_bounded.Gen.facts, Cert.Pre_gates_finite.Gen.facts, Cert.Pre_prep_finite.Gen.facts,
    frame_kernel, fun m ρ _ => Cert.KernelIdeal.Gen.frame m ρ, fun m ρ _ => Cert.KernelIdeal.Gen.frame m ρ,
    fun m ρ _ => frame_reference m ρ, fun m ρ _ => frame_reference m ρ,
    Hgrn.ActGrad.frame_kernel, Hgrn.ActGrad.frame_ideal, Hgrn.ActGrad.frame_reference,
    Hgrn.Ff2Dw.frame_kernel, Hgrn.Ff2Dw.frame_ideal, Hgrn.Ff2Dw.frame_reference,
    Hgrn.Ff1Dx.frame_kernel, Hgrn.Ff1Dx.frame_ideal, Hgrn.Ff1Dx.frame_reference,
    Hgrn.Ff1Dw.frame_kernel, Hgrn.Ff1Dw.frame_ideal, Hgrn.Ff1Dw.frame_reference,
    Hgrn.ProjDx.frame_kernel, Hgrn.ProjDx.frame_ideal, Hgrn.ProjDx.frame_reference,
    Hgrn.OutDx.frame_kernel, Hgrn.OutDx.frame_ideal, Hgrn.OutDx.frame_reference,
    Hgrn.OutDw.frame_kernel, Hgrn.OutDw.frame_ideal, Hgrn.OutDw.frame_reference,
    Hgrn.Ff1.frame_kernel, Hgrn.Ff1.frame_ideal, Hgrn.Ff1.frame_reference,
    Hgrn.Ff2.frame_kernel, Hgrn.Ff2.frame_ideal, Hgrn.Ff2.frame_reference,
    Hgrn.OutProj.frame_kernel, Hgrn.OutProj.frame_ideal, Hgrn.OutProj.frame_reference,
    Hgrn.Norm.frame_kernel, Hgrn.Norm.frame_ideal, Hgrn.Norm.frame_reference,
    Hgrn.Ab.frame_kernel, Hgrn.Ab.frame_ideal, Hgrn.Ab.frame_reference,
    Hgrn.AbDx.frame_kernel, Hgrn.AbDx.frame_ideal, Hgrn.AbDx.frame_reference,
    Hgrn.AbDw.frame_kernel, Hgrn.AbDw.frame_ideal, Hgrn.AbDw.frame_reference,
    Hgrn.InDw.frame_kernel, Hgrn.InDw.frame_ideal, Hgrn.InDw.frame_reference,
    Hgrn.LossHead.frame_kernel, Hgrn.LossHead.frame_ideal, Hgrn.LossHead.frame_reference,
    Hgrn.NormGrad.frame_kernel, Hgrn.NormGrad.frame_ideal, Hgrn.NormGrad.frame_reference,
    Hgrn.GdnGatesGrad.frame_kernel, Hgrn.GdnGatesGrad.frame_ideal, Hgrn.GdnGatesGrad.frame_ideal_pre, Hgrn.GdnGatesGrad.frame_reference, Hgrn.GdnGatesGrad.frame_reference_pre,
    Hgrn.HgrnPrepGrad.frame_kernel, Hgrn.HgrnPrepGrad.frame_ideal, Hgrn.HgrnPrepGrad.frame_ideal_pre, Hgrn.HgrnPrepGrad.frame_reference, Hgrn.HgrnPrepGrad.frame_reference_pre,
    Hgrn.AdamSmall.frame_kernel, Hgrn.AdamSmall.frame_ideal, Hgrn.AdamSmall.frame_reference,
    Hgrn.AdamIn.frame_kernel, Hgrn.AdamIn.frame_ideal, Hgrn.AdamIn.frame_reference,
    trivial, algebraic,
    trivial, Hgrn.ActGrad.algebraic,
    trivial, Hgrn.Ff2Dw.algebraic,
    trivial, Hgrn.Ff1Dx.algebraic,
    trivial, Hgrn.Ff1Dw.algebraic,
    trivial, Hgrn.ProjDx.algebraic,
    trivial, Hgrn.OutDx.algebraic,
    trivial, Hgrn.OutDw.algebraic,
    trivial, Hgrn.Ff1.algebraic,
    trivial, Hgrn.Ff2.algebraic,
    trivial, Hgrn.OutProj.algebraic,
    trivial, Hgrn.Norm.algebraic,
    trivial, Hgrn.Ab.algebraic,
    trivial, Hgrn.AbDx.algebraic,
    trivial, Hgrn.AbDw.algebraic,
    trivial, Hgrn.InDw.algebraic,
    trivial, Hgrn.LossHead.algebraic,
    trivial, Hgrn.NormGrad.algebraic,
    trivial, Hgrn.GdnGatesGrad.algebraic,
    trivial, Hgrn.HgrnPrepGrad.algebraic,
    Hgrn.AdamSmall.preserves, Hgrn.AdamSmall.algebraic,
    Hgrn.AdamIn.preserves, Hgrn.AdamIn.algebraic⟩

end Cert.Proof

end
